-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_InDn (m : (ℓ : Loc Cert.InDn.nD Cert.InDn.τ Cert.InDn.sig) → Buf (Elt Bits) ℓ) : Prop :=
  True

def Pre_InDnIdeal (m : (ℓ : Loc Cert.InDnIdeal.nD Cert.InDnIdeal.τ Cert.InDnIdeal.sig) → Buf (Elt Ideal) ℓ) : Prop :=
  True

def Pre_RefInDnIdeal (m : (ℓ : Loc Cert.RefInDnIdeal.nD Cert.RefInDnIdeal.τ Cert.RefInDnIdeal.sig) → Buf (Elt Ideal) ℓ) : Prop :=
  True

def Pre_InAt (m : (ℓ : Loc Cert.InAt.nD Cert.InAt.τ Cert.InAt.sig) → Buf (Elt Bits) ℓ) : Prop :=
  True

def Pre_InAtIdeal (m : (ℓ : Loc Cert.InAtIdeal.nD Cert.InAtIdeal.τ Cert.InAtIdeal.sig) → Buf (Elt Ideal) ℓ) : Prop :=
  True

def Pre_RefInAtIdeal (m : (ℓ : Loc Cert.RefInAtIdeal.nD Cert.RefInAtIdeal.τ Cert.RefInAtIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_RefOutIdeal (m : (ℓ : Loc Cert.RefOutIdeal.nD Cert.RefOutIdeal.τ Cert.RefOutIdeal.sig) → Buf (Elt Ideal) ℓ) : Prop :=
  True

def Pre_InDnS (m : (ℓ : Loc Cert.InDnS.nD Cert.InDnS.τ Cert.InDnS.sig) → Buf (Elt Bits) ℓ) : Prop :=
  True

def Pre_InDnSIdeal (m : (ℓ : Loc Cert.InDnSIdeal.nD Cert.InDnSIdeal.τ Cert.InDnSIdeal.sig) → Buf (Elt Ideal) ℓ) : Prop :=
  True

def Pre_RefInDnSIdeal (m : (ℓ : Loc Cert.RefInDnSIdeal.nD Cert.RefInDnSIdeal.τ Cert.RefInDnSIdeal.sig) → Buf (Elt Ideal) ℓ) : Prop :=
  True

def Pre_OutS (m : (ℓ : Loc Cert.OutS.nD Cert.OutS.τ Cert.OutS.sig) → Buf (Elt Bits) ℓ) : Prop :=
  True

def Pre_OutSIdeal (m : (ℓ : Loc Cert.OutSIdeal.nD Cert.OutSIdeal.τ Cert.OutSIdeal.sig) → Buf (Elt Ideal) ℓ) : Prop :=
  True

def Pre_RefOutSIdeal (m : (ℓ : Loc Cert.RefOutSIdeal.nD Cert.RefOutSIdeal.τ Cert.RefOutSIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_RefAdaIdeal (m : (ℓ : Loc Cert.RefAdaIdeal.nD Cert.RefAdaIdeal.τ Cert.RefAdaIdeal.sig) → Buf (Elt Ideal) ℓ) : Prop :=
  True

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_RefPreIdeal (m : (ℓ : Loc Cert.RefPreIdeal.nD Cert.RefPreIdeal.τ Cert.RefPreIdeal.sig) → Buf (Elt Ideal) ℓ) : Prop :=
  True

def Pre_OutH (m : (ℓ : Loc Cert.OutH.nD Cert.OutH.τ Cert.OutH.sig) → Buf (Elt Bits) ℓ) : Prop :=
  True

def Pre_OutHIdeal (m : (ℓ : Loc Cert.OutHIdeal.nD Cert.OutHIdeal.τ Cert.OutHIdeal.sig) → Buf (Elt Ideal) ℓ) : Prop :=
  True

def Pre_RefOutHIdeal (m : (ℓ : Loc Cert.RefOutHIdeal.nD Cert.RefOutHIdeal.τ Cert.RefOutHIdeal.sig) → Buf (Elt Ideal) ℓ) : Prop :=
  True

def Pre_WDn (m : (ℓ : Loc Cert.WDn.nD Cert.WDn.τ Cert.WDn.sig) → Buf (Elt Bits) ℓ) : Prop :=
  True

def Pre_WDnIdeal (m : (ℓ : Loc Cert.WDnIdeal.nD Cert.WDnIdeal.τ Cert.WDnIdeal.sig) → Buf (Elt Ideal) ℓ) : Prop :=
  True

def Pre_RefWDnIdeal (m : (ℓ : Loc Cert.RefWDnIdeal.nD Cert.RefWDnIdeal.τ Cert.RefWDnIdeal.sig) → Buf (Elt Ideal) ℓ) : Prop :=
  True

def Pre_WAt (m : (ℓ : Loc Cert.WAt.nD Cert.WAt.τ Cert.WAt.sig) → Buf (Elt Bits) ℓ) : Prop :=
  True

def Pre_WAtIdeal (m : (ℓ : Loc Cert.WAtIdeal.nD Cert.WAtIdeal.τ Cert.WAtIdeal.sig) → Buf (Elt Ideal) ℓ) : Prop :=
  True

def Pre_RefWAtIdeal (m : (ℓ : Loc Cert.RefWAtIdeal.nD Cert.RefWAtIdeal.τ Cert.RefWAtIdeal.sig) → Buf (Elt Ideal) ℓ) : Prop :=
  True

def Pre_WBa (m : (ℓ : Loc Cert.WBa.nD Cert.WBa.τ Cert.WBa.sig) → Buf (Elt Bits) ℓ) : Prop :=
  True

def Pre_WBaIdeal (m : (ℓ : Loc Cert.WBaIdeal.nD Cert.WBaIdeal.τ Cert.WBaIdeal.sig) → Buf (Elt Ideal) ℓ) : Prop :=
  True

def Pre_RefWBaIdeal (m : (ℓ : Loc Cert.RefWBaIdeal.nD Cert.RefWBaIdeal.τ Cert.RefWBaIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_InDn [hInDn : Cert.InDn.Facts] : Prop :=
  ∀ (m : (ℓ : Loc Cert.InDn.nD Cert.InDn.τ Cert.InDn.sig) → Buf (Elt Bits) ℓ) (g : Dev Cert.InDn.nD → PrngReg), Pre_InDn m →
    θ_run (Cert.InDn.defs (F := Bits)) (onTc (τ := Cert.InDn.τ) (Cert.InDn.main (F := Bits))) ⟨m, fun _ => 0, g⟩ (fun r => (∀ c : Dev Cert.InDn.nD,
      r.2.mem ((c.tc : Thread Cert.InDn.nD Cert.InDn.τ).loc Cert.InDn.main_arg0) = m ((c.tc : Thread Cert.InDn.nD Cert.InDn.τ).loc Cert.InDn.main_arg0)
      ∧ r.2.mem ((c.tc : Thread Cert.InDn.nD Cert.InDn.τ).loc Cert.InDn.main_arg1) = m ((c.tc : Thread Cert.InDn.nD Cert.InDn.τ).loc Cert.InDn.main_arg1))
      ∧ r.2.sem = fun _ => 0)

def quiescent_InDnIdeal [hInDnIdeal : Cert.InDnIdeal.Facts] : Prop :=
  ∀ (m : (ℓ : Loc Cert.InDnIdeal.nD Cert.InDnIdeal.τ Cert.InDnIdeal.sig) → Buf (Elt Ideal) ℓ) (g : Dev Cert.InDnIdeal.nD → PrngReg), Pre_InDnIdeal m →
    θ_run (Cert.InDnIdeal.defs (F := Ideal)) (onTc (τ := Cert.InDnIdeal.τ) (Cert.InDnIdeal.main (F := Ideal))) ⟨m, fun _ => 0, g⟩ (fun r => (∀ c : Dev Cert.InDnIdeal.nD,
      r.2.mem ((c.tc : Thread Cert.InDnIdeal.nD Cert.InDnIdeal.τ).loc Cert.InDnIdeal.main_arg0) = m ((c.tc : Thread Cert.InDnIdeal.nD Cert.InDnIdeal.τ).loc Cert.InDnIdeal.main_arg0)
      ∧ r.2.mem ((c.tc : Thread Cert.InDnIdeal.nD Cert.InDnIdeal.τ).loc Cert.InDnIdeal.main_arg1) = m ((c.tc : Thread Cert.InDnIdeal.nD Cert.InDnIdeal.τ).loc Cert.InDnIdeal.main_arg1))
      ∧ r.2.sem = fun _ => 0)

def quiescent_RefInDnIdeal [hRefInDnIdeal : Cert.RefInDnIdeal.Facts] : Prop :=
  ∀ (m : (ℓ : Loc Cert.RefInDnIdeal.nD Cert.RefInDnIdeal.τ Cert.RefInDnIdeal.sig) → Buf (Elt Ideal) ℓ) (g : Dev Cert.RefInDnIdeal.nD → PrngReg), Pre_RefInDnIdeal m →
    θ_run (Cert.RefInDnIdeal.defs (F := Ideal)) (onTc (τ := Cert.RefInDnIdeal.τ) (Cert.RefInDnIdeal.main (F := Ideal))) ⟨m, fun _ => 0, g⟩ (fun r => (∀ c : Dev Cert.RefInDnIdeal.nD,
      r.2.mem ((c.tc : Thread Cert.RefInDnIdeal.nD Cert.RefInDnIdeal.τ).loc Cert.RefInDnIdeal.main_arg0) = m ((c.tc : Thread Cert.RefInDnIdeal.nD Cert.RefInDnIdeal.τ).loc Cert.RefInDnIdeal.main_arg0)
      ∧ r.2.mem ((c.tc : Thread Cert.RefInDnIdeal.nD Cert.RefInDnIdeal.τ).loc Cert.RefInDnIdeal.main_arg1) = m ((c.tc : Thread Cert.RefInDnIdeal.nD Cert.RefInDnIdeal.τ).loc Cert.RefInDnIdeal.main_arg1))
      ∧ r.2.sem = fun _ => 0)

def quiescent_InAt [hInAt : Cert.InAt.Facts] : Prop :=
  ∀ (m : (ℓ : Loc Cert.InAt.nD Cert.InAt.τ Cert.InAt.sig) → Buf (Elt Bits) ℓ) (g : Dev Cert.InAt.nD → PrngReg), Pre_InAt m →
    θ_run (Cert.InAt.defs (F := Bits)) (onTc (τ := Cert.InAt.τ) (Cert.InAt.main (F := Bits))) ⟨m, fun _ => 0, g⟩ (fun r => (∀ c : Dev Cert.InAt.nD,
      r.2.mem ((c.tc : Thread Cert.InAt.nD Cert.InAt.τ).loc Cert.InAt.main_arg0) = m ((c.tc : Thread Cert.InAt.nD Cert.InAt.τ).loc Cert.InAt.main_arg0)
      ∧ r.2.mem ((c.tc : Thread Cert.InAt.nD Cert.InAt.τ).loc Cert.InAt.main_arg1) = m ((c.tc : Thread Cert.InAt.nD Cert.InAt.τ).loc Cert.InAt.main_arg1)
      ∧ r.2.mem ((c.tc : Thread Cert.InAt.nD Cert.InAt.τ).loc Cert.InAt.main_arg2) = m ((c.tc : Thread Cert.InAt.nD Cert.InAt.τ).loc Cert.InAt.main_arg2))
      ∧ r.2.sem = fun _ => 0)

def quiescent_InAtIdeal [hInAtIdeal : Cert.InAtIdeal.Facts] : Prop :=
  ∀ (m : (ℓ : Loc Cert.InAtIdeal.nD Cert.InAtIdeal.τ Cert.InAtIdeal.sig) → Buf (Elt Ideal) ℓ) (g : Dev Cert.InAtIdeal.nD → PrngReg), Pre_InAtIdeal m →
    θ_run (Cert.InAtIdeal.defs (F := Ideal)) (onTc (τ := Cert.InAtIdeal.τ) (Cert.InAtIdeal.main (F := Ideal))) ⟨m, fun _ => 0, g⟩ (fun r => (∀ c : Dev Cert.InAtIdeal.nD,
      r.2.mem ((c.tc : Thread Cert.InAtIdeal.nD Cert.InAtIdeal.τ).loc Cert.InAtIdeal.main_arg0) = m ((c.tc : Thread Cert.InAtIdeal.nD Cert.InAtIdeal.τ).loc Cert.InAtIdeal.main_arg0)
      ∧ r.2.mem ((c.tc : Thread Cert.InAtIdeal.nD Cert.InAtIdeal.τ).loc Cert.InAtIdeal.main_arg1) = m ((c.tc : Thread Cert.InAtIdeal.nD Cert.InAtIdeal.τ).loc Cert.InAtIdeal.main_arg1)
      ∧ r.2.mem ((c.tc : Thread Cert.InAtIdeal.nD Cert.InAtIdeal.τ).loc Cert.InAtIdeal.main_arg2) = m ((c.tc : Thread Cert.InAtIdeal.nD Cert.InAtIdeal.τ).loc Cert.InAtIdeal.main_arg2))
      ∧ r.2.sem = fun _ => 0)

def quiescent_RefInAtIdeal [hRefInAtIdeal : Cert.RefInAtIdeal.Facts] : Prop :=
  ∀ (m : (ℓ : Loc Cert.RefInAtIdeal.nD Cert.RefInAtIdeal.τ Cert.RefInAtIdeal.sig) → Buf (Elt Ideal) ℓ) (g : Dev Cert.RefInAtIdeal.nD → PrngReg), Pre_RefInAtIdeal m →
    θ_run (Cert.RefInAtIdeal.defs (F := Ideal)) (onTc (τ := Cert.RefInAtIdeal.τ) (Cert.RefInAtIdeal.main (F := Ideal))) ⟨m, fun _ => 0, g⟩ (fun r => (∀ c : Dev Cert.RefInAtIdeal.nD,
      r.2.mem ((c.tc : Thread Cert.RefInAtIdeal.nD Cert.RefInAtIdeal.τ).loc Cert.RefInAtIdeal.main_arg0) = m ((c.tc : Thread Cert.RefInAtIdeal.nD Cert.RefInAtIdeal.τ).loc Cert.RefInAtIdeal.main_arg0)
      ∧ r.2.mem ((c.tc : Thread Cert.RefInAtIdeal.nD Cert.RefInAtIdeal.τ).loc Cert.RefInAtIdeal.main_arg1) = m ((c.tc : Thread Cert.RefInAtIdeal.nD Cert.RefInAtIdeal.τ).loc Cert.RefInAtIdeal.main_arg1)
      ∧ r.2.mem ((c.tc : Thread Cert.RefInAtIdeal.nD Cert.RefInAtIdeal.τ).loc Cert.RefInAtIdeal.main_arg2) = m ((c.tc : Thread Cert.RefInAtIdeal.nD Cert.RefInAtIdeal.τ).loc Cert.RefInAtIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_RefOutIdeal [hRefOutIdeal : Cert.RefOutIdeal.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1)
      ∧ r.2.mem ((c.tc : Thread Cert.RefOutIdeal.nD Cert.RefOutIdeal.τ).loc Cert.RefOutIdeal.main_arg2) = m ((c.tc : Thread Cert.RefOutIdeal.nD Cert.RefOutIdeal.τ).loc Cert.RefOutIdeal.main_arg2)
      ∧ r.2.mem ((c.tc : Thread Cert.RefOutIdeal.nD Cert.RefOutIdeal.τ).loc Cert.RefOutIdeal.main_arg3) = m ((c.tc : Thread Cert.RefOutIdeal.nD Cert.RefOutIdeal.τ).loc Cert.RefOutIdeal.main_arg3)
      ∧ r.2.mem ((c.tc : Thread Cert.RefOutIdeal.nD Cert.RefOutIdeal.τ).loc Cert.RefOutIdeal.main_arg4) = m ((c.tc : Thread Cert.RefOutIdeal.nD Cert.RefOutIdeal.τ).loc Cert.RefOutIdeal.main_arg4)
      ∧ r.2.mem ((c.tc : Thread Cert.RefOutIdeal.nD Cert.RefOutIdeal.τ).loc Cert.RefOutIdeal.main_arg5) = m ((c.tc : Thread Cert.RefOutIdeal.nD Cert.RefOutIdeal.τ).loc Cert.RefOutIdeal.main_arg5))
      ∧ r.2.sem = fun _ => 0)

def quiescent_InDnS [hInDnS : Cert.InDnS.Facts] : Prop :=
  ∀ (m : (ℓ : Loc Cert.InDnS.nD Cert.InDnS.τ Cert.InDnS.sig) → Buf (Elt Bits) ℓ) (g : Dev Cert.InDnS.nD → PrngReg), Pre_InDnS m →
    θ_run (Cert.InDnS.defs (F := Bits)) (onTc (τ := Cert.InDnS.τ) (Cert.InDnS.main (F := Bits))) ⟨m, fun _ => 0, g⟩ (fun r => (∀ c : Dev Cert.InDnS.nD,
      r.2.mem ((c.tc : Thread Cert.InDnS.nD Cert.InDnS.τ).loc Cert.InDnS.main_arg0) = m ((c.tc : Thread Cert.InDnS.nD Cert.InDnS.τ).loc Cert.InDnS.main_arg0)
      ∧ r.2.mem ((c.tc : Thread Cert.InDnS.nD Cert.InDnS.τ).loc Cert.InDnS.main_arg1) = m ((c.tc : Thread Cert.InDnS.nD Cert.InDnS.τ).loc Cert.InDnS.main_arg1)
      ∧ r.2.mem ((c.tc : Thread Cert.InDnS.nD Cert.InDnS.τ).loc Cert.InDnS.main_arg2) = m ((c.tc : Thread Cert.InDnS.nD Cert.InDnS.τ).loc Cert.InDnS.main_arg2))
      ∧ r.2.sem = fun _ => 0)

def quiescent_InDnSIdeal [hInDnSIdeal : Cert.InDnSIdeal.Facts] : Prop :=
  ∀ (m : (ℓ : Loc Cert.InDnSIdeal.nD Cert.InDnSIdeal.τ Cert.InDnSIdeal.sig) → Buf (Elt Ideal) ℓ) (g : Dev Cert.InDnSIdeal.nD → PrngReg), Pre_InDnSIdeal m →
    θ_run (Cert.InDnSIdeal.defs (F := Ideal)) (onTc (τ := Cert.InDnSIdeal.τ) (Cert.InDnSIdeal.main (F := Ideal))) ⟨m, fun _ => 0, g⟩ (fun r => (∀ c : Dev Cert.InDnSIdeal.nD,
      r.2.mem ((c.tc : Thread Cert.InDnSIdeal.nD Cert.InDnSIdeal.τ).loc Cert.InDnSIdeal.main_arg0) = m ((c.tc : Thread Cert.InDnSIdeal.nD Cert.InDnSIdeal.τ).loc Cert.InDnSIdeal.main_arg0)
      ∧ r.2.mem ((c.tc : Thread Cert.InDnSIdeal.nD Cert.InDnSIdeal.τ).loc Cert.InDnSIdeal.main_arg1) = m ((c.tc : Thread Cert.InDnSIdeal.nD Cert.InDnSIdeal.τ).loc Cert.InDnSIdeal.main_arg1)
      ∧ r.2.mem ((c.tc : Thread Cert.InDnSIdeal.nD Cert.InDnSIdeal.τ).loc Cert.InDnSIdeal.main_arg2) = m ((c.tc : Thread Cert.InDnSIdeal.nD Cert.InDnSIdeal.τ).loc Cert.InDnSIdeal.main_arg2))
      ∧ r.2.sem = fun _ => 0)

def quiescent_RefInDnSIdeal [hRefInDnSIdeal : Cert.RefInDnSIdeal.Facts] : Prop :=
  ∀ (m : (ℓ : Loc Cert.RefInDnSIdeal.nD Cert.RefInDnSIdeal.τ Cert.RefInDnSIdeal.sig) → Buf (Elt Ideal) ℓ) (g : Dev Cert.RefInDnSIdeal.nD → PrngReg), Pre_RefInDnSIdeal m →
    θ_run (Cert.RefInDnSIdeal.defs (F := Ideal)) (onTc (τ := Cert.RefInDnSIdeal.τ) (Cert.RefInDnSIdeal.main (F := Ideal))) ⟨m, fun _ => 0, g⟩ (fun r => (∀ c : Dev Cert.RefInDnSIdeal.nD,
      r.2.mem ((c.tc : Thread Cert.RefInDnSIdeal.nD Cert.RefInDnSIdeal.τ).loc Cert.RefInDnSIdeal.main_arg0) = m ((c.tc : Thread Cert.RefInDnSIdeal.nD Cert.RefInDnSIdeal.τ).loc Cert.RefInDnSIdeal.main_arg0)
      ∧ r.2.mem ((c.tc : Thread Cert.RefInDnSIdeal.nD Cert.RefInDnSIdeal.τ).loc Cert.RefInDnSIdeal.main_arg1) = m ((c.tc : Thread Cert.RefInDnSIdeal.nD Cert.RefInDnSIdeal.τ).loc Cert.RefInDnSIdeal.main_arg1)
      ∧ r.2.mem ((c.tc : Thread Cert.RefInDnSIdeal.nD Cert.RefInDnSIdeal.τ).loc Cert.RefInDnSIdeal.main_arg2) = m ((c.tc : Thread Cert.RefInDnSIdeal.nD Cert.RefInDnSIdeal.τ).loc Cert.RefInDnSIdeal.main_arg2))
      ∧ r.2.sem = fun _ => 0)

def quiescent_OutS [hOutS : Cert.OutS.Facts] : Prop :=
  ∀ (m : (ℓ : Loc Cert.OutS.nD Cert.OutS.τ Cert.OutS.sig) → Buf (Elt Bits) ℓ) (g : Dev Cert.OutS.nD → PrngReg), Pre_OutS m →
    θ_run (Cert.OutS.defs (F := Bits)) (onTc (τ := Cert.OutS.τ) (Cert.OutS.main (F := Bits))) ⟨m, fun _ => 0, g⟩ (fun r => (∀ c : Dev Cert.OutS.nD,
      r.2.mem ((c.tc : Thread Cert.OutS.nD Cert.OutS.τ).loc Cert.OutS.main_arg0) = m ((c.tc : Thread Cert.OutS.nD Cert.OutS.τ).loc Cert.OutS.main_arg0)
      ∧ r.2.mem ((c.tc : Thread Cert.OutS.nD Cert.OutS.τ).loc Cert.OutS.main_arg1) = m ((c.tc : Thread Cert.OutS.nD Cert.OutS.τ).loc Cert.OutS.main_arg1)
      ∧ r.2.mem ((c.tc : Thread Cert.OutS.nD Cert.OutS.τ).loc Cert.OutS.main_arg2) = m ((c.tc : Thread Cert.OutS.nD Cert.OutS.τ).loc Cert.OutS.main_arg2)
      ∧ r.2.mem ((c.tc : Thread Cert.OutS.nD Cert.OutS.τ).loc Cert.OutS.main_arg3) = m ((c.tc : Thread Cert.OutS.nD Cert.OutS.τ).loc Cert.OutS.main_arg3)
      ∧ r.2.mem ((c.tc : Thread Cert.OutS.nD Cert.OutS.τ).loc Cert.OutS.main_arg4) = m ((c.tc : Thread Cert.OutS.nD Cert.OutS.τ).loc Cert.OutS.main_arg4)
      ∧ r.2.mem ((c.tc : Thread Cert.OutS.nD Cert.OutS.τ).loc Cert.OutS.main_arg5) = m ((c.tc : Thread Cert.OutS.nD Cert.OutS.τ).loc Cert.OutS.main_arg5))
      ∧ r.2.sem = fun _ => 0)

def quiescent_OutSIdeal [hOutSIdeal : Cert.OutSIdeal.Facts] : Prop :=
  ∀ (m : (ℓ : Loc Cert.OutSIdeal.nD Cert.OutSIdeal.τ Cert.OutSIdeal.sig) → Buf (Elt Ideal) ℓ) (g : Dev Cert.OutSIdeal.nD → PrngReg), Pre_OutSIdeal m →
    θ_run (Cert.OutSIdeal.defs (F := Ideal)) (onTc (τ := Cert.OutSIdeal.τ) (Cert.OutSIdeal.main (F := Ideal))) ⟨m, fun _ => 0, g⟩ (fun r => (∀ c : Dev Cert.OutSIdeal.nD,
      r.2.mem ((c.tc : Thread Cert.OutSIdeal.nD Cert.OutSIdeal.τ).loc Cert.OutSIdeal.main_arg0) = m ((c.tc : Thread Cert.OutSIdeal.nD Cert.OutSIdeal.τ).loc Cert.OutSIdeal.main_arg0)
      ∧ r.2.mem ((c.tc : Thread Cert.OutSIdeal.nD Cert.OutSIdeal.τ).loc Cert.OutSIdeal.main_arg1) = m ((c.tc : Thread Cert.OutSIdeal.nD Cert.OutSIdeal.τ).loc Cert.OutSIdeal.main_arg1)
      ∧ r.2.mem ((c.tc : Thread Cert.OutSIdeal.nD Cert.OutSIdeal.τ).loc Cert.OutSIdeal.main_arg2) = m ((c.tc : Thread Cert.OutSIdeal.nD Cert.OutSIdeal.τ).loc Cert.OutSIdeal.main_arg2)
      ∧ r.2.mem ((c.tc : Thread Cert.OutSIdeal.nD Cert.OutSIdeal.τ).loc Cert.OutSIdeal.main_arg3) = m ((c.tc : Thread Cert.OutSIdeal.nD Cert.OutSIdeal.τ).loc Cert.OutSIdeal.main_arg3)
      ∧ r.2.mem ((c.tc : Thread Cert.OutSIdeal.nD Cert.OutSIdeal.τ).loc Cert.OutSIdeal.main_arg4) = m ((c.tc : Thread Cert.OutSIdeal.nD Cert.OutSIdeal.τ).loc Cert.OutSIdeal.main_arg4)
      ∧ r.2.mem ((c.tc : Thread Cert.OutSIdeal.nD Cert.OutSIdeal.τ).loc Cert.OutSIdeal.main_arg5) = m ((c.tc : Thread Cert.OutSIdeal.nD Cert.OutSIdeal.τ).loc Cert.OutSIdeal.main_arg5))
      ∧ r.2.sem = fun _ => 0)

def quiescent_RefOutSIdeal [hRefOutSIdeal : Cert.RefOutSIdeal.Facts] : Prop :=
  ∀ (m : (ℓ : Loc Cert.RefOutSIdeal.nD Cert.RefOutSIdeal.τ Cert.RefOutSIdeal.sig) → Buf (Elt Ideal) ℓ) (g : Dev Cert.RefOutSIdeal.nD → PrngReg), Pre_RefOutSIdeal m →
    θ_run (Cert.RefOutSIdeal.defs (F := Ideal)) (onTc (τ := Cert.RefOutSIdeal.τ) (Cert.RefOutSIdeal.main (F := Ideal))) ⟨m, fun _ => 0, g⟩ (fun r => (∀ c : Dev Cert.RefOutSIdeal.nD,
      r.2.mem ((c.tc : Thread Cert.RefOutSIdeal.nD Cert.RefOutSIdeal.τ).loc Cert.RefOutSIdeal.main_arg0) = m ((c.tc : Thread Cert.RefOutSIdeal.nD Cert.RefOutSIdeal.τ).loc Cert.RefOutSIdeal.main_arg0)
      ∧ r.2.mem ((c.tc : Thread Cert.RefOutSIdeal.nD Cert.RefOutSIdeal.τ).loc Cert.RefOutSIdeal.main_arg1) = m ((c.tc : Thread Cert.RefOutSIdeal.nD Cert.RefOutSIdeal.τ).loc Cert.RefOutSIdeal.main_arg1)
      ∧ r.2.mem ((c.tc : Thread Cert.RefOutSIdeal.nD Cert.RefOutSIdeal.τ).loc Cert.RefOutSIdeal.main_arg2) = m ((c.tc : Thread Cert.RefOutSIdeal.nD Cert.RefOutSIdeal.τ).loc Cert.RefOutSIdeal.main_arg2)
      ∧ r.2.mem ((c.tc : Thread Cert.RefOutSIdeal.nD Cert.RefOutSIdeal.τ).loc Cert.RefOutSIdeal.main_arg3) = m ((c.tc : Thread Cert.RefOutSIdeal.nD Cert.RefOutSIdeal.τ).loc Cert.RefOutSIdeal.main_arg3)
      ∧ r.2.mem ((c.tc : Thread Cert.RefOutSIdeal.nD Cert.RefOutSIdeal.τ).loc Cert.RefOutSIdeal.main_arg4) = m ((c.tc : Thread Cert.RefOutSIdeal.nD Cert.RefOutSIdeal.τ).loc Cert.RefOutSIdeal.main_arg4)
      ∧ r.2.mem ((c.tc : Thread Cert.RefOutSIdeal.nD Cert.RefOutSIdeal.τ).loc Cert.RefOutSIdeal.main_arg5) = m ((c.tc : Thread Cert.RefOutSIdeal.nD Cert.RefOutSIdeal.τ).loc Cert.RefOutSIdeal.main_arg5))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_RefAdaIdeal [hRefAdaIdeal : Cert.RefAdaIdeal.Facts] : Prop :=
  ∀ (m : (ℓ : Loc Cert.RefAdaIdeal.nD Cert.RefAdaIdeal.τ Cert.RefAdaIdeal.sig) → Buf (Elt Ideal) ℓ) (g : Dev Cert.RefAdaIdeal.nD → PrngReg), Pre_RefAdaIdeal m →
    θ_run (Cert.RefAdaIdeal.defs (F := Ideal)) (onTc (τ := Cert.RefAdaIdeal.τ) (Cert.RefAdaIdeal.main (F := Ideal))) ⟨m, fun _ => 0, g⟩ (fun r => (∀ c : Dev Cert.RefAdaIdeal.nD,
      r.2.mem ((c.tc : Thread Cert.RefAdaIdeal.nD Cert.RefAdaIdeal.τ).loc Cert.RefAdaIdeal.main_arg0) = m ((c.tc : Thread Cert.RefAdaIdeal.nD Cert.RefAdaIdeal.τ).loc Cert.RefAdaIdeal.main_arg0)
      ∧ r.2.mem ((c.tc : Thread Cert.RefAdaIdeal.nD Cert.RefAdaIdeal.τ).loc Cert.RefAdaIdeal.main_arg1) = m ((c.tc : Thread Cert.RefAdaIdeal.nD Cert.RefAdaIdeal.τ).loc Cert.RefAdaIdeal.main_arg1)
      ∧ r.2.mem ((c.tc : Thread Cert.RefAdaIdeal.nD Cert.RefAdaIdeal.τ).loc Cert.RefAdaIdeal.main_arg2) = m ((c.tc : Thread Cert.RefAdaIdeal.nD Cert.RefAdaIdeal.τ).loc Cert.RefAdaIdeal.main_arg2)
      ∧ r.2.mem ((c.tc : Thread Cert.RefAdaIdeal.nD Cert.RefAdaIdeal.τ).loc Cert.RefAdaIdeal.main_arg3) = m ((c.tc : Thread Cert.RefAdaIdeal.nD Cert.RefAdaIdeal.τ).loc Cert.RefAdaIdeal.main_arg3))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2))
      ∧ r.2.sem = fun _ => 0)

def quiescent_RefPreIdeal [hRefPreIdeal : Cert.RefPreIdeal.Facts] : Prop :=
  ∀ (m : (ℓ : Loc Cert.RefPreIdeal.nD Cert.RefPreIdeal.τ Cert.RefPreIdeal.sig) → Buf (Elt Ideal) ℓ) (g : Dev Cert.RefPreIdeal.nD → PrngReg), Pre_RefPreIdeal m →
    θ_run (Cert.RefPreIdeal.defs (F := Ideal)) (onTc (τ := Cert.RefPreIdeal.τ) (Cert.RefPreIdeal.main (F := Ideal))) ⟨m, fun _ => 0, g⟩ (fun r => (∀ c : Dev Cert.RefPreIdeal.nD,
      r.2.mem ((c.tc : Thread Cert.RefPreIdeal.nD Cert.RefPreIdeal.τ).loc Cert.RefPreIdeal.main_arg0) = m ((c.tc : Thread Cert.RefPreIdeal.nD Cert.RefPreIdeal.τ).loc Cert.RefPreIdeal.main_arg0)
      ∧ r.2.mem ((c.tc : Thread Cert.RefPreIdeal.nD Cert.RefPreIdeal.τ).loc Cert.RefPreIdeal.main_arg1) = m ((c.tc : Thread Cert.RefPreIdeal.nD Cert.RefPreIdeal.τ).loc Cert.RefPreIdeal.main_arg1)
      ∧ r.2.mem ((c.tc : Thread Cert.RefPreIdeal.nD Cert.RefPreIdeal.τ).loc Cert.RefPreIdeal.main_arg2) = m ((c.tc : Thread Cert.RefPreIdeal.nD Cert.RefPreIdeal.τ).loc Cert.RefPreIdeal.main_arg2))
      ∧ r.2.sem = fun _ => 0)

def quiescent_OutH [hOutH : Cert.OutH.Facts] : Prop :=
  ∀ (m : (ℓ : Loc Cert.OutH.nD Cert.OutH.τ Cert.OutH.sig) → Buf (Elt Bits) ℓ) (g : Dev Cert.OutH.nD → PrngReg), Pre_OutH m →
    θ_run (Cert.OutH.defs (F := Bits)) (onTc (τ := Cert.OutH.τ) (Cert.OutH.main (F := Bits))) ⟨m, fun _ => 0, g⟩ (fun r => (∀ c : Dev Cert.OutH.nD,
      r.2.mem ((c.tc : Thread Cert.OutH.nD Cert.OutH.τ).loc Cert.OutH.main_arg0) = m ((c.tc : Thread Cert.OutH.nD Cert.OutH.τ).loc Cert.OutH.main_arg0)
      ∧ r.2.mem ((c.tc : Thread Cert.OutH.nD Cert.OutH.τ).loc Cert.OutH.main_arg1) = m ((c.tc : Thread Cert.OutH.nD Cert.OutH.τ).loc Cert.OutH.main_arg1)
      ∧ r.2.mem ((c.tc : Thread Cert.OutH.nD Cert.OutH.τ).loc Cert.OutH.main_arg2) = m ((c.tc : Thread Cert.OutH.nD Cert.OutH.τ).loc Cert.OutH.main_arg2)
      ∧ r.2.mem ((c.tc : Thread Cert.OutH.nD Cert.OutH.τ).loc Cert.OutH.main_arg3) = m ((c.tc : Thread Cert.OutH.nD Cert.OutH.τ).loc Cert.OutH.main_arg3)
      ∧ r.2.mem ((c.tc : Thread Cert.OutH.nD Cert.OutH.τ).loc Cert.OutH.main_arg4) = m ((c.tc : Thread Cert.OutH.nD Cert.OutH.τ).loc Cert.OutH.main_arg4)
      ∧ r.2.mem ((c.tc : Thread Cert.OutH.nD Cert.OutH.τ).loc Cert.OutH.main_arg5) = m ((c.tc : Thread Cert.OutH.nD Cert.OutH.τ).loc Cert.OutH.main_arg5)
      ∧ r.2.mem ((c.tc : Thread Cert.OutH.nD Cert.OutH.τ).loc Cert.OutH.main_arg6) = m ((c.tc : Thread Cert.OutH.nD Cert.OutH.τ).loc Cert.OutH.main_arg6)
      ∧ r.2.mem ((c.tc : Thread Cert.OutH.nD Cert.OutH.τ).loc Cert.OutH.main_arg7) = m ((c.tc : Thread Cert.OutH.nD Cert.OutH.τ).loc Cert.OutH.main_arg7))
      ∧ r.2.sem = fun _ => 0)

def quiescent_OutHIdeal [hOutHIdeal : Cert.OutHIdeal.Facts] : Prop :=
  ∀ (m : (ℓ : Loc Cert.OutHIdeal.nD Cert.OutHIdeal.τ Cert.OutHIdeal.sig) → Buf (Elt Ideal) ℓ) (g : Dev Cert.OutHIdeal.nD → PrngReg), Pre_OutHIdeal m →
    θ_run (Cert.OutHIdeal.defs (F := Ideal)) (onTc (τ := Cert.OutHIdeal.τ) (Cert.OutHIdeal.main (F := Ideal))) ⟨m, fun _ => 0, g⟩ (fun r => (∀ c : Dev Cert.OutHIdeal.nD,
      r.2.mem ((c.tc : Thread Cert.OutHIdeal.nD Cert.OutHIdeal.τ).loc Cert.OutHIdeal.main_arg0) = m ((c.tc : Thread Cert.OutHIdeal.nD Cert.OutHIdeal.τ).loc Cert.OutHIdeal.main_arg0)
      ∧ r.2.mem ((c.tc : Thread Cert.OutHIdeal.nD Cert.OutHIdeal.τ).loc Cert.OutHIdeal.main_arg1) = m ((c.tc : Thread Cert.OutHIdeal.nD Cert.OutHIdeal.τ).loc Cert.OutHIdeal.main_arg1)
      ∧ r.2.mem ((c.tc : Thread Cert.OutHIdeal.nD Cert.OutHIdeal.τ).loc Cert.OutHIdeal.main_arg2) = m ((c.tc : Thread Cert.OutHIdeal.nD Cert.OutHIdeal.τ).loc Cert.OutHIdeal.main_arg2)
      ∧ r.2.mem ((c.tc : Thread Cert.OutHIdeal.nD Cert.OutHIdeal.τ).loc Cert.OutHIdeal.main_arg3) = m ((c.tc : Thread Cert.OutHIdeal.nD Cert.OutHIdeal.τ).loc Cert.OutHIdeal.main_arg3)
      ∧ r.2.mem ((c.tc : Thread Cert.OutHIdeal.nD Cert.OutHIdeal.τ).loc Cert.OutHIdeal.main_arg4) = m ((c.tc : Thread Cert.OutHIdeal.nD Cert.OutHIdeal.τ).loc Cert.OutHIdeal.main_arg4)
      ∧ r.2.mem ((c.tc : Thread Cert.OutHIdeal.nD Cert.OutHIdeal.τ).loc Cert.OutHIdeal.main_arg5) = m ((c.tc : Thread Cert.OutHIdeal.nD Cert.OutHIdeal.τ).loc Cert.OutHIdeal.main_arg5)
      ∧ r.2.mem ((c.tc : Thread Cert.OutHIdeal.nD Cert.OutHIdeal.τ).loc Cert.OutHIdeal.main_arg6) = m ((c.tc : Thread Cert.OutHIdeal.nD Cert.OutHIdeal.τ).loc Cert.OutHIdeal.main_arg6)
      ∧ r.2.mem ((c.tc : Thread Cert.OutHIdeal.nD Cert.OutHIdeal.τ).loc Cert.OutHIdeal.main_arg7) = m ((c.tc : Thread Cert.OutHIdeal.nD Cert.OutHIdeal.τ).loc Cert.OutHIdeal.main_arg7))
      ∧ r.2.sem = fun _ => 0)

def quiescent_RefOutHIdeal [hRefOutHIdeal : Cert.RefOutHIdeal.Facts] : Prop :=
  ∀ (m : (ℓ : Loc Cert.RefOutHIdeal.nD Cert.RefOutHIdeal.τ Cert.RefOutHIdeal.sig) → Buf (Elt Ideal) ℓ) (g : Dev Cert.RefOutHIdeal.nD → PrngReg), Pre_RefOutHIdeal m →
    θ_run (Cert.RefOutHIdeal.defs (F := Ideal)) (onTc (τ := Cert.RefOutHIdeal.τ) (Cert.RefOutHIdeal.main (F := Ideal))) ⟨m, fun _ => 0, g⟩ (fun r => (∀ c : Dev Cert.RefOutHIdeal.nD,
      r.2.mem ((c.tc : Thread Cert.RefOutHIdeal.nD Cert.RefOutHIdeal.τ).loc Cert.RefOutHIdeal.main_arg0) = m ((c.tc : Thread Cert.RefOutHIdeal.nD Cert.RefOutHIdeal.τ).loc Cert.RefOutHIdeal.main_arg0)
      ∧ r.2.mem ((c.tc : Thread Cert.RefOutHIdeal.nD Cert.RefOutHIdeal.τ).loc Cert.RefOutHIdeal.main_arg1) = m ((c.tc : Thread Cert.RefOutHIdeal.nD Cert.RefOutHIdeal.τ).loc Cert.RefOutHIdeal.main_arg1)
      ∧ r.2.mem ((c.tc : Thread Cert.RefOutHIdeal.nD Cert.RefOutHIdeal.τ).loc Cert.RefOutHIdeal.main_arg2) = m ((c.tc : Thread Cert.RefOutHIdeal.nD Cert.RefOutHIdeal.τ).loc Cert.RefOutHIdeal.main_arg2)
      ∧ r.2.mem ((c.tc : Thread Cert.RefOutHIdeal.nD Cert.RefOutHIdeal.τ).loc Cert.RefOutHIdeal.main_arg3) = m ((c.tc : Thread Cert.RefOutHIdeal.nD Cert.RefOutHIdeal.τ).loc Cert.RefOutHIdeal.main_arg3)
      ∧ r.2.mem ((c.tc : Thread Cert.RefOutHIdeal.nD Cert.RefOutHIdeal.τ).loc Cert.RefOutHIdeal.main_arg4) = m ((c.tc : Thread Cert.RefOutHIdeal.nD Cert.RefOutHIdeal.τ).loc Cert.RefOutHIdeal.main_arg4)
      ∧ r.2.mem ((c.tc : Thread Cert.RefOutHIdeal.nD Cert.RefOutHIdeal.τ).loc Cert.RefOutHIdeal.main_arg5) = m ((c.tc : Thread Cert.RefOutHIdeal.nD Cert.RefOutHIdeal.τ).loc Cert.RefOutHIdeal.main_arg5)
      ∧ r.2.mem ((c.tc : Thread Cert.RefOutHIdeal.nD Cert.RefOutHIdeal.τ).loc Cert.RefOutHIdeal.main_arg6) = m ((c.tc : Thread Cert.RefOutHIdeal.nD Cert.RefOutHIdeal.τ).loc Cert.RefOutHIdeal.main_arg6)
      ∧ r.2.mem ((c.tc : Thread Cert.RefOutHIdeal.nD Cert.RefOutHIdeal.τ).loc Cert.RefOutHIdeal.main_arg7) = m ((c.tc : Thread Cert.RefOutHIdeal.nD Cert.RefOutHIdeal.τ).loc Cert.RefOutHIdeal.main_arg7))
      ∧ r.2.sem = fun _ => 0)

def quiescent_WDn [hWDn : Cert.WDn.Facts] : Prop :=
  ∀ (m : (ℓ : Loc Cert.WDn.nD Cert.WDn.τ Cert.WDn.sig) → Buf (Elt Bits) ℓ) (g : Dev Cert.WDn.nD → PrngReg), Pre_WDn m →
    θ_run (Cert.WDn.defs (F := Bits)) (onTc (τ := Cert.WDn.τ) (Cert.WDn.main (F := Bits))) ⟨m, fun _ => 0, g⟩ (fun r => (∀ c : Dev Cert.WDn.nD,
      r.2.mem ((c.tc : Thread Cert.WDn.nD Cert.WDn.τ).loc Cert.WDn.main_arg0) = m ((c.tc : Thread Cert.WDn.nD Cert.WDn.τ).loc Cert.WDn.main_arg0))
      ∧ r.2.sem = fun _ => 0)

def quiescent_WDnIdeal [hWDnIdeal : Cert.WDnIdeal.Facts] : Prop :=
  ∀ (m : (ℓ : Loc Cert.WDnIdeal.nD Cert.WDnIdeal.τ Cert.WDnIdeal.sig) → Buf (Elt Ideal) ℓ) (g : Dev Cert.WDnIdeal.nD → PrngReg), Pre_WDnIdeal m →
    θ_run (Cert.WDnIdeal.defs (F := Ideal)) (onTc (τ := Cert.WDnIdeal.τ) (Cert.WDnIdeal.main (F := Ideal))) ⟨m, fun _ => 0, g⟩ (fun r => (∀ c : Dev Cert.WDnIdeal.nD,
      r.2.mem ((c.tc : Thread Cert.WDnIdeal.nD Cert.WDnIdeal.τ).loc Cert.WDnIdeal.main_arg0) = m ((c.tc : Thread Cert.WDnIdeal.nD Cert.WDnIdeal.τ).loc Cert.WDnIdeal.main_arg0))
      ∧ r.2.sem = fun _ => 0)

def quiescent_RefWDnIdeal [hRefWDnIdeal : Cert.RefWDnIdeal.Facts] : Prop :=
  ∀ (m : (ℓ : Loc Cert.RefWDnIdeal.nD Cert.RefWDnIdeal.τ Cert.RefWDnIdeal.sig) → Buf (Elt Ideal) ℓ) (g : Dev Cert.RefWDnIdeal.nD → PrngReg), Pre_RefWDnIdeal m →
    θ_run (Cert.RefWDnIdeal.defs (F := Ideal)) (onTc (τ := Cert.RefWDnIdeal.τ) (Cert.RefWDnIdeal.main (F := Ideal))) ⟨m, fun _ => 0, g⟩ (fun r => (∀ c : Dev Cert.RefWDnIdeal.nD,
      r.2.mem ((c.tc : Thread Cert.RefWDnIdeal.nD Cert.RefWDnIdeal.τ).loc Cert.RefWDnIdeal.main_arg0) = m ((c.tc : Thread Cert.RefWDnIdeal.nD Cert.RefWDnIdeal.τ).loc Cert.RefWDnIdeal.main_arg0))
      ∧ r.2.sem = fun _ => 0)

def quiescent_WAt [hWAt : Cert.WAt.Facts] : Prop :=
  ∀ (m : (ℓ : Loc Cert.WAt.nD Cert.WAt.τ Cert.WAt.sig) → Buf (Elt Bits) ℓ) (g : Dev Cert.WAt.nD → PrngReg), Pre_WAt m →
    θ_run (Cert.WAt.defs (F := Bits)) (onTc (τ := Cert.WAt.τ) (Cert.WAt.main (F := Bits))) ⟨m, fun _ => 0, g⟩ (fun r => (∀ c : Dev Cert.WAt.nD,
      r.2.mem ((c.tc : Thread Cert.WAt.nD Cert.WAt.τ).loc Cert.WAt.main_arg0) = m ((c.tc : Thread Cert.WAt.nD Cert.WAt.τ).loc Cert.WAt.main_arg0))
      ∧ r.2.sem = fun _ => 0)

def quiescent_WAtIdeal [hWAtIdeal : Cert.WAtIdeal.Facts] : Prop :=
  ∀ (m : (ℓ : Loc Cert.WAtIdeal.nD Cert.WAtIdeal.τ Cert.WAtIdeal.sig) → Buf (Elt Ideal) ℓ) (g : Dev Cert.WAtIdeal.nD → PrngReg), Pre_WAtIdeal m →
    θ_run (Cert.WAtIdeal.defs (F := Ideal)) (onTc (τ := Cert.WAtIdeal.τ) (Cert.WAtIdeal.main (F := Ideal))) ⟨m, fun _ => 0, g⟩ (fun r => (∀ c : Dev Cert.WAtIdeal.nD,
      r.2.mem ((c.tc : Thread Cert.WAtIdeal.nD Cert.WAtIdeal.τ).loc Cert.WAtIdeal.main_arg0) = m ((c.tc : Thread Cert.WAtIdeal.nD Cert.WAtIdeal.τ).loc Cert.WAtIdeal.main_arg0))
      ∧ r.2.sem = fun _ => 0)

def quiescent_RefWAtIdeal [hRefWAtIdeal : Cert.RefWAtIdeal.Facts] : Prop :=
  ∀ (m : (ℓ : Loc Cert.RefWAtIdeal.nD Cert.RefWAtIdeal.τ Cert.RefWAtIdeal.sig) → Buf (Elt Ideal) ℓ) (g : Dev Cert.RefWAtIdeal.nD → PrngReg), Pre_RefWAtIdeal m →
    θ_run (Cert.RefWAtIdeal.defs (F := Ideal)) (onTc (τ := Cert.RefWAtIdeal.τ) (Cert.RefWAtIdeal.main (F := Ideal))) ⟨m, fun _ => 0, g⟩ (fun r => (∀ c : Dev Cert.RefWAtIdeal.nD,
      r.2.mem ((c.tc : Thread Cert.RefWAtIdeal.nD Cert.RefWAtIdeal.τ).loc Cert.RefWAtIdeal.main_arg0) = m ((c.tc : Thread Cert.RefWAtIdeal.nD Cert.RefWAtIdeal.τ).loc Cert.RefWAtIdeal.main_arg0))
      ∧ r.2.sem = fun _ => 0)

def quiescent_WBa [hWBa : Cert.WBa.Facts] : Prop :=
  ∀ (m : (ℓ : Loc Cert.WBa.nD Cert.WBa.τ Cert.WBa.sig) → Buf (Elt Bits) ℓ) (g : Dev Cert.WBa.nD → PrngReg), Pre_WBa m →
    θ_run (Cert.WBa.defs (F := Bits)) (onTc (τ := Cert.WBa.τ) (Cert.WBa.main (F := Bits))) ⟨m, fun _ => 0, g⟩ (fun r => (∀ c : Dev Cert.WBa.nD,
      r.2.mem ((c.tc : Thread Cert.WBa.nD Cert.WBa.τ).loc Cert.WBa.main_arg0) = m ((c.tc : Thread Cert.WBa.nD Cert.WBa.τ).loc Cert.WBa.main_arg0))
      ∧ r.2.sem = fun _ => 0)

def quiescent_WBaIdeal [hWBaIdeal : Cert.WBaIdeal.Facts] : Prop :=
  ∀ (m : (ℓ : Loc Cert.WBaIdeal.nD Cert.WBaIdeal.τ Cert.WBaIdeal.sig) → Buf (Elt Ideal) ℓ) (g : Dev Cert.WBaIdeal.nD → PrngReg), Pre_WBaIdeal m →
    θ_run (Cert.WBaIdeal.defs (F := Ideal)) (onTc (τ := Cert.WBaIdeal.τ) (Cert.WBaIdeal.main (F := Ideal))) ⟨m, fun _ => 0, g⟩ (fun r => (∀ c : Dev Cert.WBaIdeal.nD,
      r.2.mem ((c.tc : Thread Cert.WBaIdeal.nD Cert.WBaIdeal.τ).loc Cert.WBaIdeal.main_arg0) = m ((c.tc : Thread Cert.WBaIdeal.nD Cert.WBaIdeal.τ).loc Cert.WBaIdeal.main_arg0))
      ∧ r.2.sem = fun _ => 0)

def quiescent_RefWBaIdeal [hRefWBaIdeal : Cert.RefWBaIdeal.Facts] : Prop :=
  ∀ (m : (ℓ : Loc Cert.RefWBaIdeal.nD Cert.RefWBaIdeal.τ Cert.RefWBaIdeal.sig) → Buf (Elt Ideal) ℓ) (g : Dev Cert.RefWBaIdeal.nD → PrngReg), Pre_RefWBaIdeal m →
    θ_run (Cert.RefWBaIdeal.defs (F := Ideal)) (onTc (τ := Cert.RefWBaIdeal.τ) (Cert.RefWBaIdeal.main (F := Ideal))) ⟨m, fun _ => 0, g⟩ (fun r => (∀ c : Dev Cert.RefWBaIdeal.nD,
      r.2.mem ((c.tc : Thread Cert.RefWBaIdeal.nD Cert.RefWBaIdeal.τ).loc Cert.RefWBaIdeal.main_arg0) = m ((c.tc : Thread Cert.RefWBaIdeal.nD Cert.RefWBaIdeal.τ).loc Cert.RefWBaIdeal.main_arg0))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)) (v2 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_0) = v0 c
          ∧ r.2.mem ((c.tc : Thread Cert.KernelIdeal.nD Cert.KernelIdeal.τ).loc Cert.KernelIdeal.main_v28_1) = v1 c
          ∧ r.2.mem ((c.tc : Thread Cert.KernelIdeal.nD Cert.KernelIdeal.τ).loc Cert.KernelIdeal.main_v30) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_v105) = v1 c
          ∧ r.2.mem ((c.tc : Thread Cert.ReferenceIdeal.nD Cert.ReferenceIdeal.τ).loc Cert.ReferenceIdeal.main_v107) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_InDn_InDnIdeal : Prop :=
  True

def algebraic_InDnIdeal_RefInDnIdeal [hInDnIdeal : Cert.InDnIdeal.Facts] [hRefInDnIdeal : Cert.RefInDnIdeal.Facts] : Prop :=
  ∀ (m : (ℓ : Loc Cert.InDnIdeal.nD Cert.InDnIdeal.τ Cert.InDnIdeal.sig) → Buf (Elt Ideal) ℓ) (g : Dev Cert.InDnIdeal.nD → PrngReg)
    (m' : (ℓ : Loc Cert.RefInDnIdeal.nD Cert.RefInDnIdeal.τ Cert.RefInDnIdeal.sig) → Buf (Elt Ideal) ℓ) (g' : Dev Cert.RefInDnIdeal.nD → PrngReg), Pre_InDnIdeal m →
    (∀ c : Dev Cert.InDnIdeal.nD,
      m' ((c.tc : Thread Cert.RefInDnIdeal.nD Cert.RefInDnIdeal.τ).loc Cert.RefInDnIdeal.main_arg0) = m ((c.tc : Thread Cert.InDnIdeal.nD Cert.InDnIdeal.τ).loc Cert.InDnIdeal.main_arg0)
      ∧ m' ((c.tc : Thread Cert.RefInDnIdeal.nD Cert.RefInDnIdeal.τ).loc Cert.RefInDnIdeal.main_arg1) = m ((c.tc : Thread Cert.InDnIdeal.nD Cert.InDnIdeal.τ).loc Cert.InDnIdeal.main_arg1)) →
    ∃ (v0 : (c : Dev Cert.InDnIdeal.nD) → Buf (Elt Ideal) ((c.tc : Thread Cert.InDnIdeal.nD Cert.InDnIdeal.τ).loc Cert.InDnIdeal.main_v0)) (v1 : (c : Dev Cert.InDnIdeal.nD) → Buf (Elt Ideal) ((c.tc : Thread Cert.InDnIdeal.nD Cert.InDnIdeal.τ).loc Cert.InDnIdeal.main_v2)),
      θ_run (Cert.InDnIdeal.defs (F := Ideal)) (onTc (τ := Cert.InDnIdeal.τ) (Cert.InDnIdeal.main (F := Ideal))) ⟨m, fun _ => 0, g⟩ (fun r => ∀ c : Dev Cert.InDnIdeal.nD,
          r.2.mem ((c.tc : Thread Cert.InDnIdeal.nD Cert.InDnIdeal.τ).loc Cert.InDnIdeal.main_v0) = v0 c
          ∧ r.2.mem ((c.tc : Thread Cert.InDnIdeal.nD Cert.InDnIdeal.τ).loc Cert.InDnIdeal.main_v2) = v1 c
          ∧ r.2.mem ((c.tc : Thread Cert.InDnIdeal.nD Cert.InDnIdeal.τ).loc Cert.InDnIdeal.main_arg0) = m ((c.tc : Thread Cert.InDnIdeal.nD Cert.InDnIdeal.τ).loc Cert.InDnIdeal.main_arg0)
          ∧ r.2.mem ((c.tc : Thread Cert.InDnIdeal.nD Cert.InDnIdeal.τ).loc Cert.InDnIdeal.main_arg1) = m ((c.tc : Thread Cert.InDnIdeal.nD Cert.InDnIdeal.τ).loc Cert.InDnIdeal.main_arg1))
      ∧ θ_run (Cert.RefInDnIdeal.defs (F := Ideal)) (onTc (τ := Cert.RefInDnIdeal.τ) (Cert.RefInDnIdeal.main (F := Ideal))) ⟨m', fun _ => 0, g'⟩ (fun r => ∀ c : Dev Cert.RefInDnIdeal.nD,
          r.2.mem ((c.tc : Thread Cert.RefInDnIdeal.nD Cert.RefInDnIdeal.τ).loc Cert.RefInDnIdeal.main_v2) = v0 c
          ∧ r.2.mem ((c.tc : Thread Cert.RefInDnIdeal.nD Cert.RefInDnIdeal.τ).loc Cert.RefInDnIdeal.main_v7) = v1 c
          ∧ r.2.mem ((c.tc : Thread Cert.RefInDnIdeal.nD Cert.RefInDnIdeal.τ).loc Cert.RefInDnIdeal.main_arg0) = m' ((c.tc : Thread Cert.RefInDnIdeal.nD Cert.RefInDnIdeal.τ).loc Cert.RefInDnIdeal.main_arg0)
          ∧ r.2.mem ((c.tc : Thread Cert.RefInDnIdeal.nD Cert.RefInDnIdeal.τ).loc Cert.RefInDnIdeal.main_arg1) = m' ((c.tc : Thread Cert.RefInDnIdeal.nD Cert.RefInDnIdeal.τ).loc Cert.RefInDnIdeal.main_arg1))

def preserves_InAt_InAtIdeal : Prop :=
  True

def algebraic_InAtIdeal_RefInAtIdeal [hInAtIdeal : Cert.InAtIdeal.Facts] [hRefInAtIdeal : Cert.RefInAtIdeal.Facts] : Prop :=
  ∀ (m : (ℓ : Loc Cert.InAtIdeal.nD Cert.InAtIdeal.τ Cert.InAtIdeal.sig) → Buf (Elt Ideal) ℓ) (g : Dev Cert.InAtIdeal.nD → PrngReg)
    (m' : (ℓ : Loc Cert.RefInAtIdeal.nD Cert.RefInAtIdeal.τ Cert.RefInAtIdeal.sig) → Buf (Elt Ideal) ℓ) (g' : Dev Cert.RefInAtIdeal.nD → PrngReg), Pre_InAtIdeal m →
    (∀ c : Dev Cert.InAtIdeal.nD,
      m' ((c.tc : Thread Cert.RefInAtIdeal.nD Cert.RefInAtIdeal.τ).loc Cert.RefInAtIdeal.main_arg0) = m ((c.tc : Thread Cert.InAtIdeal.nD Cert.InAtIdeal.τ).loc Cert.InAtIdeal.main_arg0)
      ∧ m' ((c.tc : Thread Cert.RefInAtIdeal.nD Cert.RefInAtIdeal.τ).loc Cert.RefInAtIdeal.main_arg1) = m ((c.tc : Thread Cert.InAtIdeal.nD Cert.InAtIdeal.τ).loc Cert.InAtIdeal.main_arg1)
      ∧ m' ((c.tc : Thread Cert.RefInAtIdeal.nD Cert.RefInAtIdeal.τ).loc Cert.RefInAtIdeal.main_arg2) = m ((c.tc : Thread Cert.InAtIdeal.nD Cert.InAtIdeal.τ).loc Cert.InAtIdeal.main_arg2)) →
    ∃ (v0 : (c : Dev Cert.InAtIdeal.nD) → Buf (Elt Ideal) ((c.tc : Thread Cert.InAtIdeal.nD Cert.InAtIdeal.τ).loc Cert.InAtIdeal.main_v0_0)) (v1 : (c : Dev Cert.InAtIdeal.nD) → Buf (Elt Ideal) ((c.tc : Thread Cert.InAtIdeal.nD Cert.InAtIdeal.τ).loc Cert.InAtIdeal.main_v0_1)) (v2 : (c : Dev Cert.InAtIdeal.nD) → Buf (Elt Ideal) ((c.tc : Thread Cert.InAtIdeal.nD Cert.InAtIdeal.τ).loc Cert.InAtIdeal.main_v4)),
      θ_run (Cert.InAtIdeal.defs (F := Ideal)) (onTc (τ := Cert.InAtIdeal.τ) (Cert.InAtIdeal.main (F := Ideal))) ⟨m, fun _ => 0, g⟩ (fun r => ∀ c : Dev Cert.InAtIdeal.nD,
          r.2.mem ((c.tc : Thread Cert.InAtIdeal.nD Cert.InAtIdeal.τ).loc Cert.InAtIdeal.main_v0_0) = v0 c
          ∧ r.2.mem ((c.tc : Thread Cert.InAtIdeal.nD Cert.InAtIdeal.τ).loc Cert.InAtIdeal.main_v0_1) = v1 c
          ∧ r.2.mem ((c.tc : Thread Cert.InAtIdeal.nD Cert.InAtIdeal.τ).loc Cert.InAtIdeal.main_v4) = v2 c
          ∧ r.2.mem ((c.tc : Thread Cert.InAtIdeal.nD Cert.InAtIdeal.τ).loc Cert.InAtIdeal.main_arg0) = m ((c.tc : Thread Cert.InAtIdeal.nD Cert.InAtIdeal.τ).loc Cert.InAtIdeal.main_arg0)
          ∧ r.2.mem ((c.tc : Thread Cert.InAtIdeal.nD Cert.InAtIdeal.τ).loc Cert.InAtIdeal.main_arg1) = m ((c.tc : Thread Cert.InAtIdeal.nD Cert.InAtIdeal.τ).loc Cert.InAtIdeal.main_arg1)
          ∧ r.2.mem ((c.tc : Thread Cert.InAtIdeal.nD Cert.InAtIdeal.τ).loc Cert.InAtIdeal.main_arg2) = m ((c.tc : Thread Cert.InAtIdeal.nD Cert.InAtIdeal.τ).loc Cert.InAtIdeal.main_arg2))
      ∧ θ_run (Cert.RefInAtIdeal.defs (F := Ideal)) (onTc (τ := Cert.RefInAtIdeal.τ) (Cert.RefInAtIdeal.main (F := Ideal))) ⟨m', fun _ => 0, g'⟩ (fun r => ∀ c : Dev Cert.RefInAtIdeal.nD,
          r.2.mem ((c.tc : Thread Cert.RefInAtIdeal.nD Cert.RefInAtIdeal.τ).loc Cert.RefInAtIdeal.main_v2) = v0 c
          ∧ r.2.mem ((c.tc : Thread Cert.RefInAtIdeal.nD Cert.RefInAtIdeal.τ).loc Cert.RefInAtIdeal.main_v5) = v1 c
          ∧ r.2.mem ((c.tc : Thread Cert.RefInAtIdeal.nD Cert.RefInAtIdeal.τ).loc Cert.RefInAtIdeal.main_v8) = v2 c
          ∧ r.2.mem ((c.tc : Thread Cert.RefInAtIdeal.nD Cert.RefInAtIdeal.τ).loc Cert.RefInAtIdeal.main_arg0) = m' ((c.tc : Thread Cert.RefInAtIdeal.nD Cert.RefInAtIdeal.τ).loc Cert.RefInAtIdeal.main_arg0)
          ∧ r.2.mem ((c.tc : Thread Cert.RefInAtIdeal.nD Cert.RefInAtIdeal.τ).loc Cert.RefInAtIdeal.main_arg1) = m' ((c.tc : Thread Cert.RefInAtIdeal.nD Cert.RefInAtIdeal.τ).loc Cert.RefInAtIdeal.main_arg1)
          ∧ r.2.mem ((c.tc : Thread Cert.RefInAtIdeal.nD Cert.RefInAtIdeal.τ).loc Cert.RefInAtIdeal.main_arg2) = m' ((c.tc : Thread Cert.RefInAtIdeal.nD Cert.RefInAtIdeal.τ).loc Cert.RefInAtIdeal.main_arg2))

def preserves_Out_OutIdeal : Prop :=
  True

def algebraic_OutIdeal_RefOutIdeal [hOutIdeal : Cert.OutIdeal.Facts] [hRefOutIdeal : Cert.RefOutIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.RefOutIdeal.nD Cert.RefOutIdeal.τ Cert.RefOutIdeal.sig) → Buf (Elt Ideal) ℓ) (g' : Dev Cert.RefOutIdeal.nD → PrngReg), Pre_OutIdeal m →
    (∀ c : Dev Cert.OutIdeal.nD,
      m' ((c.tc : Thread Cert.RefOutIdeal.nD Cert.RefOutIdeal.τ).loc Cert.RefOutIdeal.main_arg0) = m ((c.tc : Thread Cert.OutIdeal.nD Cert.OutIdeal.τ).loc Cert.OutIdeal.main_arg0)
      ∧ m' ((c.tc : Thread Cert.RefOutIdeal.nD Cert.RefOutIdeal.τ).loc Cert.RefOutIdeal.main_arg1) = m ((c.tc : Thread Cert.OutIdeal.nD Cert.OutIdeal.τ).loc Cert.OutIdeal.main_arg1)
      ∧ m' ((c.tc : Thread Cert.RefOutIdeal.nD Cert.RefOutIdeal.τ).loc Cert.RefOutIdeal.main_arg2) = m ((c.tc : Thread Cert.OutIdeal.nD Cert.OutIdeal.τ).loc Cert.OutIdeal.main_arg2)
      ∧ m' ((c.tc : Thread Cert.RefOutIdeal.nD Cert.RefOutIdeal.τ).loc Cert.RefOutIdeal.main_arg3) = m ((c.tc : Thread Cert.OutIdeal.nD Cert.OutIdeal.τ).loc Cert.OutIdeal.main_arg3)
      ∧ m' ((c.tc : Thread Cert.RefOutIdeal.nD Cert.RefOutIdeal.τ).loc Cert.RefOutIdeal.main_arg4) = m ((c.tc : Thread Cert.OutIdeal.nD Cert.OutIdeal.τ).loc Cert.OutIdeal.main_arg4)
      ∧ m' ((c.tc : Thread Cert.RefOutIdeal.nD Cert.RefOutIdeal.τ).loc Cert.RefOutIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.RefOutIdeal.defs (F := Ideal)) (onTc (τ := Cert.RefOutIdeal.τ) (Cert.RefOutIdeal.main (F := Ideal))) ⟨m', fun _ => 0, g'⟩ (fun r => ∀ c : Dev Cert.RefOutIdeal.nD,
          r.2.mem ((c.tc : Thread Cert.RefOutIdeal.nD Cert.RefOutIdeal.τ).loc Cert.RefOutIdeal.main_v25) = v0 c
          ∧ r.2.mem ((c.tc : Thread Cert.RefOutIdeal.nD Cert.RefOutIdeal.τ).loc Cert.RefOutIdeal.main_arg0) = m' ((c.tc : Thread Cert.RefOutIdeal.nD Cert.RefOutIdeal.τ).loc Cert.RefOutIdeal.main_arg0)
          ∧ r.2.mem ((c.tc : Thread Cert.RefOutIdeal.nD Cert.RefOutIdeal.τ).loc Cert.RefOutIdeal.main_arg1) = m' ((c.tc : Thread Cert.RefOutIdeal.nD Cert.RefOutIdeal.τ).loc Cert.RefOutIdeal.main_arg1)
          ∧ r.2.mem ((c.tc : Thread Cert.RefOutIdeal.nD Cert.RefOutIdeal.τ).loc Cert.RefOutIdeal.main_arg2) = m' ((c.tc : Thread Cert.RefOutIdeal.nD Cert.RefOutIdeal.τ).loc Cert.RefOutIdeal.main_arg2)
          ∧ r.2.mem ((c.tc : Thread Cert.RefOutIdeal.nD Cert.RefOutIdeal.τ).loc Cert.RefOutIdeal.main_arg3) = m' ((c.tc : Thread Cert.RefOutIdeal.nD Cert.RefOutIdeal.τ).loc Cert.RefOutIdeal.main_arg3)
          ∧ r.2.mem ((c.tc : Thread Cert.RefOutIdeal.nD Cert.RefOutIdeal.τ).loc Cert.RefOutIdeal.main_arg4) = m' ((c.tc : Thread Cert.RefOutIdeal.nD Cert.RefOutIdeal.τ).loc Cert.RefOutIdeal.main_arg4)
          ∧ r.2.mem ((c.tc : Thread Cert.RefOutIdeal.nD Cert.RefOutIdeal.τ).loc Cert.RefOutIdeal.main_arg5) = m' ((c.tc : Thread Cert.RefOutIdeal.nD Cert.RefOutIdeal.τ).loc Cert.RefOutIdeal.main_arg5))

def preserves_InDnS_InDnSIdeal : Prop :=
  True

def algebraic_InDnSIdeal_RefInDnSIdeal [hInDnSIdeal : Cert.InDnSIdeal.Facts] [hRefInDnSIdeal : Cert.RefInDnSIdeal.Facts] : Prop :=
  ∀ (m : (ℓ : Loc Cert.InDnSIdeal.nD Cert.InDnSIdeal.τ Cert.InDnSIdeal.sig) → Buf (Elt Ideal) ℓ) (g : Dev Cert.InDnSIdeal.nD → PrngReg)
    (m' : (ℓ : Loc Cert.RefInDnSIdeal.nD Cert.RefInDnSIdeal.τ Cert.RefInDnSIdeal.sig) → Buf (Elt Ideal) ℓ) (g' : Dev Cert.RefInDnSIdeal.nD → PrngReg), Pre_InDnSIdeal m →
    (∀ c : Dev Cert.InDnSIdeal.nD,
      m' ((c.tc : Thread Cert.RefInDnSIdeal.nD Cert.RefInDnSIdeal.τ).loc Cert.RefInDnSIdeal.main_arg0) = m ((c.tc : Thread Cert.InDnSIdeal.nD Cert.InDnSIdeal.τ).loc Cert.InDnSIdeal.main_arg0)
      ∧ m' ((c.tc : Thread Cert.RefInDnSIdeal.nD Cert.RefInDnSIdeal.τ).loc Cert.RefInDnSIdeal.main_arg1) = m ((c.tc : Thread Cert.InDnSIdeal.nD Cert.InDnSIdeal.τ).loc Cert.InDnSIdeal.main_arg1)
      ∧ m' ((c.tc : Thread Cert.RefInDnSIdeal.nD Cert.RefInDnSIdeal.τ).loc Cert.RefInDnSIdeal.main_arg2) = m ((c.tc : Thread Cert.InDnSIdeal.nD Cert.InDnSIdeal.τ).loc Cert.InDnSIdeal.main_arg2)) →
    ∃ (v0 : (c : Dev Cert.InDnSIdeal.nD) → Buf (Elt Ideal) ((c.tc : Thread Cert.InDnSIdeal.nD Cert.InDnSIdeal.τ).loc Cert.InDnSIdeal.main_v0)) (v1 : (c : Dev Cert.InDnSIdeal.nD) → Buf (Elt Ideal) ((c.tc : Thread Cert.InDnSIdeal.nD Cert.InDnSIdeal.τ).loc Cert.InDnSIdeal.main_v2)),
      θ_run (Cert.InDnSIdeal.defs (F := Ideal)) (onTc (τ := Cert.InDnSIdeal.τ) (Cert.InDnSIdeal.main (F := Ideal))) ⟨m, fun _ => 0, g⟩ (fun r => ∀ c : Dev Cert.InDnSIdeal.nD,
          r.2.mem ((c.tc : Thread Cert.InDnSIdeal.nD Cert.InDnSIdeal.τ).loc Cert.InDnSIdeal.main_v0) = v0 c
          ∧ r.2.mem ((c.tc : Thread Cert.InDnSIdeal.nD Cert.InDnSIdeal.τ).loc Cert.InDnSIdeal.main_v2) = v1 c
          ∧ r.2.mem ((c.tc : Thread Cert.InDnSIdeal.nD Cert.InDnSIdeal.τ).loc Cert.InDnSIdeal.main_arg0) = m ((c.tc : Thread Cert.InDnSIdeal.nD Cert.InDnSIdeal.τ).loc Cert.InDnSIdeal.main_arg0)
          ∧ r.2.mem ((c.tc : Thread Cert.InDnSIdeal.nD Cert.InDnSIdeal.τ).loc Cert.InDnSIdeal.main_arg1) = m ((c.tc : Thread Cert.InDnSIdeal.nD Cert.InDnSIdeal.τ).loc Cert.InDnSIdeal.main_arg1)
          ∧ r.2.mem ((c.tc : Thread Cert.InDnSIdeal.nD Cert.InDnSIdeal.τ).loc Cert.InDnSIdeal.main_arg2) = m ((c.tc : Thread Cert.InDnSIdeal.nD Cert.InDnSIdeal.τ).loc Cert.InDnSIdeal.main_arg2))
      ∧ θ_run (Cert.RefInDnSIdeal.defs (F := Ideal)) (onTc (τ := Cert.RefInDnSIdeal.τ) (Cert.RefInDnSIdeal.main (F := Ideal))) ⟨m', fun _ => 0, g'⟩ (fun r => ∀ c : Dev Cert.RefInDnSIdeal.nD,
          r.2.mem ((c.tc : Thread Cert.RefInDnSIdeal.nD Cert.RefInDnSIdeal.τ).loc Cert.RefInDnSIdeal.main_v2) = v0 c
          ∧ r.2.mem ((c.tc : Thread Cert.RefInDnSIdeal.nD Cert.RefInDnSIdeal.τ).loc Cert.RefInDnSIdeal.main_v6) = v1 c
          ∧ r.2.mem ((c.tc : Thread Cert.RefInDnSIdeal.nD Cert.RefInDnSIdeal.τ).loc Cert.RefInDnSIdeal.main_arg0) = m' ((c.tc : Thread Cert.RefInDnSIdeal.nD Cert.RefInDnSIdeal.τ).loc Cert.RefInDnSIdeal.main_arg0)
          ∧ r.2.mem ((c.tc : Thread Cert.RefInDnSIdeal.nD Cert.RefInDnSIdeal.τ).loc Cert.RefInDnSIdeal.main_arg1) = m' ((c.tc : Thread Cert.RefInDnSIdeal.nD Cert.RefInDnSIdeal.τ).loc Cert.RefInDnSIdeal.main_arg1)
          ∧ r.2.mem ((c.tc : Thread Cert.RefInDnSIdeal.nD Cert.RefInDnSIdeal.τ).loc Cert.RefInDnSIdeal.main_arg2) = m' ((c.tc : Thread Cert.RefInDnSIdeal.nD Cert.RefInDnSIdeal.τ).loc Cert.RefInDnSIdeal.main_arg2))

def preserves_OutS_OutSIdeal : Prop :=
  True

def algebraic_OutSIdeal_RefOutSIdeal [hOutSIdeal : Cert.OutSIdeal.Facts] [hRefOutSIdeal : Cert.RefOutSIdeal.Facts] : Prop :=
  ∀ (m : (ℓ : Loc Cert.OutSIdeal.nD Cert.OutSIdeal.τ Cert.OutSIdeal.sig) → Buf (Elt Ideal) ℓ) (g : Dev Cert.OutSIdeal.nD → PrngReg)
    (m' : (ℓ : Loc Cert.RefOutSIdeal.nD Cert.RefOutSIdeal.τ Cert.RefOutSIdeal.sig) → Buf (Elt Ideal) ℓ) (g' : Dev Cert.RefOutSIdeal.nD → PrngReg), Pre_OutSIdeal m →
    (∀ c : Dev Cert.OutSIdeal.nD,
      m' ((c.tc : Thread Cert.RefOutSIdeal.nD Cert.RefOutSIdeal.τ).loc Cert.RefOutSIdeal.main_arg0) = m ((c.tc : Thread Cert.OutSIdeal.nD Cert.OutSIdeal.τ).loc Cert.OutSIdeal.main_arg0)
      ∧ m' ((c.tc : Thread Cert.RefOutSIdeal.nD Cert.RefOutSIdeal.τ).loc Cert.RefOutSIdeal.main_arg1) = m ((c.tc : Thread Cert.OutSIdeal.nD Cert.OutSIdeal.τ).loc Cert.OutSIdeal.main_arg1)
      ∧ m' ((c.tc : Thread Cert.RefOutSIdeal.nD Cert.RefOutSIdeal.τ).loc Cert.RefOutSIdeal.main_arg2) = m ((c.tc : Thread Cert.OutSIdeal.nD Cert.OutSIdeal.τ).loc Cert.OutSIdeal.main_arg2)
      ∧ m' ((c.tc : Thread Cert.RefOutSIdeal.nD Cert.RefOutSIdeal.τ).loc Cert.RefOutSIdeal.main_arg3) = m ((c.tc : Thread Cert.OutSIdeal.nD Cert.OutSIdeal.τ).loc Cert.OutSIdeal.main_arg3)
      ∧ m' ((c.tc : Thread Cert.RefOutSIdeal.nD Cert.RefOutSIdeal.τ).loc Cert.RefOutSIdeal.main_arg4) = m ((c.tc : Thread Cert.OutSIdeal.nD Cert.OutSIdeal.τ).loc Cert.OutSIdeal.main_arg4)
      ∧ m' ((c.tc : Thread Cert.RefOutSIdeal.nD Cert.RefOutSIdeal.τ).loc Cert.RefOutSIdeal.main_arg5) = m ((c.tc : Thread Cert.OutSIdeal.nD Cert.OutSIdeal.τ).loc Cert.OutSIdeal.main_arg5)) →
    ∃ (v0 : (c : Dev Cert.OutSIdeal.nD) → Buf (Elt Ideal) ((c.tc : Thread Cert.OutSIdeal.nD Cert.OutSIdeal.τ).loc Cert.OutSIdeal.main_v4)),
      θ_run (Cert.OutSIdeal.defs (F := Ideal)) (onTc (τ := Cert.OutSIdeal.τ) (Cert.OutSIdeal.main (F := Ideal))) ⟨m, fun _ => 0, g⟩ (fun r => ∀ c : Dev Cert.OutSIdeal.nD,
          r.2.mem ((c.tc : Thread Cert.OutSIdeal.nD Cert.OutSIdeal.τ).loc Cert.OutSIdeal.main_v4) = v0 c
          ∧ r.2.mem ((c.tc : Thread Cert.OutSIdeal.nD Cert.OutSIdeal.τ).loc Cert.OutSIdeal.main_arg0) = m ((c.tc : Thread Cert.OutSIdeal.nD Cert.OutSIdeal.τ).loc Cert.OutSIdeal.main_arg0)
          ∧ r.2.mem ((c.tc : Thread Cert.OutSIdeal.nD Cert.OutSIdeal.τ).loc Cert.OutSIdeal.main_arg1) = m ((c.tc : Thread Cert.OutSIdeal.nD Cert.OutSIdeal.τ).loc Cert.OutSIdeal.main_arg1)
          ∧ r.2.mem ((c.tc : Thread Cert.OutSIdeal.nD Cert.OutSIdeal.τ).loc Cert.OutSIdeal.main_arg2) = m ((c.tc : Thread Cert.OutSIdeal.nD Cert.OutSIdeal.τ).loc Cert.OutSIdeal.main_arg2)
          ∧ r.2.mem ((c.tc : Thread Cert.OutSIdeal.nD Cert.OutSIdeal.τ).loc Cert.OutSIdeal.main_arg3) = m ((c.tc : Thread Cert.OutSIdeal.nD Cert.OutSIdeal.τ).loc Cert.OutSIdeal.main_arg3)
          ∧ r.2.mem ((c.tc : Thread Cert.OutSIdeal.nD Cert.OutSIdeal.τ).loc Cert.OutSIdeal.main_arg4) = m ((c.tc : Thread Cert.OutSIdeal.nD Cert.OutSIdeal.τ).loc Cert.OutSIdeal.main_arg4)
          ∧ r.2.mem ((c.tc : Thread Cert.OutSIdeal.nD Cert.OutSIdeal.τ).loc Cert.OutSIdeal.main_arg5) = m ((c.tc : Thread Cert.OutSIdeal.nD Cert.OutSIdeal.τ).loc Cert.OutSIdeal.main_arg5))
      ∧ θ_run (Cert.RefOutSIdeal.defs (F := Ideal)) (onTc (τ := Cert.RefOutSIdeal.τ) (Cert.RefOutSIdeal.main (F := Ideal))) ⟨m', fun _ => 0, g'⟩ (fun r => ∀ c : Dev Cert.RefOutSIdeal.nD,
          r.2.mem ((c.tc : Thread Cert.RefOutSIdeal.nD Cert.RefOutSIdeal.τ).loc Cert.RefOutSIdeal.main_v25) = v0 c
          ∧ r.2.mem ((c.tc : Thread Cert.RefOutSIdeal.nD Cert.RefOutSIdeal.τ).loc Cert.RefOutSIdeal.main_arg0) = m' ((c.tc : Thread Cert.RefOutSIdeal.nD Cert.RefOutSIdeal.τ).loc Cert.RefOutSIdeal.main_arg0)
          ∧ r.2.mem ((c.tc : Thread Cert.RefOutSIdeal.nD Cert.RefOutSIdeal.τ).loc Cert.RefOutSIdeal.main_arg1) = m' ((c.tc : Thread Cert.RefOutSIdeal.nD Cert.RefOutSIdeal.τ).loc Cert.RefOutSIdeal.main_arg1)
          ∧ r.2.mem ((c.tc : Thread Cert.RefOutSIdeal.nD Cert.RefOutSIdeal.τ).loc Cert.RefOutSIdeal.main_arg2) = m' ((c.tc : Thread Cert.RefOutSIdeal.nD Cert.RefOutSIdeal.τ).loc Cert.RefOutSIdeal.main_arg2)
          ∧ r.2.mem ((c.tc : Thread Cert.RefOutSIdeal.nD Cert.RefOutSIdeal.τ).loc Cert.RefOutSIdeal.main_arg3) = m' ((c.tc : Thread Cert.RefOutSIdeal.nD Cert.RefOutSIdeal.τ).loc Cert.RefOutSIdeal.main_arg3)
          ∧ r.2.mem ((c.tc : Thread Cert.RefOutSIdeal.nD Cert.RefOutSIdeal.τ).loc Cert.RefOutSIdeal.main_arg4) = m' ((c.tc : Thread Cert.RefOutSIdeal.nD Cert.RefOutSIdeal.τ).loc Cert.RefOutSIdeal.main_arg4)
          ∧ r.2.mem ((c.tc : Thread Cert.RefOutSIdeal.nD Cert.RefOutSIdeal.τ).loc Cert.RefOutSIdeal.main_arg5) = m' ((c.tc : Thread Cert.RefOutSIdeal.nD Cert.RefOutSIdeal.τ).loc Cert.RefOutSIdeal.main_arg5))

def preserves_Ada_AdaIdeal : Prop :=
  True

def algebraic_AdaIdeal_RefAdaIdeal [hAdaIdeal : Cert.AdaIdeal.Facts] [hRefAdaIdeal : Cert.RefAdaIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.RefAdaIdeal.nD Cert.RefAdaIdeal.τ Cert.RefAdaIdeal.sig) → Buf (Elt Ideal) ℓ) (g' : Dev Cert.RefAdaIdeal.nD → PrngReg), Pre_AdaIdeal m →
    (∀ c : Dev Cert.AdaIdeal.nD,
      m' ((c.tc : Thread Cert.RefAdaIdeal.nD Cert.RefAdaIdeal.τ).loc Cert.RefAdaIdeal.main_arg0) = m ((c.tc : Thread Cert.AdaIdeal.nD Cert.AdaIdeal.τ).loc Cert.AdaIdeal.main_arg0)
      ∧ m' ((c.tc : Thread Cert.RefAdaIdeal.nD Cert.RefAdaIdeal.τ).loc Cert.RefAdaIdeal.main_arg1) = m ((c.tc : Thread Cert.AdaIdeal.nD Cert.AdaIdeal.τ).loc Cert.AdaIdeal.main_arg1)
      ∧ m' ((c.tc : Thread Cert.RefAdaIdeal.nD Cert.RefAdaIdeal.τ).loc Cert.RefAdaIdeal.main_arg2) = m ((c.tc : Thread Cert.AdaIdeal.nD Cert.AdaIdeal.τ).loc Cert.AdaIdeal.main_arg2)
      ∧ m' ((c.tc : Thread Cert.RefAdaIdeal.nD Cert.RefAdaIdeal.τ).loc Cert.RefAdaIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v5)) (v1 : (c : Dev Cert.AdaIdeal.nD) → Buf (Elt Ideal) ((c.tc : Thread Cert.AdaIdeal.nD Cert.AdaIdeal.τ).loc Cert.AdaIdeal.main_v7)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v5) = v0 c
          ∧ r.2.mem ((c.tc : Thread Cert.AdaIdeal.nD Cert.AdaIdeal.τ).loc Cert.AdaIdeal.main_v7) = v1 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.RefAdaIdeal.defs (F := Ideal)) (onTc (τ := Cert.RefAdaIdeal.τ) (Cert.RefAdaIdeal.main (F := Ideal))) ⟨m', fun _ => 0, g'⟩ (fun r => ∀ c : Dev Cert.RefAdaIdeal.nD,
          r.2.mem ((c.tc : Thread Cert.RefAdaIdeal.nD Cert.RefAdaIdeal.τ).loc Cert.RefAdaIdeal.main_v6) = v0 c
          ∧ r.2.mem ((c.tc : Thread Cert.RefAdaIdeal.nD Cert.RefAdaIdeal.τ).loc Cert.RefAdaIdeal.main_v13) = v1 c
          ∧ r.2.mem ((c.tc : Thread Cert.RefAdaIdeal.nD Cert.RefAdaIdeal.τ).loc Cert.RefAdaIdeal.main_arg0) = m' ((c.tc : Thread Cert.RefAdaIdeal.nD Cert.RefAdaIdeal.τ).loc Cert.RefAdaIdeal.main_arg0)
          ∧ r.2.mem ((c.tc : Thread Cert.RefAdaIdeal.nD Cert.RefAdaIdeal.τ).loc Cert.RefAdaIdeal.main_arg1) = m' ((c.tc : Thread Cert.RefAdaIdeal.nD Cert.RefAdaIdeal.τ).loc Cert.RefAdaIdeal.main_arg1)
          ∧ r.2.mem ((c.tc : Thread Cert.RefAdaIdeal.nD Cert.RefAdaIdeal.τ).loc Cert.RefAdaIdeal.main_arg2) = m' ((c.tc : Thread Cert.RefAdaIdeal.nD Cert.RefAdaIdeal.τ).loc Cert.RefAdaIdeal.main_arg2)
          ∧ r.2.mem ((c.tc : Thread Cert.RefAdaIdeal.nD Cert.RefAdaIdeal.τ).loc Cert.RefAdaIdeal.main_arg3) = m' ((c.tc : Thread Cert.RefAdaIdeal.nD Cert.RefAdaIdeal.τ).loc Cert.RefAdaIdeal.main_arg3))

def preserves_Pre_PreIdeal : Prop :=
  True

def algebraic_PreIdeal_RefPreIdeal [hPreIdeal : Cert.PreIdeal.Facts] [hRefPreIdeal : Cert.RefPreIdeal.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.RefPreIdeal.nD Cert.RefPreIdeal.τ Cert.RefPreIdeal.sig) → Buf (Elt Ideal) ℓ) (g' : Dev Cert.RefPreIdeal.nD → PrngReg), Pre_PreIdeal m →
    (∀ c : Dev Cert.PreIdeal.nD,
      m' ((c.tc : Thread Cert.RefPreIdeal.nD Cert.RefPreIdeal.τ).loc Cert.RefPreIdeal.main_arg0) = m ((c.tc : Thread Cert.PreIdeal.nD Cert.PreIdeal.τ).loc Cert.PreIdeal.main_arg0)
      ∧ m' ((c.tc : Thread Cert.RefPreIdeal.nD Cert.RefPreIdeal.τ).loc Cert.RefPreIdeal.main_arg1) = m ((c.tc : Thread Cert.PreIdeal.nD Cert.PreIdeal.τ).loc Cert.PreIdeal.main_arg1)
      ∧ m' ((c.tc : Thread Cert.RefPreIdeal.nD Cert.RefPreIdeal.τ).loc Cert.RefPreIdeal.main_arg2) = m ((c.tc : Thread Cert.PreIdeal.nD Cert.PreIdeal.τ).loc Cert.PreIdeal.main_arg2)) →
    ∃ (v0 : (c : Dev Cert.PreIdeal.nD) → Buf (Elt Ideal) ((c.tc : Thread Cert.PreIdeal.nD Cert.PreIdeal.τ).loc Cert.PreIdeal.main_v4)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v4) = v0 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2))
      ∧ θ_run (Cert.RefPreIdeal.defs (F := Ideal)) (onTc (τ := Cert.RefPreIdeal.τ) (Cert.RefPreIdeal.main (F := Ideal))) ⟨m', fun _ => 0, g'⟩ (fun r => ∀ c : Dev Cert.RefPreIdeal.nD,
          r.2.mem ((c.tc : Thread Cert.RefPreIdeal.nD Cert.RefPreIdeal.τ).loc Cert.RefPreIdeal.main_v27) = v0 c
          ∧ r.2.mem ((c.tc : Thread Cert.RefPreIdeal.nD Cert.RefPreIdeal.τ).loc Cert.RefPreIdeal.main_arg0) = m' ((c.tc : Thread Cert.RefPreIdeal.nD Cert.RefPreIdeal.τ).loc Cert.RefPreIdeal.main_arg0)
          ∧ r.2.mem ((c.tc : Thread Cert.RefPreIdeal.nD Cert.RefPreIdeal.τ).loc Cert.RefPreIdeal.main_arg1) = m' ((c.tc : Thread Cert.RefPreIdeal.nD Cert.RefPreIdeal.τ).loc Cert.RefPreIdeal.main_arg1)
          ∧ r.2.mem ((c.tc : Thread Cert.RefPreIdeal.nD Cert.RefPreIdeal.τ).loc Cert.RefPreIdeal.main_arg2) = m' ((c.tc : Thread Cert.RefPreIdeal.nD Cert.RefPreIdeal.τ).loc Cert.RefPreIdeal.main_arg2))

def preserves_OutH_OutHIdeal : Prop :=
  True

def algebraic_OutHIdeal_RefOutHIdeal [hOutHIdeal : Cert.OutHIdeal.Facts] [hRefOutHIdeal : Cert.RefOutHIdeal.Facts] : Prop :=
  ∀ (m : (ℓ : Loc Cert.OutHIdeal.nD Cert.OutHIdeal.τ Cert.OutHIdeal.sig) → Buf (Elt Ideal) ℓ) (g : Dev Cert.OutHIdeal.nD → PrngReg)
    (m' : (ℓ : Loc Cert.RefOutHIdeal.nD Cert.RefOutHIdeal.τ Cert.RefOutHIdeal.sig) → Buf (Elt Ideal) ℓ) (g' : Dev Cert.RefOutHIdeal.nD → PrngReg), Pre_OutHIdeal m →
    (∀ c : Dev Cert.OutHIdeal.nD,
      m' ((c.tc : Thread Cert.RefOutHIdeal.nD Cert.RefOutHIdeal.τ).loc Cert.RefOutHIdeal.main_arg0) = m ((c.tc : Thread Cert.OutHIdeal.nD Cert.OutHIdeal.τ).loc Cert.OutHIdeal.main_arg0)
      ∧ m' ((c.tc : Thread Cert.RefOutHIdeal.nD Cert.RefOutHIdeal.τ).loc Cert.RefOutHIdeal.main_arg1) = m ((c.tc : Thread Cert.OutHIdeal.nD Cert.OutHIdeal.τ).loc Cert.OutHIdeal.main_arg1)
      ∧ m' ((c.tc : Thread Cert.RefOutHIdeal.nD Cert.RefOutHIdeal.τ).loc Cert.RefOutHIdeal.main_arg2) = m ((c.tc : Thread Cert.OutHIdeal.nD Cert.OutHIdeal.τ).loc Cert.OutHIdeal.main_arg2)
      ∧ m' ((c.tc : Thread Cert.RefOutHIdeal.nD Cert.RefOutHIdeal.τ).loc Cert.RefOutHIdeal.main_arg3) = m ((c.tc : Thread Cert.OutHIdeal.nD Cert.OutHIdeal.τ).loc Cert.OutHIdeal.main_arg3)
      ∧ m' ((c.tc : Thread Cert.RefOutHIdeal.nD Cert.RefOutHIdeal.τ).loc Cert.RefOutHIdeal.main_arg4) = m ((c.tc : Thread Cert.OutHIdeal.nD Cert.OutHIdeal.τ).loc Cert.OutHIdeal.main_arg4)
      ∧ m' ((c.tc : Thread Cert.RefOutHIdeal.nD Cert.RefOutHIdeal.τ).loc Cert.RefOutHIdeal.main_arg5) = m ((c.tc : Thread Cert.OutHIdeal.nD Cert.OutHIdeal.τ).loc Cert.OutHIdeal.main_arg5)
      ∧ m' ((c.tc : Thread Cert.RefOutHIdeal.nD Cert.RefOutHIdeal.τ).loc Cert.RefOutHIdeal.main_arg6) = m ((c.tc : Thread Cert.OutHIdeal.nD Cert.OutHIdeal.τ).loc Cert.OutHIdeal.main_arg6)
      ∧ m' ((c.tc : Thread Cert.RefOutHIdeal.nD Cert.RefOutHIdeal.τ).loc Cert.RefOutHIdeal.main_arg7) = m ((c.tc : Thread Cert.OutHIdeal.nD Cert.OutHIdeal.τ).loc Cert.OutHIdeal.main_arg7)) →
    ∃ (v0 : (c : Dev Cert.OutHIdeal.nD) → Buf (Elt Ideal) ((c.tc : Thread Cert.OutHIdeal.nD Cert.OutHIdeal.τ).loc Cert.OutHIdeal.main_v8_0)) (v1 : (c : Dev Cert.OutHIdeal.nD) → Buf (Elt Ideal) ((c.tc : Thread Cert.OutHIdeal.nD Cert.OutHIdeal.τ).loc Cert.OutHIdeal.main_v8_1)),
      θ_run (Cert.OutHIdeal.defs (F := Ideal)) (onTc (τ := Cert.OutHIdeal.τ) (Cert.OutHIdeal.main (F := Ideal))) ⟨m, fun _ => 0, g⟩ (fun r => ∀ c : Dev Cert.OutHIdeal.nD,
          r.2.mem ((c.tc : Thread Cert.OutHIdeal.nD Cert.OutHIdeal.τ).loc Cert.OutHIdeal.main_v8_0) = v0 c
          ∧ r.2.mem ((c.tc : Thread Cert.OutHIdeal.nD Cert.OutHIdeal.τ).loc Cert.OutHIdeal.main_v8_1) = v1 c
          ∧ r.2.mem ((c.tc : Thread Cert.OutHIdeal.nD Cert.OutHIdeal.τ).loc Cert.OutHIdeal.main_arg0) = m ((c.tc : Thread Cert.OutHIdeal.nD Cert.OutHIdeal.τ).loc Cert.OutHIdeal.main_arg0)
          ∧ r.2.mem ((c.tc : Thread Cert.OutHIdeal.nD Cert.OutHIdeal.τ).loc Cert.OutHIdeal.main_arg1) = m ((c.tc : Thread Cert.OutHIdeal.nD Cert.OutHIdeal.τ).loc Cert.OutHIdeal.main_arg1)
          ∧ r.2.mem ((c.tc : Thread Cert.OutHIdeal.nD Cert.OutHIdeal.τ).loc Cert.OutHIdeal.main_arg2) = m ((c.tc : Thread Cert.OutHIdeal.nD Cert.OutHIdeal.τ).loc Cert.OutHIdeal.main_arg2)
          ∧ r.2.mem ((c.tc : Thread Cert.OutHIdeal.nD Cert.OutHIdeal.τ).loc Cert.OutHIdeal.main_arg3) = m ((c.tc : Thread Cert.OutHIdeal.nD Cert.OutHIdeal.τ).loc Cert.OutHIdeal.main_arg3)
          ∧ r.2.mem ((c.tc : Thread Cert.OutHIdeal.nD Cert.OutHIdeal.τ).loc Cert.OutHIdeal.main_arg4) = m ((c.tc : Thread Cert.OutHIdeal.nD Cert.OutHIdeal.τ).loc Cert.OutHIdeal.main_arg4)
          ∧ r.2.mem ((c.tc : Thread Cert.OutHIdeal.nD Cert.OutHIdeal.τ).loc Cert.OutHIdeal.main_arg5) = m ((c.tc : Thread Cert.OutHIdeal.nD Cert.OutHIdeal.τ).loc Cert.OutHIdeal.main_arg5)
          ∧ r.2.mem ((c.tc : Thread Cert.OutHIdeal.nD Cert.OutHIdeal.τ).loc Cert.OutHIdeal.main_arg6) = m ((c.tc : Thread Cert.OutHIdeal.nD Cert.OutHIdeal.τ).loc Cert.OutHIdeal.main_arg6)
          ∧ r.2.mem ((c.tc : Thread Cert.OutHIdeal.nD Cert.OutHIdeal.τ).loc Cert.OutHIdeal.main_arg7) = m ((c.tc : Thread Cert.OutHIdeal.nD Cert.OutHIdeal.τ).loc Cert.OutHIdeal.main_arg7))
      ∧ θ_run (Cert.RefOutHIdeal.defs (F := Ideal)) (onTc (τ := Cert.RefOutHIdeal.τ) (Cert.RefOutHIdeal.main (F := Ideal))) ⟨m', fun _ => 0, g'⟩ (fun r => ∀ c : Dev Cert.RefOutHIdeal.nD,
          r.2.mem ((c.tc : Thread Cert.RefOutHIdeal.nD Cert.RefOutHIdeal.τ).loc Cert.RefOutHIdeal.main_v50) = v0 c
          ∧ r.2.mem ((c.tc : Thread Cert.RefOutHIdeal.nD Cert.RefOutHIdeal.τ).loc Cert.RefOutHIdeal.main_v52) = v1 c
          ∧ r.2.mem ((c.tc : Thread Cert.RefOutHIdeal.nD Cert.RefOutHIdeal.τ).loc Cert.RefOutHIdeal.main_arg0) = m' ((c.tc : Thread Cert.RefOutHIdeal.nD Cert.RefOutHIdeal.τ).loc Cert.RefOutHIdeal.main_arg0)
          ∧ r.2.mem ((c.tc : Thread Cert.RefOutHIdeal.nD Cert.RefOutHIdeal.τ).loc Cert.RefOutHIdeal.main_arg1) = m' ((c.tc : Thread Cert.RefOutHIdeal.nD Cert.RefOutHIdeal.τ).loc Cert.RefOutHIdeal.main_arg1)
          ∧ r.2.mem ((c.tc : Thread Cert.RefOutHIdeal.nD Cert.RefOutHIdeal.τ).loc Cert.RefOutHIdeal.main_arg2) = m' ((c.tc : Thread Cert.RefOutHIdeal.nD Cert.RefOutHIdeal.τ).loc Cert.RefOutHIdeal.main_arg2)
          ∧ r.2.mem ((c.tc : Thread Cert.RefOutHIdeal.nD Cert.RefOutHIdeal.τ).loc Cert.RefOutHIdeal.main_arg3) = m' ((c.tc : Thread Cert.RefOutHIdeal.nD Cert.RefOutHIdeal.τ).loc Cert.RefOutHIdeal.main_arg3)
          ∧ r.2.mem ((c.tc : Thread Cert.RefOutHIdeal.nD Cert.RefOutHIdeal.τ).loc Cert.RefOutHIdeal.main_arg4) = m' ((c.tc : Thread Cert.RefOutHIdeal.nD Cert.RefOutHIdeal.τ).loc Cert.RefOutHIdeal.main_arg4)
          ∧ r.2.mem ((c.tc : Thread Cert.RefOutHIdeal.nD Cert.RefOutHIdeal.τ).loc Cert.RefOutHIdeal.main_arg5) = m' ((c.tc : Thread Cert.RefOutHIdeal.nD Cert.RefOutHIdeal.τ).loc Cert.RefOutHIdeal.main_arg5)
          ∧ r.2.mem ((c.tc : Thread Cert.RefOutHIdeal.nD Cert.RefOutHIdeal.τ).loc Cert.RefOutHIdeal.main_arg6) = m' ((c.tc : Thread Cert.RefOutHIdeal.nD Cert.RefOutHIdeal.τ).loc Cert.RefOutHIdeal.main_arg6)
          ∧ r.2.mem ((c.tc : Thread Cert.RefOutHIdeal.nD Cert.RefOutHIdeal.τ).loc Cert.RefOutHIdeal.main_arg7) = m' ((c.tc : Thread Cert.RefOutHIdeal.nD Cert.RefOutHIdeal.τ).loc Cert.RefOutHIdeal.main_arg7))

def preserves_WDn_WDnIdeal : Prop :=
  True

def algebraic_WDnIdeal_RefWDnIdeal [hWDnIdeal : Cert.WDnIdeal.Facts] [hRefWDnIdeal : Cert.RefWDnIdeal.Facts] : Prop :=
  ∀ (m : (ℓ : Loc Cert.WDnIdeal.nD Cert.WDnIdeal.τ Cert.WDnIdeal.sig) → Buf (Elt Ideal) ℓ) (g : Dev Cert.WDnIdeal.nD → PrngReg)
    (m' : (ℓ : Loc Cert.RefWDnIdeal.nD Cert.RefWDnIdeal.τ Cert.RefWDnIdeal.sig) → Buf (Elt Ideal) ℓ) (g' : Dev Cert.RefWDnIdeal.nD → PrngReg), Pre_WDnIdeal m →
    (∀ c : Dev Cert.WDnIdeal.nD,
      m' ((c.tc : Thread Cert.RefWDnIdeal.nD Cert.RefWDnIdeal.τ).loc Cert.RefWDnIdeal.main_arg0) = m ((c.tc : Thread Cert.WDnIdeal.nD Cert.WDnIdeal.τ).loc Cert.WDnIdeal.main_arg0)) →
    ∃ (v0 : (c : Dev Cert.WDnIdeal.nD) → Buf (Elt Ideal) ((c.tc : Thread Cert.WDnIdeal.nD Cert.WDnIdeal.τ).loc Cert.WDnIdeal.main_v1)),
      θ_run (Cert.WDnIdeal.defs (F := Ideal)) (onTc (τ := Cert.WDnIdeal.τ) (Cert.WDnIdeal.main (F := Ideal))) ⟨m, fun _ => 0, g⟩ (fun r => ∀ c : Dev Cert.WDnIdeal.nD,
          r.2.mem ((c.tc : Thread Cert.WDnIdeal.nD Cert.WDnIdeal.τ).loc Cert.WDnIdeal.main_v1) = v0 c
          ∧ r.2.mem ((c.tc : Thread Cert.WDnIdeal.nD Cert.WDnIdeal.τ).loc Cert.WDnIdeal.main_arg0) = m ((c.tc : Thread Cert.WDnIdeal.nD Cert.WDnIdeal.τ).loc Cert.WDnIdeal.main_arg0))
      ∧ θ_run (Cert.RefWDnIdeal.defs (F := Ideal)) (onTc (τ := Cert.RefWDnIdeal.τ) (Cert.RefWDnIdeal.main (F := Ideal))) ⟨m', fun _ => 0, g'⟩ (fun r => ∀ c : Dev Cert.RefWDnIdeal.nD,
          r.2.mem ((c.tc : Thread Cert.RefWDnIdeal.nD Cert.RefWDnIdeal.τ).loc Cert.RefWDnIdeal.main_v10) = v0 c
          ∧ r.2.mem ((c.tc : Thread Cert.RefWDnIdeal.nD Cert.RefWDnIdeal.τ).loc Cert.RefWDnIdeal.main_arg0) = m' ((c.tc : Thread Cert.RefWDnIdeal.nD Cert.RefWDnIdeal.τ).loc Cert.RefWDnIdeal.main_arg0))

def preserves_WAt_WAtIdeal : Prop :=
  True

def algebraic_WAtIdeal_RefWAtIdeal [hWAtIdeal : Cert.WAtIdeal.Facts] [hRefWAtIdeal : Cert.RefWAtIdeal.Facts] : Prop :=
  ∀ (m : (ℓ : Loc Cert.WAtIdeal.nD Cert.WAtIdeal.τ Cert.WAtIdeal.sig) → Buf (Elt Ideal) ℓ) (g : Dev Cert.WAtIdeal.nD → PrngReg)
    (m' : (ℓ : Loc Cert.RefWAtIdeal.nD Cert.RefWAtIdeal.τ Cert.RefWAtIdeal.sig) → Buf (Elt Ideal) ℓ) (g' : Dev Cert.RefWAtIdeal.nD → PrngReg), Pre_WAtIdeal m →
    (∀ c : Dev Cert.WAtIdeal.nD,
      m' ((c.tc : Thread Cert.RefWAtIdeal.nD Cert.RefWAtIdeal.τ).loc Cert.RefWAtIdeal.main_arg0) = m ((c.tc : Thread Cert.WAtIdeal.nD Cert.WAtIdeal.τ).loc Cert.WAtIdeal.main_arg0)) →
    ∃ (v0 : (c : Dev Cert.WAtIdeal.nD) → Buf (Elt Ideal) ((c.tc : Thread Cert.WAtIdeal.nD Cert.WAtIdeal.τ).loc Cert.WAtIdeal.main_v1)),
      θ_run (Cert.WAtIdeal.defs (F := Ideal)) (onTc (τ := Cert.WAtIdeal.τ) (Cert.WAtIdeal.main (F := Ideal))) ⟨m, fun _ => 0, g⟩ (fun r => ∀ c : Dev Cert.WAtIdeal.nD,
          r.2.mem ((c.tc : Thread Cert.WAtIdeal.nD Cert.WAtIdeal.τ).loc Cert.WAtIdeal.main_v1) = v0 c
          ∧ r.2.mem ((c.tc : Thread Cert.WAtIdeal.nD Cert.WAtIdeal.τ).loc Cert.WAtIdeal.main_arg0) = m ((c.tc : Thread Cert.WAtIdeal.nD Cert.WAtIdeal.τ).loc Cert.WAtIdeal.main_arg0))
      ∧ θ_run (Cert.RefWAtIdeal.defs (F := Ideal)) (onTc (τ := Cert.RefWAtIdeal.τ) (Cert.RefWAtIdeal.main (F := Ideal))) ⟨m', fun _ => 0, g'⟩ (fun r => ∀ c : Dev Cert.RefWAtIdeal.nD,
          r.2.mem ((c.tc : Thread Cert.RefWAtIdeal.nD Cert.RefWAtIdeal.τ).loc Cert.RefWAtIdeal.main_v10) = v0 c
          ∧ r.2.mem ((c.tc : Thread Cert.RefWAtIdeal.nD Cert.RefWAtIdeal.τ).loc Cert.RefWAtIdeal.main_arg0) = m' ((c.tc : Thread Cert.RefWAtIdeal.nD Cert.RefWAtIdeal.τ).loc Cert.RefWAtIdeal.main_arg0))

def preserves_WBa_WBaIdeal : Prop :=
  True

def algebraic_WBaIdeal_RefWBaIdeal [hWBaIdeal : Cert.WBaIdeal.Facts] [hRefWBaIdeal : Cert.RefWBaIdeal.Facts] : Prop :=
  ∀ (m : (ℓ : Loc Cert.WBaIdeal.nD Cert.WBaIdeal.τ Cert.WBaIdeal.sig) → Buf (Elt Ideal) ℓ) (g : Dev Cert.WBaIdeal.nD → PrngReg)
    (m' : (ℓ : Loc Cert.RefWBaIdeal.nD Cert.RefWBaIdeal.τ Cert.RefWBaIdeal.sig) → Buf (Elt Ideal) ℓ) (g' : Dev Cert.RefWBaIdeal.nD → PrngReg), Pre_WBaIdeal m →
    (∀ c : Dev Cert.WBaIdeal.nD,
      m' ((c.tc : Thread Cert.RefWBaIdeal.nD Cert.RefWBaIdeal.τ).loc Cert.RefWBaIdeal.main_arg0) = m ((c.tc : Thread Cert.WBaIdeal.nD Cert.WBaIdeal.τ).loc Cert.WBaIdeal.main_arg0)) →
    ∃ (v0 : (c : Dev Cert.WBaIdeal.nD) → Buf (Elt Ideal) ((c.tc : Thread Cert.WBaIdeal.nD Cert.WBaIdeal.τ).loc Cert.WBaIdeal.main_v1)),
      θ_run (Cert.WBaIdeal.defs (F := Ideal)) (onTc (τ := Cert.WBaIdeal.τ) (Cert.WBaIdeal.main (F := Ideal))) ⟨m, fun _ => 0, g⟩ (fun r => ∀ c : Dev Cert.WBaIdeal.nD,
          r.2.mem ((c.tc : Thread Cert.WBaIdeal.nD Cert.WBaIdeal.τ).loc Cert.WBaIdeal.main_v1) = v0 c
          ∧ r.2.mem ((c.tc : Thread Cert.WBaIdeal.nD Cert.WBaIdeal.τ).loc Cert.WBaIdeal.main_arg0) = m ((c.tc : Thread Cert.WBaIdeal.nD Cert.WBaIdeal.τ).loc Cert.WBaIdeal.main_arg0))
      ∧ θ_run (Cert.RefWBaIdeal.defs (F := Ideal)) (onTc (τ := Cert.RefWBaIdeal.τ) (Cert.RefWBaIdeal.main (F := Ideal))) ⟨m', fun _ => 0, g'⟩ (fun r => ∀ c : Dev Cert.RefWBaIdeal.nD,
          r.2.mem ((c.tc : Thread Cert.RefWBaIdeal.nD Cert.RefWBaIdeal.τ).loc Cert.RefWBaIdeal.main_v11) = v0 c
          ∧ r.2.mem ((c.tc : Thread Cert.RefWBaIdeal.nD Cert.RefWBaIdeal.τ).loc Cert.RefWBaIdeal.main_arg0) = m' ((c.tc : Thread Cert.RefWBaIdeal.nD Cert.RefWBaIdeal.τ).loc Cert.RefWBaIdeal.main_arg0))

def Claim : Prop :=
  ∃ (hKernel : Cert.Kernel.Facts) (hKernelIdeal : Cert.KernelIdeal.Facts) (hReferenceIdeal : Cert.ReferenceIdeal.Facts) (hInDn : Cert.InDn.Facts) (hInDnIdeal : Cert.InDnIdeal.Facts) (hRefInDnIdeal : Cert.RefInDnIdeal.Facts) (hInAt : Cert.InAt.Facts) (hInAtIdeal : Cert.InAtIdeal.Facts) (hRefInAtIdeal : Cert.RefInAtIdeal.Facts) (hOut : Cert.Out.Facts) (hOutIdeal : Cert.OutIdeal.Facts) (hRefOutIdeal : Cert.RefOutIdeal.Facts) (hInDnS : Cert.InDnS.Facts) (hInDnSIdeal : Cert.InDnSIdeal.Facts) (hRefInDnSIdeal : Cert.RefInDnSIdeal.Facts) (hOutS : Cert.OutS.Facts) (hOutSIdeal : Cert.OutSIdeal.Facts) (hRefOutSIdeal : Cert.RefOutSIdeal.Facts) (hAda : Cert.Ada.Facts) (hAdaIdeal : Cert.AdaIdeal.Facts) (hRefAdaIdeal : Cert.RefAdaIdeal.Facts) (hPre : Cert.Pre.Facts) (hPreIdeal : Cert.PreIdeal.Facts) (hRefPreIdeal : Cert.RefPreIdeal.Facts) (hOutH : Cert.OutH.Facts) (hOutHIdeal : Cert.OutHIdeal.Facts) (hRefOutHIdeal : Cert.RefOutHIdeal.Facts) (hWDn : Cert.WDn.Facts) (hWDnIdeal : Cert.WDnIdeal.Facts) (hRefWDnIdeal : Cert.RefWDnIdeal.Facts) (hWAt : Cert.WAt.Facts) (hWAtIdeal : Cert.WAtIdeal.Facts) (hRefWAtIdeal : Cert.RefWAtIdeal.Facts) (hWBa : Cert.WBa.Facts) (hWBaIdeal : Cert.WBaIdeal.Facts) (hRefWBaIdeal : Cert.RefWBaIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_InDn (hInDn := hInDn)
    ∧ quiescent_InDnIdeal (hInDnIdeal := hInDnIdeal)
    ∧ quiescent_RefInDnIdeal (hRefInDnIdeal := hRefInDnIdeal)
    ∧ quiescent_InAt (hInAt := hInAt)
    ∧ quiescent_InAtIdeal (hInAtIdeal := hInAtIdeal)
    ∧ quiescent_RefInAtIdeal (hRefInAtIdeal := hRefInAtIdeal)
    ∧ quiescent_Out (hOut := hOut)
    ∧ quiescent_OutIdeal (hOutIdeal := hOutIdeal)
    ∧ quiescent_RefOutIdeal (hRefOutIdeal := hRefOutIdeal)
    ∧ quiescent_InDnS (hInDnS := hInDnS)
    ∧ quiescent_InDnSIdeal (hInDnSIdeal := hInDnSIdeal)
    ∧ quiescent_RefInDnSIdeal (hRefInDnSIdeal := hRefInDnSIdeal)
    ∧ quiescent_OutS (hOutS := hOutS)
    ∧ quiescent_OutSIdeal (hOutSIdeal := hOutSIdeal)
    ∧ quiescent_RefOutSIdeal (hRefOutSIdeal := hRefOutSIdeal)
    ∧ quiescent_Ada (hAda := hAda)
    ∧ quiescent_AdaIdeal (hAdaIdeal := hAdaIdeal)
    ∧ quiescent_RefAdaIdeal (hRefAdaIdeal := hRefAdaIdeal)
    ∧ quiescent_Pre (hPre := hPre)
    ∧ quiescent_PreIdeal (hPreIdeal := hPreIdeal)
    ∧ quiescent_RefPreIdeal (hRefPreIdeal := hRefPreIdeal)
    ∧ quiescent_OutH (hOutH := hOutH)
    ∧ quiescent_OutHIdeal (hOutHIdeal := hOutHIdeal)
    ∧ quiescent_RefOutHIdeal (hRefOutHIdeal := hRefOutHIdeal)
    ∧ quiescent_WDn (hWDn := hWDn)
    ∧ quiescent_WDnIdeal (hWDnIdeal := hWDnIdeal)
    ∧ quiescent_RefWDnIdeal (hRefWDnIdeal := hRefWDnIdeal)
    ∧ quiescent_WAt (hWAt := hWAt)
    ∧ quiescent_WAtIdeal (hWAtIdeal := hWAtIdeal)
    ∧ quiescent_RefWAtIdeal (hRefWAtIdeal := hRefWAtIdeal)
    ∧ quiescent_WBa (hWBa := hWBa)
    ∧ quiescent_WBaIdeal (hWBaIdeal := hWBaIdeal)
    ∧ quiescent_RefWBaIdeal (hRefWBaIdeal := hRefWBaIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_InDn_InDnIdeal
    ∧ algebraic_InDnIdeal_RefInDnIdeal (hInDnIdeal := hInDnIdeal) (hRefInDnIdeal := hRefInDnIdeal)
    ∧ preserves_InAt_InAtIdeal
    ∧ algebraic_InAtIdeal_RefInAtIdeal (hInAtIdeal := hInAtIdeal) (hRefInAtIdeal := hRefInAtIdeal)
    ∧ preserves_Out_OutIdeal
    ∧ algebraic_OutIdeal_RefOutIdeal (hOutIdeal := hOutIdeal) (hRefOutIdeal := hRefOutIdeal)
    ∧ preserves_InDnS_InDnSIdeal
    ∧ algebraic_InDnSIdeal_RefInDnSIdeal (hInDnSIdeal := hInDnSIdeal) (hRefInDnSIdeal := hRefInDnSIdeal)
    ∧ preserves_OutS_OutSIdeal
    ∧ algebraic_OutSIdeal_RefOutSIdeal (hOutSIdeal := hOutSIdeal) (hRefOutSIdeal := hRefOutSIdeal)
    ∧ preserves_Ada_AdaIdeal
    ∧ algebraic_AdaIdeal_RefAdaIdeal (hAdaIdeal := hAdaIdeal) (hRefAdaIdeal := hRefAdaIdeal)
    ∧ preserves_Pre_PreIdeal
    ∧ algebraic_PreIdeal_RefPreIdeal (hPreIdeal := hPreIdeal) (hRefPreIdeal := hRefPreIdeal)
    ∧ preserves_OutH_OutHIdeal
    ∧ algebraic_OutHIdeal_RefOutHIdeal (hOutHIdeal := hOutHIdeal) (hRefOutHIdeal := hRefOutHIdeal)
    ∧ preserves_WDn_WDnIdeal
    ∧ algebraic_WDnIdeal_RefWDnIdeal (hWDnIdeal := hWDnIdeal) (hRefWDnIdeal := hRefWDnIdeal)
    ∧ preserves_WAt_WAtIdeal
    ∧ algebraic_WAtIdeal_RefWAtIdeal (hWAtIdeal := hWAtIdeal) (hRefWAtIdeal := hRefWAtIdeal)
    ∧ preserves_WBa_WBaIdeal
    ∧ algebraic_WBaIdeal_RefWBaIdeal (hWBaIdeal := hWBaIdeal) (hRefWBaIdeal := hRefWBaIdeal)
-- ==== Pre_finite_scores.lean ====
abbrev S256x4608 : Shape := ⟨2, ![256, 4608]⟩
abbrev S32 : Shape := ⟨1, ![32]⟩
abbrev S16x128x256 : Shape := ⟨3, ![16, 128, 256]⟩
abbrev S256x2048 : Shape := ⟨2, ![256, 2048]⟩
abbrev S_ : Shape := ⟨0, ![]⟩
abbrev S256x256 : Shape := ⟨2, ![256, 256]⟩

class Facts : Prop where
  slices_S256x4608_S256x2048_0_0 : S256x4608.Slices ![0, 0] S256x2048
  bcast_S_S256x2048 : S_.BroadcastsInDim S256x2048 (![] : Fin 0 → Fin S256x2048.rank)
  reducesTo_S256x2048_S_d0_1 : S256x2048.ReducesTo [0, 1] S_
  h_S_ : 0 < S_.numel
  slices_S256x4608_S256x256_0_4096 : S256x4608.Slices ![0, 4096] S256x256
  bcast_S_S256x256 : S_.BroadcastsInDim S256x256 (![] : Fin 0 → Fin S256x256.rank)
  reducesTo_S256x256_S_d0_1 : S256x256.ReducesTo [0, 1] S_
  bcast_S_S32 : S_.BroadcastsInDim S32 (![] : Fin 0 → Fin S32.rank)
  reducesTo_S32_S_d0 : S32.ReducesTo [0] S_
  bcast_S_S16x128x256 : S_.BroadcastsInDim S16x128x256 (![] : Fin 0 → Fin S16x128x256.rank)
  reducesTo_S16x128x256_S_d0_1_2 : S16x128x256.ReducesTo [0, 1, 2] S_

variable [Facts]

def fn_part1 {F : FTy → Type} [FloatOps F] (main_v15 : IVec S_ 1) (main_v16 : FVec F S16x128x256 .f32) (main_cst_4 : FVec F S_ .f32) : IVec S_ 1 :=
  let main_v17 : FVec F S16x128x256 .f32 := broadcastInDim S16x128x256 ![] bcast_S_S16x128x256 main_cst_4
  let main_v18 : IVec S16x128x256 1 := cmpf .olt main_v16 main_v17
  let main_c_5 : IVec S_ 1 := constantI S_ 1 1#1
  let main_v19 : IVec S_ 1 := (fun x v => Host.reduce IntOp.andi x v reducesTo_S16x128x256_S_d0_1_2 h_S_) main_v18 main_c_5
  let main_v20 : IVec S_ 1 := andi main_v15 main_v19
  main_v20

def fn {F : FTy → Type} [FloatOps F] (main_arg0 : FVec F S256x4608 .f32) (main_arg1 : FVec F S32 .f32) (main_arg2 : FVec F S16x128x256 .f32) (main_arg3 : FVec F S16x128x256 .f32) : IVec S_ 1 :=
  let main_v0 : FVec F S256x2048 .f32 := (extractStridedSlice S256x2048 ![0, 0] · slices_S256x4608_S256x2048_0_0) main_arg0
  let main_v1 : FVec F S256x2048 .f32 := Host.absf main_v0
  let main_cst : FVec F S_ .f32 := constant S_ .f32 0x7F800000#32
  let main_v2 : FVec F S256x2048 .f32 := broadcastInDim S256x2048 ![] bcast_S_S256x2048 main_cst
  let main_v3 : IVec S256x2048 1 := cmpf .olt main_v1 main_v2
  let main_c : IVec S_ 1 := constantI S_ 1 1#1
  let main_v4 : IVec S_ 1 := (fun x v => Host.reduce IntOp.andi x v reducesTo_S256x2048_S_d0_1 h_S_) main_v3 main_c
  let main_v5 : FVec F S256x256 .f32 := (extractStridedSlice S256x256 ![0, 4096] · slices_S256x4608_S256x256_0_4096) main_arg0
  let main_v6 : FVec F S256x256 .f32 := Host.absf main_v5
  let main_cst_0 : FVec F S_ .f32 := constant S_ .f32 0x7F800000#32
  let main_v7 : FVec F S256x256 .f32 := broadcastInDim S256x256 ![] bcast_S_S256x256 main_cst_0
  let main_v8 : IVec S256x256 1 := cmpf .olt main_v6 main_v7
  let main_c_1 : IVec S_ 1 := constantI S_ 1 1#1
  let main_v9 : IVec S_ 1 := (fun x v => Host.reduce IntOp.andi x v reducesTo_S256x256_S_d0_1 h_S_) main_v8 main_c_1
  let main_v10 : IVec S_ 1 := andi main_v4 main_v9
  let main_v11 : FVec F S32 .f32 := Host.absf main_arg1
  let main_cst_2 : FVec F S_ .f32 := constant S_ .f32 0x7F800000#32
  let main_v12 : FVec F S32 .f32 := broadcastInDim S32 ![] bcast_S_S32 main_cst_2
  let main_v13 : IVec S32 1 := cmpf .olt main_v11 main_v12
  let main_c_3 : IVec S_ 1 := constantI S_ 1 1#1
  let main_v14 : IVec S_ 1 := (fun x v => Host.reduce IntOp.andi x v reducesTo_S32_S_d0 h_S_) main_v13 main_c_3
  let main_v15 : IVec S_ 1 := andi main_v10 main_v14
  let main_v16 : FVec F S16x128x256 .f32 := Host.absf main_arg2
  let main_cst_4 : FVec F S_ .f32 := constant S_ .f32 0x7F800000#32
  fn_part1 (F := F) main_v15 main_v16 main_cst_4
-- ==== Kernel.lean ====
abbrev S256x4608 : Shape := ⟨2, ![256, 4608]⟩
abbrev S32 : Shape := ⟨1, ![32]⟩
abbrev S16x128x256 : Shape := ⟨3, ![16, 128, 256]⟩
abbrev S16 : Shape := ⟨1, ![16]⟩
abbrev S_ : Shape := ⟨0, ![]⟩
abbrev S16x1 : Shape := ⟨2, ![16, 1]⟩
abbrev S1x32 : Shape := ⟨2, ![1, 32]⟩
abbrev S16x32 : Shape := ⟨2, ![16, 32]⟩
abbrev S16x64 : Shape := ⟨2, ![16, 64]⟩
abbrev S1x16x1x64 : Shape := ⟨4, ![1, 16, 1, 64]⟩
abbrev S1x16x2x64 : Shape := ⟨4, ![1, 16, 2, 64]⟩
abbrev S16x128 : Shape := ⟨2, ![16, 128]⟩
abbrev S16x16x4608 : Shape := ⟨3, ![16, 16, 4608]⟩
abbrev S16x16x256 : Shape := ⟨3, ![16, 16, 256]⟩
abbrev S256x2048 : Shape := ⟨2, ![256, 2048]⟩
abbrev S16x2048 : Shape := ⟨2, ![16, 2048]⟩
abbrev S16x256 : Shape := ⟨2, ![16, 256]⟩
abbrev S1x128x256 : Shape := ⟨3, ![1, 128, 256]⟩
abbrev S4x512x128 : Shape := ⟨3, ![4, 512, 128]⟩
abbrev S1x128x128 : Shape := ⟨3, ![1, 128, 128]⟩
abbrev S128x128 : Shape := ⟨2, ![128, 128]⟩
abbrev S1x16x128 : Shape := ⟨3, ![1, 16, 128]⟩
abbrev S1x112x128 : Shape := ⟨3, ![1, 112, 128]⟩
abbrev S112x128 : Shape := ⟨2, ![112, 128]⟩
abbrev S16x512 : Shape := ⟨2, ![16, 512]⟩
abbrev S1x512x128 : Shape := ⟨3, ![1, 512, 128]⟩
abbrev S512x128 : Shape := ⟨2, ![512, 128]⟩
abbrev S1 : Shape := ⟨1, ![1]⟩
abbrev S16x144x256 : Shape := ⟨3, ![16, 144, 256]⟩

abbrev nBuf : Space → Nat
  | .hbm => 39
  | .vmem => 20
  | .smem => 1
  | _ => 0

abbrev bufTy : (tb : Table) → Fin (tcTables nBuf tb) → BufTy
  | .hbm, ⟨0, _⟩ => ⟨S256x4608, .f32⟩
  | .hbm, ⟨1, _⟩ => ⟨S32, .f32⟩
  | .hbm, ⟨2, _⟩ => ⟨S16x128x256, .f32⟩
  | .hbm, ⟨3, _⟩ => ⟨S16x128x256, .f32⟩
  | .hbm, ⟨4, _⟩ => ⟨S16, .i32⟩
  | .hbm, ⟨5, _⟩ => ⟨S_, .i32⟩
  | .hbm, ⟨6, _⟩ => ⟨S16, .i32⟩
  | .hbm, ⟨7, _⟩ => ⟨S16, .i32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S16, .f32⟩
  | .hbm, ⟨17, _⟩ => ⟨S16x1, .f32⟩
  | .hbm, ⟨18, _⟩ => ⟨S1x32, .f32⟩
  | .hbm, ⟨19, _⟩ => ⟨S16x32, .f32⟩
  | .hbm, ⟨20, _⟩ => ⟨S16x32, .f32⟩
  | .hbm, ⟨21, _⟩ => ⟨S16x32, .f32⟩
  | .hbm, ⟨22, _⟩ => ⟨S16x32, .f32⟩
  | .hbm, ⟨23, _⟩ => ⟨S16x32, .f32⟩
  | .hbm, ⟨24, _⟩ => ⟨S16x64, .f32⟩
  | .hbm, ⟨25, _⟩ => ⟨S1x16x1x64, .f32⟩
  | .hbm, ⟨26, _⟩ => ⟨S1x16x2x64, .f32⟩
  | .hbm, ⟨27, _⟩ => ⟨S16x128, .f32⟩
  | .hbm, ⟨28, _⟩ => ⟨S16x32, .f32⟩
  | .hbm, ⟨29, _⟩ => ⟨S16x64, .f32⟩
  | .hbm, ⟨30, _⟩ => ⟨S1x16x1x64, .f32⟩
  | .hbm, ⟨31, _⟩ => ⟨S1x16x2x64, .f32⟩
  | .hbm, ⟨32, _⟩ => ⟨S16x128, .f32⟩
  | .hbm, ⟨33, _⟩ => ⟨S16x16x4608, .f32⟩
  | .hbm, ⟨34, _⟩ => ⟨S16x16x256, .f32⟩
  | .hbm, ⟨35, _⟩ => ⟨S256x2048, .bf16⟩
  | .hbm, ⟨36, _⟩ => ⟨S16x128x256, .f32⟩
  | .hbm, ⟨37, _⟩ => ⟨S16x144x256, .f32⟩
  | .hbm, ⟨38, _⟩ => ⟨S16x128x256, .f32⟩
  | .local _ .vmem, ⟨0, _⟩ => ⟨S16x2048, .f32⟩
  | .local _ .vmem, ⟨1, _⟩ => ⟨S16x2048, .f32⟩
  | .local _ .vmem, ⟨2, _⟩ => ⟨S16x2048, .f32⟩
  | .local _ .vmem, ⟨3, _⟩ => ⟨S16x2048, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | .local _ .vmem, ⟨7, _⟩ => ⟨S16x256, .f32⟩
  | .local _ .vmem, ⟨8, _⟩ => ⟨S1x128x256, .f32⟩
  | .local _ .vmem, ⟨9, _⟩ => ⟨S1x128x256, .f32⟩
  | .local _ .vmem, ⟨10, _⟩ => ⟨S1x128x256, .f32⟩
  | .local _ .vmem, ⟨11, _⟩ => ⟨S1x128x256, .f32⟩
  | .local _ .vmem, ⟨12, _⟩ => ⟨S16x128, .f32⟩
  | .local _ .vmem, ⟨13, _⟩ => ⟨S16x128, .f32⟩
  | .local _ .vmem, ⟨14, _⟩ => ⟨S16x2048, .bf16⟩
  | .local _ .vmem, ⟨15, _⟩ => ⟨S16x2048, .bf16⟩
  | .local _ .vmem, ⟨16, _⟩ => ⟨S1x128x256, .f32⟩
  | .local _ .vmem, ⟨17, _⟩ => ⟨S1x128x256, .f32⟩
  | .local _ .vmem, ⟨18, _⟩ => ⟨S4x512x128, .bf16⟩
  | .local _ .vmem, ⟨19, _⟩ => ⟨S4x512x128, .bf16⟩
  | .local _ .smem, ⟨0, _⟩ => ⟨S32, .f32⟩
  | _, _ => ⟨S256x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28_0 : Ref sig .tc := ⟨.hbm, 35, rfl⟩
abbrev main_v28_1 : Ref sig .tc := ⟨.hbm, 36, rfl⟩
abbrev main_v29 : Ref sig .tc := ⟨.hbm, 37, rfl⟩
abbrev main_v30 : Ref sig .tc := ⟨.hbm, 38, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_4 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S256x4608 : Shape := ⟨2, ![256, 4608]⟩
abbrev S32 : Shape := ⟨1, ![32]⟩
abbrev S16x128x256 : Shape := ⟨3, ![16, 128, 256]⟩
abbrev S16x16x4608 : Shape := ⟨3, ![16, 16, 4608]⟩
abbrev S16x16x2048 : Shape := ⟨3, ![16, 16, 2048]⟩
abbrev S16x16x256 : Shape := ⟨3, ![16, 16, 256]⟩
abbrev S16 : Shape := ⟨1, ![16]⟩
abbrev S_ : Shape := ⟨0, ![]⟩
abbrev S16x16x32x64 : Shape := ⟨4, ![16, 16, 32, 64]⟩
abbrev S16x1 : Shape := ⟨2, ![16, 1]⟩
abbrev S1x32 : Shape := ⟨2, ![1, 32]⟩
abbrev S16x32 : Shape := ⟨2, ![16, 32]⟩
abbrev S1x16x1x32 : Shape := ⟨4, ![1, 16, 1, 32]⟩
abbrev S16x16x32x32 : Shape := ⟨4, ![16, 16, 32, 32]⟩
abbrev S16x16x4x64 : Shape := ⟨4, ![16, 16, 4, 64]⟩
abbrev S16x16x4x32 : Shape := ⟨4, ![16, 16, 4, 32]⟩
abbrev S16x128x4x64 : Shape := ⟨4, ![16, 128, 4, 64]⟩
abbrev S16x144x4x64 : Shape := ⟨4, ![16, 144, 4, 64]⟩
abbrev S16x16x4x8x64 : Shape := ⟨5, ![16, 16, 4, 8, 64]⟩
abbrev S16x4x144x16x8 : Shape := ⟨5, ![16, 4, 144, 16, 8]⟩
abbrev S16x4x8x16x144 : Shape := ⟨5, ![16, 4, 8, 16, 144]⟩
abbrev S4x8 : Shape := ⟨2, ![4, 8]⟩
abbrev S4x8x1x1 : Shape := ⟨4, ![4, 8, 1, 1]⟩
abbrev S16x4x8x16 : Shape := ⟨4, ![16, 4, 8, 16]⟩
abbrev S16x4x8x16x1 : Shape := ⟨5, ![16, 4, 8, 16, 1]⟩
abbrev S1x4x8x1x1 : Shape := ⟨5, ![1, 4, 8, 1, 1]⟩
abbrev S16x4x64x8x16 : Shape := ⟨5, ![16, 4, 64, 8, 16]⟩
abbrev S256x2048 : Shape := ⟨2, ![256, 2048]⟩

abbrev nBuf : Space → Nat
  | .hbm => 128
  | .vmem => 0
  | .smem => 0
  | _ => 0

abbrev bufTy : (tb : Table) → Fin (tcTables nBuf tb) → BufTy
  | .hbm, ⟨0, _⟩ => ⟨S256x4608, .f32⟩
  | .hbm, ⟨1, _⟩ => ⟨S32, .f32⟩
  | .hbm, ⟨2, _⟩ => ⟨S16x128x256, .f32⟩
  | .hbm, ⟨3, _⟩ => ⟨S16x128x256, .f32⟩
  | .hbm, ⟨4, _⟩ => ⟨S16x16x4608, .f32⟩
  | .hbm, ⟨5, _⟩ => ⟨S16x16x2048, .f32⟩
  | .hbm, ⟨6, _⟩ => ⟨S16x16x2048, .f32⟩
  | .hbm, ⟨7, _⟩ => ⟨S16x16x256, .f32⟩
  | .hbm, ⟨8, _⟩ => ⟨S16x16x256, .f32⟩
  | .hbm, ⟨9, _⟩ => ⟨S16, .i32⟩
  | .hbm, ⟨10, _⟩ => ⟨S_, .i32⟩
  | .hbm, ⟨11, _⟩ => ⟨S16, .i32⟩
  | .hbm, ⟨12, _⟩ => ⟨S16, .i32⟩
  | .hbm, ⟨13, _⟩ => ⟨S16x16x32x64, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S16, .f32⟩
  | .hbm, ⟨23, _⟩ => ⟨S16x1, .f32⟩
  | .hbm, ⟨24, _⟩ => ⟨S1x32, .f32⟩
  | .hbm, ⟨25, _⟩ => ⟨S16x32, .f32⟩
  | .hbm, ⟨26, _⟩ => ⟨S16x32, .f32⟩
  | .hbm, ⟨27, _⟩ => ⟨S16x32, .f32⟩
  | .hbm, ⟨28, _⟩ => ⟨S16x32, .f32⟩
  | .hbm, ⟨29, _⟩ => ⟨S1x16x1x32, .f32⟩
  | .hbm, ⟨30, _⟩ => ⟨S16x32, .f32⟩
  | .hbm, ⟨31, _⟩ => ⟨S1x16x1x32, .f32⟩
  | .hbm, ⟨32, _⟩ => ⟨S16x16x32x32, .f32⟩
  | .hbm, ⟨33, _⟩ => ⟨S16x16x32x32, .f32⟩
  | .hbm, ⟨34, _⟩ => ⟨S16x16x32x32, .f32⟩
  | .hbm, ⟨35, _⟩ => ⟨S16x16x32x32, .f32⟩
  | .hbm, ⟨36, _⟩ => ⟨S16x16x32x32, .f32⟩
  | .hbm, ⟨37, _⟩ => ⟨S16x16x32x32, .f32⟩
  | .hbm, ⟨38, _⟩ => ⟨S16x16x32x32, .f32⟩
  | .hbm, ⟨39, _⟩ => ⟨S16x16x32x32, .f32⟩
  | .hbm, ⟨40, _⟩ => ⟨S16x16x32x32, .f32⟩
  | .hbm, ⟨41, _⟩ => ⟨S16x16x32x32, .f32⟩
  | .hbm, ⟨42, _⟩ => ⟨S16x16x32x32, .f32⟩
  | .hbm, ⟨43, _⟩ => ⟨S16x16x32x32, .f32⟩
  | .hbm, ⟨44, _⟩ => ⟨S16x16x32x64, .f32⟩
  | .hbm, ⟨45, _⟩ => ⟨S16x16x4x64, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S16, .f32⟩
  | .hbm, ⟨55, _⟩ => ⟨S16x1, .f32⟩
  | .hbm, ⟨56, _⟩ => ⟨S1x32, .f32⟩
  | .hbm, ⟨57, _⟩ => ⟨S16x32, .f32⟩
  | .hbm, ⟨58, _⟩ => ⟨S16x32, .f32⟩
  | .hbm, ⟨59, _⟩ => ⟨S16x32, .f32⟩
  | .hbm, ⟨60, _⟩ => ⟨S16x32, .f32⟩
  | .hbm, ⟨61, _⟩ => ⟨S1x16x1x32, .f32⟩
  | .hbm, ⟨62, _⟩ => ⟨S16x32, .f32⟩
  | .hbm, ⟨63, _⟩ => ⟨S1x16x1x32, .f32⟩
  | .hbm, ⟨64, _⟩ => ⟨S16x16x4x32, .f32⟩
  | .hbm, ⟨65, _⟩ => ⟨S16x16x4x32, .f32⟩
  | .hbm, ⟨66, _⟩ => ⟨S16x16x4x32, .f32⟩
  | .hbm, ⟨67, _⟩ => ⟨S16x16x4x32, .f32⟩
  | .hbm, ⟨68, _⟩ => ⟨S16x16x4x32, .f32⟩
  | .hbm, ⟨69, _⟩ => ⟨S16x16x4x32, .f32⟩
  | .hbm, ⟨70, _⟩ => ⟨S16x16x4x32, .f32⟩
  | .hbm, ⟨71, _⟩ => ⟨S16x16x4x32, .f32⟩
  | .hbm, ⟨72, _⟩ => ⟨S16x16x4x32, .f32⟩
  | .hbm, ⟨73, _⟩ => ⟨S16x16x4x32, .f32⟩
  | .hbm, ⟨74, _⟩ => ⟨S16x16x4x32, .f32⟩
  | .hbm, ⟨75, _⟩ => ⟨S16x16x4x32, .f32⟩
  | .hbm, ⟨76, _⟩ => ⟨S16x16x4x64, .f32⟩
  | .hbm, ⟨77, _⟩ => ⟨S16x16x4x64, .f32⟩
  | .hbm, ⟨78, _⟩ => ⟨S16x128x4x64, .f32⟩
  | .hbm, ⟨79, _⟩ => ⟨S16x144x4x64, .f32⟩
  | .hbm, ⟨80, _⟩ => ⟨S16x128x4x64, .f32⟩
  | .hbm, ⟨81, _⟩ => ⟨S16x144x4x64, .f32⟩
  | .hbm, ⟨82, _⟩ => ⟨S16x16x4x8x64, .f32⟩
  | .hbm, ⟨83, _⟩ => ⟨S16x4x144x16x8, .f32⟩
  | .hbm, ⟨84, _⟩ => ⟨S16x4x8x16x144, .f32⟩
  | .hbm, ⟨85, _⟩ => ⟨S_, .f32⟩
  | .hbm, ⟨86, _⟩ => ⟨S16x4x8x16x144, .f32⟩
  | .hbm, ⟨87, _⟩ => ⟨S16x4x8x16x144, .f32⟩
  | .hbm, ⟨88, _⟩ => ⟨S4x8, .f32⟩
  | .hbm, ⟨89, _⟩ => ⟨S4x8x1x1, .f32⟩
  | .hbm, ⟨90, _⟩ => ⟨S_, .f32⟩
  | .hbm, ⟨91, _⟩ => ⟨S16x4x8x16, .f32⟩
  | .hbm, ⟨92, _⟩ => ⟨S16x4x8x16x1, .f32⟩
  | .hbm, ⟨93, _⟩ => ⟨S1x4x8x1x1, .f32⟩
  | .hbm, ⟨94, _⟩ => ⟨S16x4x8x16x1, .f32⟩
  | .hbm, ⟨95, _⟩ => ⟨S16x4x8x16x1, .f32⟩
  | .hbm, ⟨96, _⟩ => ⟨S16x4x8x16x144, .f32⟩
  | .hbm, ⟨97, _⟩ => ⟨S16x4x8x16x144, .f32⟩
  | .hbm, ⟨98, _⟩ => ⟨S16x4x8x16x144, .f32⟩
  | .hbm, ⟨99, _⟩ => ⟨S_, .f32⟩
  | .hbm, ⟨100, _⟩ => ⟨S16x4x8x16, .f32⟩
  | .hbm, ⟨101, _⟩ => ⟨S16x4x8x16x1, .f32⟩
  | .hbm, ⟨102, _⟩ => ⟨S1x4x8x1x1, .f32⟩
  | .hbm, ⟨103, _⟩ => ⟨S16x4x8x16x1, .f32⟩
  | .hbm, ⟨104, _⟩ => ⟨S16x4x8x16x1, .f32⟩
  | .hbm, ⟨105, _⟩ => ⟨S16x4x8x16x1, .f32⟩
  | .hbm, ⟨106, _⟩ => ⟨S16x4x8x16x1, .f32⟩
  | .hbm, ⟨107, _⟩ => ⟨S16x4x8x16x144, .f32⟩
  | .hbm, ⟨108, _⟩ => ⟨S16x4x8x16x144, .f32⟩
  | .hbm, ⟨109, _⟩ => ⟨S16x4x64x8x16, .f32⟩
  | .hbm, ⟨110, _⟩ => ⟨S16x16x4x8x64, .f32⟩
  | .hbm, ⟨111, _⟩ => ⟨S16x16x2048, .f32⟩
  | .hbm, ⟨112, _⟩ => ⟨S16x16x2048, .f32⟩
  | .hbm, ⟨113, _⟩ => ⟨S16x16x2048, .f32⟩
  | .hbm, ⟨114, _⟩ => ⟨S_, .f32⟩
  | .hbm, ⟨115, _⟩ => ⟨S16x16x2048, .f32⟩
  | .hbm, ⟨116, _⟩ => ⟨S16x16x2048, .f32⟩
  | .hbm, ⟨117, _⟩ => ⟨S_, .f32⟩
  | .hbm, ⟨118, _⟩ => ⟨S16x16x2048, .f32⟩
  | .hbm, ⟨119, _⟩ => ⟨S16x16x2048, .f32⟩
  | .hbm, ⟨120, _⟩ => ⟨S16x16x2048, .f32⟩
  | .hbm, ⟨121, _⟩ => ⟨S16x16x2048, .f32⟩
  | .hbm, ⟨122, _⟩ => ⟨S256x2048, .f32⟩
  | .hbm, ⟨123, _⟩ => ⟨S256x2048, .bf16⟩
  | .hbm, ⟨124, _⟩ => ⟨S16x128x4x64, .f32⟩
  | .hbm, ⟨125, _⟩ => ⟨S16x128x256, .f32⟩
  | .hbm, ⟨126, _⟩ => ⟨S16x128x4x64, .f32⟩
  | .hbm, ⟨127, _⟩ => ⟨S16x128x256, .f32⟩
  | _, _ => ⟨S256x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_1 : Ref sig .tc := ⟨.hbm, 48, rfl⟩
abbrev main_v41 : Ref sig .tc := ⟨.hbm, 49, rfl⟩
abbrev main_v42 : Ref sig .tc := ⟨.hbm, 50, rfl⟩
abbrev main_cst_2 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_cst_3 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_cst_4 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_cst_5 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_call0_v0 : Ref sig .tc := ⟨.hbm, 112, rfl⟩
abbrev main_call0_v1 : Ref sig .tc := ⟨.hbm, 113, rfl⟩
abbrev main_call0_cst : Ref sig .tc := ⟨.hbm, 114, rfl⟩
abbrev main_call0_v2 : Ref sig .tc := ⟨.hbm, 115, rfl⟩
abbrev main_call0_v3 : Ref sig .tc := ⟨.hbm, 116, rfl⟩
abbrev main_call0_cst_0 : Ref sig .tc := ⟨.hbm, 117, rfl⟩
abbrev main_call0_v4 : Ref sig .tc := ⟨.hbm, 118, rfl⟩
abbrev main_call0_v5 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩

abbrev nD : Nat := 1
abbrev τ : Topo := Topo.v7x

variable {F : FTy → Type} [FloatOps F]
-- ==== InDn.lean ====
abbrev S16384x4096 : Shape := ⟨2, ![16384, 4096]⟩
abbrev S2x8192x4096 : Shape := ⟨3, ![2, 8192, 4096]⟩
abbrev S16384x8192 : Shape := ⟨2, ![16384, 8192]⟩
abbrev S1024x4096 : Shape := ⟨2, ![1024, 4096]⟩
abbrev S1x1024x4096 : Shape := ⟨3, ![1, 1024, 4096]⟩
abbrev S1024x1024 : Shape := ⟨2, ![1024, 1024]⟩
abbrev S4x4096x8192 : Shape := ⟨3, ![4, 4096, 8192]⟩
abbrev S4x3x6144 : Shape := ⟨3, ![4, 3, 6144]⟩

abbrev nBuf : Space → Nat
  | .hbm => 5
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S2x8192x4096, .bf16⟩
  | .hbm, ⟨2, _⟩ => ⟨S16384x8192, .f32⟩
  | .hbm, ⟨3, _⟩ => ⟨S4x4096x8192, .f32⟩
  | .hbm, ⟨4, _⟩ => ⟨S4x3x6144, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1024x1024, .f32⟩
  | .local _ .vmem, ⟨5, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefInDnIdeal.lean ====
abbrev S16384x4096 : Shape := ⟨2, ![16384, 4096]⟩
abbrev S2x8192x4096 : Shape := ⟨3, ![2, 8192, 4096]⟩
abbrev S1x8192x4096 : Shape := ⟨3, ![1, 8192, 4096]⟩
abbrev S8192x4096 : Shape := ⟨2, ![8192, 4096]⟩
abbrev S16384x8192 : Shape := ⟨2, ![16384, 8192]⟩
abbrev S16384x6144 : Shape := ⟨2, ![16384, 6144]⟩
abbrev S4x4096x6144 : Shape := ⟨3, ![4, 4096, 6144]⟩
abbrev S_ : Shape := ⟨0, ![]⟩
abbrev S4x3x6144 : Shape := ⟨3, ![4, 3, 6144]⟩
abbrev S4x4099x6144 : Shape := ⟨3, ![4, 4099, 6144]⟩

abbrev nBuf : Space → Nat
  | .hbm => 11
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x8192x4096, .bf16⟩
  | .hbm, ⟨2, _⟩ => ⟨S1x8192x4096, .bf16⟩
  | .hbm, ⟨3, _⟩ => ⟨S8192x4096, .bf16⟩
  | .hbm, ⟨4, _⟩ => ⟨S16384x8192, .f32⟩
  | .hbm, ⟨5, _⟩ => ⟨S16384x6144, .f32⟩
  | .hbm, ⟨6, _⟩ => ⟨S4x4096x6144, .f32⟩
  | .hbm, ⟨7, _⟩ => ⟨S_, .f32⟩
  | .hbm, ⟨8, _⟩ => ⟨S4x3x6144, .f32⟩
  | .hbm, ⟨9, _⟩ => ⟨S4x4099x6144, .f32⟩
  | .hbm, ⟨10, _⟩ => ⟨S4x3x6144, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InAt.lean ====
abbrev S16384x4096 : Shape := ⟨2, ![16384, 4096]⟩
abbrev S2x4608x4096 : Shape := ⟨3, ![2, 4608, 4096]⟩
abbrev S2x128x4096 : Shape := ⟨3, ![2, 128, 4096]⟩
abbrev S16384x4608 : Shape := ⟨2, ![16384, 4608]⟩
abbrev S16384x128 : Shape := ⟨2, ![16384, 128]⟩
abbrev S1024x4096 : Shape := ⟨2, ![1024, 4096]⟩
abbrev S1x768x4096 : Shape := ⟨3, ![1, 768, 4096]⟩
abbrev S1x128x4096 : Shape := ⟨3, ![1, 128, 4096]⟩
abbrev S1024x768 : Shape := ⟨2, ![1024, 768]⟩
abbrev S1024x128 : Shape := ⟨2, ![1024, 128]⟩
abbrev S128x4096 : Shape := ⟨2, ![128, 4096]⟩
abbrev S768x4096 : Shape := ⟨2, ![768, 4096]⟩
abbrev S4x4096x4608 : Shape := ⟨3, ![4, 4096, 4608]⟩
abbrev S4x4096x256 : Shape := ⟨3, ![4, 4096, 256]⟩
abbrev S4x128x256 : Shape := ⟨3, ![4, 128, 256]⟩
abbrev S4x128x4x64 : Shape := ⟨4, ![4, 128, 4, 64]⟩

abbrev nBuf : Space → Nat
  | .hbm => 9
  | .vmem => 9
  | .smem => 0
  | _ => 0

abbrev bufTy : (tb : Table) → Fin (tcTables nBuf tb) → BufTy
  | .hbm, ⟨0, _⟩ => ⟨S16384x4096, .bf16⟩
  | .hbm, ⟨1, _⟩ => ⟨S2x4608x4096, .bf16⟩
  | .hbm, ⟨2, _⟩ => ⟨S2x128x4096, .bf16⟩
  | .hbm, ⟨3, _⟩ => ⟨S16384x4608, .f32⟩
  | .hbm, ⟨4, _⟩ => ⟨S16384x128, .f32⟩
  | .hbm, ⟨5, _⟩ => ⟨S4x4096x4608, .f32⟩
  | .hbm, ⟨6, _⟩ => ⟨S4x4096x256, .f32⟩
  | .hbm, ⟨7, _⟩ => ⟨S4x128x256, .f32⟩
  | .hbm, ⟨8, _⟩ => ⟨S4x128x4x64, .f32⟩
  | .local _ .vmem, ⟨0, _⟩ => ⟨S1024x4096, .bf16⟩
  | .local _ .vmem, ⟨1, _⟩ => ⟨S1024x4096, .bf16⟩
  | .local _ .vmem, ⟨2, _⟩ => ⟨S1x768x4096, .bf16⟩
  | .local _ .vmem, ⟨3, _⟩ => ⟨S1x768x4096, .bf16⟩
  | .local _ .vmem, ⟨4, _⟩ => ⟨S1x128x4096, .bf16⟩
  | .local _ .vmem, ⟨5, _⟩ => ⟨S1024x768, .f32⟩
  | .local _ .vmem, ⟨6, _⟩ => ⟨S1024x768, .f32⟩
  | .local _ .vmem, ⟨7, _⟩ => ⟨S1024x128, .f32⟩
  | .local _ .vmem, ⟨8, _⟩ => ⟨S1024x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x768x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x128x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== RefInAtIdeal.lean ====
abbrev S16384x4096 : Shape := ⟨2, ![16384, 4096]⟩
abbrev S2x4608x4096 : Shape := ⟨3, ![2, 4608, 4096]⟩
abbrev S2x128x4096 : Shape := ⟨3, ![2, 128, 4096]⟩
abbrev S1x4608x4096 : Shape := ⟨3, ![1, 4608, 4096]⟩
abbrev S4608x4096 : Shape := ⟨2, ![4608, 4096]⟩
abbrev S16384x4608 : Shape := ⟨2, ![16384, 4608]⟩
abbrev S1x128x4096 : Shape := ⟨3, ![1, 128, 4096]⟩
abbrev S128x4096 : Shape := ⟨2, ![128, 4096]⟩
abbrev S16384x128 : Shape := ⟨2, ![16384, 128]⟩
abbrev S16384x256 : Shape := ⟨2, ![16384, 256]⟩
abbrev S4x4096x4x64 : Shape := ⟨4, ![4, 4096, 4, 64]⟩
abbrev S4x128x4x64 : Shape := ⟨4, ![4, 128, 4, 64]⟩

abbrev nBuf : Space → Nat
  | .hbm => 12
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4608x4096, .bf16⟩
  | .hbm, ⟨2, _⟩ => ⟨S2x128x4096, .bf16⟩
  | .hbm, ⟨3, _⟩ => ⟨S1x4608x4096, .bf16⟩
  | .hbm, ⟨4, _⟩ => ⟨S4608x4096, .bf16⟩
  | .hbm, ⟨5, _⟩ => ⟨S16384x4608, .f32⟩
  | .hbm, ⟨6, _⟩ => ⟨S1x128x4096, .bf16⟩
  | .hbm, ⟨7, _⟩ => ⟨S128x4096, .bf16⟩
  | .hbm, ⟨8, _⟩ => ⟨S16384x128, .f32⟩
  | .hbm, ⟨9, _⟩ => ⟨S16384x256, .f32⟩
  | .hbm, ⟨10, _⟩ => ⟨S4x4096x4x64, .f32⟩
  | .hbm, ⟨11, _⟩ => ⟨S4x128x4x64, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Out.lean ====
abbrev S16384x2048 : Shape := ⟨2, ![16384, 2048]⟩
abbrev S2x4096x4096 : Shape := ⟨3, ![2, 4096, 4096]⟩
abbrev S16384x4096 : Shape := ⟨2, ![16384, 4096]⟩
abbrev S4x3x4096 : Shape := ⟨3, ![4, 3, 4096]⟩
abbrev S4096 : Shape := ⟨1, ![4096]⟩
abbrev S4x3x1x4096 : Shape := ⟨4, ![4, 3, 1, 4096]⟩
abbrev S4x3x8x4096 : Shape := ⟨4, ![4, 3, 8, 4096]⟩
abbrev S1x4096 : Shape := ⟨2, ![1, 4096]⟩
abbrev S8x4096 : Shape := ⟨2, ![8, 4096]⟩
abbrev S512x512 : Shape := ⟨2, ![512, 512]⟩
abbrev S1x512x4096 : Shape := ⟨3, ![1, 512, 4096]⟩
abbrev S512x4096 : Shape := ⟨2, ![512, 4096]⟩
abbrev S1x3x8x4096 : Shape := ⟨4, ![1, 3, 8, 4096]⟩
abbrev S8 : Shape := ⟨1, ![8]⟩
abbrev S8x1 : Shape := ⟨2, ![8, 1]⟩
abbrev S1x1x8x4096 : Shape := ⟨4, ![1, 1, 8, 4096]⟩

abbrev nBuf : Space → Nat
  | .hbm => 11
  | .vmem => 13
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2x4096x4096, .bf16⟩
  | .hbm, ⟨3, _⟩ => ⟨S16384x4096, .f32⟩
  | .hbm, ⟨4, _⟩ => ⟨S4x3x4096, .f32⟩
  | .hbm, ⟨5, _⟩ => ⟨S4096, .f32⟩
  | .hbm, ⟨6, _⟩ => ⟨S4x3x1x4096, .f32⟩
  | .hbm, ⟨7, _⟩ => ⟨S4x3x8x4096, .f32⟩
  | .hbm, ⟨8, _⟩ => ⟨S1x4096, .f32⟩
  | .hbm, ⟨9, _⟩ => ⟨S8x4096, .f32⟩
  | .hbm, ⟨10, _⟩ => ⟨S16384x4096, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1x512x4096, .bf16⟩
  | .local _ .vmem, ⟨5, _⟩ => ⟨S1x512x4096, .bf16⟩
  | .local _ .vmem, ⟨6, _⟩ => ⟨S512x4096, .f32⟩
  | .local _ .vmem, ⟨7, _⟩ => ⟨S512x4096, .f32⟩
  | .local _ .vmem, ⟨8, _⟩ => ⟨S1x3x8x4096, .f32⟩
  | .local _ .vmem, ⟨9, _⟩ => ⟨S1x3x8x4096, .f32⟩
  | .local _ .vmem, ⟨10, _⟩ => ⟨S8x4096, .f32⟩
  | .local _ .vmem, ⟨11, _⟩ => ⟨S512x4096, .f32⟩
  | .local _ .vmem, ⟨12, _⟩ => ⟨S512x4096, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 8], ![false, false]⟩

def k0_cond4 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_5 : BitVec 32 := 0#32
  let v13 : BitVec 1 := Scalar.cmpi .ne v12 c0_i32_5
  v13

@[reducible] def k0_t1_loop : Scf.Loop 32 :=
  let c0_i32_6 : BitVec 32 := 0#32
  let c8_i32 : BitVec 32 := 8#32
  let v14 : BitVec 32 := Scalar.addi c0_i32_6 c8_i32
  let c1_i32 : BitVec 32 := 1#32
  ⟨c0_i32_6, v14, c1_i32⟩
def k0_mult1 (k0_t1 : Fin k0_t1_loop.trips) : BitVec 32 :=
  let c0_i32_6 : BitVec 32 := 0#32
  let c1_i32 : BitVec 32 := 1#32
  let arg9 : BitVec 32 := Scf.iv c0_i32_6 c1_i32 k0_t1
  let c8_i32_8 : BitVec 32 := 8#32
  let v15 : BitVec 32 := Scalar.muli arg9 c8_i32_8
  let c0_i32_9 : BitVec 32 := 0#32
  let v16 : BitVec 32 := Scalar.addi v15 c0_i32_9
  let c8_i32_10 : BitVec 32 := 8#32
  let v17 : BitVec 32 := Scalar.muli v16 c8_i32_10
  v17
def k0_mult2 (k0_t1 : Fin k0_t1_loop.trips) : BitVec 32 :=
  let c0_i32_6 : BitVec 32 := 0#32
  let c1_i32 : BitVec 32 := 1#32
  let arg9 : BitVec 32 := Scf.iv c0_i32_6 c1_i32 k0_t1
  let c8_i32_17 : BitVec 32 := 8#32
  let v36 : BitVec 32 := Scalar.muli arg9 c8_i32_17
  let c1_i32_18 : BitVec 32 := 1#32
  let v37 : BitVec 32 := Scalar.addi v36 c1_i32_18
  let c8_i32_19 : BitVec 32 := 8#32
  let v38 : BitVec 32 := Scalar.muli v37 c8_i32_19
  v38
def k0_mult3 (k0_t1 : Fin k0_t1_loop.trips) : BitVec 32 :=
  let c0_i32_6 : BitVec 32 := 0#32
  let c1_i32 : BitVec 32 := 1#32
  let arg9 : BitVec 32 := Scf.iv c0_i32_6 c1_i32 k0_t1
  let c8_i32_27 : BitVec 32 := 8#32
  let v57 : BitVec 32 := Scalar.muli arg9 c8_i32_27
  let c2_i32 : BitVec 32 := 2#32
  let v58 : BitVec 32 := Scalar.addi v57 c2_i32
  let c8_i32_28 : BitVec 32 := 8#32
  let v59 : BitVec 32 := Scalar.muli v58 c8_i32_28
  v59
def k0_mult4 (k0_t1 : Fin k0_t1_loop.trips) : BitVec 32 :=
  let c0_i32_6 : BitVec 32 := 0#32
  let c1_i32 : BitVec 32 := 1#32
  let arg9 : BitVec 32 := Scf.iv c0_i32_6 c1_i32 k0_t1
  let c8_i32_36 : BitVec 32 := 8#32
  let v78 : BitVec 32 := Scalar.muli arg9 c8_i32_36
  let c3_i32 : BitVec 32 := 3#32
  let v79 : BitVec 32 := Scalar.addi v78 c3_i32
  let c8_i32_37 : BitVec 32 := 8#32
  let v80 : BitVec 32 := Scalar.muli v79 c8_i32_37
  v80
def k0_mult5 (k0_t1 : Fin k0_t1_loop.trips) : BitVec 32 :=
  let c0_i32_6 : BitVec 32 := 0#32
  let c1_i32 : BitVec 32 := 1#32
  let arg9 : BitVec 32 := Scf.iv c0_i32_6 c1_i32 k0_t1
  let c8_i32_45 : BitVec 32 := 8#32
  let v99 : BitVec 32 := Scalar.muli arg9 c8_i32_45
  let c4_i32_46 : BitVec 32 := 4#32
  let v100 : BitVec 32 := Scalar.addi v99 c4_i32_46
  let c8_i32_47 : BitVec 32 := 8#32
  let v101 : BitVec 32 := Scalar.muli v100 c8_i32_47
  v101
def k0_mult6 (k0_t1 : Fin k0_t1_loop.trips) : BitVec 32 :=
  let c0_i32_6 : BitVec 32 := 0#32
  let c1_i32 : BitVec 32 := 1#32
  let arg9 : BitVec 32 := Scf.iv c0_i32_6 c1_i32 k0_t1
  let c8_i32_55 : BitVec 32 := 8#32
  let v120 : BitVec 32 := Scalar.muli arg9 c8_i32_55
  let c5_i32 : BitVec 32 := 5#32
  let v121 : BitVec 32 := Scalar.addi v120 c5_i32
  let c8_i32_56 : BitVec 32 := 8#32
  let v122 : BitVec 32 := Scalar.muli v121 c8_i32_56
  v122
def k0_mult7 (k0_t1 : Fin k0_t1_loop.trips) : BitVec 32 :=
  let c0_i32_6 : BitVec 32 := 0#32
  let c1_i32 : BitVec 32 := 1#32
  let arg9 : BitVec 32 := Scf.iv c0_i32_6 c1_i32 k0_t1
  let c8_i32_64 : BitVec 32 := 8#32
  let v141 : BitVec 32 := Scalar.muli arg9 c8_i32_64
  let c6_i32 : BitVec 32 := 6#32
  let v142 : BitVec 32 := Scalar.addi v141 c6_i32
  let c8_i32_65 : BitVec 32 := 8#32
  let v143 : BitVec 32 := Scalar.muli v142 c8_i32_65
  v143
def k0_mult8 (k0_t1 : Fin k0_t1_loop.trips) : BitVec 32 :=
  let c0_i32_6 : BitVec 32 := 0#32
  let c1_i32 : BitVec 32 := 1#32
  let arg9 : BitVec 32 := Scf.iv c0_i32_6 c1_i32 k0_t1
  let c8_i32_73 : BitVec 32 := 8#32
  let v162 : BitVec 32 := Scalar.muli arg9 c8_i32_73
  let c7_i32_74 : BitVec 32 := 7#32
  let v163 : BitVec 32 := Scalar.addi v162 c7_i32_74
  let c8_i32_75 : BitVec 32 := 8#32
  let v164 : BitVec 32 := Scalar.muli v163 c8_i32_75
  v164
def k0_off1 (k0_t1 : Fin k0_t1_loop.trips) (c0_i32_9 : BitVec 32) : Fin 2 → Nat :=
  let c0_i32_6 : BitVec 32 := 0#32
  let c1_i32 : BitVec 32 := 1#32
  let arg9 : BitVec 32 := Scf.iv c0_i32_6 c1_i32 k0_t1
  let c8_i32_8 : BitVec 32 := 8#32
  let v15 : BitVec 32 := Scalar.muli arg9 c8_i32_8
  let v16 : BitVec 32 := Scalar.addi v15 c0_i32_9
  let c8_i32_10 : BitVec 32 := 8#32
  let v17 : BitVec 32 := Scalar.muli v16 c8_i32_10
  let v18 : BitVec 32 := v17
  let v183 : Index := Scalar.indexCast v18
  let c0 : Index := 0#32
  ![v183.toNat, 0]
def k0_off2 (k0_t1 : Fin k0_t1_loop.trips) (c0_i32_9 : BitVec 32) : Fin 4 → Nat :=
  let c0_i32_6 : BitVec 32 := 0#32
  let c1_i32 : BitVec 32 := 1#32
  let arg9 : BitVec 32 := Scf.iv c0_i32_6 c1_i32 k0_t1
  let c8_i32_8 : BitVec 32 := 8#32
  let v15 : BitVec 32 := Scalar.muli arg9 c8_i32_8
  let v16 : BitVec 32 := Scalar.addi v15 c0_i32_9
  let c0_i32_11 : BitVec 32 := 0#32
  let v20 : BitVec 1 := Scalar.cmpi .sgt v16 c0_i32_11
  let v21 : BitVec 32 := Scalar.extui v20
  let c0_i32_12 : BitVec 32 := 0#32
  let v22 : BitVec 1 := Scalar.cmpi .slt v16 c0_i32_12
  let v23 : BitVec 32 := Scalar.extui v22
  let v24 : BitVec 32 := Scalar.subi v21 v23
  let c64_i32 : BitVec 32 := 64#32
  let c0_i32_13 : BitVec 32 := 0#32
  let v25 : BitVec 1 := Scalar.cmpi .sgt c64_i32 c0_i32_13
  let v26 : BitVec 32 := Scalar.extui v25
  let c0_i32_14 : BitVec 32 := 0#32
  let v27 : BitVec 1 := Scalar.cmpi .slt c64_i32 c0_i32_14
  let v28 : BitVec 32 := Scalar.extui v27
  let v29 : BitVec 32 := Scalar.subi v26 v28
  let v30 : BitVec 1 := Scalar.cmpi .ne v24 v29
  let v31 : BitVec 32 := Scalar.remsi v16 c64_i32
  let c0_i32_15 : BitVec 32 := 0#32
  let v32 : BitVec 1 := Scalar.cmpi .ne v31 c0_i32_15
  let v33 : BitVec 1 := Scalar.andi v30 v32
  let v19 : BitVec 32 := Scalar.divsi v16 c64_i32
  let c1_i32_16 : BitVec 32 := 1#32
  let v34 : BitVec 32 := Scalar.subi v19 c1_i32_16
  let v35 : BitVec 32 := Scalar.select v33 v34 v19
  let v273 : Index := Scalar.indexCast v35
  let c2 : Index := 2#32
  let c0_114 : Index := 0#32
  let c0_115 : Index := 0#32
  ![v273.toNat, 2, 0, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c4_i32 : BitVec 32 := 4#32
  let v4 : BitVec 1 := Scalar.cmpi .slt arg1 c4_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c4_i32_3 : BitVec 32 := 4#32
  let v8 : BitVec 1 := Scalar.cmpi .sge arg1 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x8x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S8x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== RefOutIdeal.lean ====
abbrev S16384x2048 : Shape := ⟨2, ![16384, 2048]⟩
abbrev S2x4096x4096 : Shape := ⟨3, ![2, 4096, 4096]⟩
abbrev S16384x4096 : Shape := ⟨2, ![16384, 4096]⟩
abbrev S4x3x4096 : Shape := ⟨3, ![4, 3, 4096]⟩
abbrev S4096 : Shape := ⟨1, ![4096]⟩
abbrev S1x4096x4096 : Shape := ⟨3, ![1, 4096, 4096]⟩
abbrev S4096x4096 : Shape := ⟨2, ![4096, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S4x4096x4096 : Shape := ⟨3, ![4, 4096, 4096]⟩
abbrev S4x1x4096 : Shape := ⟨3, ![4, 1, 4096]⟩
abbrev S4x4096 : Shape := ⟨2, ![4, 4096]⟩

abbrev nBuf : Space → Nat
  | .hbm => 35
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2x4096x4096, .bf16⟩
  | .hbm, ⟨3, _⟩ => ⟨S16384x4096, .f32⟩
  | .hbm, ⟨4, _⟩ => ⟨S4x3x4096, .f32⟩
  | .hbm, ⟨5, _⟩ => ⟨S4096, .f32⟩
  | .hbm, ⟨6, _⟩ => ⟨S16384x4096, .bf16⟩
  | .hbm, ⟨7, _⟩ => ⟨S1x4096x4096, .bf16⟩
  | .hbm, ⟨8, _⟩ => ⟨S4096x4096, .bf16⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x4096, .f32⟩
  | .hbm, ⟨22, _⟩ => ⟨S16384x4096, .f32⟩
  | .hbm, ⟨23, _⟩ => ⟨S1x4096, .f32⟩
  | .hbm, ⟨24, _⟩ => ⟨S16384x4096, .f32⟩
  | .hbm, ⟨25, _⟩ => ⟨S16384x4096, .f32⟩
  | .hbm, ⟨26, _⟩ => ⟨S4x4096x4096, .f32⟩
  | .hbm, ⟨27, _⟩ => ⟨S4x1x4096, .f32⟩
  | .hbm, ⟨28, _⟩ => ⟨S4x4096, .f32⟩
  | .hbm, ⟨29, _⟩ => ⟨S4x1x4096, .f32⟩
  | .hbm, ⟨30, _⟩ => ⟨S4x4096x4096, .f32⟩
  | .hbm, ⟨31, _⟩ => ⟨S4x4096x4096, .f32⟩
  | .hbm, ⟨32, _⟩ => ⟨S4x4096x4096, .f32⟩
  | .hbm, ⟨33, _⟩ => ⟨S4x4096x4096, .f32⟩
  | .hbm, ⟨34, _⟩ => ⟨S16384x4096, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== InDnS.lean ====
abbrev S256x4096 : Shape := ⟨2, ![256, 4096]⟩
abbrev S2x8192x4096 : Shape := ⟨3, ![2, 8192, 4096]⟩
abbrev S16x3x6144 : Shape := ⟨3, ![16, 3, 6144]⟩
abbrev S256x8192 : Shape := ⟨2, ![256, 8192]⟩
abbrev S1x1024x4096 : Shape := ⟨3, ![1, 1024, 4096]⟩
abbrev S256x1024 : Shape := ⟨2, ![256, 1024]⟩
abbrev S1024x4096 : Shape := ⟨2, ![1024, 4096]⟩
abbrev S16x16x8192 : Shape := ⟨3, ![16, 16, 8192]⟩

abbrev nBuf : Space → Nat
  | .hbm => 6
  | .vmem => 5
  | .smem => 0
  | _ => 0

abbrev bufTy : (tb : Table) → Fin (tcTables nBuf tb) → BufTy
  | .hbm, ⟨0, _⟩ => ⟨S256x4096, .bf16⟩
  | .hbm, ⟨1, _⟩ => ⟨S2x8192x4096, .bf16⟩
  | .hbm, ⟨2, _⟩ => ⟨S16x3x6144, .f32⟩
  | .hbm, ⟨3, _⟩ => ⟨S256x8192, .f32⟩
  | .hbm, ⟨4, _⟩ => ⟨S16x16x8192, .f32⟩
  | .hbm, ⟨5, _⟩ => ⟨S16x3x6144, .f32⟩
  | .local _ .vmem, ⟨0, _⟩ => ⟨S256x4096, .bf16⟩
  | .local _ .vmem, ⟨1, _⟩ => ⟨S1x1024x4096, .bf16⟩
  | .local _ .vmem, ⟨2, _⟩ => ⟨S1x1024x4096, .bf16⟩
  | .local _ .vmem, ⟨3, _⟩ => ⟨S256x1024, .f32⟩
  | .local _ .vmem, ⟨4, _⟩ => ⟨S256x1024, .f32⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefInDnSIdeal.lean ====
abbrev S256x4096 : Shape := ⟨2, ![256, 4096]⟩
abbrev S2x8192x4096 : Shape := ⟨3, ![2, 8192, 4096]⟩
abbrev S16x3x6144 : Shape := ⟨3, ![16, 3, 6144]⟩
abbrev S1x8192x4096 : Shape := ⟨3, ![1, 8192, 4096]⟩
abbrev S8192x4096 : Shape := ⟨2, ![8192, 4096]⟩
abbrev S256x8192 : Shape := ⟨2, ![256, 8192]⟩
abbrev S256x6144 : Shape := ⟨2, ![256, 6144]⟩
abbrev S16x16x6144 : Shape := ⟨3, ![16, 16, 6144]⟩
abbrev S16x19x6144 : Shape := ⟨3, ![16, 19, 6144]⟩

abbrev nBuf : Space → Nat
  | .hbm => 10
  | .vmem => 0
  | .smem => 0
  | _ => 0

abbrev bufTy : (tb : Table) → Fin (tcTables nBuf tb) → BufTy
  | .hbm, ⟨0, _⟩ => ⟨S256x4096, .bf16⟩
  | .hbm, ⟨1, _⟩ => ⟨S2x8192x4096, .bf16⟩
  | .hbm, ⟨2, _⟩ => ⟨S16x3x6144, .f32⟩
  | .hbm, ⟨3, _⟩ => ⟨S1x8192x4096, .bf16⟩
  | .hbm, ⟨4, _⟩ => ⟨S8192x4096, .bf16⟩
  | .hbm, ⟨5, _⟩ => ⟨S256x8192, .f32⟩
  | .hbm, ⟨6, _⟩ => ⟨S256x6144, .f32⟩
  | .hbm, ⟨7, _⟩ => ⟨S16x16x6144, .f32⟩
  | .hbm, ⟨8, _⟩ => ⟨S16x19x6144, .f32⟩
  | .hbm, ⟨9, _⟩ => ⟨S16x3x6144, .f32⟩
  | _, _ => ⟨S256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutS.lean ====
abbrev S256x2048 : Shape := ⟨2, ![256, 2048]⟩
abbrev S2x4096x4096 : Shape := ⟨3, ![2, 4096, 4096]⟩
abbrev S256x4096 : Shape := ⟨2, ![256, 4096]⟩
abbrev S16x3x4096 : Shape := ⟨3, ![16, 3, 4096]⟩
abbrev S4096 : Shape := ⟨1, ![4096]⟩
abbrev S16x3x1x4096 : Shape := ⟨4, ![16, 3, 1, 4096]⟩
abbrev S16x3x8x4096 : Shape := ⟨4, ![16, 3, 8, 4096]⟩
abbrev S1x4096 : Shape := ⟨2, ![1, 4096]⟩
abbrev S8x4096 : Shape := ⟨2, ![8, 4096]⟩
abbrev S256x512 : Shape := ⟨2, ![256, 512]⟩
abbrev S1x512x4096 : Shape := ⟨3, ![1, 512, 4096]⟩
abbrev S512x4096 : Shape := ⟨2, ![512, 4096]⟩
abbrev S8 : Shape := ⟨1, ![8]⟩
abbrev S8x1 : Shape := ⟨2, ![8, 1]⟩
abbrev S1x1x8x4096 : Shape := ⟨4, ![1, 1, 8, 4096]⟩

abbrev nBuf : Space → Nat
  | .hbm => 11
  | .vmem => 10
  | .smem => 0
  | _ => 0

abbrev bufTy : (tb : Table) → Fin (tcTables nBuf tb) → BufTy
  | .hbm, ⟨0, _⟩ => ⟨S256x2048, .bf16⟩
  | .hbm, ⟨1, _⟩ => ⟨S256x2048, .bf16⟩
  | .hbm, ⟨2, _⟩ => ⟨S2x4096x4096, .bf16⟩
  | .hbm, ⟨3, _⟩ => ⟨S256x4096, .f32⟩
  | .hbm, ⟨4, _⟩ => ⟨S16x3x4096, .f32⟩
  | .hbm, ⟨5, _⟩ => ⟨S4096, .f32⟩
  | .hbm, ⟨6, _⟩ => ⟨S16x3x1x4096, .f32⟩
  | .hbm, ⟨7, _⟩ => ⟨S16x3x8x4096, .f32⟩
  | .hbm, ⟨8, _⟩ => ⟨S1x4096, .f32⟩
  | .hbm, ⟨9, _⟩ => ⟨S8x4096, .f32⟩
  | .hbm, ⟨10, _⟩ => ⟨S256x4096, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S1x512x4096, .bf16⟩
  | .local _ .vmem, ⟨5, _⟩ => ⟨S1x512x4096, .bf16⟩
  | .local _ .vmem, ⟨6, _⟩ => ⟨S256x4096, .f32⟩
  | .local _ .vmem, ⟨7, _⟩ => ⟨S16x3x8x4096, .f32⟩
  | .local _ .vmem, ⟨8, _⟩ => ⟨S8x4096, .f32⟩
  | .local _ .vmem, ⟨9, _⟩ => ⟨S256x4096, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 8], ![false, false]⟩

def k0_cond4 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_5 : BitVec 32 := 0#32
  let v13 : BitVec 1 := Scalar.cmpi .ne v12 c0_i32_5
  v13

@[reducible] def k0_t1_loop : Scf.Loop 32 :=
  let c0_i32_6 : BitVec 32 := 0#32
  let c4_i32_7 : BitVec 32 := 4#32
  let v14 : BitVec 32 := Scalar.addi c0_i32_6 c4_i32_7
  let c1_i32 : BitVec 32 := 1#32
  ⟨c0_i32_6, v14, c1_i32⟩
def k0_mult1 (k0_t1 : Fin k0_t1_loop.trips) : BitVec 32 :=
  let c0_i32_6 : BitVec 32 := 0#32
  let c1_i32 : BitVec 32 := 1#32
  let arg9 : BitVec 32 := Scf.iv c0_i32_6 c1_i32 k0_t1
  let c8_i32 : BitVec 32 := 8#32
  let v15 : BitVec 32 := Scalar.muli arg9 c8_i32
  let c0_i32_9 : BitVec 32 := 0#32
  let v16 : BitVec 32 := Scalar.addi v15 c0_i32_9
  let c8_i32_10 : BitVec 32 := 8#32
  let v17 : BitVec 32 := Scalar.muli v16 c8_i32_10
  v17
def k0_mult2 (k0_t1 : Fin k0_t1_loop.trips) : BitVec 32 :=
  let c0_i32_6 : BitVec 32 := 0#32
  let c1_i32 : BitVec 32 := 1#32
  let arg9 : BitVec 32 := Scf.iv c0_i32_6 c1_i32 k0_t1
  let c8_i32_17 : BitVec 32 := 8#32
  let v36 : BitVec 32 := Scalar.muli arg9 c8_i32_17
  let c1_i32_18 : BitVec 32 := 1#32
  let v37 : BitVec 32 := Scalar.addi v36 c1_i32_18
  let c8_i32_19 : BitVec 32 := 8#32
  let v38 : BitVec 32 := Scalar.muli v37 c8_i32_19
  v38
def k0_mult3 (k0_t1 : Fin k0_t1_loop.trips) : BitVec 32 :=
  let c0_i32_6 : BitVec 32 := 0#32
  let c1_i32 : BitVec 32 := 1#32
  let arg9 : BitVec 32 := Scf.iv c0_i32_6 c1_i32 k0_t1
  let c8_i32_27 : BitVec 32 := 8#32
  let v57 : BitVec 32 := Scalar.muli arg9 c8_i32_27
  let c2_i32_28 : BitVec 32 := 2#32
  let v58 : BitVec 32 := Scalar.addi v57 c2_i32_28
  let c8_i32_29 : BitVec 32 := 8#32
  let v59 : BitVec 32 := Scalar.muli v58 c8_i32_29
  v59
def k0_mult4 (k0_t1 : Fin k0_t1_loop.trips) : BitVec 32 :=
  let c0_i32_6 : BitVec 32 := 0#32
  let c1_i32 : BitVec 32 := 1#32
  let arg9 : BitVec 32 := Scf.iv c0_i32_6 c1_i32 k0_t1
  let c8_i32_37 : BitVec 32 := 8#32
  let v78 : BitVec 32 := Scalar.muli arg9 c8_i32_37
  let c3_i32 : BitVec 32 := 3#32
  let v79 : BitVec 32 := Scalar.addi v78 c3_i32
  let c8_i32_38 : BitVec 32 := 8#32
  let v80 : BitVec 32 := Scalar.muli v79 c8_i32_38
  v80
def k0_mult5 (k0_t1 : Fin k0_t1_loop.trips) : BitVec 32 :=
  let c0_i32_6 : BitVec 32 := 0#32
  let c1_i32 : BitVec 32 := 1#32
  let arg9 : BitVec 32 := Scf.iv c0_i32_6 c1_i32 k0_t1
  let c8_i32_46 : BitVec 32 := 8#32
  let v99 : BitVec 32 := Scalar.muli arg9 c8_i32_46
  let c4_i32_47 : BitVec 32 := 4#32
  let v100 : BitVec 32 := Scalar.addi v99 c4_i32_47
  let c8_i32_48 : BitVec 32 := 8#32
  let v101 : BitVec 32 := Scalar.muli v100 c8_i32_48
  v101
def k0_mult6 (k0_t1 : Fin k0_t1_loop.trips) : BitVec 32 :=
  let c0_i32_6 : BitVec 32 := 0#32
  let c1_i32 : BitVec 32 := 1#32
  let arg9 : BitVec 32 := Scf.iv c0_i32_6 c1_i32 k0_t1
  let c8_i32_56 : BitVec 32 := 8#32
  let v120 : BitVec 32 := Scalar.muli arg9 c8_i32_56
  let c5_i32 : BitVec 32 := 5#32
  let v121 : BitVec 32 := Scalar.addi v120 c5_i32
  let c8_i32_57 : BitVec 32 := 8#32
  let v122 : BitVec 32 := Scalar.muli v121 c8_i32_57
  v122
def k0_mult7 (k0_t1 : Fin k0_t1_loop.trips) : BitVec 32 :=
  let c0_i32_6 : BitVec 32 := 0#32
  let c1_i32 : BitVec 32 := 1#32
  let arg9 : BitVec 32 := Scf.iv c0_i32_6 c1_i32 k0_t1
  let c8_i32_65 : BitVec 32 := 8#32
  let v141 : BitVec 32 := Scalar.muli arg9 c8_i32_65
  let c6_i32 : BitVec 32 := 6#32
  let v142 : BitVec 32 := Scalar.addi v141 c6_i32
  let c8_i32_66 : BitVec 32 := 8#32
  let v143 : BitVec 32 := Scalar.muli v142 c8_i32_66
  v143
def k0_mult8 (k0_t1 : Fin k0_t1_loop.trips) : BitVec 32 :=
  let c0_i32_6 : BitVec 32 := 0#32
  let c1_i32 : BitVec 32 := 1#32
  let arg9 : BitVec 32 := Scf.iv c0_i32_6 c1_i32 k0_t1
  let c8_i32_74 : BitVec 32 := 8#32
  let v162 : BitVec 32 := Scalar.muli arg9 c8_i32_74
  let c7_i32_75 : BitVec 32 := 7#32
  let v163 : BitVec 32 := Scalar.addi v162 c7_i32_75
  let c8_i32_76 : BitVec 32 := 8#32
  let v164 : BitVec 32 := Scalar.muli v163 c8_i32_76
  v164
def k0_off1 (k0_t1 : Fin k0_t1_loop.trips) (c0_i32_9 : BitVec 32) : Fin 2 → Nat :=
  let c0_i32_6 : BitVec 32 := 0#32
  let c1_i32 : BitVec 32 := 1#32
  let arg9 : BitVec 32 := Scf.iv c0_i32_6 c1_i32 k0_t1
  let c8_i32 : BitVec 32 := 8#32
  let v15 : BitVec 32 := Scalar.muli arg9 c8_i32
  let v16 : BitVec 32 := Scalar.addi v15 c0_i32_9
  let c8_i32_10 : BitVec 32 := 8#32
  let v17 : BitVec 32 := Scalar.muli v16 c8_i32_10
  let v18 : BitVec 32 := v17
  let v183 : Index := Scalar.indexCast v18
  let c0 : Index := 0#32
  ![v183.toNat, 0]
def k0_off2 (k0_t1 : Fin k0_t1_loop.trips) (c0_i32_9 : BitVec 32) : Fin 4 → Nat :=
  let c0_i32_6 : BitVec 32 := 0#32
  let c1_i32 : BitVec 32 := 1#32
  let arg9 : BitVec 32 := Scf.iv c0_i32_6 c1_i32 k0_t1
  let c8_i32 : BitVec 32 := 8#32
  let v15 : BitVec 32 := Scalar.muli arg9 c8_i32
  let v16 : BitVec 32 := Scalar.addi v15 c0_i32_9
  let c0_i32_11 : BitVec 32 := 0#32
  let v20 : BitVec 1 := Scalar.cmpi .sgt v16 c0_i32_11
  let v21 : BitVec 32 := Scalar.extui v20
  let c0_i32_12 : BitVec 32 := 0#32
  let v22 : BitVec 1 := Scalar.cmpi .slt v16 c0_i32_12
  let v23 : BitVec 32 := Scalar.extui v22
  let v24 : BitVec 32 := Scalar.subi v21 v23
  let c2_i32 : BitVec 32 := 2#32
  let c0_i32_13 : BitVec 32 := 0#32
  let v25 : BitVec 1 := Scalar.cmpi .sgt c2_i32 c0_i32_13
  let v26 : BitVec 32 := Scalar.extui v25
  let c0_i32_14 : BitVec 32 := 0#32
  let v27 : BitVec 1 := Scalar.cmpi .slt c2_i32 c0_i32_14
  let v28 : BitVec 32 := Scalar.extui v27
  let v29 : BitVec 32 := Scalar.subi v26 v28
  let v30 : BitVec 1 := Scalar.cmpi .ne v24 v29
  let v31 : BitVec 32 := Scalar.remsi v16 c2_i32
  let c0_i32_15 : BitVec 32 := 0#32
  let v32 : BitVec 1 := Scalar.cmpi .ne v31 c0_i32_15
  let v33 : BitVec 1 := Scalar.andi v30 v32
  let v19 : BitVec 32 := Scalar.divsi v16 c2_i32
  let c1_i32_16 : BitVec 32 := 1#32
  let v34 : BitVec 32 := Scalar.subi v19 c1_i32_16
  let v35 : BitVec 32 := Scalar.select v33 v34 v19
  let v273 : Index := Scalar.indexCast v35
  let c2 : Index := 2#32
  let c0_115 : Index := 0#32
  let c0_116 : Index := 0#32
  ![v273.toNat, 2, 0, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c4_i32 : BitVec 32 := 4#32
  let v4 : BitVec 1 := Scalar.cmpi .slt arg1 c4_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c4_i32_3 : BitVec 32 := 4#32
  let v8 : BitVec 1 := Scalar.cmpi .sge arg1 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  let c0_i32_8 : BitVec 32 := 0#32
  ![v16.toNat, c0_i32_5.toNat, c0_i32_6.toNat, c0_i32_7.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S256x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S16x3x8x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S8x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== RefOutSIdeal.lean ====
abbrev S256x2048 : Shape := ⟨2, ![256, 2048]⟩
abbrev S2x4096x4096 : Shape := ⟨3, ![2, 4096, 4096]⟩
abbrev S256x4096 : Shape := ⟨2, ![256, 4096]⟩
abbrev S16x3x4096 : Shape := ⟨3, ![16, 3, 4096]⟩
abbrev S4096 : Shape := ⟨1, ![4096]⟩
abbrev S1x4096x4096 : Shape := ⟨3, ![1, 4096, 4096]⟩
abbrev S4096x4096 : Shape := ⟨2, ![4096, 4096]⟩
abbrev S_ : Shape := ⟨0, ![]⟩
abbrev S256 : Shape := ⟨1, ![256]⟩
abbrev S256x1 : Shape := ⟨2, ![256, 1]⟩
abbrev S1x4096 : Shape := ⟨2, ![1, 4096]⟩
abbrev S16x16x4096 : Shape := ⟨3, ![16, 16, 4096]⟩
abbrev S16x1x4096 : Shape := ⟨3, ![16, 1, 4096]⟩
abbrev S16x4096 : Shape := ⟨2, ![16, 4096]⟩

abbrev nBuf : Space → Nat
  | .hbm => 35
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x2048, .bf16⟩
  | .hbm, ⟨2, _⟩ => ⟨S2x4096x4096, .bf16⟩
  | .hbm, ⟨3, _⟩ => ⟨S256x4096, .f32⟩
  | .hbm, ⟨4, _⟩ => ⟨S16x3x4096, .f32⟩
  | .hbm, ⟨5, _⟩ => ⟨S4096, .f32⟩
  | .hbm, ⟨6, _⟩ => ⟨S256x4096, .bf16⟩
  | .hbm, ⟨7, _⟩ => ⟨S1x4096x4096, .bf16⟩
  | .hbm, ⟨8, _⟩ => ⟨S4096x4096, .bf16⟩
  | .hbm, ⟨9, _⟩ => ⟨S256x4096, .f32⟩
  | .hbm, ⟨10, _⟩ => ⟨S256x4096, .f32⟩
  | .hbm, ⟨11, _⟩ => ⟨S_, .f32⟩
  | .hbm, ⟨12, _⟩ => ⟨S256, .f32⟩
  | .hbm, ⟨13, _⟩ => ⟨S256x1, .f32⟩
  | .hbm, ⟨14, _⟩ => ⟨S_, .f32⟩
  | .hbm, ⟨15, _⟩ => ⟨S256x1, .f32⟩
  | .hbm, ⟨16, _⟩ => ⟨S256x1, .f32⟩
  | .hbm, ⟨17, _⟩ => ⟨S_, .f32⟩
  | .hbm, ⟨18, _⟩ => ⟨S256x1, .f32⟩
  | .hbm, ⟨19, _⟩ => ⟨S256x1, .f32⟩
  | .hbm, ⟨20, _⟩ => ⟨S256x1, .f32⟩
  | .hbm, ⟨21, _⟩ => ⟨S256x4096, .f32⟩
  | .hbm, ⟨22, _⟩ => ⟨S256x4096, .f32⟩
  | .hbm, ⟨23, _⟩ => ⟨S1x4096, .f32⟩
  | .hbm, ⟨24, _⟩ => ⟨S256x4096, .f32⟩
  | .hbm, ⟨25, _⟩ => ⟨S256x4096, .f32⟩
  | .hbm, ⟨26, _⟩ => ⟨S16x16x4096, .f32⟩
  | .hbm, ⟨27, _⟩ => ⟨S16x1x4096, .f32⟩
  | .hbm, ⟨28, _⟩ => ⟨S16x4096, .f32⟩
  | .hbm, ⟨29, _⟩ => ⟨S16x1x4096, .f32⟩
  | .hbm, ⟨30, _⟩ => ⟨S16x16x4096, .f32⟩
  | .hbm, ⟨31, _⟩ => ⟨S16x16x4096, .f32⟩
  | .hbm, ⟨32, _⟩ => ⟨S16x16x4096, .f32⟩
  | .hbm, ⟨33, _⟩ => ⟨S16x16x4096, .f32⟩
  | .hbm, ⟨34, _⟩ => ⟨S256x4096, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Ada.lean ====
abbrev S4x4096 : Shape := ⟨2, ![4, 4096]⟩
abbrev S16x4096 : Shape := ⟨2, ![16, 4096]⟩
abbrev S2x4096x12288 : Shape := ⟨3, ![2, 4096, 12288]⟩
abbrev S2x12288 : Shape := ⟨2, ![2, 12288]⟩
abbrev S_ : Shape := ⟨0, ![]⟩
abbrev S12x4096 : Shape := ⟨2, ![12, 4096]⟩
abbrev S32x4096 : Shape := ⟨2, ![32, 4096]⟩
abbrev S2x1x12288 : Shape := ⟨3, ![2, 1, 12288]⟩
abbrev S2x32x12288 : Shape := ⟨3, ![2, 32, 12288]⟩
abbrev S1x4096x512 : Shape := ⟨3, ![1, 4096, 512]⟩
abbrev S1x1x512 : Shape := ⟨3, ![1, 1, 512]⟩
abbrev S1x32x512 : Shape := ⟨3, ![1, 32, 512]⟩
abbrev S4096x512 : Shape := ⟨2, ![4096, 512]⟩
abbrev S32x512 : Shape := ⟨2, ![32, 512]⟩
abbrev S1x512 : Shape := ⟨2, ![1, 512]⟩
abbrev S2x4x12288 : Shape := ⟨3, ![2, 4, 12288]⟩
abbrev S2x4x3x4096 : Shape := ⟨4, ![2, 4, 3, 4096]⟩
abbrev S2x16x12288 : Shape := ⟨3, ![2, 16, 12288]⟩
abbrev S2x16x3x4096 : Shape := ⟨4, ![2, 16, 3, 4096]⟩

abbrev nBuf : Space → Nat
  | .hbm => 13
  | .vmem => 7
  | .smem => 0
  | _ => 0

abbrev bufTy : (tb : Table) → Fin (tcTables nBuf tb) → BufTy
  | .hbm, ⟨0, _⟩ => ⟨S4x4096, .f32⟩
  | .hbm, ⟨1, _⟩ => ⟨S16x4096, .f32⟩
  | .hbm, ⟨2, _⟩ => ⟨S2x4096x12288, .f32⟩
  | .hbm, ⟨3, _⟩ => ⟨S2x12288, .f32⟩
  | .hbm, ⟨4, _⟩ => ⟨S_, .f32⟩
  | .hbm, ⟨5, _⟩ => ⟨S12x4096, .f32⟩
  | .hbm, ⟨6, _⟩ => ⟨S32x4096, .f32⟩
  | .hbm, ⟨7, _⟩ => ⟨S2x1x12288, .f32⟩
  | .hbm, ⟨8, _⟩ => ⟨S2x32x12288, .f32⟩
  | .hbm, ⟨9, _⟩ => ⟨S2x4x12288, .f32⟩
  | .hbm, ⟨10, _⟩ => ⟨S2x4x3x4096, .f32⟩
  | .hbm, ⟨11, _⟩ => ⟨S2x16x12288, .f32⟩
  | .hbm, ⟨12, _⟩ => ⟨S2x16x3x4096, .f32⟩
  | .local _ .vmem, ⟨0, _⟩ => ⟨S32x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x32x512, .f32⟩
  | .local _ .vmem, ⟨6, _⟩ => ⟨S1x32x512, .f32⟩
  | _, _ => ⟨S4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S32x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefAdaIdeal.lean ====
abbrev S4x4096 : Shape := ⟨2, ![4, 4096]⟩
abbrev S16x4096 : Shape := ⟨2, ![16, 4096]⟩
abbrev S2x4096x12288 : Shape := ⟨3, ![2, 4096, 12288]⟩
abbrev S2x12288 : Shape := ⟨2, ![2, 12288]⟩
abbrev S_ : Shape := ⟨0, ![]⟩
abbrev S2x12288x4 : Shape := ⟨3, ![2, 12288, 4]⟩
abbrev S2x4x12288 : Shape := ⟨3, ![2, 4, 12288]⟩
abbrev S2x1x12288 : Shape := ⟨3, ![2, 1, 12288]⟩
abbrev S2x4x3x4096 : Shape := ⟨4, ![2, 4, 3, 4096]⟩
abbrev S2x12288x16 : Shape := ⟨3, ![2, 12288, 16]⟩
abbrev S2x16x12288 : Shape := ⟨3, ![2, 16, 12288]⟩
abbrev S2x16x3x4096 : Shape := ⟨4, ![2, 16, 3, 4096]⟩

abbrev nBuf : Space → Nat
  | .hbm => 34
  | .vmem => 0
  | .smem => 0
  | _ => 0

abbrev bufTy : (tb : Table) → Fin (tcTables nBuf tb) → BufTy
  | .hbm, ⟨0, _⟩ => ⟨S4x4096, .f32⟩
  | .hbm, ⟨1, _⟩ => ⟨S16x4096, .f32⟩
  | .hbm, ⟨2, _⟩ => ⟨S2x4096x12288, .f32⟩
  | .hbm, ⟨3, _⟩ => ⟨S2x12288, .f32⟩
  | .hbm, ⟨4, _⟩ => ⟨S4x4096, .f32⟩
  | .hbm, ⟨5, _⟩ => ⟨S4x4096, .f32⟩
  | .hbm, ⟨6, _⟩ => ⟨S_, .f32⟩
  | .hbm, ⟨7, _⟩ => ⟨S4x4096, .f32⟩
  | .hbm, ⟨8, _⟩ => ⟨S4x4096, .f32⟩
  | .hbm, ⟨9, _⟩ => ⟨S_, .f32⟩
  | .hbm, ⟨10, _⟩ => ⟨S4x4096, .f32⟩
  | .hbm, ⟨11, _⟩ => ⟨S4x4096, .f32⟩
  | .hbm, ⟨12, _⟩ => ⟨S4x4096, .f32⟩
  | .hbm, ⟨13, _⟩ => ⟨S2x12288x4, .f32⟩
  | .hbm, ⟨14, _⟩ => ⟨S2x4x12288, .f32⟩
  | .hbm, ⟨15, _⟩ => ⟨S2x1x12288, .f32⟩
  | .hbm, ⟨16, _⟩ => ⟨S2x4x12288, .f32⟩
  | .hbm, ⟨17, _⟩ => ⟨S2x4x12288, .f32⟩
  | .hbm, ⟨18, _⟩ => ⟨S2x4x3x4096, .f32⟩
  | .hbm, ⟨19, _⟩ => ⟨S16x4096, .f32⟩
  | .hbm, ⟨20, _⟩ => ⟨S16x4096, .f32⟩
  | .hbm, ⟨21, _⟩ => ⟨S_, .f32⟩
  | .hbm, ⟨22, _⟩ => ⟨S16x4096, .f32⟩
  | .hbm, ⟨23, _⟩ => ⟨S16x4096, .f32⟩
  | .hbm, ⟨24, _⟩ => ⟨S_, .f32⟩
  | .hbm, ⟨25, _⟩ => ⟨S16x4096, .f32⟩
  | .hbm, ⟨26, _⟩ => ⟨S16x4096, .f32⟩
  | .hbm, ⟨27, _⟩ => ⟨S16x4096, .f32⟩
  | .hbm, ⟨28, _⟩ => ⟨S2x12288x16, .f32⟩
  | .hbm, ⟨29, _⟩ => ⟨S2x16x12288, .f32⟩
  | .hbm, ⟨30, _⟩ => ⟨S2x1x12288, .f32⟩
  | .hbm, ⟨31, _⟩ => ⟨S2x16x12288, .f32⟩
  | .hbm, ⟨32, _⟩ => ⟨S2x16x12288, .f32⟩
  | .hbm, ⟨33, _⟩ => ⟨S2x16x3x4096, .f32⟩
  | _, _ => ⟨S4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩

abbrev nD : Nat := 1
abbrev τ : Topo := Topo.v7x

variable {F : FTy → Type} [FloatOps F]
-- ==== Pre.lean ====
abbrev S16384x4096 : Shape := ⟨2, ![16384, 4096]⟩
abbrev S4x3x4096 : Shape := ⟨3, ![4, 3, 4096]⟩
abbrev S4096 : Shape := ⟨1, ![4096]⟩
abbrev S4x3x1x4096 : Shape := ⟨4, ![4, 3, 1, 4096]⟩
abbrev S4x3x8x4096 : Shape := ⟨4, ![4, 3, 8, 4096]⟩
abbrev S1x4096 : Shape := ⟨2, ![1, 4096]⟩
abbrev S8x4096 : Shape := ⟨2, ![8, 4096]⟩
abbrev S512x4096 : Shape := ⟨2, ![512, 4096]⟩
abbrev S1x3x8x4096 : Shape := ⟨4, ![1, 3, 8, 4096]⟩
abbrev S8 : Shape := ⟨1, ![8]⟩
abbrev S8x1 : Shape := ⟨2, ![8, 1]⟩
abbrev S1x1x8x4096 : Shape := ⟨4, ![1, 1, 8, 4096]⟩

abbrev nBuf : Space → Nat
  | .hbm => 8
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S4x3x4096, .f32⟩
  | .hbm, ⟨2, _⟩ => ⟨S4096, .f32⟩
  | .hbm, ⟨3, _⟩ => ⟨S4x3x1x4096, .f32⟩
  | .hbm, ⟨4, _⟩ => ⟨S4x3x8x4096, .f32⟩
  | .hbm, ⟨5, _⟩ => ⟨S1x4096, .f32⟩
  | .hbm, ⟨6, _⟩ => ⟨S8x4096, .f32⟩
  | .hbm, ⟨7, _⟩ => ⟨S16384x4096, .bf16⟩
  | .local _ .vmem, ⟨0, _⟩ => ⟨S512x4096, .f32⟩
  | .local _ .vmem, ⟨1, _⟩ => ⟨S512x4096, .f32⟩
  | .local _ .vmem, ⟨2, _⟩ => ⟨S1x3x8x4096, .f32⟩
  | .local _ .vmem, ⟨3, _⟩ => ⟨S1x3x8x4096, .f32⟩
  | .local _ .vmem, ⟨4, _⟩ => ⟨S8x4096, .f32⟩
  | .local _ .vmem, ⟨5, _⟩ => ⟨S512x4096, .bf16⟩
  | .local _ .vmem, ⟨6, _⟩ => ⟨S512x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c8_i32_1 : BitVec 32 := 8#32
  let v1 : BitVec 32 := Scalar.muli arg5 c8_i32_1
  let c0_i32_2 : BitVec 32 := 0#32
  let v2 : BitVec 32 := Scalar.addi v1 c0_i32_2
  let c8_i32_3 : BitVec 32 := 8#32
  let v3 : BitVec 32 := Scalar.muli v2 c8_i32_3
  v3
def k0_mult2 (k0_t1 : Fin k0_t1_loop.trips) : BitVec 32 :=
  let c0_i32 : BitVec 32 := 0#32
  let c1_i32 : BitVec 32 := 1#32
  let arg5 : BitVec 32 := Scf.iv c0_i32 c1_i32 k0_t1
  let c8_i32_10 : BitVec 32 := 8#32
  let v22 : BitVec 32 := Scalar.muli arg5 c8_i32_10
  let c1_i32_11 : BitVec 32 := 1#32
  let v23 : BitVec 32 := Scalar.addi v22 c1_i32_11
  let c8_i32_12 : BitVec 32 := 8#32
  let v24 : BitVec 32 := Scalar.muli v23 c8_i32_12
  v24
def k0_mult3 (k0_t1 : Fin k0_t1_loop.trips) : BitVec 32 :=
  let c0_i32 : BitVec 32 := 0#32
  let c1_i32 : BitVec 32 := 1#32
  let arg5 : BitVec 32 := Scf.iv c0_i32 c1_i32 k0_t1
  let c8_i32_20 : BitVec 32 := 8#32
  let v43 : BitVec 32 := Scalar.muli arg5 c8_i32_20
  let c2_i32 : BitVec 32 := 2#32
  let v44 : BitVec 32 := Scalar.addi v43 c2_i32
  let c8_i32_21 : BitVec 32 := 8#32
  let v45 : BitVec 32 := Scalar.muli v44 c8_i32_21
  v45
def k0_mult4 (k0_t1 : Fin k0_t1_loop.trips) : BitVec 32 :=
  let c0_i32 : BitVec 32 := 0#32
  let c1_i32 : BitVec 32 := 1#32
  let arg5 : BitVec 32 := Scf.iv c0_i32 c1_i32 k0_t1
  let c8_i32_29 : BitVec 32 := 8#32
  let v64 : BitVec 32 := Scalar.muli arg5 c8_i32_29
  let c3_i32 : BitVec 32 := 3#32
  let v65 : BitVec 32 := Scalar.addi v64 c3_i32
  let c8_i32_30 : BitVec 32 := 8#32
  let v66 : BitVec 32 := Scalar.muli v65 c8_i32_30
  v66
def k0_mult5 (k0_t1 : Fin k0_t1_loop.trips) : BitVec 32 :=
  let c0_i32 : BitVec 32 := 0#32
  let c1_i32 : BitVec 32 := 1#32
  let arg5 : BitVec 32 := Scf.iv c0_i32 c1_i32 k0_t1
  let c8_i32_38 : BitVec 32 := 8#32
  let v85 : BitVec 32 := Scalar.muli arg5 c8_i32_38
  let c4_i32 : BitVec 32 := 4#32
  let v86 : BitVec 32 := Scalar.addi v85 c4_i32
  let c8_i32_39 : BitVec 32 := 8#32
  let v87 : BitVec 32 := Scalar.muli v86 c8_i32_39
  v87
def k0_mult6 (k0_t1 : Fin k0_t1_loop.trips) : BitVec 32 :=
  let c0_i32 : BitVec 32 := 0#32
  let c1_i32 : BitVec 32 := 1#32
  let arg5 : BitVec 32 := Scf.iv c0_i32 c1_i32 k0_t1
  let c8_i32_47 : BitVec 32 := 8#32
  let v106 : BitVec 32 := Scalar.muli arg5 c8_i32_47
  let c5_i32 : BitVec 32 := 5#32
  let v107 : BitVec 32 := Scalar.addi v106 c5_i32
  let c8_i32_48 : BitVec 32 := 8#32
  let v108 : BitVec 32 := Scalar.muli v107 c8_i32_48
  v108
def k0_mult7 (k0_t1 : Fin k0_t1_loop.trips) : BitVec 32 :=
  let c0_i32 : BitVec 32 := 0#32
  let c1_i32 : BitVec 32 := 1#32
  let arg5 : BitVec 32 := Scf.iv c0_i32 c1_i32 k0_t1
  let c8_i32_56 : BitVec 32 := 8#32
  let v127 : BitVec 32 := Scalar.muli arg5 c8_i32_56
  let c6_i32 : BitVec 32 := 6#32
  let v128 : BitVec 32 := Scalar.addi v127 c6_i32
  let c8_i32_57 : BitVec 32 := 8#32
  let v129 : BitVec 32 := Scalar.muli v128 c8_i32_57
  v129
def k0_mult8 (k0_t1 : Fin k0_t1_loop.trips) : BitVec 32 :=
  let c0_i32 : BitVec 32 := 0#32
  let c1_i32 : BitVec 32 := 1#32
  let arg5 : BitVec 32 := Scf.iv c0_i32 c1_i32 k0_t1
  let c8_i32_65 : BitVec 32 := 8#32
  let v148 : BitVec 32 := Scalar.muli arg5 c8_i32_65
  let c7_i32 : BitVec 32 := 7#32
  let v149 : BitVec 32 := Scalar.addi v148 c7_i32
  let c8_i32_66 : BitVec 32 := 8#32
  let v150 : BitVec 32 := Scalar.muli v149 c8_i32_66
  v150
def k0_off1 (k0_t1 : Fin k0_t1_loop.trips) (c0_i32_2 : BitVec 32) : Fin 2 → Nat :=
  let c0_i32 : BitVec 32 := 0#32
  let c1_i32 : BitVec 32 := 1#32
  let arg5 : BitVec 32 := Scf.iv c0_i32 c1_i32 k0_t1
  let c8_i32_1 : BitVec 32 := 8#32
  let v1 : BitVec 32 := Scalar.muli arg5 c8_i32_1
  let v2 : BitVec 32 := Scalar.addi v1 c0_i32_2
  let c8_i32_3 : BitVec 32 := 8#32
  let v3 : BitVec 32 := Scalar.muli v2 c8_i32_3
  let v4 : BitVec 32 := v3
  let v169 : Index := Scalar.indexCast v4
  let c0 : Index := 0#32
  ![v169.toNat, 0]
def k0_off2 (k0_t1 : Fin k0_t1_loop.trips) (c0_i32_2 : BitVec 32) : Fin 4 → Nat :=
  let c0_i32 : BitVec 32 := 0#32
  let c1_i32 : BitVec 32 := 1#32
  let arg5 : BitVec 32 := Scf.iv c0_i32 c1_i32 k0_t1
  let c8_i32_1 : BitVec 32 := 8#32
  let v1 : BitVec 32 := Scalar.muli arg5 c8_i32_1
  let v2 : BitVec 32 := Scalar.addi v1 c0_i32_2
  let c0_i32_4 : BitVec 32 := 0#32
  let v6 : BitVec 1 := Scalar.cmpi .sgt v2 c0_i32_4
  let v7 : BitVec 32 := Scalar.extui v6
  let c0_i32_5 : BitVec 32 := 0#32
  let v8 : BitVec 1 := Scalar.cmpi .slt v2 c0_i32_5
  let v9 : BitVec 32 := Scalar.extui v8
  let v10 : BitVec 32 := Scalar.subi v7 v9
  let c64_i32 : BitVec 32 := 64#32
  let c0_i32_6 : BitVec 32 := 0#32
  let v11 : BitVec 1 := Scalar.cmpi .sgt c64_i32 c0_i32_6
  let v12 : BitVec 32 := Scalar.extui v11
  let c0_i32_7 : BitVec 32 := 0#32
  let v13 : BitVec 1 := Scalar.cmpi .slt c64_i32 c0_i32_7
  let v14 : BitVec 32 := Scalar.extui v13
  let v15 : BitVec 32 := Scalar.subi v12 v14
  let v16 : BitVec 1 := Scalar.cmpi .ne v10 v15
  let v17 : BitVec 32 := Scalar.remsi v2 c64_i32
  let c0_i32_8 : BitVec 32 := 0#32
  let v18 : BitVec 1 := Scalar.cmpi .ne v17 c0_i32_8
  let v19 : BitVec 1 := Scalar.andi v16 v18
  let v5 : BitVec 32 := Scalar.divsi v2 c64_i32
  let c1_i32_9 : BitVec 32 := 1#32
  let v20 : BitVec 32 := Scalar.subi v5 c1_i32_9
  let v21 : BitVec 32 := Scalar.select v19 v20 v5
  let v254 : Index := Scalar.indexCast v21
  let c1 : Index := 1#32
  let c0_106 : Index := 0#32
  let c0_107 : Index := 0#32
  ![v254.toNat, 1, 0, 0]
def k0_off3 (k0_t1 : Fin k0_t1_loop.trips) (c0_i32_2 : BitVec 32) : Fin 4 → Nat :=
  let c0_i32 : BitVec 32 := 0#32
  let c1_i32 : BitVec 32 := 1#32
  let arg5 : BitVec 32 := Scf.iv c0_i32 c1_i32 k0_t1
  let c8_i32_1 : BitVec 32 := 8#32
  let v1 : BitVec 32 := Scalar.muli arg5 c8_i32_1
  let v2 : BitVec 32 := Scalar.addi v1 c0_i32_2
  let c0_i32_4 : BitVec 32 := 0#32
  let v6 : BitVec 1 := Scalar.cmpi .sgt v2 c0_i32_4
  let v7 : BitVec 32 := Scalar.extui v6
  let c0_i32_5 : BitVec 32 := 0#32
  let v8 : BitVec 1 := Scalar.cmpi .slt v2 c0_i32_5
  let v9 : BitVec 32 := Scalar.extui v8
  let v10 : BitVec 32 := Scalar.subi v7 v9
  let c64_i32 : BitVec 32 := 64#32
  let c0_i32_6 : BitVec 32 := 0#32
  let v11 : BitVec 1 := Scalar.cmpi .sgt c64_i32 c0_i32_6
  let v12 : BitVec 32 := Scalar.extui v11
  let c0_i32_7 : BitVec 32 := 0#32
  let v13 : BitVec 1 := Scalar.cmpi .slt c64_i32 c0_i32_7
  let v14 : BitVec 32 := Scalar.extui v13
  let v15 : BitVec 32 := Scalar.subi v12 v14
  let v16 : BitVec 1 := Scalar.cmpi .ne v10 v15
  let v17 : BitVec 32 := Scalar.remsi v2 c64_i32
  let c0_i32_8 : BitVec 32 := 0#32
  let v18 : BitVec 1 := Scalar.cmpi .ne v17 c0_i32_8
  let v19 : BitVec 1 := Scalar.andi v16 v18
  let v5 : BitVec 32 := Scalar.divsi v2 c64_i32
  let c1_i32_9 : BitVec 32 := 1#32
  let v20 : BitVec 32 := Scalar.subi v5 c1_i32_9
  let v21 : BitVec 32 := Scalar.select v19 v20 v5
  let v260 : Index := Scalar.indexCast v21
  let c0_109 : Index := 0#32
  let c0_110 : Index := 0#32
  let c0_111 : Index := 0#32
  ![v260.toNat, 0, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefPreIdeal.lean ====
abbrev S16384x4096 : Shape := ⟨2, ![16384, 4096]⟩
abbrev S4x3x4096 : Shape := ⟨3, ![4, 3, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S4x4096x4096 : Shape := ⟨3, ![4, 4096, 4096]⟩
abbrev S4x1x4096 : Shape := ⟨3, ![4, 1, 4096]⟩
abbrev S4x4096 : Shape := ⟨2, ![4, 4096]⟩

abbrev nBuf : Space → Nat
  | .hbm => 35
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4x3x4096, .f32⟩
  | .hbm, ⟨2, _⟩ => ⟨S4096, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S4x4096x4096, .f32⟩
  | .hbm, ⟨20, _⟩ => ⟨S4x1x4096, .f32⟩
  | .hbm, ⟨21, _⟩ => ⟨S4x4096, .f32⟩
  | .hbm, ⟨22, _⟩ => ⟨S4x1x4096, .f32⟩
  | .hbm, ⟨23, _⟩ => ⟨S_, .f32⟩
  | .hbm, ⟨24, _⟩ => ⟨S4x1x4096, .f32⟩
  | .hbm, ⟨25, _⟩ => ⟨S4x1x4096, .f32⟩
  | .hbm, ⟨26, _⟩ => ⟨S4x4096x4096, .f32⟩
  | .hbm, ⟨27, _⟩ => ⟨S4x4096x4096, .f32⟩
  | .hbm, ⟨28, _⟩ => ⟨S4x1x4096, .f32⟩
  | .hbm, ⟨29, _⟩ => ⟨S4x4096, .f32⟩
  | .hbm, ⟨30, _⟩ => ⟨S4x1x4096, .f32⟩
  | .hbm, ⟨31, _⟩ => ⟨S4x4096x4096, .f32⟩
  | .hbm, ⟨32, _⟩ => ⟨S4x4096x4096, .f32⟩
  | .hbm, ⟨33, _⟩ => ⟨S16384x4096, .f32⟩
  | .hbm, ⟨34, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== OutH.lean ====
abbrev S16384x2048 : Shape := ⟨2, ![16384, 2048]⟩
abbrev S2x4096x4096 : Shape := ⟨3, ![2, 4096, 4096]⟩
abbrev S16384x4096 : Shape := ⟨2, ![16384, 4096]⟩
abbrev S4x3x4096 : Shape := ⟨3, ![4, 3, 4096]⟩
abbrev S4096 : Shape := ⟨1, ![4096]⟩
abbrev S4x3x1x4096 : Shape := ⟨4, ![4, 3, 1, 4096]⟩
abbrev S4x3x8x4096 : Shape := ⟨4, ![4, 3, 8, 4096]⟩
abbrev S1x4096 : Shape := ⟨2, ![1, 4096]⟩
abbrev S8x4096 : Shape := ⟨2, ![8, 4096]⟩
abbrev S512x512 : Shape := ⟨2, ![512, 512]⟩
abbrev S1x512x4096 : Shape := ⟨3, ![1, 512, 4096]⟩
abbrev S512x4096 : Shape := ⟨2, ![512, 4096]⟩
abbrev S1x3x8x4096 : Shape := ⟨4, ![1, 3, 8, 4096]⟩
abbrev S8 : Shape := ⟨1, ![8]⟩
abbrev S8x1 : Shape := ⟨2, ![8, 1]⟩
abbrev S1x1x8x4096 : Shape := ⟨4, ![1, 1, 8, 4096]⟩

abbrev nBuf : Space → Nat
  | .hbm => 18
  | .vmem => 18
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2x4096x4096, .bf16⟩
  | .hbm, ⟨3, _⟩ => ⟨S16384x4096, .f32⟩
  | .hbm, ⟨4, _⟩ => ⟨S4x3x4096, .f32⟩
  | .hbm, ⟨5, _⟩ => ⟨S4096, .f32⟩
  | .hbm, ⟨6, _⟩ => ⟨S4x3x4096, .f32⟩
  | .hbm, ⟨7, _⟩ => ⟨S4096, .f32⟩
  | .hbm, ⟨8, _⟩ => ⟨S4x3x1x4096, .f32⟩
  | .hbm, ⟨9, _⟩ => ⟨S4x3x8x4096, .f32⟩
  | .hbm, ⟨10, _⟩ => ⟨S4x3x1x4096, .f32⟩
  | .hbm, ⟨11, _⟩ => ⟨S4x3x8x4096, .f32⟩
  | .hbm, ⟨12, _⟩ => ⟨S1x4096, .f32⟩
  | .hbm, ⟨13, _⟩ => ⟨S8x4096, .f32⟩
  | .hbm, ⟨14, _⟩ => ⟨S1x4096, .f32⟩
  | .hbm, ⟨15, _⟩ => ⟨S8x4096, .f32⟩
  | .hbm, ⟨16, _⟩ => ⟨S16384x4096, .f32⟩
  | .hbm, ⟨17, _⟩ => ⟨S16384x4096, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1x512x4096, .bf16⟩
  | .local _ .vmem, ⟨5, _⟩ => ⟨S1x512x4096, .bf16⟩
  | .local _ .vmem, ⟨6, _⟩ => ⟨S512x4096, .f32⟩
  | .local _ .vmem, ⟨7, _⟩ => ⟨S512x4096, .f32⟩
  | .local _ .vmem, ⟨8, _⟩ => ⟨S1x3x8x4096, .f32⟩
  | .local _ .vmem, ⟨9, _⟩ => ⟨S1x3x8x4096, .f32⟩
  | .local _ .vmem, ⟨10, _⟩ => ⟨S8x4096, .f32⟩
  | .local _ .vmem, ⟨11, _⟩ => ⟨S1x3x8x4096, .f32⟩
  | .local _ .vmem, ⟨12, _⟩ => ⟨S1x3x8x4096, .f32⟩
  | .local _ .vmem, ⟨13, _⟩ => ⟨S8x4096, .f32⟩
  | .local _ .vmem, ⟨14, _⟩ => ⟨S512x4096, .f32⟩
  | .local _ .vmem, ⟨15, _⟩ => ⟨S512x4096, .f32⟩
  | .local _ .vmem, ⟨16, _⟩ => ⟨S512x4096, .bf16⟩
  | .local _ .vmem, ⟨17, _⟩ => ⟨S512x4096, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![32, 8], ![false, false]⟩

def k0_cond4 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_5 : BitVec 32 := 0#32
  let v13 : BitVec 1 := Scalar.cmpi .ne v12 c0_i32_5
  v13

@[reducible] def k0_t1_loop : Scf.Loop 32 :=
  let c0_i32_6 : BitVec 32 := 0#32
  let c8_i32 : BitVec 32 := 8#32
  let v14 : BitVec 32 := Scalar.addi c0_i32_6 c8_i32
  let c1_i32 : BitVec 32 := 1#32
  ⟨c0_i32_6, v14, c1_i32⟩
def k0_mult1 (k0_t1 : Fin k0_t1_loop.trips) : BitVec 32 :=
  let c0_i32_6 : BitVec 32 := 0#32
  let c1_i32 : BitVec 32 := 1#32
  let arg12 : BitVec 32 := Scf.iv c0_i32_6 c1_i32 k0_t1
  let c8_i32_8 : BitVec 32 := 8#32
  let v15 : BitVec 32 := Scalar.muli arg12 c8_i32_8
  let c0_i32_9 : BitVec 32 := 0#32
  let v16 : BitVec 32 := Scalar.addi v15 c0_i32_9
  let c8_i32_10 : BitVec 32 := 8#32
  let v17 : BitVec 32 := Scalar.muli v16 c8_i32_10
  v17
def k0_mult2 (k0_t1 : Fin k0_t1_loop.trips) : BitVec 32 :=
  let c0_i32_6 : BitVec 32 := 0#32
  let c1_i32 : BitVec 32 := 1#32
  let arg12 : BitVec 32 := Scf.iv c0_i32_6 c1_i32 k0_t1
  let c8_i32_17 : BitVec 32 := 8#32
  let v36 : BitVec 32 := Scalar.muli arg12 c8_i32_17
  let c1_i32_18 : BitVec 32 := 1#32
  let v37 : BitVec 32 := Scalar.addi v36 c1_i32_18
  let c8_i32_19 : BitVec 32 := 8#32
  let v38 : BitVec 32 := Scalar.muli v37 c8_i32_19
  v38
def k0_mult3 (k0_t1 : Fin k0_t1_loop.trips) : BitVec 32 :=
  let c0_i32_6 : BitVec 32 := 0#32
  let c1_i32 : BitVec 32 := 1#32
  let arg12 : BitVec 32 := Scf.iv c0_i32_6 c1_i32 k0_t1
  let c8_i32_27 : BitVec 32 := 8#32
  let v57 : BitVec 32 := Scalar.muli arg12 c8_i32_27
  let c2_i32 : BitVec 32 := 2#32
  let v58 : BitVec 32 := Scalar.addi v57 c2_i32
  let c8_i32_28 : BitVec 32 := 8#32
  let v59 : BitVec 32 := Scalar.muli v58 c8_i32_28
  v59
def k0_mult4 (k0_t1 : Fin k0_t1_loop.trips) : BitVec 32 :=
  let c0_i32_6 : BitVec 32 := 0#32
  let c1_i32 : BitVec 32 := 1#32
  let arg12 : BitVec 32 := Scf.iv c0_i32_6 c1_i32 k0_t1
  let c8_i32_36 : BitVec 32 := 8#32
  let v78 : BitVec 32 := Scalar.muli arg12 c8_i32_36
  let c3_i32 : BitVec 32 := 3#32
  let v79 : BitVec 32 := Scalar.addi v78 c3_i32
  let c8_i32_37 : BitVec 32 := 8#32
  let v80 : BitVec 32 := Scalar.muli v79 c8_i32_37
  v80
def k0_mult5 (k0_t1 : Fin k0_t1_loop.trips) : BitVec 32 :=
  let c0_i32_6 : BitVec 32 := 0#32
  let c1_i32 : BitVec 32 := 1#32
  let arg12 : BitVec 32 := Scf.iv c0_i32_6 c1_i32 k0_t1
  let c8_i32_45 : BitVec 32 := 8#32
  let v99 : BitVec 32 := Scalar.muli arg12 c8_i32_45
  let c4_i32_46 : BitVec 32 := 4#32
  let v100 : BitVec 32 := Scalar.addi v99 c4_i32_46
  let c8_i32_47 : BitVec 32 := 8#32
  let v101 : BitVec 32 := Scalar.muli v100 c8_i32_47
  v101
def k0_mult6 (k0_t1 : Fin k0_t1_loop.trips) : BitVec 32 :=
  let c0_i32_6 : BitVec 32 := 0#32
  let c1_i32 : BitVec 32 := 1#32
  let arg12 : BitVec 32 := Scf.iv c0_i32_6 c1_i32 k0_t1
  let c8_i32_55 : BitVec 32 := 8#32
  let v120 : BitVec 32 := Scalar.muli arg12 c8_i32_55
  let c5_i32 : BitVec 32 := 5#32
  let v121 : BitVec 32 := Scalar.addi v120 c5_i32
  let c8_i32_56 : BitVec 32 := 8#32
  let v122 : BitVec 32 := Scalar.muli v121 c8_i32_56
  v122
def k0_mult7 (k0_t1 : Fin k0_t1_loop.trips) : BitVec 32 :=
  let c0_i32_6 : BitVec 32 := 0#32
  let c1_i32 : BitVec 32 := 1#32
  let arg12 : BitVec 32 := Scf.iv c0_i32_6 c1_i32 k0_t1
  let c8_i32_64 : BitVec 32 := 8#32
  let v141 : BitVec 32 := Scalar.muli arg12 c8_i32_64
  let c6_i32 : BitVec 32 := 6#32
  let v142 : BitVec 32 := Scalar.addi v141 c6_i32
  let c8_i32_65 : BitVec 32 := 8#32
  let v143 : BitVec 32 := Scalar.muli v142 c8_i32_65
  v143
def k0_mult8 (k0_t1 : Fin k0_t1_loop.trips) : BitVec 32 :=
  let c0_i32_6 : BitVec 32 := 0#32
  let c1_i32 : BitVec 32 := 1#32
  let arg12 : BitVec 32 := Scf.iv c0_i32_6 c1_i32 k0_t1
  let c8_i32_73 : BitVec 32 := 8#32
  let v162 : BitVec 32 := Scalar.muli arg12 c8_i32_73
  let c7_i32_74 : BitVec 32 := 7#32
  let v163 : BitVec 32 := Scalar.addi v162 c7_i32_74
  let c8_i32_75 : BitVec 32 := 8#32
  let v164 : BitVec 32 := Scalar.muli v163 c8_i32_75
  v164
def k0_off1 (k0_t1 : Fin k0_t1_loop.trips) (c0_i32_9 : BitVec 32) : Fin 2 → Nat :=
  let c0_i32_6 : BitVec 32 := 0#32
  let c1_i32 : BitVec 32 := 1#32
  let arg12 : BitVec 32 := Scf.iv c0_i32_6 c1_i32 k0_t1
  let c8_i32_8 : BitVec 32 := 8#32
  let v15 : BitVec 32 := Scalar.muli arg12 c8_i32_8
  let v16 : BitVec 32 := Scalar.addi v15 c0_i32_9
  let c8_i32_10 : BitVec 32 := 8#32
  let v17 : BitVec 32 := Scalar.muli v16 c8_i32_10
  let v18 : BitVec 32 := v17
  let v183 : Index := Scalar.indexCast v18
  let c0 : Index := 0#32
  ![v183.toNat, 0]
def k0_off2 (k0_t1 : Fin k0_t1_loop.trips) (c0_i32_9 : BitVec 32) : Fin 4 → Nat :=
  let c0_i32_6 : BitVec 32 := 0#32
  let c1_i32 : BitVec 32 := 1#32
  let arg12 : BitVec 32 := Scf.iv c0_i32_6 c1_i32 k0_t1
  let c8_i32_8 : BitVec 32 := 8#32
  let v15 : BitVec 32 := Scalar.muli arg12 c8_i32_8
  let v16 : BitVec 32 := Scalar.addi v15 c0_i32_9
  let c0_i32_11 : BitVec 32 := 0#32
  let v20 : BitVec 1 := Scalar.cmpi .sgt v16 c0_i32_11
  let v21 : BitVec 32 := Scalar.extui v20
  let c0_i32_12 : BitVec 32 := 0#32
  let v22 : BitVec 1 := Scalar.cmpi .slt v16 c0_i32_12
  let v23 : BitVec 32 := Scalar.extui v22
  let v24 : BitVec 32 := Scalar.subi v21 v23
  let c64_i32 : BitVec 32 := 64#32
  let c0_i32_13 : BitVec 32 := 0#32
  let v25 : BitVec 1 := Scalar.cmpi .sgt c64_i32 c0_i32_13
  let v26 : BitVec 32 := Scalar.extui v25
  let c0_i32_14 : BitVec 32 := 0#32
  let v27 : BitVec 1 := Scalar.cmpi .slt c64_i32 c0_i32_14
  let v28 : BitVec 32 := Scalar.extui v27
  let v29 : BitVec 32 := Scalar.subi v26 v28
  let v30 : BitVec 1 := Scalar.cmpi .ne v24 v29
  let v31 : BitVec 32 := Scalar.remsi v16 c64_i32
  let c0_i32_15 : BitVec 32 := 0#32
  let v32 : BitVec 1 := Scalar.cmpi .ne v31 c0_i32_15
  let v33 : BitVec 1 := Scalar.andi v30 v32
  let v19 : BitVec 32 := Scalar.divsi v16 c64_i32
  let c1_i32_16 : BitVec 32 := 1#32
  let v34 : BitVec 32 := Scalar.subi v19 c1_i32_16
  let v35 : BitVec 32 := Scalar.select v33 v34 v19
  let v273 : Index := Scalar.indexCast v35
  let c2 : Index := 2#32
  let c0_114 : Index := 0#32
  let c0_115 : Index := 0#32
  ![v273.toNat, 2, 0, 0]
def k0_off3 (k0_t1 : Fin k0_t1_loop.trips) (c0_i32_9 : BitVec 32) : Fin 4 → Nat :=
  let c0_i32_6 : BitVec 32 := 0#32
  let c1_i32 : BitVec 32 := 1#32
  let arg12 : BitVec 32 := Scf.iv c0_i32_6 c1_i32 k0_t1
  let c8_i32_8 : BitVec 32 := 8#32
  let v15 : BitVec 32 := Scalar.muli arg12 c8_i32_8
  let v16 : BitVec 32 := Scalar.addi v15 c0_i32_9
  let c0_i32_11 : BitVec 32 := 0#32
  let v20 : BitVec 1 := Scalar.cmpi .sgt v16 c0_i32_11
  let v21 : BitVec 32 := Scalar.extui v20
  let c0_i32_12 : BitVec 32 := 0#32
  let v22 : BitVec 1 := Scalar.cmpi .slt v16 c0_i32_12
  let v23 : BitVec 32 := Scalar.extui v22
  let v24 : BitVec 32 := Scalar.subi v21 v23
  let c64_i32 : BitVec 32 := 64#32
  let c0_i32_13 : BitVec 32 := 0#32
  let v25 : BitVec 1 := Scalar.cmpi .sgt c64_i32 c0_i32_13
  let v26 : BitVec 32 := Scalar.extui v25
  let c0_i32_14 : BitVec 32 := 0#32
  let v27 : BitVec 1 := Scalar.cmpi .slt c64_i32 c0_i32_14
  let v28 : BitVec 32 := Scalar.extui v27
  let v29 : BitVec 32 := Scalar.subi v26 v28
  let v30 : BitVec 1 := Scalar.cmpi .ne v24 v29
  let v31 : BitVec 32 := Scalar.remsi v16 c64_i32
  let c0_i32_15 : BitVec 32 := 0#32
  let v32 : BitVec 1 := Scalar.cmpi .ne v31 c0_i32_15
  let v33 : BitVec 1 := Scalar.andi v30 v32
  let v19 : BitVec 32 := Scalar.divsi v16 c64_i32
  let c1_i32_16 : BitVec 32 := 1#32
  let v34 : BitVec 32 := Scalar.subi v19 c1_i32_16
  let v35 : BitVec 32 := Scalar.select v33 v34 v19
  let v452 : Index := Scalar.indexCast v35
  let c1 : Index := 1#32
  let c0_194 : Index := 0#32
  let c0_195 : Index := 0#32
  ![v452.toNat, 1, 0, 0]
def k0_off4 (k0_t1 : Fin k0_t1_loop.trips) (c0_i32_9 : BitVec 32) : Fin 4 → Nat :=
  let c0_i32_6 : BitVec 32 := 0#32
  let c1_i32 : BitVec 32 := 1#32
  let arg12 : BitVec 32 := Scf.iv c0_i32_6 c1_i32 k0_t1
  let c8_i32_8 : BitVec 32 := 8#32
  let v15 : BitVec 32 := Scalar.muli arg12 c8_i32_8
  let v16 : BitVec 32 := Scalar.addi v15 c0_i32_9
  let c0_i32_11 : BitVec 32 := 0#32
  let v20 : BitVec 1 := Scalar.cmpi .sgt v16 c0_i32_11
  let v21 : BitVec 32 := Scalar.extui v20
  let c0_i32_12 : BitVec 32 := 0#32
  let v22 : BitVec 1 := Scalar.cmpi .slt v16 c0_i32_12
  let v23 : BitVec 32 := Scalar.extui v22
  let v24 : BitVec 32 := Scalar.subi v21 v23
  let c64_i32 : BitVec 32 := 64#32
  let c0_i32_13 : BitVec 32 := 0#32
  let v25 : BitVec 1 := Scalar.cmpi .sgt c64_i32 c0_i32_13
  let v26 : BitVec 32 := Scalar.extui v25
  let c0_i32_14 : BitVec 32 := 0#32
  let v27 : BitVec 1 := Scalar.cmpi .slt c64_i32 c0_i32_14
  let v28 : BitVec 32 := Scalar.extui v27
  let v29 : BitVec 32 := Scalar.subi v26 v28
  let v30 : BitVec 1 := Scalar.cmpi .ne v24 v29
  let v31 : BitVec 32 := Scalar.remsi v16 c64_i32
  let c0_i32_15 : BitVec 32 := 0#32
  let v32 : BitVec 1 := Scalar.cmpi .ne v31 c0_i32_15
  let v33 : BitVec 1 := Scalar.andi v30 v32
  let v19 : BitVec 32 := Scalar.divsi v16 c64_i32
  let c1_i32_16 : BitVec 32 := 1#32
  let v34 : BitVec 32 := Scalar.subi v19 c1_i32_16
  let v35 : BitVec 32 := Scalar.select v33 v34 v19
  let v458 : Index := Scalar.indexCast v35
  let c0_197 : Index := 0#32
  let c0_198 : Index := 0#32
  let c0_199 : Index := 0#32
  ![v458.toNat, 0, 0, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c4_i32 : BitVec 32 := 4#32
  let v4 : BitVec 1 := Scalar.cmpi .slt arg1 c4_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c4_i32_3 : BitVec 32 := 4#32
  let v8 : BitVec 1 := Scalar.cmpi .sge arg1 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x8x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S8x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x3x8x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== RefOutHIdeal.lean ====
abbrev S16384x2048 : Shape := ⟨2, ![16384, 2048]⟩
abbrev S2x4096x4096 : Shape := ⟨3, ![2, 4096, 4096]⟩
abbrev S16384x4096 : Shape := ⟨2, ![16384, 4096]⟩
abbrev S4x3x4096 : Shape := ⟨3, ![4, 3, 4096]⟩
abbrev S4096 : Shape := ⟨1, ![4096]⟩
abbrev S1x4096x4096 : Shape := ⟨3, ![1, 4096, 4096]⟩
abbrev S4096x4096 : Shape := ⟨2, ![4096, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S4x4096x4096 : Shape := ⟨3, ![4, 4096, 4096]⟩
abbrev S4x1x4096 : Shape := ⟨3, ![4, 1, 4096]⟩
abbrev S4x4096 : Shape := ⟨2, ![4, 4096]⟩
abbrev S4x4096x1 : Shape := ⟨3, ![4, 4096, 1]⟩
abbrev S1x1x4096 : Shape := ⟨3, ![1, 1, 4096]⟩

abbrev nBuf : Space → Nat
  | .hbm => 68
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2x4096x4096, .bf16⟩
  | .hbm, ⟨3, _⟩ => ⟨S16384x4096, .f32⟩
  | .hbm, ⟨4, _⟩ => ⟨S4x3x4096, .f32⟩
  | .hbm, ⟨5, _⟩ => ⟨S4096, .f32⟩
  | .hbm, ⟨6, _⟩ => ⟨S4x3x4096, .f32⟩
  | .hbm, ⟨7, _⟩ => ⟨S4096, .f32⟩
  | .hbm, ⟨8, _⟩ => ⟨S16384x4096, .bf16⟩
  | .hbm, ⟨9, _⟩ => ⟨S1x4096x4096, .bf16⟩
  | .hbm, ⟨10, _⟩ => ⟨S4096x4096, .bf16⟩
  | .hbm, ⟨11, _⟩ => ⟨S16384x4096, .f32⟩
  | .hbm, ⟨12, _⟩ => ⟨S16384x4096, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x4096, .f32⟩
  | .hbm, ⟨24, _⟩ => ⟨S16384x4096, .f32⟩
  | .hbm, ⟨25, _⟩ => ⟨S1x4096, .f32⟩
  | .hbm, ⟨26, _⟩ => ⟨S16384x4096, .f32⟩
  | .hbm, ⟨27, _⟩ => ⟨S16384x4096, .f32⟩
  | .hbm, ⟨28, _⟩ => ⟨S4x4096x4096, .f32⟩
  | .hbm, ⟨29, _⟩ => ⟨S4x1x4096, .f32⟩
  | .hbm, ⟨30, _⟩ => ⟨S4x4096, .f32⟩
  | .hbm, ⟨31, _⟩ => ⟨S4x1x4096, .f32⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S4x4096x4096, .f32⟩
  | .hbm, ⟨36, _⟩ => ⟨S4x4096x4096, .f32⟩
  | .hbm, ⟨37, _⟩ => ⟨S_, .f32⟩
  | .hbm, ⟨38, _⟩ => ⟨S4x4096, .f32⟩
  | .hbm, ⟨39, _⟩ => ⟨S4x4096x1, .f32⟩
  | .hbm, ⟨40, _⟩ => ⟨S_, .f32⟩
  | .hbm, ⟨41, _⟩ => ⟨S4x4096x1, .f32⟩
  | .hbm, ⟨42, _⟩ => ⟨S4x4096x1, .f32⟩
  | .hbm, ⟨43, _⟩ => ⟨S_, .f32⟩
  | .hbm, ⟨44, _⟩ => ⟨S4x4096x1, .f32⟩
  | .hbm, ⟨45, _⟩ => ⟨S4x4096x1, .f32⟩
  | .hbm, ⟨46, _⟩ => ⟨S4x4096x1, .f32⟩
  | .hbm, ⟨47, _⟩ => ⟨S4x4096x4096, .f32⟩
  | .hbm, ⟨48, _⟩ => ⟨S4x4096x4096, .f32⟩
  | .hbm, ⟨49, _⟩ => ⟨S1x1x4096, .f32⟩
  | .hbm, ⟨50, _⟩ => ⟨S4x4096x4096, .f32⟩
  | .hbm, ⟨51, _⟩ => ⟨S4x4096x4096, .f32⟩
  | .hbm, ⟨52, _⟩ => ⟨S4x1x4096, .f32⟩
  | .hbm, ⟨53, _⟩ => ⟨S4x4096, .f32⟩
  | .hbm, ⟨54, _⟩ => ⟨S4x1x4096, .f32⟩
  | .hbm, ⟨55, _⟩ => ⟨S_, .f32⟩
  | .hbm, ⟨56, _⟩ => ⟨S4x1x4096, .f32⟩
  | .hbm, ⟨57, _⟩ => ⟨S4x1x4096, .f32⟩
  | .hbm, ⟨58, _⟩ => ⟨S4x4096x4096, .f32⟩
  | .hbm, ⟨59, _⟩ => ⟨S4x4096x4096, .f32⟩
  | .hbm, ⟨60, _⟩ => ⟨S4x1x4096, .f32⟩
  | .hbm, ⟨61, _⟩ => ⟨S4x4096, .f32⟩
  | .hbm, ⟨62, _⟩ => ⟨S4x1x4096, .f32⟩
  | .hbm, ⟨63, _⟩ => ⟨S4x4096x4096, .f32⟩
  | .hbm, ⟨64, _⟩ => ⟨S4x4096x4096, .f32⟩
  | .hbm, ⟨65, _⟩ => ⟨S16384x4096, .f32⟩
  | .hbm, ⟨66, _⟩ => ⟨S16384x4096, .f32⟩
  | .hbm, ⟨67, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== WDn.lean ====
abbrev S2x4096x12832 : Shape := ⟨3, ![2, 4096, 12832]⟩
abbrev S32 : Shape := ⟨1, ![32]⟩
abbrev S2x12832x4096 : Shape := ⟨3, ![2, 12832, 4096]⟩
abbrev S2x8192x4096 : Shape := ⟨3, ![2, 8192, 4096]⟩
abbrev S1x256x4096 : Shape := ⟨3, ![1, 256, 4096]⟩
abbrev S1 : Shape := ⟨1, ![1]⟩
abbrev S256x4096 : Shape := ⟨2, ![256, 4096]⟩

abbrev nBuf : Space → Nat
  | .hbm => 3
  | .vmem => 4
  | .smem => 1
  | _ => 0

abbrev bufTy : (tb : Table) → Fin (tcTables nBuf tb) → BufTy
  | .hbm, ⟨0, _⟩ => ⟨S2x4096x12832, .f32⟩
  | .hbm, ⟨1, _⟩ => ⟨S2x12832x4096, .f32⟩
  | .hbm, ⟨2, _⟩ => ⟨S2x8192x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x256x4096, .bf16⟩
  | .local _ .vmem, ⟨3, _⟩ => ⟨S1x256x4096, .bf16⟩
  | .local _ .smem, ⟨0, _⟩ => ⟨S32, .i32⟩
  | _, _ => ⟨S2x4096x12832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 32], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (pf : pre0.Contents (Elt F)) (i : grid0.Coords) : BitVec 32 :=
  let arg1 : BitVec 32 := BitVec.ofNat 32 (i 1).val
  let v0 : Index := Scalar.indexCast arg1
  let v1 : BitVec 32 := pf.atD 0 ![v0.toNat]
  v1

def cc0_transform_0 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S32) ![v0.toNat] S1.size (k0_off1_inb i)) numel1_S1
  let v2 : BitVec 32 := v1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== RefWDnIdeal.lean ====
abbrev S2x4096x12832 : Shape := ⟨3, ![2, 4096, 12832]⟩
abbrev S2x4096x6144 : Shape := ⟨3, ![2, 4096, 6144]⟩
abbrev S2x4096x2048 : Shape := ⟨3, ![2, 4096, 2048]⟩
abbrev S2x4096x16 : Shape := ⟨3, ![2, 4096, 16]⟩
abbrev S2x4096x256 : Shape := ⟨3, ![2, 4096, 256]⟩
abbrev S2x4096x8192 : Shape := ⟨3, ![2, 4096, 8192]⟩
abbrev S2x8192x4096 : Shape := ⟨3, ![2, 8192, 4096]⟩

abbrev nBuf : Space → Nat
  | .hbm => 12
  | .vmem => 0
  | .smem => 0
  | _ => 0

abbrev bufTy : (tb : Table) → Fin (tcTables nBuf tb) → BufTy
  | .hbm, ⟨0, _⟩ => ⟨S2x4096x12832, .f32⟩
  | .hbm, ⟨1, _⟩ => ⟨S2x4096x6144, .f32⟩
  | .hbm, ⟨2, _⟩ => ⟨S2x4096x2048, .f32⟩
  | .hbm, ⟨3, _⟩ => ⟨S2x4096x16, .f32⟩
  | .hbm, ⟨4, _⟩ => ⟨S2x4096x16, .f32⟩
  | .hbm, ⟨5, _⟩ => ⟨S2x4096x2048, .f32⟩
  | .hbm, ⟨6, _⟩ => ⟨S2x4096x256, .f32⟩
  | .hbm, ⟨7, _⟩ => ⟨S2x4096x256, .f32⟩
  | .hbm, ⟨8, _⟩ => ⟨S2x4096x2048, .f32⟩
  | .hbm, ⟨9, _⟩ => ⟨S2x4096x8192, .f32⟩
  | .hbm, ⟨10, _⟩ => ⟨S2x8192x4096, .f32⟩
  | .hbm, ⟨11, _⟩ => ⟨S2x8192x4096, .bf16⟩
  | _, _ => ⟨S2x4096x12832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩

abbrev nD : Nat := 1
abbrev τ : Topo := Topo.v7x

variable {F : FTy → Type} [FloatOps F]
-- ==== WAt.lean ====
abbrev S2x4096x12832 : Shape := ⟨3, ![2, 4096, 12832]⟩
abbrev S18 : Shape := ⟨1, ![18]⟩
abbrev S2x12832x4096 : Shape := ⟨3, ![2, 12832, 4096]⟩
abbrev S2x4608x4096 : Shape := ⟨3, ![2, 4608, 4096]⟩
abbrev S1x256x4096 : Shape := ⟨3, ![1, 256, 4096]⟩
abbrev S1 : Shape := ⟨1, ![1]⟩
abbrev S256x4096 : Shape := ⟨2, ![256, 4096]⟩

abbrev nBuf : Space → Nat
  | .hbm => 3
  | .vmem => 4
  | .smem => 1
  | _ => 0

abbrev bufTy : (tb : Table) → Fin (tcTables nBuf tb) → BufTy
  | .hbm, ⟨0, _⟩ => ⟨S2x4096x12832, .f32⟩
  | .hbm, ⟨1, _⟩ => ⟨S2x12832x4096, .f32⟩
  | .hbm, ⟨2, _⟩ => ⟨S2x4608x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x256x4096, .bf16⟩
  | .local _ .vmem, ⟨3, _⟩ => ⟨S1x256x4096, .bf16⟩
  | .local _ .smem, ⟨0, _⟩ => ⟨S18, .i32⟩
  | _, _ => ⟨S2x4096x12832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 18], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (pf : pre0.Contents (Elt F)) (i : grid0.Coords) : BitVec 32 :=
  let arg1 : BitVec 32 := BitVec.ofNat 32 (i 1).val
  let v0 : Index := Scalar.indexCast arg1
  let v1 : BitVec 32 := pf.atD 0 ![v0.toNat]
  v1

def cc0_transform_0 (k0_off1_inb : ∀ i : grid0.Coords, ∀ a, (k0_off1 i) a + S1.size a ≤ S18.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S18) ![v0.toNat] S1.size (k0_off1_inb i)) numel1_S1
  let v2 : BitVec 32 := v1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== RefWAtIdeal.lean ====
abbrev S2x4096x12832 : Shape := ⟨3, ![2, 4096, 12832]⟩
abbrev S2x4096x6144 : Shape := ⟨3, ![2, 4096, 6144]⟩
abbrev S2x4096x2048 : Shape := ⟨3, ![2, 4096, 2048]⟩
abbrev S2x4096x16 : Shape := ⟨3, ![2, 4096, 16]⟩
abbrev S2x4096x256 : Shape := ⟨3, ![2, 4096, 256]⟩
abbrev S2x4096x4608 : Shape := ⟨3, ![2, 4096, 4608]⟩
abbrev S2x4608x4096 : Shape := ⟨3, ![2, 4608, 4096]⟩

abbrev nBuf : Space → Nat
  | .hbm => 12
  | .vmem => 0
  | .smem => 0
  | _ => 0

abbrev bufTy : (tb : Table) → Fin (tcTables nBuf tb) → BufTy
  | .hbm, ⟨0, _⟩ => ⟨S2x4096x12832, .f32⟩
  | .hbm, ⟨1, _⟩ => ⟨S2x4096x6144, .f32⟩
  | .hbm, ⟨2, _⟩ => ⟨S2x4096x2048, .f32⟩
  | .hbm, ⟨3, _⟩ => ⟨S2x4096x16, .f32⟩
  | .hbm, ⟨4, _⟩ => ⟨S2x4096x16, .f32⟩
  | .hbm, ⟨5, _⟩ => ⟨S2x4096x2048, .f32⟩
  | .hbm, ⟨6, _⟩ => ⟨S2x4096x256, .f32⟩
  | .hbm, ⟨7, _⟩ => ⟨S2x4096x256, .f32⟩
  | .hbm, ⟨8, _⟩ => ⟨S2x4096x2048, .f32⟩
  | .hbm, ⟨9, _⟩ => ⟨S2x4096x4608, .f32⟩
  | .hbm, ⟨10, _⟩ => ⟨S2x4608x4096, .f32⟩
  | .hbm, ⟨11, _⟩ => ⟨S2x4608x4096, .bf16⟩
  | _, _ => ⟨S2x4096x12832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩

abbrev nD : Nat := 1
abbrev τ : Topo := Topo.v7x

variable {F : FTy → Type} [FloatOps F]
-- ==== WBa.lean ====
abbrev S2x4096x12832 : Shape := ⟨3, ![2, 4096, 12832]⟩
abbrev S1 : Shape := ⟨1, ![1]⟩
abbrev S2x12832x4096 : Shape := ⟨3, ![2, 12832, 4096]⟩
abbrev S2x128x4096 : Shape := ⟨3, ![2, 128, 4096]⟩
abbrev S1x128x4096 : Shape := ⟨3, ![1, 128, 4096]⟩
abbrev S128x4096 : Shape := ⟨2, ![128, 4096]⟩

abbrev nBuf : Space → Nat
  | .hbm => 3
  | .vmem => 4
  | .smem => 1
  | _ => 0

abbrev bufTy : (tb : Table) → Fin (tcTables nBuf tb) → BufTy
  | .hbm, ⟨0, _⟩ => ⟨S2x4096x12832, .f32⟩
  | .hbm, ⟨1, _⟩ => ⟨S2x12832x4096, .f32⟩
  | .hbm, ⟨2, _⟩ => ⟨S2x128x4096, .bf16⟩
  | .local _ .vmem, ⟨0, _⟩ => ⟨S1x128x4096, .f32⟩
  | .local _ .vmem, ⟨1, _⟩ => ⟨S1x128x4096, .f32⟩
  | .local _ .vmem, ⟨2, _⟩ => ⟨S1x128x4096, .bf16⟩
  | .local _ .vmem, ⟨3, _⟩ => ⟨S1x128x4096, .bf16⟩
  | .local _ .smem, ⟨0, _⟩ => ⟨S1, .i32⟩
  | _, _ => ⟨S2x4096x12832, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (pf : pre0.Contents (Elt F)) (i : grid0.Coords) : BitVec 32 :=
  let arg1 : BitVec 32 := BitVec.ofNat 32 (i 1).val
  let v0 : Index := Scalar.indexCast arg1
  let v1 : BitVec 32 := pf.atD 0 ![v0.toNat]
  v1

def cc0_transform_0 (k0_off1_inb : ∀ i : grid0.Coords, ∀ a, (k0_off1 i) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S1) ![v0.toNat] S1.size (k0_off1_inb i)) numel1_S1
  let v2 : BitVec 32 := v1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== RefWBaIdeal.lean ====
abbrev S2x4096x12832 : Shape := ⟨3, ![2, 4096, 12832]⟩
abbrev S2x4096x6144 : Shape := ⟨3, ![2, 4096, 6144]⟩
abbrev S2x4096x2048 : Shape := ⟨3, ![2, 4096, 2048]⟩
abbrev S2x4096x16 : Shape := ⟨3, ![2, 4096, 16]⟩
abbrev S2x4096x256 : Shape := ⟨3, ![2, 4096, 256]⟩
abbrev S_ : Shape := ⟨0, ![]⟩
abbrev S2x4096x96 : Shape := ⟨3, ![2, 4096, 96]⟩
abbrev S2x4096x128 : Shape := ⟨3, ![2, 4096, 128]⟩
abbrev S2x128x4096 : Shape := ⟨3, ![2, 128, 4096]⟩

abbrev nBuf : Space → Nat
  | .hbm => 14
  | .vmem => 0
  | .smem => 0
  | _ => 0

abbrev bufTy : (tb : Table) → Fin (tcTables nBuf tb) → BufTy
  | .hbm, ⟨0, _⟩ => ⟨S2x4096x12832, .f32⟩
  | .hbm, ⟨1, _⟩ => ⟨S2x4096x6144, .f32⟩
  | .hbm, ⟨2, _⟩ => ⟨S2x4096x2048, .f32⟩
  | .hbm, ⟨3, _⟩ => ⟨S2x4096x16, .f32⟩
  | .hbm, ⟨4, _⟩ => ⟨S2x4096x16, .f32⟩
  | .hbm, ⟨5, _⟩ => ⟨S2x4096x2048, .f32⟩
  | .hbm, ⟨6, _⟩ => ⟨S2x4096x256, .f32⟩
  | .hbm, ⟨7, _⟩ => ⟨S2x4096x256, .f32⟩
  | .hbm, ⟨8, _⟩ => ⟨S2x4096x2048, .f32⟩
  | .hbm, ⟨9, _⟩ => ⟨S_, .f32⟩
  | .hbm, ⟨10, _⟩ => ⟨S2x4096x96, .f32⟩
  | .hbm, ⟨11, _⟩ => ⟨S2x4096x128, .f32⟩
  | .hbm, ⟨12, _⟩ => ⟨S2x128x4096, .f32⟩
  | .hbm, ⟨13, _⟩ => ⟨S2x128x4096, .bf16⟩
  | _, _ => ⟨S2x4096x12832, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Proof.AttFrames.lean ====
/-
  The attention's frames.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

open Idealize.ShloMosaic Idealize.SL.Sem

namespace Cert.AttClaims

theorem frame_kernel : Cert.quiescent_Kernel := fun m ρ _ => Cert.Kernel.Gen.frame m ρ
theorem frame_ideal : Cert.quiescent_KernelIdeal := fun m ρ _ => Cert.KernelIdeal.Gen.frame m ρ

/-- The reference has no semaphore, and leaves its arguments as they were. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

end Cert.AttClaims

end
-- ==== Proof.AttPieces.lean ====
/-
  Attention: what the kernel's body stores, pair of heads by pair of heads.

  The body writes its result in sixteen pieces of 128 columns, one for each pair of query heads. Every piece is the same
  function of the pair's queries and gates, of the rotation tables, of the pair's two sinks and of the keys and values of
  the pair's key/value head, which the body holds in scratch as 512 rows: 256 for the first head of the pair, 256 for the
  second. `pairOut` is that function.
-/
module

public import proofs.«01_k».proof.Proof.Gen.KernelIdeal.Frame
public import Idealize.ShloMosaic.Lib.Pipeline.ValueKit
public import Idealize.ShloMosaic.Lib.Pointwise
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.KernelIdeal.RefValue

open Cert.KernelIdeal Cert.KernelIdeal.Gen

/-- The scores of a pair of heads against the 512 rows of keys: the rotated and scaled queries times the keys. -/
def pairScores (cos sin q : Vec Ideal S16x128 .f32) (k2 : Vec Ideal S1x512x128 .bf16) : FVec Ideal S16x512 .f32 :=
  k0_pay93 (k0_pay3 cos) (k0_pay4 sin) q k2

/-- The masked scores of the pair's first head. -/
def scores1 (s : FVec Ideal S16x512 .f32) : FVec Ideal S16x256 .f32 := k0_pay108 (k0_pay90 k0_pay89) k0_pay92 s

/-- The masked scores of the pair's second head. -/
def scores2 (s : FVec Ideal S16x512 .f32) : FVec Ideal S16x256 .f32 := k0_pay109 (k0_pay90 k0_pay89) k0_pay92 s

/-- The exponentials of both heads' scores, side by side. -/
def pairProbs (s : FVec Ideal S16x512 .f32) (a b : Elt Ideal .f32) : FVec Ideal S16x512 .bf16 :=
  k0_pay132 (k0_pay124 (scores1 s) a) (k0_pay125 (scores2 s) b)

/-- One over each head's sum, in the head's own 64 columns. -/
def pairInv (s : FVec Ideal S16x512 .f32) (a b : Elt Ideal .f32) : FVec Ideal S16x128 .f32 :=
  k0_pay141 k0_pay91 (k0_pay136 a (k0_pay116 (scores1 s) a) (k0_pay124 (scores1 s) a))
    (k0_pay137 b (k0_pay117 (scores2 s) b) (k0_pay125 (scores2 s) b))

/-- What the body stores for one pair of heads. -/
def pairOut (cos sin q z : Vec Ideal S16x128 .f32) (k2 v2 : Vec Ideal S1x512x128 .bf16) (a b : Elt Ideal .f32) :
    FVec Ideal S16x128 .bf16 :=
  k0_pay145 (pairProbs (pairScores cos sin q k2) a b) (pairInv (pairScores cos sin q k2) a b) v2 z

section
variable (c : Dev nD) (i : grid0.Coords) (arg1 : Memref sig .tc .smem S32 .f32) (harg1 : arg1.IsWhole) (arg2 : Memref sig .tc .vmem S16x2048 .f32) (harg2 : arg2.IsWhole) (arg3 : Memref sig .tc .vmem S16x2048 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S16x128 .f32) (harg8 : arg8.IsWhole) (arg9 : Memref sig .tc .vmem S16x128 .f32) (harg9 : arg9.IsWhole) (arg10 : Memref sig .tc .vmem S16x2048 .bf16) (harg10 : arg10.IsWhole) (arg11 : Memref sig .tc .vmem S1x128x256 .f32) (harg11 : arg11.IsWhole) (arg12 : Memref sig .tc .vmem S4x512x128 .bf16) (harg12 : arg12.IsWhole) (arg13 : Memref sig .tc .vmem S4x512x128 .bf16) (harg13 : arg13.IsWhole)
  (x0 : Vec Ideal S32 .f32) (x1 : Vec Ideal S16x2048 .f32) (x2 : Vec Ideal S16x2048 .f32) (x3 : Vec Ideal S16x256 .f32) (x4 : Vec Ideal S16x256 .f32) (x5 : Vec Ideal S1x128x256 .f32) (x6 : Vec Ideal S1x128x256 .f32) (x7 : Vec Ideal S16x128 .f32) (x8 : Vec Ideal S16x128 .f32)

/-- The stores into the keys' scratch. -/
abbrev keyStores : List (View.Piece (Elt Ideal) S4x512x128 .bf16) :=
  (kernelRun0_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.2.1

/-- The stores into the values' scratch. -/
abbrev valueStores : List (View.Piece (Elt Ideal) S4x512x128 .bf16) :=
  (kernelRun0_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.2.2.1

theorem inb_pair (p : Fin 16) : ∀ a, (![0, 128 * p.val] : Fin 2 → ℕ) a + S16x128.size a ≤ S16x2048.size a := by
  intro a; fin_cases a
  · show 0 + 16 ≤ 16; omega
  · show 128 * p.val + 128 ≤ 2048; omega

theorem inb_head (j : Fin 4) : ∀ a, (![j.val, 0, 0] : Fin 3 → ℕ) a + S1x512x128.size a ≤ S4x512x128.size a := by
  intro a; fin_cases a
  · show j.val + 1 ≤ 4; omega
  · show 0 + 512 ≤ 512; omega
  · show 0 + 128 ≤ 128; omega

theorem inb_sink (h : ℕ) (hh : h < 32) : ∀ a, (![h] : Fin 1 → ℕ) a + S1.size a ≤ S32.size a := by
  intro a; fin_cases a
  show h + 1 ≤ 32; omega

/-- The piece of pair `p`, from the launch's own views. -/
def piece (K V : List (View.Piece (Elt Ideal) S4x512x128 .bf16)) (p : Fin 16) : View.Piece (Elt Ideal) S16x2048 .bf16 :=
  ⟨Rect.unit (s := S16x2048) ![0, 128 * p.val] S16x128.size (inb_pair p),
    pairOut (View.readAt (Elt Ideal) arg8.view (Rect.unit (s := S16x128) ![0, 0] S16x128.size inb_S16x128_S16x128_0_0).toLoadRect (harg8.unread x7))
      (View.readAt (Elt Ideal) arg9.view (Rect.unit (s := S16x128) ![0, 0] S16x128.size inb_S16x128_S16x128_0_0).toLoadRect (harg9.unread x8))
      (View.readAt (Elt Ideal) arg2.view (Rect.unit (s := S16x2048) ![0, 128 * p.val] S16x128.size (inb_pair p)).toLoadRect (harg2.unread x1))
      (View.readAt (Elt Ideal) arg3.view (Rect.unit (s := S16x2048) ![0, 128 * p.val] S16x128.size (inb_pair p)).toLoadRect (harg3.unread x2))
      (arg12.view.readCov K (Rect.unit (s := S4x512x128) ![p.val / 4, 0, 0] S1x512x128.size (inb_head ⟨p.val / 4, by omega⟩)).toLoadRect)
      (arg13.view.readCov V (Rect.unit (s := S4x512x128) ![p.val / 4, 0, 0] S1x512x128.size (inb_head ⟨p.val / 4, by omega⟩)).toLoadRect)
      (View.readAt (Elt Ideal) arg1.view (Rect.unit (s := S32) ![2 * p.val] S1.size (inb_sink _ (by omega))).toLoadRect (harg1.unread x0) (Shape.Idx.first (by show 0 < S1.numel; decide)))
      (View.readAt (Elt Ideal) arg1.view (Rect.unit (s := S32) ![2 * p.val + 1] S1.size (inb_sink _ (by omega))).toLoadRect (harg1.unread x0) (Shape.Idx.first (by show 0 < S1.numel; decide)))⟩

/-- The body's stores into its first result, last first. -/
theorem pieces_eq :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).1
    = [15, 14, 13, 12, 11, 10, 9, 8, 7, 6, 5, 4, 3, 2, 1, 0].map (piece arg1 harg1 arg2 harg2 arg3 harg3 arg8 harg8 arg9 harg9 arg12 arg13 x0 x1 x2 x7 x8
        (keyStores c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8)
        (valueStores c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8)) := by
  unfold keyStores valueStores kernelRun0_A
  dsimp only [List.map]
  repeat' refine congrArg₂ List.cons ?_ ?_

  all_goals rfl

end

end Cert.KernelIdeal.RefValue

end
-- ==== Proof.AttTile.lean ====
/-
  Attention: the keys and the values in scratch.

  The body lays the 144 keys of each key/value head out twice, over 512 rows of 128 lanes: rows 0 to 143 hold them in
  lanes 0 to 63, rows 256 to 399 hold them in lanes 64 to 127, and everything else is zero. So one product with the 128
  lanes of a pair of query heads gives the first head's scores in the first 256 columns and the second head's in the last
  256. `padded` is that layout, and `canon_stores` says that the stores make it. The values are laid out the same way.
-/
module

public import proofs.«01_k».proof.Proof.AttPieces

@[expose] public section

set_option maxRecDepth 16384

noncomputable section

open Idealize.ShloMosaic Idealize.ShloMosaic.TcCoe Idealize.SL.Sem
open Idealize.ShloMosaic.Pipeline (Dat)

namespace Cert.KernelIdeal.RefValue

open Cert.KernelIdeal Cert.KernelIdeal.Gen

/-- The lane mask's bit. -/
theorem lane_lt : ∀ l : Fin 128, IntOp.cmpi .slt (BitVec.ofNat 32 l.val) 64#32 = if l.val < 64 then 1#1 else 0#1 := by
  decide +kernel

/-- One of the four forms of a cached tile: of its head `p`, in the lanes of half `b`. -/
def cachedPay (p b : Fin 2) (x : Vec Ideal S1x128x128 .f32) : FVec Ideal S1x128x128 .bf16 :=
  match p, b with
  | 0, 0 => k0_pay13 x
  | 0, 1 => k0_pay14 x
  | 1, 0 => k0_pay15 x
  | 1, 1 => k0_pay16 x

/-- One of the four forms of a tile of the 16 new rows. -/
def newPay (p b : Fin 2) (x : FVec Ideal S16x128 .f32) : FVec Ideal S1x16x128 .bf16 :=
  match p, b with
  | 0, 0 => k0_pay40 x
  | 0, 1 => k0_pay41 x
  | 1, 0 => k0_pay43 (k0_pay42 x)
  | 1, 1 => k0_pay44 (k0_pay39 x)

/-- A select on the lane mask, read by the half that the lane lies in. -/
theorem select_lane {α : Type} (l : Fin 128) (a b : α) :
    Scalar.select (IntOp.cmpi .slt (BitVec.ofNat 32 l.val) 64#32) a b = if l.val < 64 then a else b := by
  rw [lane_lt l]
  by_cases h : l.val < 64 <;> simp [Scalar.select, h]

theorem cachedPay_apply (p b : Fin 2) (x : Vec Ideal S1x128x128 .f32) (r : Fin 128) (l : Fin 128) :
    cachedPay p b x (ix3 0 r l)
      = if b.val = l.val / 64 then x (ix3 (n0 := 1) (n1 := 128) (n2 := 128) 0 r ⟨64 * p.val + l.val % 64, by omega⟩) else (0 : EReal) := by
  have hl := l.isLt
  fin_cases p <;> fin_cases b
  · show k0_pay13 (F := Ideal) x _ = _
    pointwise [k0_pay13, k0_pay10, k0_pay9, k0_pay12, k0_pay11]
    rw [select_lane]
    split_ifs with h1 h2 <;> first | rfl | (exfalso; omega) | (congr 2; apply Fin.ext; show _ = _; simp; omega)
  · show k0_pay14 (F := Ideal) x _ = _
    pointwise [k0_pay14, k0_pay10, k0_pay9, k0_pay12, k0_pay11]
    rw [select_lane]
    split_ifs with h1 h2 <;> first | rfl | (exfalso; omega) | (congr 2; apply Fin.ext; show _ = _; simp; omega)
  · show k0_pay15 (F := Ideal) x _ = _
    pointwise [k0_pay15, k0_pay10, k0_pay9, k0_pay12, k0_pay11]
    rw [select_lane]
    split_ifs with h1 h2 <;> first | rfl | (exfalso; omega) | (congr 2; apply Fin.ext; show _ = _; simp; omega)
  · show k0_pay16 (F := Ideal) x _ = _
    pointwise [k0_pay16, k0_pay10, k0_pay9, k0_pay12, k0_pay11]
    rw [select_lane]
    split_ifs with h1 h2 <;> first | rfl | (exfalso; omega) | (congr 2; apply Fin.ext; show _ = _; simp; omega)

theorem newPay_apply (p b : Fin 2) (x : FVec Ideal S16x128 .f32) (r : Fin 16) (l : Fin 128) :
    newPay p b x (ix3 0 r l)
      = if b.val = l.val / 64 then x (ix2 (n0 := 16) (n1 := 128) r ⟨64 * p.val + l.val % 64, by omega⟩) else (0 : EReal) := by
  have hl := l.isLt
  fin_cases p <;> fin_cases b
  · show k0_pay40 (F := Ideal) x _ = _
    pointwise [k0_pay40, k0_pay36, k0_pay37, k0_pay38]
    rw [select_lane]
    split_ifs with h1 h2 <;> first | rfl | (exfalso; omega) | (congr 2; apply Fin.ext; show _ = _; simp; omega)
  · show k0_pay41 (F := Ideal) x _ = _
    pointwise [k0_pay41, k0_pay36, k0_pay37, k0_pay38]
    rw [select_lane]
    split_ifs with h1 h2 <;> first | rfl | (exfalso; omega) | (congr 2; apply Fin.ext; show _ = _; simp; omega)
  · show k0_pay43 (F := Ideal) (k0_pay42 (F := Ideal) x) _ = _
    pointwise [k0_pay43, k0_pay42, k0_pay36, k0_pay37, k0_pay38]
    rw [select_lane]
    split_ifs with h1 h2 <;> first | rfl | (exfalso; omega) | (congr 2; apply Fin.ext; show _ = _; simp; omega)
  · show k0_pay44 (F := Ideal) (k0_pay39 (F := Ideal) x) _ = _
    pointwise [k0_pay44, k0_pay39, k0_pay36, k0_pay37, k0_pay38]
    rw [select_lane]
    split_ifs with h1 h2 <;> first | rfl | (exfalso; omega) | (congr 2; apply Fin.ext; show _ = _; simp; omega)

theorem inb_cached (j : Fin 4) (b : Fin 2) : ∀ a, (![j.val, 256 * b.val, 0] : Fin 3 → ℕ) a + S1x128x128.size a ≤ S4x512x128.size a := by
  intro a; fin_cases a
  · show j.val + 1 ≤ 4; omega
  · show 256 * b.val + 128 ≤ 512; omega
  · show 0 + 128 ≤ 128; omega

theorem inb_new (j : Fin 4) (b : Fin 2) : ∀ a, (![j.val, 256 * b.val + 128, 0] : Fin 3 → ℕ) a + S1x16x128.size a ≤ S4x512x128.size a := by
  intro a; fin_cases a
  · show j.val + 1 ≤ 4; omega
  · show 256 * b.val + 128 + 16 ≤ 512; omega
  · show 0 + 128 ≤ 128; omega

/-- The store of a cached tile. -/
def cachedPiece (j : Fin 4) (b : Fin 2) (x : Vec Ideal S1x128x128 .f32) : View.Piece (Elt Ideal) S4x512x128 .bf16 :=
  ⟨Rect.unit (s := S4x512x128) ![j.val, 256 * b.val, 0] S1x128x128.size (inb_cached j b), cachedPay ⟨j.val % 2, by omega⟩ b x⟩

/-- The store of a tile of new rows. -/
def newPiece (j : Fin 4) (b : Fin 2) (x : FVec Ideal S16x128 .f32) : View.Piece (Elt Ideal) S4x512x128 .bf16 :=
  ⟨Rect.unit (s := S4x512x128) ![j.val, 256 * b.val + 128, 0] S1x16x128.size (inb_new j b), newPay ⟨j.val % 2, by omega⟩ b x⟩

/-- The stores over the zero fill, last first: of the two heads of tile 1, then of the two heads of tile 0. -/
def tileStores (c0 c1 : Vec Ideal S1x128x128 .f32) (n0 n1 : FVec Ideal S16x128 .f32) : List (View.Piece (Elt Ideal) S4x512x128 .bf16) :=
  [newPiece 3 1 n1, newPiece 3 0 n1, newPiece 2 1 n1, newPiece 2 0 n1,
    cachedPiece 3 1 c1, cachedPiece 3 0 c1, cachedPiece 2 1 c1, cachedPiece 2 0 c1,
    newPiece 1 1 n0, newPiece 1 0 n0, newPiece 0 1 n0, newPiece 0 0 n0,
    cachedPiece 1 1 c0, cachedPiece 1 0 c0, cachedPiece 0 1 c0, cachedPiece 0 0 c0]

/-- The fill. -/
def fill : View.Piece (Elt Ideal) S4x512x128 .bf16 :=
  ⟨Rect.unit (s := S4x512x128) ![0, 0, 0] S4x512x128.size inb_S4x512x128_S4x512x128_0_0_0, k0_pay1 (F := Ideal)⟩

section
variable (c : Dev nD) (i : grid0.Coords) (arg1 : Memref sig .tc .smem S32 .f32) (harg1 : arg1.IsWhole) (arg2 : Memref sig .tc .vmem S16x2048 .f32) (harg2 : arg2.IsWhole) (arg3 : Memref sig .tc .vmem S16x2048 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S16x128 .f32) (harg8 : arg8.IsWhole) (arg9 : Memref sig .tc .vmem S16x128 .f32) (harg9 : arg9.IsWhole) (arg10 : Memref sig .tc .vmem S16x2048 .bf16) (harg10 : arg10.IsWhole) (arg11 : Memref sig .tc .vmem S1x128x256 .f32) (harg11 : arg11.IsWhole) (arg12 : Memref sig .tc .vmem S4x512x128 .bf16) (harg12 : arg12.IsWhole) (arg13 : Memref sig .tc .vmem S4x512x128 .bf16) (harg13 : arg13.IsWhole)
  (x0 : Vec Ideal S32 .f32) (x1 : Vec Ideal S16x2048 .f32) (x2 : Vec Ideal S16x2048 .f32) (x3 : Vec Ideal S16x256 .f32) (x4 : Vec Ideal S16x256 .f32) (x5 : Vec Ideal S1x128x256 .f32) (x6 : Vec Ideal S1x128x256 .f32) (x7 : Vec Ideal S16x128 .f32) (x8 : Vec Ideal S16x128 .f32)

/-- The new keys of a tile, rotated. -/
def roped (cos sin x : Vec Ideal S16x128 .f32) : FVec Ideal S16x128 .f32 :=
  k0_pay8 (k0_pay3 cos) (k0_pay4 sin) x k0_pay5 (k0_pay6 x) (k0_pay7 x)

theorem valueStores_eq :
    valueStores c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8
    = tileStores
        (View.readAt (Elt Ideal) arg7.view (Rect.unit (s := S1x128x256) ![0, 0, 0] S1x128x128.size inb_S1x128x256_S1x128x128_0_0_0).toLoadRect (harg7.unread x6))
        (View.readAt (Elt Ideal) arg7.view (Rect.unit (s := S1x128x256) ![0, 0, 128] S1x128x128.size inb_S1x128x256_S1x128x128_0_0_128).toLoadRect (harg7.unread x6))
        (View.readAt (Elt Ideal) arg5.view (Rect.unit (s := S16x256) ![0, 0] S16x128.size inb_S16x256_S16x128_0_0).toLoadRect (harg5.unread x4))
        (View.readAt (Elt Ideal) arg5.view (Rect.unit (s := S16x256) ![0, 128] S16x128.size inb_S16x256_S16x128_0_128).toLoadRect (harg5.unread x4))
      ++ [fill] := by
  unfold valueStores kernelRun0_A tileStores
  repeat' refine congrArg₂ List.cons ?_ ?_
  all_goals rfl

theorem keyStores_eq :
    keyStores c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8
    = tileStores
        (View.readAt (Elt Ideal) arg6.view (Rect.unit (s := S1x128x256) ![0, 0, 0] S1x128x128.size inb_S1x128x256_S1x128x128_0_0_0).toLoadRect (harg6.unread x5))
        (View.readAt (Elt Ideal) arg6.view (Rect.unit (s := S1x128x256) ![0, 0, 128] S1x128x128.size inb_S1x128x256_S1x128x128_0_0_128).toLoadRect (harg6.unread x5))
        (roped (View.readAt (Elt Ideal) arg8.view (Rect.unit (s := S16x128) ![0, 0] S16x128.size inb_S16x128_S16x128_0_0).toLoadRect (harg8.unread x7))
          (View.readAt (Elt Ideal) arg9.view (Rect.unit (s := S16x128) ![0, 0] S16x128.size inb_S16x128_S16x128_0_0).toLoadRect (harg9.unread x8))
          (View.readAt (Elt Ideal) arg4.view (Rect.unit (s := S16x256) ![0, 0] S16x128.size inb_S16x256_S16x128_0_0).toLoadRect (harg4.unread x3)))
        (roped (View.readAt (Elt Ideal) arg8.view (Rect.unit (s := S16x128) ![0, 0] S16x128.size inb_S16x128_S16x128_0_0).toLoadRect (harg8.unread x7))
          (View.readAt (Elt Ideal) arg9.view (Rect.unit (s := S16x128) ![0, 0] S16x128.size inb_S16x128_S16x128_0_0).toLoadRect (harg9.unread x8))
          (View.readAt (Elt Ideal) arg4.view (Rect.unit (s := S16x256) ![0, 128] S16x128.size inb_S16x256_S16x128_0_128).toLoadRect (harg4.unread x3)))
      ++ [fill] := by
  unfold keyStores kernelRun0_A tileStores
  repeat' refine congrArg₂ List.cons ?_ ?_
  all_goals rfl

end

end Cert.KernelIdeal.RefValue

end
-- ==== Proof.AttScratch.lean ====
/-
  Attention: reading the keys and the values back from scratch.

  The stores of `AttTile` leave `padded`: the 144 rows of a head in the first 64 lanes of the first 256 rows and in the
  last 64 lanes of the last 256 rows, zero elsewhere.
-/
module

public import proofs.«01_k».proof.Proof.AttTile
public import Idealize.ShloMosaic.Lib.Pipeline.CanonAppend

@[expose] public section

set_option maxRecDepth 16384

noncomputable section

open Idealize.ShloMosaic Idealize.ShloMosaic.TcCoe Idealize.SL.Sem
open Idealize.ShloMosaic.Pipeline (Dat)

namespace Cert.KernelIdeal.RefValue

open Cert.KernelIdeal Cert.KernelIdeal.Gen

/-- The 144 rows of head `j`: 128 cached ones, then 16 new ones. Two heads share a tile of 128 lanes. -/
def rowsOf (cached : Fin 2 → Vec Ideal S1x128x128 .f32) (new : Fin 2 → FVec Ideal S16x128 .f32)
    (j : Fin 4) (k : Fin 144) (d : Fin 64) : EReal :=
  if h : k.val < 128 then cached ⟨j.val / 2, by omega⟩ (ix3 (n0 := 1) (n1 := 128) (n2 := 128) 0 ⟨k.val, h⟩ ⟨64 * (j.val % 2) + d.val, by omega⟩)
  else new ⟨j.val / 2, by omega⟩ (ix2 (n0 := 16) (n1 := 128) ⟨k.val - 128, by omega⟩ ⟨64 * (j.val % 2) + d.val, by omega⟩)

/-- The layout over 512 rows of 128 lanes. -/
def padded (key : Fin 4 → Fin 144 → Fin 64 → EReal) (j : Fin 4) (r : Fin 512) (l : Fin 128) : EReal :=
  if h : r.val / 256 = l.val / 64 ∧ r.val % 256 < 144 then key j ⟨r.val % 256, h.2⟩ ⟨l.val % 64, by omega⟩ else 0

/-- The layout as a function of the scratch's index. -/
def paddedAt (key : Fin 4 → Fin 144 → Fin 64 → EReal) (y : S4x512x128.Idx) : Elt Ideal .bf16 :=
  padded key (y 0) (y 1) (y 2)

theorem paddedAt_ix3 (key : Fin 4 → Fin 144 → Fin 64 → EReal) (j : Fin 4) (r : Fin 512) (l : Fin 128) :
    paddedAt key (ix3 (n0 := 4) (n1 := 512) (n2 := 128) j r l) = padded key j r l := rfl

section
variable (cached : Fin 2 → Vec Ideal S1x128x128 .f32) (new : Fin 2 → FVec Ideal S16x128 .f32)

theorem cachedPiece_ok (j : Fin 4) (b : Fin 2) (x : Vec Ideal S1x128x128 .f32) (hx : cached ⟨j.val / 2, by omega⟩ = x) :
    ∀ y : (cachedPiece j b x).1.shape.Idx, (cachedPiece j b x).2 y = paddedAt (rowsOf cached new) ((cachedPiece j b x).1.emb y) := by
  intro y
  obtain ⟨r, l, rfl⟩ : ∃ (r : Fin 128) (l : Fin 128), y = ix3 (n0 := 1) (n1 := 128) (n2 := 128) 0 r l :=
    ⟨y 1, y 2, by
      refine (eq_ix3 (n0 := 1) (n1 := 128) (n2 := 128) y).trans ?_
      exact congrArg (fun u : Fin 1 => ix3 (n0 := 1) (n1 := 128) (n2 := 128) u (y 1) (y 2)) (Subsingleton.elim (α := Fin 1) _ _)⟩
  have e : (cachedPiece j b x).1.emb (ix3 (n0 := 1) (n1 := 128) (n2 := 128) 0 r l)
      = ix3 (n0 := 4) (n1 := 512) (n2 := 128) j ⟨256 * b.val + r.val, by omega⟩ l := by
    funext a
    apply Fin.ext
    fin_cases a
    · show j.val + 1 * 0 = j.val; omega
    · show 256 * b.val + 1 * r.val = 256 * b.val + r.val; omega
    · show 0 + 1 * l.val = l.val; omega
  rw [e]
  refine (cachedPay_apply _ b x r l).trans ?_
  refine Eq.trans ?_ (paddedAt_ix3 _ j _ l).symm
  subst hx
  unfold padded rowsOf
  have hl := l.isLt
  have hr := r.isLt
  have hb := b.isLt
  by_cases hh : b.val = l.val / 64
  · rw [if_pos hh, dif_pos (by constructor <;> (show _ ; simp only; omega)), dif_pos (by simp only; omega)]
    congr 2
    apply Fin.ext
    simp only
    omega
  · rw [if_neg hh, dif_neg (by simp only; omega)]

theorem newPiece_ok (j : Fin 4) (b : Fin 2) (x : FVec Ideal S16x128 .f32) (hx : new ⟨j.val / 2, by omega⟩ = x) :
    ∀ y : (newPiece j b x).1.shape.Idx, (newPiece j b x).2 y = paddedAt (rowsOf cached new) ((newPiece j b x).1.emb y) := by
  intro y
  obtain ⟨r, l, rfl⟩ : ∃ (r : Fin 16) (l : Fin 128), y = ix3 (n0 := 1) (n1 := 16) (n2 := 128) 0 r l :=
    ⟨y 1, y 2, by
      refine (eq_ix3 (n0 := 1) (n1 := 16) (n2 := 128) y).trans ?_
      exact congrArg (fun u : Fin 1 => ix3 (n0 := 1) (n1 := 16) (n2 := 128) u (y 1) (y 2)) (Subsingleton.elim (α := Fin 1) _ _)⟩
  have e : (newPiece j b x).1.emb (ix3 (n0 := 1) (n1 := 16) (n2 := 128) 0 r l)
      = ix3 (n0 := 4) (n1 := 512) (n2 := 128) j ⟨256 * b.val + 128 + r.val, by omega⟩ l := by
    funext a
    apply Fin.ext
    fin_cases a
    · show j.val + 1 * 0 = j.val; omega
    · show 256 * b.val + 128 + 1 * r.val = 256 * b.val + 128 + r.val; omega
    · show 0 + 1 * l.val = l.val; omega
  rw [e]
  refine (newPay_apply _ b x r l).trans ?_
  refine Eq.trans ?_ (paddedAt_ix3 _ j _ l).symm
  subst hx
  unfold padded rowsOf
  have hl := l.isLt
  have hr := r.isLt
  have hb := b.isLt
  by_cases hh : b.val = l.val / 64
  · rw [if_pos hh, dif_pos (by constructor <;> (show _ ; simp only; omega)), dif_neg (by simp only; omega)]
    congr 2
    · apply Fin.ext
      simp only
      omega
  · rw [if_neg hh, dif_neg (by simp only; omega)]

/-- The tile stores by tile number. -/
abbrev stores : List (View.Piece (Elt Ideal) S4x512x128 .bf16) := tileStores (cached 0) (cached 1) (new 0) (new 1)

theorem stores_ok : ∀ p ∈ stores cached new, ∀ y : p.1.shape.Idx, p.2 y = paddedAt (rowsOf cached new) (p.1.emb y) := by
  intro p hp
  simp only [stores, tileStores, List.mem_cons, List.not_mem_nil, or_false] at hp
  rcases hp with rfl | rfl | rfl | rfl | rfl | rfl | rfl | rfl | rfl | rfl | rfl | rfl | rfl | rfl | rfl | rfl
  all_goals first
    | exact cachedPiece_ok cached new _ _ _ rfl
    | exact newPiece_ok cached new _ _ _ rfl

theorem cached_mem (j : Fin 4) (b : Fin 2) : cachedPiece j b (cached ⟨j.val / 2, by omega⟩) ∈ stores cached new := by
  fin_cases j <;> fin_cases b <;> simp [stores, tileStores]

theorem new_mem (j : Fin 4) (b : Fin 2) : newPiece j b (new ⟨j.val / 2, by omega⟩) ∈ stores cached new := by
  fin_cases j <;> fin_cases b <;> simp [stores, tileStores]

/-- At an index that no store of the list covers, the earlier stores are read. -/
theorem canon_append_of_not_mem (L' : List (View.Piece (Elt Ideal) S4x512x128 .bf16)) :
    ∀ (L : List (View.Piece (Elt Ideal) S4x512x128 .bf16)) (y : S4x512x128.Idx), (∀ p ∈ L, y ∉ p.1.set) →
      View.canon (L ++ L') y = View.canon L' y
  | [], _, _ => rfl
  | p :: L, y, h => by
    rw [List.cons_append, View.canon_cons_of_not_mem _ _ (h p (by simp))]
    exact canon_append_of_not_mem L' L y fun q hq => h q (by simp [hq])

/-- What the scratch holds after the stores. -/
theorem canon_stores (j : Fin 4) (r : Fin 512) (l : Fin 128) :
    View.canon (stores cached new ++ [fill]) (ix3 (n0 := 4) (n1 := 512) (n2 := 128) j r l) = padded (rowsOf cached new) j r l := by
  have hr := r.isLt
  have hl := l.isLt
  by_cases hc : ∃ p ∈ stores cached new, ix3 (n0 := 4) (n1 := 512) (n2 := 128) j r l ∈ p.1.set
  · exact View.canon_append_of_pieces (paddedAt (rowsOf cached new)) [fill] _ (stores_ok cached new) _ hc
  · have hn : ¬ r.val % 256 < 144 := by
      intro h
      apply hc
      by_cases h1 : r.val % 256 < 128
      · refine ⟨_, cached_mem cached new j ⟨r.val / 256, by omega⟩, ?_⟩
        refine (Rect.mem_set_unit (inb := inb_cached _ _)).mpr fun a => ?_
        fin_cases a
        · show j.val ≤ j.val ∧ j.val < j.val + 1; omega
        · show 256 * (r.val / 256) ≤ r.val ∧ r.val < 256 * (r.val / 256) + 128; omega
        · show 0 ≤ l.val ∧ l.val < 0 + 128; omega
      · refine ⟨_, new_mem cached new j ⟨r.val / 256, by omega⟩, ?_⟩
        refine (Rect.mem_set_unit (inb := inb_new _ _)).mpr fun a => ?_
        fin_cases a
        · show j.val ≤ j.val ∧ j.val < j.val + 1; omega
        · show 256 * (r.val / 256) + 128 ≤ r.val ∧ r.val < 256 * (r.val / 256) + 128 + 16; omega
        · show 0 ≤ l.val ∧ l.val < 0 + 128; omega
    rw [canon_append_of_not_mem _ _ _ fun p hp hm => hc ⟨p, hp, hm⟩]
    unfold padded
    rw [dif_neg (fun h => hn h.2)]
    have e : ix3 (n0 := 4) (n1 := 512) (n2 := 128) j r l = fill.1.emb (ix3 (n0 := 4) (n1 := 512) (n2 := 128) j r l) := by
      funext a
      apply Fin.ext
      fin_cases a
      · show j.val = 0 + 1 * j.val; omega
      · show r.val = 0 + 1 * r.val; omega
      · show l.val = 0 + 1 * l.val; omega
    rw [e]
    refine (View.canon_cons_emb fill.1 fill.2 [] (ix3 (n0 := 4) (n1 := 512) (n2 := 128) j r l)).trans ?_
    show k0_pay1 (F := Ideal) (ix3 (n0 := 4) (n1 := 512) (n2 := 128) j r l) = (0 : EReal)
    pointwise [k0_pay1]

/-- The same, of the box of one head. -/
theorem readCov_stores {κ : Kind} {sp : Space} (v : View sig κ sp S4x512x128 .bf16) (L : List (View.Piece (Elt Ideal) S4x512x128 .bf16))
    (hL : L = stores cached new ++ [fill]) (j : Fin 4) (r : Fin 512) (l : Fin 128) :
    v.readCov L (Rect.unit (s := S4x512x128) ![j.val, 0, 0] S1x512x128.size (inb_head j)).toLoadRect (ix3 (n0 := 1) (n1 := 512) (n2 := 128) 0 r l)
      = padded (rowsOf cached new) j r l := by
  subst hL
  rw [View.readCov_eq_canon', ← canon_stores cached new j r l]
  show View.canon _ _ = View.canon _ _
  congr 1
  funext a
  apply Fin.ext
  fin_cases a
  · show j.val + 1 * 0 = j.val; omega
  · show 0 + 1 * r.val = r.val; omega
  · show 0 + 1 * l.val = l.val; omega

end

end Cert.KernelIdeal.RefValue

end
-- ==== Proof.AttMath.lean ====
/-
  Attention over the extended reals: one head's softmax with a sink, and the same computed over padded rows.

  `headOut` is the head's result as the mathematics has it. `padded_head` says that the sum over 256 rows of which 112 are
  masked, divided once at the end by multiplying with the reciprocal, is the same, when the scores and the sink are finite.
-/
module

public import Idealize.ShloMosaic.Lib.IdealHost
public import Idealize.ShloMosaic.Lib.Pointwise

@[expose] public section

noncomputable section

open Idealize.ShloMosaic

namespace Cert.AttMath

/-- A finite extended real. -/
def IsReal (x : EReal) : Prop := ∃ r : ℝ, (r : EReal) = x

theorem IsReal.add {x y : EReal} (hx : IsReal x) (hy : IsReal y) : IsReal (x + y) := by
  obtain ⟨a, rfl⟩ := hx; obtain ⟨b, rfl⟩ := hy
  exact ⟨a + b, by push_cast; rfl⟩

theorem IsReal.sub {x y : EReal} (hx : IsReal x) (hy : IsReal y) : IsReal (x - y) := by
  obtain ⟨a, rfl⟩ := hx; obtain ⟨b, rfl⟩ := hy
  exact ⟨a - b, by push_cast; rfl⟩

theorem IsReal.mul {x y : EReal} (hx : IsReal x) (hy : IsReal y) : IsReal (x * y) := by
  obtain ⟨a, rfl⟩ := hx; obtain ⟨b, rfl⟩ := hy
  exact ⟨a * b, by push_cast; rfl⟩

theorem IsReal.neg {x : EReal} (hx : IsReal x) : IsReal (-x) := by
  obtain ⟨a, rfl⟩ := hx
  exact ⟨-a, by push_cast; rfl⟩

theorem IsReal.max {x y : EReal} (hx : IsReal x) (hy : IsReal y) : IsReal (max x y) := by
  rcases max_choice x y with h | h <;> rw [h] <;> assumption

theorem IsReal.zero : IsReal 0 := ⟨0, by push_cast; rfl⟩

theorem IsReal.sum {ι : Type} (s : Finset ι) (f : ι → EReal) (h : ∀ i ∈ s, IsReal (f i)) : IsReal (∑ i ∈ s, f i) := by
  classical
  induction s using Finset.induction_on with
  | empty => simpa using IsReal.zero
  | insert i s hi ih =>
    rw [Finset.sum_insert hi]
    exact (h i (by simp)).add (ih fun j hj => h j (by simp [hj]))

theorem IsReal.ne_top {x : EReal} (hx : IsReal x) : x ≠ ⊤ := by obtain ⟨a, rfl⟩ := hx; exact EReal.coe_ne_top a
theorem IsReal.ne_bot {x : EReal} (hx : IsReal x) : x ≠ ⊥ := by obtain ⟨a, rfl⟩ := hx; exact EReal.coe_ne_bot a

/-- Finite: neither infinity. -/
theorem isReal_of_ne {x : EReal} (h1 : x ≠ ⊤) (h2 : x ≠ ⊥) : IsReal x := ⟨x.toReal, EReal.coe_toReal h1 h2⟩

theorem isReal_exp {x : EReal} (hx : IsReal x) : ∃ r : ℝ, 0 < r ∧ (r : EReal) = Ideal.exp x := by
  obtain ⟨a, rfl⟩ := hx
  exact ⟨Real.exp a, Real.exp_pos a, rfl⟩

/-- A maximum of finitely many finite numbers with one more is finite. -/
theorem isReal_top {n : ℕ} (s : Fin n → EReal) (a : EReal) (hs : ∀ k, IsReal (s k)) (ha : IsReal a) :
    IsReal (max (Finset.univ.fold max ⊥ s) a) := by
  refine isReal_of_ne ?_ ?_
  · intro h
    rcases max_choice (Finset.univ.fold max ⊥ s) a with h' | h'
    · rw [h'] at h
      have : ∀ t : Finset (Fin n), t.fold max ⊥ s ≠ ⊤ := by
        intro t
        induction t using Finset.induction_on with
        | empty => simp
        | insert i t hi ih =>
          rw [Finset.fold_insert hi]
          rcases max_choice (s i) (t.fold max ⊥ s) with h2 | h2 <;> rw [h2]
          · exact (hs i).ne_top
          · exact ih
      exact this _ h
    · rw [h'] at h
      exact ha.ne_top h
  · intro h
    exact ha.ne_bot (le_bot_iff.mp (h ▸ le_max_right _ _))

/-- A positive finite factor distributes over any sum. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert i s hi ih =>
    rw [Finset.sum_insert hi, Finset.sum_insert hi, ← ih]
    exact EReal.right_distrib_of_nonneg_of_ne_top (EReal.coe_nonneg.mpr hc) (EReal.coe_ne_top c) _ _

/-- The head's scores, scaled by `c`. -/
def score (c : EReal) (q : Fin 64 → EReal) (key : Fin 144 → Fin 64 → EReal) (k : Fin 144) : EReal := (∑ d, q d * key k d) * c

/-- The largest score, or the sink. -/
def peak (s : Fin 144 → EReal) (a : EReal) : EReal := max (Finset.univ.fold max ⊥ s) a

/-- The softmax's denominator. -/
def denom (s : Fin 144 → EReal) (a : EReal) : EReal := (∑ k, Ideal.exp (s k - peak s a)) + Ideal.exp (a - peak s a)

/-- The weighted sum of the values. -/
def attend (s : Fin 144 → EReal) (a : EReal) (v : Fin 144 → EReal) : EReal :=
  ∑ k, Ideal.div (Ideal.exp (s k - peak s a)) (denom s a) * v k

/-- The masked scores: 256 rows, the last 112 at −∞. -/
def masked (s : Fin 144 → EReal) (x : Fin 256) : EReal := if h : x.val < 144 then s ⟨x.val, h⟩ else ⊥

/-- A sum over the 256 rows whose last 112 terms vanish. -/
theorem sum_masked (f : Fin 256 → EReal) (g : Fin 144 → EReal) (h1 : ∀ k : Fin 144, f ⟨k.val, by omega⟩ = g k)
    (h2 : ∀ x : Fin 256, ¬ x.val < 144 → f x = 0) : ∑ x, f x = ∑ k, g k := by
  symm
  refine Finset.sum_of_injOn (fun k : Fin 144 => (⟨k.val, by omega⟩ : Fin 256)) ?_ ?_ ?_ ?_
  · intro a _ b _ h
    exact Fin.ext (by simpa using h)
  · intro a _; simp
  · intro x _ hx
    refine h2 x fun h => hx ⟨⟨x.val, h⟩, by simp, rfl⟩
  · intro k _
    exact (h1 k).symm

theorem fold_masked (s : Fin 144 → EReal) : Finset.univ.fold max ⊥ (masked s) = Finset.univ.fold max ⊥ s := by
  have h1 : Finset.univ.fold max ⊥ (masked s) = Finset.univ.sup (masked s) := rfl
  have h2 : Finset.univ.fold max ⊥ s = Finset.univ.sup s := rfl
  rw [h1, h2]
  refine le_antisymm (Finset.sup_le fun x _ => ?_) (Finset.sup_le fun k _ => ?_)
  · unfold masked
    split_ifs with h
    · exact Finset.le_sup (f := s) (Finset.mem_univ _)
    · exact bot_le
  · refine le_trans (le_of_eq ?_) (Finset.le_sup (f := masked s) (Finset.mem_univ (⟨k.val, by omega⟩ : Fin 256)))
    unfold masked
    rw [dif_pos k.isLt]

theorem exp_masked (s : Fin 144 → EReal) (M : EReal) (x : Fin 256) (h : ¬ x.val < 144) :
    Ideal.exp (masked s x - M) = 0 := by
  unfold masked
  rw [dif_neg h, sub_eq_add_neg, EReal.bot_add]
  rfl

theorem denom_masked (s : Fin 144 → EReal) (a : EReal) :
    (∑ x, Ideal.exp (masked s x - max (Finset.univ.fold max ⊥ (masked s)) a)) + Ideal.exp (a - max (Finset.univ.fold max ⊥ (masked s)) a)
      = denom s a := by
  rw [fold_masked]
  unfold denom peak
  congr 1
  refine sum_masked _ _ (fun k => ?_) (fun x h => exp_masked s _ x h)
  unfold masked
  rw [dif_pos k.isLt]

theorem denom_pos (s : Fin 144 → EReal) (a : EReal) (hs : ∀ k, IsReal (s k)) (ha : IsReal a) : ∃ r : ℝ, 0 < r ∧ (r : EReal) = denom s a := by
  have hM : IsReal (peak s a) := isReal_top s a hs ha
  choose e he0 he using fun k => isReal_exp ((hs k).sub hM)
  obtain ⟨b, hb0, hb⟩ := isReal_exp (ha.sub hM)
  refine ⟨(∑ k, e k) + b, add_pos_of_nonneg_of_pos (Finset.sum_nonneg fun k _ => (he0 k).le) hb0, ?_⟩
  unfold denom
  rw [← hb, EReal.coe_add]
  congr 1
  have hsum : ∀ t : Finset (Fin 144), ((∑ k ∈ t, e k : ℝ) : EReal) = ∑ k ∈ t, Ideal.exp (s k - peak s a) := by
    intro t
    induction t using Finset.induction_on with
    | empty => simp
    | insert i t hi ih => rw [Finset.sum_insert hi, Finset.sum_insert hi, EReal.coe_add, ih, he]
  exact hsum _

/-- Dividing once at the end, by the reciprocal, is dividing every weight. -/
theorem attend_eq (s : Fin 144 → EReal) (a : EReal) (v : Fin 144 → EReal) (hs : ∀ k, IsReal (s k)) (ha : IsReal a) :
    (∑ k, Ideal.exp (s k - peak s a) * v k) * Ideal.div 1 (denom s a) = attend s a v := by
  obtain ⟨r, hr, hd⟩ := denom_pos s a hs ha
  have hne : denom s a ≠ 0 := by rw [← hd]; exact_mod_cast hr.ne'
  have hinv : Ideal.div 1 (denom s a) = ((r⁻¹ : ℝ) : EReal) := by
    unfold Ideal.div
    rw [if_neg hne, one_mul, ← hd]
    rfl
  unfold attend
  rw [hinv, sum_mul_real _ _ _ (inv_nonneg.mpr hr.le)]
  refine Finset.sum_congr rfl fun k _ => ?_
  rw [← Ideal.mul_one_div hne, hinv, mul_right_comm]

/-- The kernel's form: 256 rows, the weights undivided, the reciprocal at the end. -/
theorem attend_masked (s : Fin 144 → EReal) (a : EReal) (v : Fin 144 → EReal) (w : Fin 256 → EReal)
    (hw : ∀ k : Fin 144, w ⟨k.val, by omega⟩ = v k) (hs : ∀ k, IsReal (s k)) (ha : IsReal a) :
    (∑ x, Ideal.exp (masked s x - max (Finset.univ.fold max ⊥ (masked s)) a) * w x)
        * Ideal.div 1 ((∑ x, Ideal.exp (masked s x - max (Finset.univ.fold max ⊥ (masked s)) a)) + Ideal.exp (a - max (Finset.univ.fold max ⊥ (masked s)) a))
      = attend s a v := by
  rw [denom_masked, fold_masked, ← attend_eq s a v hs ha]
  congr 1
  refine sum_masked _ _ (fun k => ?_) (fun x h => ?_)
  · rw [hw]
    unfold masked peak
    rw [dif_pos k.isLt]
  · rw [exp_masked s _ x h, zero_mul]

end Cert.AttMath

end
-- ==== Proof.AttPair.lean ====
/-
  Attention: what the body stores for one pair of heads, entry by entry.

  With the keys and the values laid out as in `AttScratch`, every entry is one head's softmax-weighted sum, gated: lanes 0
  to 63 hold the pair's first head, lanes 64 to 127 its second.
-/
module

public import proofs.«01_k».proof.Proof.AttScratch
public import proofs.«01_k».proof.Proof.AttMath

@[expose] public section

set_option maxRecDepth 16384

noncomputable section

open Idealize.ShloMosaic Idealize.ShloMosaic.TcCoe Idealize.SL.Sem
open Idealize.ShloMosaic.Pipeline (Dat)

namespace Cert.KernelIdeal.RefValue

open Cert.KernelIdeal Cert.KernelIdeal.Gen Cert.AttMath

/-- The lane's place within its head: whether it lies in the head's first half. -/
theorem half_bit : ∀ x : Fin 128,
    IntOp.cmpi .slt (Scalar.select (IntOp.andi (IntOp.xori (IntOp.cmpi .slt (IntOp.remsi ArithUnit.vector (BitVec.ofNat 32 x.val) (Scalar.select (Scalar.cmpi .eq 64#32 0#32) 1#32 64#32)) 0#32) (Scalar.cmpi .slt (Scalar.select (Scalar.cmpi .eq 64#32 0#32) 1#32 64#32) 0#32)) (IntOp.cmpi .ne (IntOp.remsi ArithUnit.vector (BitVec.ofNat 32 x.val) (Scalar.select (Scalar.cmpi .eq 64#32 0#32) 1#32 64#32)) 0#32)) (IntOp.addi (IntOp.remsi ArithUnit.vector (BitVec.ofNat 32 x.val) (Scalar.select (Scalar.cmpi .eq 64#32 0#32) 1#32 64#32)) (Scalar.select (Scalar.cmpi .eq 64#32 0#32) 1#32 64#32)) (IntOp.remsi ArithUnit.vector (BitVec.ofNat 32 x.val) (Scalar.select (Scalar.cmpi .eq 64#32 0#32) 1#32 64#32))) 32#32
      = if x.val % 64 < 32 then 1#1 else 0#1 := by
  decide +kernel

/-- The score column's place among its head's 256 columns: whether it is one of the 144 keys. -/
theorem key_bit : ∀ x : Fin 256,
    IntOp.cmpi .slt (Scalar.select (IntOp.andi (IntOp.xori (IntOp.cmpi .slt (IntOp.remsi ArithUnit.vector (BitVec.ofNat 32 x.val) (Scalar.select (Scalar.cmpi .eq 256#32 0#32) 1#32 256#32)) 0#32) (Scalar.cmpi .slt (Scalar.select (Scalar.cmpi .eq 256#32 0#32) 1#32 256#32) 0#32)) (IntOp.cmpi .ne (IntOp.remsi ArithUnit.vector (BitVec.ofNat 32 x.val) (Scalar.select (Scalar.cmpi .eq 256#32 0#32) 1#32 256#32)) 0#32)) (IntOp.addi (IntOp.remsi ArithUnit.vector (BitVec.ofNat 32 x.val) (Scalar.select (Scalar.cmpi .eq 256#32 0#32) 1#32 256#32)) (Scalar.select (Scalar.cmpi .eq 256#32 0#32) 1#32 256#32)) (IntOp.remsi ArithUnit.vector (BitVec.ofNat 32 x.val) (Scalar.select (Scalar.cmpi .eq 256#32 0#32) 1#32 256#32))) 144#32
      = if x.val < 144 then 1#1 else 0#1 := by
  decide +kernel

theorem key_bit2 : ∀ x : Fin 256,
    IntOp.cmpi .slt (Scalar.select (IntOp.andi (IntOp.xori (IntOp.cmpi .slt (IntOp.remsi ArithUnit.vector (BitVec.ofNat 32 (256 + x.val)) (Scalar.select (Scalar.cmpi .eq 256#32 0#32) 1#32 256#32)) 0#32) (Scalar.cmpi .slt (Scalar.select (Scalar.cmpi .eq 256#32 0#32) 1#32 256#32) 0#32)) (IntOp.cmpi .ne (IntOp.remsi ArithUnit.vector (BitVec.ofNat 32 (256 + x.val)) (Scalar.select (Scalar.cmpi .eq 256#32 0#32) 1#32 256#32)) 0#32)) (IntOp.addi (IntOp.remsi ArithUnit.vector (BitVec.ofNat 32 (256 + x.val)) (Scalar.select (Scalar.cmpi .eq 256#32 0#32) 1#32 256#32)) (Scalar.select (Scalar.cmpi .eq 256#32 0#32) 1#32 256#32)) (IntOp.remsi ArithUnit.vector (BitVec.ofNat 32 (256 + x.val)) (Scalar.select (Scalar.cmpi .eq 256#32 0#32) 1#32 256#32))) 144#32
      = if x.val < 144 then 1#1 else 0#1 := by
  decide +kernel

theorem select_ite {α : Type} (p : Prop) [Decidable p] (a b : α) :
    Scalar.select (if p then 1#1 else 0#1) a b = if p then a else b := by
  by_cases h : p <;> simp [Scalar.select, h]

theorem bot_bits : Ideal.ofBits .f32 4286578688#32 = ⊥ := by simp [Ideal.ofBits, Ideal.ieee]

/-- One eighth, the scale of the scores. -/
def eighth : EReal := ((1 / 8 : ℝ) : EReal)

theorem eighth_bits : Ideal.ofBits .f32 1040187392#32 = eighth := by
  unfold eighth
  simp [Ideal.ofBits, Ideal.ieee, -EReal.coe_mul]; norm_num

/-- A row of 128 lanes, two heads, rotated: each head's two halves of 32 lanes change places under the sine. -/
def rot (cos sin q : Vec Ideal S16x128 .f32) (r : Fin 16) (x : Fin 128) : EReal :=
  q (ix2 (n0 := 16) (n1 := 128) r x) * cos (ix2 (n0 := 16) (n1 := 128) r x)
    + (if x.val % 64 < 32 then q (ix2 (n0 := 16) (n1 := 128) r ⟨(x.val + 128 - 96) % 128, by omega⟩) else q (ix2 (n0 := 16) (n1 := 128) r ⟨(x.val + 128 - 32) % 128, by omega⟩))
      * sin (ix2 (n0 := 16) (n1 := 128) r x)

theorem roped_apply (cos sin q : Vec Ideal S16x128 .f32) (r : Fin 16) (x : Fin 128) :
    roped cos sin q (ix2 (n0 := 16) (n1 := 128) r x) = rot cos sin q r x := by
  unfold roped rot
  pointwise [k0_pay8, k0_pay3, k0_pay4, k0_pay5, k0_pay6, k0_pay7]
  rw [half_bit x, select_ite]

theorem pairScores_apply (cos sin q : Vec Ideal S16x128 .f32) (k2 : Vec Ideal S1x512x128 .bf16) (r : Fin 16) (n : Fin 512) :
    pairScores cos sin q k2 (ix2 (n0 := 16) (n1 := 512) r n)
      = ∑ x : Fin 128, rot cos sin q r x * eighth * k2 (ix3 (n0 := 1) (n1 := 512) (n2 := 128) 0 n x) := by
  unfold pairScores
  pointwise [k0_pay93, k0_pay3, k0_pay4]
  rw [eighth_bits]
  refine Finset.sum_congr rfl fun x _ => ?_
  rw [half_bit x, select_ite]
  rfl

/-- One head's columns of the pair's product. -/
theorem pairScores_head (cos sin q : Vec Ideal S16x128 .f32) (k2 : Vec Ideal S1x512x128 .bf16)
    (key : Fin 4 → Fin 144 → Fin 64 → EReal) (j : Fin 4) (hk : ∀ (n : Fin 512) (x : Fin 128), k2 (ix3 (n0 := 1) (n1 := 512) (n2 := 128) 0 n x) = padded key j n x)
    (r : Fin 16) (b : Fin 2) (k : Fin 144) :
    pairScores cos sin q k2 (ix2 (n0 := 16) (n1 := 512) r ⟨256 * b.val + k.val, by omega⟩)
      = score eighth (fun d => rot cos sin q r ⟨64 * b.val + d.val, by omega⟩) (key j) k := by
  rw [pairScores_apply]
  unfold score eighth
  rw [sum_mul_real _ _ _ (by norm_num)]
  symm
  refine Finset.sum_of_injOn (fun d : Fin 64 => (⟨64 * b.val + d.val, by omega⟩ : Fin 128)) ?_ ?_ ?_ ?_
  · intro a _ c _ h
    have := congrArg Fin.val h
    simp only at this
    exact Fin.ext (by omega)
  · intro a _; simp
  · intro x _ hx
    rw [hk]
    unfold padded
    rw [dif_neg, mul_zero]
    rintro ⟨h, -⟩
    simp only at h
    refine hx ⟨⟨x.val % 64, by omega⟩, by simp, Fin.ext ?_⟩
    simp only
    omega
  · intro d _
    rw [hk]
    unfold padded
    rw [dif_pos (by simp only; omega), mul_right_comm]
    congr 2
    · exact Fin.ext (by simp only; omega)
    · exact Fin.ext (by simp only; omega)

theorem scores1_apply (s : FVec Ideal S16x512 .f32) (r : Fin 16) (g : Fin 144 → EReal)
    (hg : ∀ k : Fin 144, s (ix2 (n0 := 16) (n1 := 512) r ⟨256 * (0 : Fin 2).val + k.val, by show 256 * 0 + k.val < 512; omega⟩) = g k) (x : Fin 256) :
    scores1 s (ix2 (n0 := 16) (n1 := 256) r x) = masked g x := by
  unfold scores1 masked
  pointwise [k0_pay108, k0_pay89, k0_pay90, k0_pay92]
  rw [key_bit x, select_ite, bot_bits]
  by_cases h : x.val < 144
  · rw [if_pos h, dif_pos h, ← hg]
    exact congrArg (fun u => s (ix2 (n0 := 16) (n1 := 512) r u)) (Fin.ext (by show x.val = 256 * 0 + x.val; omega))
  · rw [if_neg h, dif_neg h]

theorem scores2_apply (s : FVec Ideal S16x512 .f32) (r : Fin 16) (g : Fin 144 → EReal)
    (hg : ∀ k : Fin 144, s (ix2 (n0 := 16) (n1 := 512) r ⟨256 * (1 : Fin 2).val + k.val, by show 256 * 1 + k.val < 512; omega⟩) = g k) (x : Fin 256) :
    scores2 s (ix2 (n0 := 16) (n1 := 256) r x) = masked g x := by
  unfold scores2 masked
  pointwise [k0_pay109, k0_pay89, k0_pay90, k0_pay92]
  rw [key_bit2 x, select_ite, bot_bits]
  by_cases h : x.val < 144
  · rw [if_pos h, dif_pos h, ← hg]
    exact congrArg (fun u => s (ix2 (n0 := 16) (n1 := 512) r u)) (Fin.ext (by show 256 + x.val = 256 * 1 + x.val; omega))
  · rw [if_neg h, dif_neg h]

/-- The exponential of a masked score less the largest. -/
def weight (g : Fin 144 → EReal) (a : EReal) (x : Fin 256) : EReal :=
  Ideal.exp (masked g x - max (Finset.univ.fold max ⊥ (masked g)) a)

/-- One over the sum of the exponentials and the sink's. -/
def invDen (g : Fin 144 → EReal) (a : EReal) : EReal :=
  Ideal.div 1 ((∑ x, Ideal.exp (masked g x - max (Finset.univ.fold max ⊥ (masked g)) a)) + Ideal.exp (a - max (Finset.univ.fold max ⊥ (masked g)) a))

section
variable (s : FVec Ideal S16x512 .f32) (a b : Elt Ideal .f32) (r : Fin 16) (g : Fin 2 → Fin 144 → EReal)
  (hg : ∀ (e : Fin 2) (k : Fin 144), s (ix2 (n0 := 16) (n1 := 512) r ⟨256 * e.val + k.val, by omega⟩) = g e k)
include hg

theorem pairProbs_apply (e : Fin 2) (x : Fin 256) :
    pairProbs s a b (ix2 (n0 := 16) (n1 := 512) r ⟨256 * e.val + x.val, by omega⟩) = weight (g e) (if e.val = 0 then a else b) x := by
  unfold pairProbs weight
  pointwise [k0_pay132, k0_pay124, k0_pay125, k0_pay116, k0_pay117]
  simp only [scores1_apply s r (g 0) (hg 0), scores2_apply s r (g 1) (hg 1), bot_bits]
  have hx := x.isLt
  obtain rfl | rfl : e = 0 ∨ e = 1 := by omega
  · rw [dif_pos (by show 256 * 0 + x.val < 256; omega)]
    refine congrArg₂ (fun u v => Ideal.exp (masked (g 0) u - max (Finset.univ.fold max ⊥ (masked (g 0))) v)) (Fin.ext ?_) (if_pos rfl).symm
    show 256 * 0 + x.val = x.val; omega
  · rw [dif_neg (by show ¬ 256 * 1 + x.val < 256; omega)]
    refine congrArg₂ (fun u v => Ideal.exp (masked (g 1) u - max (Finset.univ.fold max ⊥ (masked (g 1))) v)) (Fin.ext ?_) (if_neg (by show ¬ 1 = 0; omega)).symm
    show 256 * 1 + x.val - 256 = x.val; omega

theorem pairInv_apply (l : Fin 128) :
    pairInv s a b (ix2 (n0 := 16) (n1 := 128) r l) = if l.val < 64 then invDen (g 0) a else invDen (g 1) b := by
  unfold pairInv invDen
  pointwise [k0_pay141, k0_pay91, k0_pay136, k0_pay137, k0_pay124, k0_pay125, k0_pay116, k0_pay117]
  simp only [scores1_apply s r (g 0) (hg 0), scores2_apply s r (g 1) (hg 1), bot_bits]
  rw [select_lane]

end

/-- The gate. -/
def gate (z : EReal) : EReal := z * Ideal.div 1 (1 + Ideal.exp (0 - z))

/-- One lane of the product with the values meets one head's 256 rows only. -/
theorem sum_half (P : FVec Ideal S16x512 .bf16) (v2 : Vec Ideal S1x512x128 .bf16) (val : Fin 4 → Fin 144 → Fin 64 → EReal) (j : Fin 4)
    (hv : ∀ (n : Fin 512) (x : Fin 128), v2 (ix3 (n0 := 1) (n1 := 512) (n2 := 128) 0 n x) = padded val j n x)
    (r : Fin 16) (l : Fin 128) (e : Fin 2) (he : e.val = l.val / 64) (w : Fin 256 → EReal)
    (hw : ∀ x : Fin 256, P (ix2 (n0 := 16) (n1 := 512) r ⟨256 * e.val + x.val, by omega⟩) = w x) :
    ∑ n : Fin 512, P (ix2 (n0 := 16) (n1 := 512) r n) * v2 (ix3 (n0 := 1) (n1 := 512) (n2 := 128) 0 n l)
      = ∑ x : Fin 256, w x * padded val j ⟨256 * e.val + x.val, by omega⟩ l := by
  symm
  refine Finset.sum_of_injOn (fun d : Fin 256 => (⟨256 * e.val + d.val, by omega⟩ : Fin 512)) ?_ ?_ ?_ ?_
  · intro a _ c _ h
    have := congrArg Fin.val h
    simp only at this
    exact Fin.ext (by omega)
  · intro a _; simp
  · intro x _ hx
    rw [hv]
    unfold padded
    rw [dif_neg, mul_zero]
    rintro ⟨h, -⟩
    refine hx ⟨⟨x.val % 256, by omega⟩, by simp, Fin.ext ?_⟩
    simp only
    omega
  · intro d _
    rw [hv, ← hw]

/-- One head's result: the attention over its scores, gated. -/
def headOut (q : Fin 64 → EReal) (key : Fin 144 → Fin 64 → EReal) (val : Fin 144 → EReal) (a z : EReal) : EReal :=
  attend (score eighth q key) a val * gate z

theorem pairOut_apply (cos sin q z : Vec Ideal S16x128 .f32) (k2 v2 : Vec Ideal S1x512x128 .bf16) (a b : Elt Ideal .f32)
    (key val : Fin 4 → Fin 144 → Fin 64 → EReal) (j : Fin 4)
    (hk : ∀ (n : Fin 512) (x : Fin 128), k2 (ix3 (n0 := 1) (n1 := 512) (n2 := 128) 0 n x) = padded key j n x)
    (hv : ∀ (n : Fin 512) (x : Fin 128), v2 (ix3 (n0 := 1) (n1 := 512) (n2 := 128) 0 n x) = padded val j n x)
    (r : Fin 16) (hq : ∀ x, IsReal (rot cos sin q r x)) (hkey : ∀ k d, IsReal (key j k d)) (ha : IsReal a) (hb : IsReal b) (l : Fin 128) :
    pairOut cos sin q z k2 v2 a b (ix2 (n0 := 16) (n1 := 128) r l)
      = headOut (fun d => rot cos sin q r ⟨64 * (l.val / 64) + d.val, by omega⟩) (key j) (fun k => val j k ⟨l.val % 64, by omega⟩)
          (if l.val < 64 then a else b) (z (ix2 (n0 := 16) (n1 := 128) r l)) := by
  have hl := l.isLt
  unfold pairOut headOut gate
  pointwise [k0_pay145]
  congr 1
  rw [pairInv_apply _ a b r (fun e => score eighth (fun d => rot cos sin q r ⟨64 * e.val + d.val, by omega⟩) (key j))
      (fun e k => pairScores_head cos sin q k2 key j hk r e k) l,
    sum_half _ v2 val j hv r l ⟨l.val / 64, by omega⟩ rfl _
      (fun x => pairProbs_apply _ a b r (fun e => score eighth (fun d => rot cos sin q r ⟨64 * e.val + d.val, by omega⟩) (key j))
        (fun e k => pairScores_head cos sin q k2 key j hk r e k) _ x)]
  have hs : ∀ (e : Fin 2) (k : Fin 144), IsReal (score eighth (fun d => rot cos sin q r ⟨64 * e.val + d.val, by omega⟩) (key j) k) := fun e k =>
    (IsReal.sum _ _ fun d _ => (hq _).mul (hkey k d)).mul ⟨_, rfl⟩
  have hw : ∀ k : Fin 144, padded val j ⟨256 * (l.val / 64) + k.val, by omega⟩ l = val j k ⟨l.val % 64, by omega⟩ := by
    intro k
    unfold padded
    rw [dif_pos (by simp only; omega)]
    congr 1
    exact Fin.ext (by simp only; omega)
  by_cases h : l.val < 64
  · have he : l.val / 64 = 0 := by omega
    rw [if_pos h, if_pos h, if_pos he]
    refine Eq.trans ?_ (attend_masked _ a _ (fun x => padded val j ⟨256 * (l.val / 64) + x.val, by omega⟩ l) hw (hs ⟨l.val / 64, by omega⟩) ha)
    have e0 : (0 : Fin 2) = ⟨l.val / 64, by omega⟩ := Fin.ext he.symm
    rw [e0]
    rfl
  · have he : l.val / 64 = 1 := by omega
    rw [if_neg h, if_neg h, if_neg (by simp only; omega)]
    refine Eq.trans ?_ (attend_masked _ b _ (fun x => padded val j ⟨256 * (l.val / 64) + x.val, by omega⟩ l) hw (hs ⟨l.val / 64, by omega⟩) hb)
    have e0 : (1 : Fin 2) = ⟨l.val / 64, by omega⟩ := Fin.ext he.symm
    rw [e0]
    rfl

end Cert.KernelIdeal.RefValue

end
-- ==== Proof.AttRope.lean ====
/-
  Attention: the rotary position embedding.

  The kernel's host code makes tables of cosines and signed sines over 128 lanes; with them the rotation of a row of two
  heads is, head by head, the textbook one, `rope`.
-/
module

public import proofs.«01_k».proof.Proof.AttPair

@[expose] public section

set_option maxRecDepth 16384

noncomputable section

open Idealize.ShloMosaic Idealize.ShloMosaic.TcCoe Idealize.SL.Sem
open Idealize.ShloMosaic.Pipeline (Dat)

namespace Cert.KernelIdeal.RefValue

open Cert.KernelIdeal Cert.KernelIdeal.Gen Cert.AttMath

/-- The angle at position `2048 + t`, frequency `i`. -/
def ang (t : Fin 16) (i : Fin 32) : EReal :=
  FloatOps.sitofp (F := Ideal) FTy.f32 (IntOp.addi (2048#32) (BitVec.ofNat 32 t.val)) *
    Ideal.pow (Ideal.ofBits FTy.f32 1176256512#32)
      (Ideal.div (-FloatOps.sitofp (F := Ideal) FTy.f32 (BitVec.ofNat 32 i.val)) (Ideal.ofBits FTy.f32 1107296256#32))

theorem isReal_ang (t : Fin 16) (i : Fin 32) : IsReal (ang t i) := by
  unfold ang
  have h1 : Ideal.ofBits FTy.f32 1176256512#32 = ((10000 : ℝ) : EReal) := by
    simp [Ideal.ofBits, Ideal.ieee, -EReal.coe_mul]; norm_num
  have h2 : Ideal.ofBits FTy.f32 1107296256#32 = ((32 : ℝ) : EReal) := by
    simp [Ideal.ofBits, Ideal.ieee, -EReal.coe_mul]; norm_num
  have hs : ∀ n : BitVec 32, IsReal (FloatOps.sitofp (F := Ideal) FTy.f32 n) := fun n => ⟨_, rfl⟩
  refine (hs _).mul ?_
  rw [h1, h2]
  obtain ⟨r, hr⟩ := (hs (BitVec.ofNat 32 i.val)).neg
  rw [← hr]
  unfold Ideal.div
  rw [if_neg (by exact_mod_cast (by norm_num : (32 : ℝ) ≠ 0))]
  exact ⟨_, rfl⟩

theorem isReal_cos {x : EReal} (h : IsReal x) : IsReal (Ideal.cos x) := by obtain ⟨r, rfl⟩ := h; exact ⟨_, rfl⟩
theorem isReal_sin {x : EReal} (h : IsReal x) : IsReal (Ideal.sin x) := by obtain ⟨r, rfl⟩ := h; exact ⟨_, rfl⟩

/-- One head's 64 entries at position `2048 + t`, rotated. -/
def rope (f : Fin 64 → EReal) (t : Fin 16) (d : Fin 64) : EReal :=
  if h : d.val < 32 then f d * Ideal.cos (ang t ⟨d.val, h⟩) - f ⟨d.val + 32, by omega⟩ * Ideal.sin (ang t ⟨d.val, h⟩)
  else f d * Ideal.cos (ang t ⟨d.val - 32, by omega⟩) + f ⟨d.val - 32, by omega⟩ * Ideal.sin (ang t ⟨d.val - 32, by omega⟩)

theorem isReal_rope (f : Fin 64 → EReal) (hf : ∀ d, IsReal (f d)) (t : Fin 16) (d : Fin 64) : IsReal (rope f t d) := by
  unfold rope
  split_ifs with h
  · exact ((hf _).mul (isReal_cos (isReal_ang _ _))).sub ((hf _).mul (isReal_sin (isReal_ang _ _)))
  · exact ((hf _).mul (isReal_cos (isReal_ang _ _))).add ((hf _).mul (isReal_sin (isReal_ang _ _)))

/-- The tables over 128 lanes. -/
def CosTable (cos : Vec Ideal S16x128 .f32) : Prop :=
  ∀ (t : Fin 16) (x : Fin 128), cos (ix2 (n0 := 16) (n1 := 128) t x) = Ideal.cos (ang t ⟨x.val % 32, by omega⟩)

def SinTable (sin : Vec Ideal S16x128 .f32) : Prop :=
  ∀ (t : Fin 16) (x : Fin 128), sin (ix2 (n0 := 16) (n1 := 128) t x)
    = if x.val % 64 < 32 then -Ideal.sin (ang t ⟨x.val % 32, by omega⟩) else Ideal.sin (ang t ⟨x.val % 32, by omega⟩)

variable (m : (ℓ : Loc nD τ sig) → Buf (Elt Ideal) ℓ)

/-- A buffer when the kernel starts is what the host's lines before it leave there. -/
theorem V_eq (c : Dev nD) (b : Ref sig .tc) : V (F := Ideal) m c b = StableHlo.after hostOps0 (fun b => m (c, b)) (Proc.devRef .tc b) := by
  unfold V V0
  rw [List.flatten_cons, List.flatten_nil, List.append_nil]

theorem cosTable (c : Dev nD) : CosTable (V (F := Ideal) m c main_v20) := by
  intro t x
  have hx := x.isLt
  unfold ang
  rw [V_eq]
  entry_read
  pointwise
  split_ifs with h
  · rw [show x.val % 64 = x.val % 32 by omega]
  · rw [show x.val % 64 - 32 = x.val % 32 by omega]

theorem sinTable (c : Dev nD) : SinTable (V (F := Ideal) m c main_v25) := by
  intro t x
  have hx := x.isLt
  unfold ang
  rw [V_eq]
  entry_read
  pointwise
  split_ifs with h
  · rw [show x.val % 64 = x.val % 32 by omega]
  · rw [show x.val % 64 - 32 = x.val % 32 by omega]

/-- A head of a rotated row of two. -/
theorem rot_eq (cos sin q : Vec Ideal S16x128 .f32) (hc : CosTable cos) (hs : SinTable sin) (r : Fin 16) (e : ℕ) (he : e < 2) (d : Fin 64) :
    rot cos sin q r ⟨64 * e + d.val, by omega⟩ = rope (fun d => q (ix2 (n0 := 16) (n1 := 128) r ⟨64 * e + d.val, by omega⟩)) r d := by
  have hd := d.isLt
  unfold rot rope
  rw [hc, hs]
  simp only
  by_cases h : d.val < 32
  · rw [if_pos (by omega), if_pos (by omega), dif_pos h, mul_neg, sub_eq_add_neg]
    congr 2
    · exact congrArg (fun u => Ideal.cos (ang r u)) (Fin.ext (by simp only; omega))
    · congr 1
      · exact congrArg (fun u => q (ix2 (n0 := 16) (n1 := 128) r u)) (Fin.ext (by simp only; omega))
      · exact congrArg (fun u => Ideal.sin (ang r u)) (Fin.ext (by simp only; omega))
  · rw [if_neg (by omega), if_neg (by omega), dif_neg h]
    congr 2
    · exact congrArg (fun u => Ideal.cos (ang r u)) (Fin.ext (by simp only; omega))
    · exact congrArg (fun u => q (ix2 (n0 := 16) (n1 := 128) r u)) (Fin.ext (by simp only; omega))
    · exact congrArg (fun u => Ideal.sin (ang r u)) (Fin.ext (by simp only; omega))

theorem isReal_rot (cos sin q : Vec Ideal S16x128 .f32) (hc : CosTable cos) (hs : SinTable sin) (r : Fin 16)
    (hq : ∀ x : Fin 128, IsReal (q (ix2 (n0 := 16) (n1 := 128) r x))) (x : Fin 128) : IsReal (rot cos sin q r x) := by
  have hx := x.isLt
  have h : x = ⟨64 * (x.val / 64) + (⟨x.val % 64, by omega⟩ : Fin 64).val, by simp only; omega⟩ := Fin.ext (by simp only; omega)
  rw [h, rot_eq cos sin q hc hs r _ (by omega)]
  exact isReal_rope _ (fun d => hq _) _ _

end Cert.KernelIdeal.RefValue

end
-- ==== Proof.AttBlock.lean ====
/-
  Attention: what one grid point leaves in its two result blocks, entry by entry, from the blocks it reads.
-/
module

public import proofs.«01_k».proof.Proof.AttRope

@[expose] public section

set_option maxRecDepth 16384

noncomputable section

open Idealize.ShloMosaic Idealize.ShloMosaic.TcCoe Idealize.SL.Sem
open Idealize.ShloMosaic.Pipeline (Dat)

namespace Cert.KernelIdeal.RefValue

open Cert.KernelIdeal Cert.KernelIdeal.Gen Cert.AttMath

/-- The 144 keys of key/value head `j`: the cached ones, then the new ones rotated. -/
def keyB (x3 : Vec Ideal S16x256 .f32) (x5 : Vec Ideal S1x128x256 .f32) (j : Fin 4) (k : Fin 144) (d : Fin 64) : EReal :=
  if h : k.val < 128 then x5 (ix3 (n0 := 1) (n1 := 128) (n2 := 256) 0 ⟨k.val, h⟩ ⟨64 * j.val + d.val, by omega⟩)
  else rope (fun d => x3 (ix2 (n0 := 16) (n1 := 256) ⟨k.val - 128, by omega⟩ ⟨64 * j.val + d.val, by omega⟩)) ⟨k.val - 128, by omega⟩ d

/-- The 144 values of key/value head `j`. -/
def valB (x4 : Vec Ideal S16x256 .f32) (x6 : Vec Ideal S1x128x256 .f32) (j : Fin 4) (k : Fin 144) (d : Fin 64) : EReal :=
  if h : k.val < 128 then x6 (ix3 (n0 := 1) (n1 := 128) (n2 := 256) 0 ⟨k.val, h⟩ ⟨64 * j.val + d.val, by omega⟩)
  else x4 (ix2 (n0 := 16) (n1 := 256) ⟨k.val - 128, by omega⟩ ⟨64 * j.val + d.val, by omega⟩)

theorem readAt_pair (a : Memref sig .tc .vmem S16x2048 .f32) (ha : a.IsWhole) (x : Vec Ideal S16x2048 .f32) (p : Fin 16) (r : Fin 16) (l : Fin 128) :
    View.readAt (Elt Ideal) a.view (Rect.unit (s := S16x2048) ![0, 128 * p.val] S16x128.size (inb_pair p)).toLoadRect (ha.unread x) (ix2 (n0 := 16) (n1 := 128) r l)
      = x (ix2 (n0 := 16) (n1 := 2048) r ⟨128 * p.val + l.val, by omega⟩) := by
  rw [View.readAt_apply, ha.read_unread]
  congr 1
  funext a
  apply Fin.ext
  fin_cases a
  · show 0 + 1 * r.val = r.val; omega
  · show 128 * p.val + 1 * l.val = 128 * p.val + l.val; omega

theorem readAt_whole (a : Memref sig .tc .vmem S16x128 .f32) (ha : a.IsWhole) (x : Vec Ideal S16x128 .f32) :
    View.readAt (Elt Ideal) a.view (Rect.unit (s := S16x128) ![0, 0] S16x128.size inb_S16x128_S16x128_0_0).toLoadRect (ha.unread x) = x := by
  rw [View.readAt_full, ha.read_unread]

theorem readAt_sink (a : Memref sig .tc .smem S32 .f32) (ha : a.IsWhole) (x : Vec Ideal S32 .f32) (h : ℕ) (hh : h < 32) :
    View.readAt (Elt Ideal) a.view (Rect.unit (s := S32) ![h] S1.size (inb_sink h hh)).toLoadRect (ha.unread x) (Shape.Idx.first (by show 0 < S1.numel; decide))
      = x (ix1 (n0 := 32) ⟨h, hh⟩) := by
  rw [View.readAt_apply, ha.read_unread]
  congr 1
  funext a
  apply Fin.ext
  fin_cases a
  show h + 1 * 0 = h; omega

theorem inb_tile (e : Fin 2) : ∀ a, (![0, 128 * e.val] : Fin 2 → ℕ) a + S16x128.size a ≤ S16x256.size a := by
  intro a; fin_cases a
  · show 0 + 16 ≤ 16; omega
  · show 128 * e.val + 128 ≤ 256; omega

theorem inb_ctile (e : Fin 2) : ∀ a, (![0, 0, 128 * e.val] : Fin 3 → ℕ) a + S1x128x128.size a ≤ S1x128x256.size a := by
  intro a; fin_cases a
  · show 0 + 1 ≤ 1; omega
  · show 0 + 128 ≤ 128; omega
  · show 128 * e.val + 128 ≤ 256; omega

/-- Tile `e` of the 256 columns of a new block. -/
def newTile (a : Memref sig .tc .vmem S16x256 .f32) (ha : a.IsWhole) (x : Vec Ideal S16x256 .f32) (e : Fin 2) : Vec Ideal S16x128 .f32 :=
  View.readAt (Elt Ideal) a.view (Rect.unit (s := S16x256) ![0, 128 * e.val] S16x128.size (inb_tile e)).toLoadRect (ha.unread x)

/-- Tile `e` of the 256 columns of a cached block. -/
def cachedTile (a : Memref sig .tc .vmem S1x128x256 .f32) (ha : a.IsWhole) (x : Vec Ideal S1x128x256 .f32) (e : Fin 2) : Vec Ideal S1x128x128 .f32 :=
  View.readAt (Elt Ideal) a.view (Rect.unit (s := S1x128x256) ![0, 0, 128 * e.val] S1x128x128.size (inb_ctile e)).toLoadRect (ha.unread x)

theorem newTile_apply (a : Memref sig .tc .vmem S16x256 .f32) (ha : a.IsWhole) (x : Vec Ideal S16x256 .f32) (e : Fin 2) (r : Fin 16) (l : Fin 128) :
    newTile a ha x e (ix2 (n0 := 16) (n1 := 128) r l) = x (ix2 (n0 := 16) (n1 := 256) r ⟨128 * e.val + l.val, by omega⟩) := by
  unfold newTile
  rw [View.readAt_apply, ha.read_unread]
  congr 1
  funext a
  apply Fin.ext
  fin_cases a
  · show 0 + 1 * r.val = r.val; omega
  · show 128 * e.val + 1 * l.val = 128 * e.val + l.val; omega

theorem cachedTile_apply (a : Memref sig .tc .vmem S1x128x256 .f32) (ha : a.IsWhole) (x : Vec Ideal S1x128x256 .f32) (e : Fin 2) (r : Fin 128) (l : Fin 128) :
    cachedTile a ha x e (ix3 (n0 := 1) (n1 := 128) (n2 := 128) 0 r l) = x (ix3 (n0 := 1) (n1 := 128) (n2 := 256) 0 r ⟨128 * e.val + l.val, by omega⟩) := by
  unfold cachedTile
  rw [View.readAt_apply, ha.read_unread]
  congr 1
  funext a
  apply Fin.ext
  fin_cases a
  · show 0 + 1 * 0 = 0; omega
  · show 0 + 1 * r.val = r.val; omega
  · show 128 * e.val + 1 * l.val = 128 * e.val + l.val; omega

theorem rows_val (a5 : Memref sig .tc .vmem S16x256 .f32) (h5 : a5.IsWhole) (a7 : Memref sig .tc .vmem S1x128x256 .f32) (h7 : a7.IsWhole)
    (x4 : Vec Ideal S16x256 .f32) (x6 : Vec Ideal S1x128x256 .f32) :
    rowsOf (cachedTile a7 h7 x6) (newTile a5 h5 x4) = valB x4 x6 := by
  funext j k d
  unfold rowsOf valB
  by_cases h : k.val < 128
  · rw [dif_pos h, dif_pos h, cachedTile_apply]
    exact congrArg (fun u => x6 (ix3 (n0 := 1) (n1 := 128) (n2 := 256) 0 _ u)) (Fin.ext (by simp only; omega))
  · rw [dif_neg h, dif_neg h, newTile_apply]
    exact congrArg (fun u => x4 (ix2 (n0 := 16) (n1 := 256) _ u)) (Fin.ext (by simp only; omega))

theorem roped_tile (a4 : Memref sig .tc .vmem S16x256 .f32) (h4 : a4.IsWhole) (x3 : Vec Ideal S16x256 .f32) (cos sin : Vec Ideal S16x128 .f32)
    (hc : CosTable cos) (hs : SinTable sin) (j : Fin 4) (r : Fin 16) (d : Fin 64) :
    roped cos sin (newTile a4 h4 x3 ⟨j.val / 2, by omega⟩) (ix2 (n0 := 16) (n1 := 128) r ⟨64 * (j.val % 2) + d.val, by omega⟩)
      = rope (fun d => x3 (ix2 (n0 := 16) (n1 := 256) r ⟨64 * j.val + d.val, by omega⟩)) r d := by
  rw [roped_apply, rot_eq cos sin _ hc hs r _ (by omega)]
  congr 1
  funext d
  rw [newTile_apply]
  exact congrArg (fun u => x3 (ix2 (n0 := 16) (n1 := 256) r u)) (Fin.ext (by simp only; omega))

theorem rows_key (a4 : Memref sig .tc .vmem S16x256 .f32) (h4 : a4.IsWhole) (a6 : Memref sig .tc .vmem S1x128x256 .f32) (h6 : a6.IsWhole)
    (x3 : Vec Ideal S16x256 .f32) (x5 : Vec Ideal S1x128x256 .f32) (cos sin : Vec Ideal S16x128 .f32) (hc : CosTable cos) (hs : SinTable sin) :
    rowsOf (cachedTile a6 h6 x5) (fun e => roped cos sin (newTile a4 h4 x3 e)) = keyB x3 x5 := by
  funext j k d
  unfold rowsOf keyB
  by_cases h : k.val < 128
  · rw [dif_pos h, dif_pos h, cachedTile_apply]
    exact congrArg (fun u => x5 (ix3 (n0 := 1) (n1 := 128) (n2 := 256) 0 _ u)) (Fin.ext (by simp only; omega))
  · rw [dif_neg h, dif_neg h]
    exact roped_tile a4 h4 x3 cos sin hc hs j _ d

section
variable (c : Dev nD) (i : grid0.Coords) (arg1 : Memref sig .tc .smem S32 .f32) (harg1 : arg1.IsWhole) (arg2 : Memref sig .tc .vmem S16x2048 .f32) (harg2 : arg2.IsWhole) (arg3 : Memref sig .tc .vmem S16x2048 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S16x128 .f32) (harg8 : arg8.IsWhole) (arg9 : Memref sig .tc .vmem S16x128 .f32) (harg9 : arg9.IsWhole) (arg10 : Memref sig .tc .vmem S16x2048 .bf16) (harg10 : arg10.IsWhole) (arg11 : Memref sig .tc .vmem S1x128x256 .f32) (harg11 : arg11.IsWhole) (arg12 : Memref sig .tc .vmem S4x512x128 .bf16) (harg12 : arg12.IsWhole) (arg13 : Memref sig .tc .vmem S4x512x128 .bf16) (harg13 : arg13.IsWhole)
  (x0 : Vec Ideal S32 .f32) (x1 : Vec Ideal S16x2048 .f32) (x2 : Vec Ideal S16x2048 .f32) (x3 : Vec Ideal S16x256 .f32) (x4 : Vec Ideal S16x256 .f32) (x5 : Vec Ideal S1x128x256 .f32) (x6 : Vec Ideal S1x128x256 .f32) (x7 : Vec Ideal S16x128 .f32) (x8 : Vec Ideal S16x128 .f32)

theorem piece_val (K V : List (View.Piece (Elt Ideal) S4x512x128 .bf16)) (key val : Fin 4 → Fin 144 → Fin 64 → EReal)
    (hK : ∀ (j : Fin 4) (r : Fin 512) (l : Fin 128), arg12.view.readCov K (Rect.unit (s := S4x512x128) ![j.val, 0, 0] S1x512x128.size (inb_head j)).toLoadRect (ix3 (n0 := 1) (n1 := 512) (n2 := 128) 0 r l) = padded key j r l)
    (hV : ∀ (j : Fin 4) (r : Fin 512) (l : Fin 128), arg13.view.readCov V (Rect.unit (s := S4x512x128) ![j.val, 0, 0] S1x512x128.size (inb_head j)).toLoadRect (ix3 (n0 := 1) (n1 := 512) (n2 := 128) 0 r l) = padded val j r l)
    (hc : CosTable x7) (hs : SinTable x8) (h0 : ∀ i, IsReal (x0 i)) (h1 : ∀ i, IsReal (x1 i)) (hkey : ∀ j k d, IsReal (key j k d))
    (p : Fin 16) (r : Fin 16) (l : Fin 128) :
    (piece arg1 harg1 arg2 harg2 arg3 harg3 arg8 harg8 arg9 harg9 arg12 arg13 x0 x1 x2 x7 x8 K V p).2 (ix2 (n0 := 16) (n1 := 128) r l)
      = headOut (rope (fun d => x1 (ix2 (n0 := 16) (n1 := 2048) r ⟨64 * (2 * p.val + l.val / 64) + d.val, by omega⟩)) r)
          (key ⟨p.val / 4, by omega⟩) (fun k => val ⟨p.val / 4, by omega⟩ k ⟨l.val % 64, by omega⟩)
          (x0 (ix1 (n0 := 32) ⟨2 * p.val + l.val / 64, by omega⟩)) (x2 (ix2 (n0 := 16) (n1 := 2048) r ⟨128 * p.val + l.val, by omega⟩)) := by
  have hl := l.isLt
  show pairOut _ _ _ _ _ _ _ _ _ = _
  rw [readAt_whole, readAt_whole, readAt_sink arg1 harg1 x0 (2 * p.val) (by omega), readAt_sink arg1 harg1 x0 (2 * p.val + 1) (by omega),
    pairOut_apply x7 x8 _ _ _ _ _ _ key val ⟨p.val / 4, by omega⟩ (hK ⟨p.val / 4, by omega⟩) (hV ⟨p.val / 4, by omega⟩) r
      (isReal_rot x7 x8 _ hc hs r fun x => by rw [readAt_pair]; exact h1 _) (hkey _) (h0 _) (h0 _) l,
    readAt_pair]
  congr 1
  · funext d
    rw [rot_eq x7 x8 _ hc hs r _ (by omega)]
    congr 1
    funext d
    rw [readAt_pair]
    exact congrArg (fun u => x1 (ix2 (n0 := 16) (n1 := 2048) r u)) (Fin.ext (by simp only; omega))
  · by_cases h : l.val < 64
    · rw [if_pos h]
      exact congrArg (fun u => x0 (ix1 (n0 := 32) u)) (Fin.ext (by simp only; omega))
    · rw [if_neg h]
      exact congrArg (fun u => x0 (ix1 (n0 := 32) u)) (Fin.ext (by simp only; omega))

theorem keyStores_tiles : keyStores c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8
    = stores (cachedTile arg6 harg6 x5) (fun e => roped x7 x8 (newTile arg4 harg4 x3 e)) ++ [fill] := by
  rw [keyStores_eq, readAt_whole, readAt_whole]
  rfl

theorem valueStores_tiles : valueStores c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8
    = stores (cachedTile arg7 harg7 x6) (newTile arg5 harg5 x4) ++ [fill] := by
  rw [valueStores_eq]
  rfl

theorem pieces_mem (K V : List (View.Piece (Elt Ideal) S4x512x128 .bf16)) (p : Fin 16) :
    piece arg1 harg1 arg2 harg2 arg3 harg3 arg8 harg8 arg9 harg9 arg12 arg13 x0 x1 x2 x7 x8 K V p
      ∈ [15, 14, 13, 12, 11, 10, 9, 8, 7, 6, 5, 4, 3, 2, 1, 0].map (piece arg1 harg1 arg2 harg2 arg3 harg3 arg8 harg8 arg9 harg9 arg12 arg13 x0 x1 x2 x7 x8 K V) :=
  List.mem_map_of_mem (by fin_cases p <;> simp)

/-- The block of head results: column `n` is lane `n % 64` of head `n / 64`. -/
def outB (r : Fin 16) (n : Fin 2048) : EReal :=
  headOut (rope (fun d => x1 (ix2 (n0 := 16) (n1 := 2048) r ⟨64 * (n.val / 64) + d.val, by omega⟩)) r)
    (keyB x3 x5 ⟨n.val / 512, by omega⟩) (fun k => valB x4 x6 ⟨n.val / 512, by omega⟩ k ⟨n.val % 64, by omega⟩)
    (x0 (ix1 (n0 := 32) ⟨n.val / 64, by omega⟩)) (x2 (ix2 (n0 := 16) (n1 := 2048) r n))

theorem isReal_keyB (h3 : ∀ i, IsReal (x3 i)) (h5 : ∀ i, IsReal (x5 i)) (j : Fin 4) (k : Fin 144) (d : Fin 64) : IsReal (keyB x3 x5 j k d) := by
  unfold keyB
  split_ifs with h
  · exact h5 _
  · exact isReal_rope _ (fun _ => h3 _) _ _

theorem out9_apply (hc : CosTable x7) (hs : SinTable x8) (h0 : ∀ i, IsReal (x0 i)) (h1 : ∀ i, IsReal (x1 i)) (h3 : ∀ i, IsReal (x3 i)) (h5 : ∀ i, IsReal (x5 i))
    (r : Fin 16) (n : Fin 2048) :
    out0_A_9 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 (ix2 (n0 := 16) (n1 := 2048) r n) = outB x0 x1 x2 x3 x4 x5 x6 r n := by
  have hn := n.isLt
  unfold out0_A_9
  rw [View.read_writes_junk_eq_canon, pieces_eq]
  refine (congrFun (congrArg View.canon (List.append_nil _).symm) _).trans ?_
  refine View.canon_append_of_pieces (Val := Elt Ideal) (S := S16x2048) (e := .bf16) (fun y => outB x0 x1 x2 x3 x4 x5 x6 (y 0) (y 1)) [] _ ?_ (ix2 (n0 := 16) (n1 := 2048) r n) ?_
  · intro q hq
    obtain ⟨p, -, rfl⟩ := List.mem_map.mp hq
    intro y
    obtain ⟨r, l, rfl⟩ : ∃ (r : Fin 16) (l : Fin 128), y = ix2 (n0 := 16) (n1 := 128) r l := ⟨y 0, y 1, eq_ix2 (n0 := 16) (n1 := 128) y⟩
    have hl := l.isLt
    rw [piece_val arg1 harg1 arg2 harg2 arg3 harg3 arg8 harg8 arg9 harg9 arg12 arg13 x0 x1 x2 x7 x8 _ _ (keyB x3 x5) (valB x4 x6)
      (fun j r l => (readCov_stores _ _ arg12.view _ (keyStores_tiles c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8) j r l).trans (by rw [rows_key arg4 harg4 arg6 harg6 x3 x5 x7 x8 hc hs]))
      (fun j r l => (readCov_stores _ _ arg13.view _ (valueStores_tiles c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8) j r l).trans (by rw [rows_val arg5 harg5 arg7 harg7 x4 x6]))
      hc hs h0 h1 (isReal_keyB x3 x5 h3 h5) p r l]
    have e : (piece arg1 harg1 arg2 harg2 arg3 harg3 arg8 harg8 arg9 harg9 arg12 arg13 x0 x1 x2 x7 x8
        (keyStores c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8) (valueStores c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8) p).1.emb (ix2 (n0 := 16) (n1 := 128) r l) = ix2 (n0 := 16) (n1 := 2048) r ⟨128 * p.val + l.val, by omega⟩ := by
      funext a
      apply Fin.ext
      fin_cases a
      · show 0 + 1 * r.val = r.val; omega
      · show 128 * p.val + 1 * l.val = 128 * p.val + l.val; omega
    rw [e]
    show _ = outB x0 x1 x2 x3 x4 x5 x6 r ⟨128 * p.val + l.val, by omega⟩
    unfold outB
    have e1 : (128 * p.val + l.val) / 64 = 2 * p.val + l.val / 64 := by omega
    have e2 : (128 * p.val + l.val) / 512 = p.val / 4 := by omega
    have e3 : (128 * p.val + l.val) % 64 = l.val % 64 := by omega
    simp only [e1, e2, e3]
  · refine ⟨_, pieces_mem arg1 harg1 arg2 harg2 arg3 harg3 arg8 harg8 arg9 harg9 arg12 arg13 x0 x1 x2 x7 x8 _ _ ⟨n.val / 128, by omega⟩, ?_⟩
    refine (Rect.mem_set_unit (inb := inb_pair _)).mpr fun a => ?_
    fin_cases a
    · show 0 ≤ r.val ∧ r.val < 0 + 16; omega
    · show 128 * (n.val / 128) ≤ n.val ∧ n.val < 128 * (n.val / 128) + 128; omega

theorem inb_kept (e : Fin 2) : ∀ a, (![0, 0, 128 * e.val] : Fin 3 → ℕ) a + S1x112x128.size a ≤ S1x128x256.size a := by
  intro a; fin_cases a
  · show 0 + 1 ≤ 1; omega
  · show 0 + 112 ≤ 128; omega
  · show 128 * e.val + 128 ≤ 256; omega

theorem inb_fresh (e : Fin 2) : ∀ a, (![0, 112, 128 * e.val] : Fin 3 → ℕ) a + S1x16x128.size a ≤ S1x128x256.size a := by
  intro a; fin_cases a
  · show 0 + 1 ≤ 1; omega
  · show 112 + 16 ≤ 128; omega
  · show 128 * e.val + 128 ≤ 256; omega

/-- Tile `e` of the cached keys that the result keeps: rows 16 to 127. -/
def keptTile (e : Fin 2) : Vec Ideal S1x112x128 .f32 :=
  View.readAt (Elt Ideal) arg6.view (Rect.unit (s := S1x128x256) ![0, 16, 128 * e.val] S1x112x128.size (by
    intro a; fin_cases a
    · show 0 + 1 ≤ 1; omega
    · show 16 + 112 ≤ 128; omega
    · show 128 * e.val + 128 ≤ 256; omega)).toLoadRect (harg6.unread x5)

/-- The store of tile `e` of the kept keys. -/
def keptPiece (e : Fin 2) : View.Piece (Elt Ideal) S1x128x256 .f32 :=
  ⟨Rect.unit (s := S1x128x256) ![0, 0, 128 * e.val] S1x112x128.size (inb_kept e), k0_pay45 (keptTile arg6 harg6 x5 e)⟩

/-- The store of tile `e` of the new keys. -/
def freshPiece (e : Fin 2) : View.Piece (Elt Ideal) S1x128x256 .f32 :=
  ⟨Rect.unit (s := S1x128x256) ![0, 112, 128 * e.val] S1x16x128.size (inb_fresh e), k0_pay46 (roped x7 x8 (newTile arg4 harg4 x3 e))⟩

theorem keyPieces_eq : (kernelRun0_A (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8).2.1
    = [freshPiece arg4 harg4 x3 (View.readAt (Elt Ideal) arg8.view (Rect.unit (s := S16x128) ![0, 0] S16x128.size inb_S16x128_S16x128_0_0).toLoadRect (harg8.unread x7)) (View.readAt (Elt Ideal) arg9.view (Rect.unit (s := S16x128) ![0, 0] S16x128.size inb_S16x128_S16x128_0_0).toLoadRect (harg9.unread x8)) 1, keptPiece arg6 harg6 x5 1, freshPiece arg4 harg4 x3 (View.readAt (Elt Ideal) arg8.view (Rect.unit (s := S16x128) ![0, 0] S16x128.size inb_S16x128_S16x128_0_0).toLoadRect (harg8.unread x7)) (View.readAt (Elt Ideal) arg9.view (Rect.unit (s := S16x128) ![0, 0] S16x128.size inb_S16x128_S16x128_0_0).toLoadRect (harg9.unread x8)) 0, keptPiece arg6 harg6 x5 0] := by
  unfold kernelRun0_A freshPiece keptPiece
  repeat' refine congrArg₂ List.cons ?_ ?_
  all_goals rfl

/-- The block of kept and new keys: rows 16 to 143 of all keys, heads side by side. -/
def keysB : Vec Ideal S1x128x256 .f32 := fun z =>
  keyB x3 x5 ⟨(z 2).val / 64, by have : (z 2).val < 256 := (z 2).isLt; omega⟩ ⟨(z 1).val + 16, by have : (z 1).val < 128 := (z 1).isLt; omega⟩ ⟨(z 2).val % 64, by omega⟩

theorem out10_apply (hc : CosTable x7) (hs : SinTable x8) (k : Fin 128) (n : Fin 256) :
    out0_A_10 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 (ix3 (n0 := 1) (n1 := 128) (n2 := 256) 0 k n) = keyB x3 x5 ⟨n.val / 64, by omega⟩ ⟨k.val + 16, by omega⟩ ⟨n.val % 64, by omega⟩ := by
  have hn := n.isLt
  have hk := k.isLt
  unfold out0_A_10
  rw [View.read_writes_junk_eq_canon, keyPieces_eq, readAt_whole, readAt_whole]
  refine (congrFun (congrArg View.canon (List.append_nil _).symm) _).trans ?_
  have hfresh : ∀ (e : Fin 2) (y : (freshPiece arg4 harg4 x3 x7 x8 e).1.shape.Idx), (freshPiece arg4 harg4 x3 x7 x8 e).2 y
      = keysB x3 x5 ((freshPiece arg4 harg4 x3 x7 x8 e).1.emb y) := by
    intro e y
    obtain ⟨r, l, rfl⟩ : ∃ (r : Fin 16) (l : Fin 128), y = ix3 (n0 := 1) (n1 := 16) (n2 := 128) 0 r l :=
      ⟨y 1, y 2, (eq_ix3 (n0 := 1) (n1 := 16) (n2 := 128) y).trans
        (congrArg (fun u : Fin 1 => ix3 (n0 := 1) (n1 := 16) (n2 := 128) u (y 1) (y 2)) (Subsingleton.elim (α := Fin 1) _ _))⟩
    have hl := l.isLt
    have e' : (freshPiece arg4 harg4 x3 x7 x8 e).1.emb (ix3 (n0 := 1) (n1 := 16) (n2 := 128) 0 r l)
        = ix3 (n0 := 1) (n1 := 128) (n2 := 256) 0 ⟨112 + r.val, by omega⟩ ⟨128 * e.val + l.val, by omega⟩ := by
      funext a
      apply Fin.ext
      fin_cases a
      · show 0 + 1 * 0 = 0; omega
      · show 112 + 1 * r.val = 112 + r.val; omega
      · show 128 * e.val + 1 * l.val = 128 * e.val + l.val; omega
    rw [e']
    show k0_pay46 (F := Ideal) (roped x7 x8 (newTile arg4 harg4 x3 e)) (ix3 (n0 := 1) (n1 := 16) (n2 := 128) 0 r l)
      = keyB x3 x5 ⟨(128 * e.val + l.val) / 64, by omega⟩ ⟨112 + r.val + 16, by omega⟩ ⟨(128 * e.val + l.val) % 64, by omega⟩
    have h := roped_tile arg4 harg4 x3 x7 x8 hc hs ⟨(128 * e.val + l.val) / 64, by omega⟩ r ⟨(128 * e.val + l.val) % 64, by omega⟩
    have e1 : (⟨(128 * e.val + l.val) / 64 / 2, by omega⟩ : Fin 2) = e := Fin.ext (by simp only; omega)
    have e2 : (⟨64 * ((128 * e.val + l.val) / 64 % 2) + (128 * e.val + l.val) % 64, by omega⟩ : Fin 128) = l := Fin.ext (by simp only; omega)
    simp only [e1, e2] at h
    unfold keyB
    rw [dif_neg (by simp only; omega)]
    have e3 : 112 + r.val + 16 - 128 = r.val := by omega
    simp only [e3]
    refine Eq.trans ?_ h
    pointwise [k0_pay46]
  have hkept : ∀ (e : Fin 2) (y : (keptPiece arg6 harg6 x5 e).1.shape.Idx), (keptPiece arg6 harg6 x5 e).2 y
      = keysB x3 x5 ((keptPiece arg6 harg6 x5 e).1.emb y) := by
    intro e y
    obtain ⟨r, l, rfl⟩ : ∃ (r : Fin 112) (l : Fin 128), y = ix3 (n0 := 1) (n1 := 112) (n2 := 128) 0 r l :=
      ⟨y 1, y 2, (eq_ix3 (n0 := 1) (n1 := 112) (n2 := 128) y).trans
        (congrArg (fun u : Fin 1 => ix3 (n0 := 1) (n1 := 112) (n2 := 128) u (y 1) (y 2)) (Subsingleton.elim (α := Fin 1) _ _))⟩
    have hl := l.isLt
    have hr := r.isLt
    have e' : (keptPiece arg6 harg6 x5 e).1.emb (ix3 (n0 := 1) (n1 := 112) (n2 := 128) 0 r l)
        = ix3 (n0 := 1) (n1 := 128) (n2 := 256) 0 ⟨r.val, by omega⟩ ⟨128 * e.val + l.val, by omega⟩ := by
      funext a
      apply Fin.ext
      fin_cases a
      · show 0 + 1 * 0 = 0; omega
      · show 0 + 1 * r.val = r.val; omega
      · show 128 * e.val + 1 * l.val = 128 * e.val + l.val; omega
    rw [e']
    show k0_pay45 (F := Ideal) (keptTile arg6 harg6 x5 e) (ix3 (n0 := 1) (n1 := 112) (n2 := 128) 0 r l)
      = keyB x3 x5 ⟨(128 * e.val + l.val) / 64, by omega⟩ ⟨r.val + 16, by omega⟩ ⟨(128 * e.val + l.val) % 64, by omega⟩
    unfold keyB
    rw [dif_pos (by simp only; omega)]
    have e1 : 64 * ((128 * e.val + l.val) / 64) + (128 * e.val + l.val) % 64 = 128 * e.val + l.val := by omega
    simp only [e1]
    have h : keptTile arg6 harg6 x5 e (ix3 (n0 := 1) (n1 := 112) (n2 := 128) 0 r l)
        = x5 (ix3 (n0 := 1) (n1 := 128) (n2 := 256) 0 ⟨r.val + 16, by omega⟩ ⟨128 * e.val + l.val, by omega⟩) := by
      unfold keptTile
      rw [View.readAt_apply, harg6.read_unread]
      congr 1
      funext a
      apply Fin.ext
      fin_cases a
      · show 0 + 1 * 0 = 0; omega
      · show 16 + 1 * r.val = r.val + 16; omega
      · show 128 * e.val + 1 * l.val = 128 * e.val + l.val; omega
    refine Eq.trans ?_ h
    pointwise [k0_pay45]
  refine View.canon_append_of_pieces (Val := Elt Ideal) (S := S1x128x256) (e := .f32) (keysB x3 x5) [] _ ?_ (ix3 (n0 := 1) (n1 := 128) (n2 := 256) 0 k n) ?_
  · intro q hq
    simp only [List.mem_cons, List.not_mem_nil, or_false] at hq
    rcases hq with rfl | rfl | rfl | rfl
    exacts [hfresh 1, hkept 1, hfresh 0, hkept 0]
  · by_cases h : k.val < 112
    · refine ⟨keptPiece arg6 harg6 x5 ⟨n.val / 128, by omega⟩, ?_, ?_⟩
      · have : (⟨n.val / 128, by omega⟩ : Fin 2) = 0 ∨ (⟨n.val / 128, by omega⟩ : Fin 2) = 1 := by omega
        rcases this with h | h <;> rw [h] <;> simp
      · refine (Rect.mem_set_unit (inb := inb_kept _)).mpr fun a => ?_
        fin_cases a
        · show 0 ≤ 0 ∧ 0 < 0 + 1; omega
        · show 0 ≤ k.val ∧ k.val < 0 + 112; omega
        · show 128 * (n.val / 128) ≤ n.val ∧ n.val < 128 * (n.val / 128) + 128; omega
    · refine ⟨freshPiece arg4 harg4 x3 x7 x8 ⟨n.val / 128, by omega⟩, ?_, ?_⟩
      · have : (⟨n.val / 128, by omega⟩ : Fin 2) = 0 ∨ (⟨n.val / 128, by omega⟩ : Fin 2) = 1 := by omega
        rcases this with h | h <;> rw [h] <;> simp
      · refine (Rect.mem_set_unit (inb := inb_fresh _)).mpr fun a => ?_
        fin_cases a
        · show 0 ≤ 0 ∧ 0 < 0 + 1; omega
        · show 112 ≤ k.val ∧ k.val < 112 + 16; omega
        · show 128 * (n.val / 128) ≤ n.val ∧ n.val < 128 * (n.val / 128) + 128; omega

end

end Cert.KernelIdeal.RefValue

end
-- ==== Proof.AttValue.lean ====
/-
  Attention: what the kernel's result arrays end holding at the extended reals.

  One grid point is one sequence of 16 rows. `keyAll`, `valAll` are the 144 keys and values a sequence attends to; `heads` is
  the first result, `newKeys` the second, `newValues` the third, which the host puts together.
-/
module

public import proofs.«01_k».proof.Proof.AttBlock
public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.RefValue

open Cert.KernelIdeal Cert.KernelIdeal.Gen Cert.AttMath

variable (m : (ℓ : Loc nD τ sig) → Buf (Elt Ideal) ℓ) (ρ : Dev nD → PrngReg)

/-- All keys of sequence `b`, key/value head `j`: 128 cached ones, then the 16 new ones rotated. -/
def keyAll (x0 : Vec Ideal S256x4608 .f32) (x2 : Vec Ideal S16x128x256 .f32) (b : Fin 16) (j : Fin 4) (k : Fin 144) (d : Fin 64) : EReal :=
  if h : k.val < 128 then x2 (ix3 (n0 := 16) (n1 := 128) (n2 := 256) b ⟨k.val, h⟩ ⟨64 * j.val + d.val, by omega⟩)
  else rope (fun d => x0 (ix2 (n0 := 256) (n1 := 4608) ⟨16 * b.val + (k.val - 128), by omega⟩ ⟨4096 + (64 * j.val + d.val), by omega⟩)) ⟨k.val - 128, by omega⟩ d

/-- All values of sequence `b`, key/value head `j`. -/
def valAll (x0 : Vec Ideal S256x4608 .f32) (x3 : Vec Ideal S16x128x256 .f32) (b : Fin 16) (j : Fin 4) (k : Fin 144) (d : Fin 64) : EReal :=
  if h : k.val < 128 then x3 (ix3 (n0 := 16) (n1 := 128) (n2 := 256) b ⟨k.val, h⟩ ⟨64 * j.val + d.val, by omega⟩)
  else x0 (ix2 (n0 := 256) (n1 := 4608) ⟨16 * b.val + (k.val - 128), by omega⟩ ⟨4352 + (64 * j.val + d.val), by omega⟩)

/-- Row `16 b + r`, column `n` of the first result: lane `n % 64` of query head `n / 64`, which attends to the keys and values
    of head `n / 512` with its own sink, and is gated. -/
def headAt (x0 : Vec Ideal S256x4608 .f32) (x1 : Vec Ideal S32 .f32) (x2 x3 : Vec Ideal S16x128x256 .f32) (b r : Fin 16) (n : Fin 2048) : EReal :=
  headOut (rope (fun d => x0 (ix2 (n0 := 256) (n1 := 4608) ⟨16 * b.val + r.val, by omega⟩ ⟨64 * (n.val / 64) + d.val, by omega⟩)) r)
    (keyAll x0 x2 b ⟨n.val / 512, by omega⟩) (fun k => valAll x0 x3 b ⟨n.val / 512, by omega⟩ k ⟨n.val % 64, by omega⟩)
    (x1 (ix1 (n0 := 32) ⟨n.val / 64, by omega⟩)) (x0 (ix2 (n0 := 256) (n1 := 4608) ⟨16 * b.val + r.val, by omega⟩ ⟨2048 + n.val, by omega⟩))

/-- The first result. -/
def heads (x0 : Vec Ideal S256x4608 .f32) (x1 : Vec Ideal S32 .f32) (x2 x3 : Vec Ideal S16x128x256 .f32) : (⟨S256x2048, .bf16⟩ : BufTy).Contents (Elt Ideal) := fun i =>
  headAt x0 x1 x2 x3 ⟨(i 0).val / 16, by have : (i 0).val < 256 := (i 0).isLt; omega⟩ ⟨(i 0).val % 16, by omega⟩ (i 1)

/-- The second result: the last 128 keys. -/
def newKeys (x0 : Vec Ideal S256x4608 .f32) (x2 : Vec Ideal S16x128x256 .f32) : (⟨S16x128x256, .f32⟩ : BufTy).Contents (Elt Ideal) := fun i =>
  keyAll x0 x2 (i 0) ⟨(i 2).val / 64, by have : (i 2).val < 256 := (i 2).isLt; omega⟩ ⟨(i 1).val + 16, by have : (i 1).val < 128 := (i 1).isLt; omega⟩ ⟨(i 2).val % 64, by omega⟩

/-- The third result: the last 128 values. -/
def newValues (x0 : Vec Ideal S256x4608 .f32) (x3 : Vec Ideal S16x128x256 .f32) : (⟨S16x128x256, .f32⟩ : BufTy).Contents (Elt Ideal) := fun i =>
  valAll x0 x3 (i 0) ⟨(i 2).val / 64, by have : (i 2).val < 256 := (i 2).isLt; omega⟩ ⟨(i 1).val + 16, by have : (i 1).val < 128 := (i 1).isLt; omega⟩ ⟨(i 2).val % 64, by omega⟩

theorem idx : ∀ t : Fin cfg0.N, (win0_0.index t 0 = 0)
    ∧ (win0_1.index t 0 = t.val ∧ win0_1.index t 1 = 0)
    ∧ (win0_2.index t 0 = t.val ∧ win0_2.index t 1 = 1)
    ∧ (win0_3.index t 0 = t.val ∧ win0_3.index t 1 = 16)
    ∧ (win0_4.index t 0 = t.val ∧ win0_4.index t 1 = 17)
    ∧ (win0_5.index t 0 = t.val ∧ win0_5.index t 1 = 0 ∧ win0_5.index t 2 = 0)
    ∧ (win0_6.index t 0 = t.val ∧ win0_6.index t 1 = 0 ∧ win0_6.index t 2 = 0)
    ∧ (win0_7.index t 0 = 0 ∧ win0_7.index t 1 = 0)
    ∧ (win0_8.index t 0 = 0 ∧ win0_8.index t 1 = 0)
    ∧ (win0_9.index t 0 = t.val ∧ win0_9.index t 1 = 0)
    ∧ (win0_10.index t 0 = t.val ∧ win0_10.index t 1 = 0 ∧ win0_10.index t 2 = 0) :=
  (by decide +kernel : ∀ t : Fin grid0.N, (win0_0.index t 0 = 0)
    ∧ (win0_1.index t 0 = t.val ∧ win0_1.index t 1 = 0)
    ∧ (win0_2.index t 0 = t.val ∧ win0_2.index t 1 = 1)
    ∧ (win0_3.index t 0 = t.val ∧ win0_3.index t 1 = 16)
    ∧ (win0_4.index t 0 = t.val ∧ win0_4.index t 1 = 17)
    ∧ (win0_5.index t 0 = t.val ∧ win0_5.index t 1 = 0 ∧ win0_5.index t 2 = 0)
    ∧ (win0_6.index t 0 = t.val ∧ win0_6.index t 1 = 0 ∧ win0_6.index t 2 = 0)
    ∧ (win0_7.index t 0 = 0 ∧ win0_7.index t 1 = 0)
    ∧ (win0_8.index t 0 = 0 ∧ win0_8.index t 1 = 0)
    ∧ (win0_9.index t 0 = t.val ∧ win0_9.index t 1 = 0)
    ∧ (win0_10.index t 0 = t.val ∧ win0_10.index t 1 = 0 ∧ win0_10.index t 2 = 0))

theorem point_lt (t : Fin cfg0.N) : t.val < 16 := lt_of_lt_of_eq t.isLt N_0

/-- The sequence of a grid point. -/
def seq (t : Fin cfg0.N) : Fin 16 := ⟨t.val, point_lt t⟩

section Leaves

variable (c : Dev nD) (t : Fin cfg0.N)

theorem at0 (h : Fin 32) : iblk m c 0 t (ix1 (n0 := 32) h) = m ((c : Thread nD τ).loc main_arg1) (ix1 (n0 := 32) h) := by
  have e := idx t
  blk_point [iblk, V, e]

theorem at1 (r : Fin 16) (n : Fin 2048) : X0_1 m c t (ix2 (n0 := 16) (n1 := 2048) r n)
    = m ((c : Thread nD τ).loc main_arg0) (ix2 (n0 := 256) (n1 := 4608) ⟨16 * (seq t).val + r.val, by omega⟩ ⟨n.val, by omega⟩) := by
  have e := idx t
  have ht := point_lt t
  unfold X0_1 Pipeline.Window.fill seq
  rw [dif_pos (moved0_1 t _)]
  blk_point [iblk, V, e]

theorem at2 (r : Fin 16) (n : Fin 2048) : X0_2 m c t (ix2 (n0 := 16) (n1 := 2048) r n)
    = m ((c : Thread nD τ).loc main_arg0) (ix2 (n0 := 256) (n1 := 4608) ⟨16 * (seq t).val + r.val, by omega⟩ ⟨2048 + n.val, by omega⟩) := by
  have e := idx t
  have ht := point_lt t
  unfold X0_2 Pipeline.Window.fill seq
  rw [dif_pos (moved0_2 t _)]
  blk_point [iblk, V, e]

theorem at3 (r : Fin 16) (n : Fin 256) : iblk m c 3 t (ix2 (n0 := 16) (n1 := 256) r n)
    = m ((c : Thread nD τ).loc main_arg0) (ix2 (n0 := 256) (n1 := 4608) ⟨16 * (seq t).val + r.val, by omega⟩ ⟨4096 + n.val, by omega⟩) := by
  have e := idx t
  have ht := point_lt t
  unfold seq
  blk_point [iblk, V, e]

theorem at4 (r : Fin 16) (n : Fin 256) : iblk m c 4 t (ix2 (n0 := 16) (n1 := 256) r n)
    = m ((c : Thread nD τ).loc main_arg0) (ix2 (n0 := 256) (n1 := 4608) ⟨16 * (seq t).val + r.val, by omega⟩ ⟨4352 + n.val, by omega⟩) := by
  have e := idx t
  have ht := point_lt t
  unfold seq
  blk_point [iblk, V, e]

theorem at5 (k : Fin 128) (n : Fin 256) : iblk m c 5 t (ix3 (n0 := 1) (n1 := 128) (n2 := 256) 0 k n)
    = m ((c : Thread nD τ).loc main_arg2) (ix3 (n0 := 16) (n1 := 128) (n2 := 256) (seq t) k n) := by
  have e := idx t
  have ht := point_lt t
  unfold seq
  blk_point [iblk, V, e]

theorem at6 (k : Fin 128) (n : Fin 256) : iblk m c 6 t (ix3 (n0 := 1) (n1 := 128) (n2 := 256) 0 k n)
    = m ((c : Thread nD τ).loc main_arg3) (ix3 (n0 := 16) (n1 := 128) (n2 := 256) (seq t) k n) := by
  have e := idx t
  have ht := point_lt t
  unfold seq
  blk_point [iblk, V, e]

theorem at7 : CosTable (iblk m c 7 t) := by
  intro r x
  rw [← cosTable m c r x]
  have e := idx t
  blk_point [iblk, e]

theorem at8 : SinTable (iblk m c 8 t) := by
  intro r x
  rw [← sinTable m c r x]
  have e := idx t
  blk_point [iblk, e]

theorem keyB_eq (j : Fin 4) (k : Fin 144) (d : Fin 64) : keyB (iblk m c 3 t) (iblk m c 5 t) j k d
    = keyAll (m ((c : Thread nD τ).loc main_arg0)) (m ((c : Thread nD τ).loc main_arg2)) (seq t) j k d := by
  unfold keyB keyAll
  split_ifs with h
  · exact at5 m c t _ _
  · exact congrArg (fun f => rope f _ d) (funext fun d => at3 m c t _ _)

theorem valB_eq (j : Fin 4) (k : Fin 144) (d : Fin 64) : valB (iblk m c 4 t) (iblk m c 6 t) j k d
    = valAll (m ((c : Thread nD τ).loc main_arg0)) (m ((c : Thread nD τ).loc main_arg3)) (seq t) j k d := by
  unfold valB valAll
  split_ifs with h
  · exact at6 m c t _ _
  · exact at4 m c t _ _

theorem outB_eq (r : Fin 16) (n : Fin 2048) :
    outB (iblk m c 0 t) (X0_1 m c t) (X0_2 m c t) (iblk m c 3 t) (iblk m c 4 t) (iblk m c 5 t) (iblk m c 6 t) r n
    = headAt (m ((c : Thread nD τ).loc main_arg0)) (m ((c : Thread nD τ).loc main_arg1)) (m ((c : Thread nD τ).loc main_arg2)) (m ((c : Thread nD τ).loc main_arg3)) (seq t) r n := by
  unfold outB headAt
  have hk : keyB (iblk m c 3 t) (iblk m c 5 t) = keyAll (m ((c : Thread nD τ).loc main_arg0)) (m ((c : Thread nD τ).loc main_arg2)) (seq t) := by
    funext j k d; exact keyB_eq m c t j k d
  have hv : valB (iblk m c 4 t) (iblk m c 6 t) = valAll (m ((c : Thread nD τ).loc main_arg0)) (m ((c : Thread nD τ).loc main_arg3)) (seq t) := by
    funext j k d; exact valB_eq m c t j k d
  rw [hk, hv, at0, at2]
  simp only [at1]

end Leaves

/-- The scores' operands are real: queries and keys, sinks, cached keys. -/
structure Finite (x0 : Vec Ideal S256x4608 .f32) (x1 : Vec Ideal S32 .f32) (x2 : Vec Ideal S16x128x256 .f32) : Prop where
  query : ∀ (r : Fin 256) (n : Fin 2048), IsReal (x0 (ix2 (n0 := 256) (n1 := 4608) r ⟨n.val, by omega⟩))
  key : ∀ (r : Fin 256) (n : Fin 256), IsReal (x0 (ix2 (n0 := 256) (n1 := 4608) r ⟨4096 + n.val, by omega⟩))
  sink : ∀ h, IsReal (x1 h)
  cached : ∀ i, IsReal (x2 i)

theorem final9 (c : Dev nD) (hfin : Finite (m ((c : Thread nD τ).loc main_arg0)) (m ((c : Thread nD τ).loc main_arg1)) (m ((c : Thread nD τ).loc main_arg2))) :
    (dats m 0 c).arrAt 9 cfg0.N
    = heads (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t hf y => ?_
  have e := idx t
  have htlt := point_lt t
  blk_simp
  rw [after0_9]
  obtain ⟨r, n, rfl⟩ : ∃ (r : Fin 16) (n : Fin 2048), y = ix2 r n := ⟨y 0, y 1, eq_ix2 (n0 := 16) (n1 := 2048) y⟩
  have hr := r.isLt
  have hemb : (win0_9.blk t).view.emb (ix2 r n) = ix2 (n0 := 256) (n1 := 2048) ⟨16 * t.val + r.val, by omega⟩ n := by
    blk_ext [e]
  rw [hemb]
  unfold outsAt0
  dsimp only
  rw [out9_apply (hc := at7 m c t) (hs := at8 m c t), outB_eq m c t r n]
  · unfold heads
    refine congrArg₂ (fun b r => headAt _ _ _ _ b r n) (Fin.ext ?_) (Fin.ext ?_)
    · show t.val = (16 * t.val + r.val) / 16; omega
    · show r.val = (16 * t.val + r.val) % 16; omega
  · intro i
    obtain ⟨h, rfl⟩ : ∃ h : Fin 32, i = ix1 h := ⟨i 0, eq_ix1 (n0 := 32) i⟩
    rw [at0]
    exact hfin.sink _
  · intro i
    obtain ⟨a, b, rfl⟩ : ∃ (a : Fin 16) (b : Fin 2048), i = ix2 a b := ⟨i 0, i 1, eq_ix2 (n0 := 16) (n1 := 2048) i⟩
    rw [at1]
    exact hfin.query _ _
  · intro i
    obtain ⟨a, b, rfl⟩ : ∃ (a : Fin 16) (b : Fin 256), i = ix2 a b := ⟨i 0, i 1, eq_ix2 (n0 := 16) (n1 := 256) i⟩
    rw [at3]
    exact hfin.key _ _
  · intro i
    obtain ⟨a, b, rfl⟩ : ∃ (a : Fin 128) (b : Fin 256), i = ix3 (n0 := 1) (n1 := 128) (n2 := 256) 0 a b :=
      ⟨i 1, i 2, (eq_ix3 (n0 := 1) (n1 := 128) (n2 := 256) i).trans
        (congrArg (fun u : Fin 1 => ix3 (n0 := 1) (n1 := 128) (n2 := 256) u (i 1) (i 2)) (Subsingleton.elim (α := Fin 1) _ _))⟩
    rw [at5]
    exact hfin.cached _

theorem final10 (c : Dev nD) : (dats m 0 c).arrAt 10 cfg0.N
    = newKeys (m ((c : Thread nD τ).loc main_arg0)) (m ((c : Thread nD τ).loc main_arg2)) := by
  refine (dats m 0 c).arrAt_eq_of_covers 10 _ (by decide +kernel) fun t hf y => ?_
  have e := idx t
  have htlt := point_lt t
  blk_simp
  rw [after0_10]
  obtain ⟨k, n, rfl⟩ : ∃ (k : Fin 128) (n : Fin 256), y = ix3 (n0 := 1) (n1 := 128) (n2 := 256) 0 k n :=
    ⟨y 1, y 2, (eq_ix3 (n0 := 1) (n1 := 128) (n2 := 256) y).trans
      (congrArg (fun u : Fin 1 => ix3 (n0 := 1) (n1 := 128) (n2 := 256) u (y 1) (y 2)) (Subsingleton.elim (α := Fin 1) _ _))⟩
  have hemb : (win0_10.blk t).view.emb (ix3 (n0 := 1) (n1 := 128) (n2 := 256) 0 k n) = ix3 (n0 := 16) (n1 := 128) (n2 := 256) (seq t) k n := by
    unfold seq
    blk_ext [e]
  rw [hemb]
  unfold outsAt0
  dsimp only
  rw [out10_apply (hc := at7 m c t) (hs := at8 m c t)]
  exact keyB_eq m c t _ _ _

end Cert.KernelIdeal.RefValue

end
-- ==== Proof.AttFinite.lean ====
/-
  Attention: the precondition `finite_scores`, decoded: queries, keys, sinks and cached keys are real numbers.
-/
module

public import proofs.«01_k».proof.Pre_finite_scores
public import proofs.«01_k».proof.Proof.AttValue
public import Idealize.ShloMosaic.Lib.ReduceAll
public import Idealize.ShloMosaic.Lib.Affine

@[expose] public section

set_option maxRecDepth 16384

noncomputable section

open Idealize.ShloMosaic

namespace Cert.AttFinite

open Cert.AttMath

/-- The precondition's side conditions. -/
instance facts : Cert.Pre_finite_scores.Facts where
  slices_S256x4608_S256x2048_0_0 := by decide
  bcast_S_S256x2048 := by decide
  reducesTo_S256x2048_S_d0_1 := by decide
  h_S_ := by decide
  slices_S256x4608_S256x256_0_4096 := by decide
  bcast_S_S256x256 := by decide
  reducesTo_S256x256_S_d0_1 := by decide
  bcast_S_S32 := by decide
  reducesTo_S32_S_d0 := by decide
  bcast_S_S16x128x256 := by decide
  reducesTo_S16x128x256_S_d0_1_2 := by decide

theorem inf_bits : Ideal.ofBits FTy.f32 2139095040#32 = ⊤ := by
  simp [Ideal.ofBits, Ideal.ieee]

/-- A value whose absolute value is below +∞ is a real number. -/
theorem isReal_of_lt {x : EReal} (h : Ideal.cmp .olt (max x (-x)) (Ideal.ofBits FTy.f32 2139095040#32) = 1#1) : IsReal x := by
  rw [inf_bits] at h
  have h' : max x (-x) < ⊤ := by
    by_contra hn
    simp [Ideal.cmp, hn] at h
  refine isReal_of_ne ?_ ?_
  · rintro rfl
    simp at h'
  · rintro rfl
    simp at h'

theorem finite (x0 : Vec Ideal KernelIdeal.S256x4608 .f32) (x1 : Vec Ideal KernelIdeal.S32 .f32) (x2 x3 : Vec Ideal KernelIdeal.S16x128x256 .f32)
    (h : Cert.Pre_finite_scores.fn (F := Ideal) x0 x1 x2 x3 = fun _ => 1#1) : Cert.KernelIdeal.RefValue.Finite x0 x1 x2 := by
  have h := congrFun h (fun a => a.elim0)
  dsimp only [Cert.Pre_finite_scores.fn, Cert.Pre_finite_scores.fn_part1] at h
  obtain ⟨h, hc⟩ := IntOp.andi_eq_one.mp h
  obtain ⟨h, hs⟩ := IntOp.andi_eq_one.mp h
  obtain ⟨hq, hk⟩ := IntOp.andi_eq_one.mp h
  haveI : Subsingleton Cert.Pre_finite_scores.S_.Idx := ⟨fun a b => funext fun i => i.elim0⟩
  refine ⟨fun r n => ?_, fun r n => ?_, fun h => ?_, fun i => ?_⟩
  · have e := Host.reduce_andi_all _ _ _ _ _ hq (ix2 (n0 := 256) (n1 := 2048) r n)
    refine isReal_of_lt (Eq.trans ?_ e)
    pointwise
    rfl
  · have e := Host.reduce_andi_all _ _ _ _ _ hk (ix2 (n0 := 256) (n1 := 256) r n)
    refine isReal_of_lt (Eq.trans ?_ e)
    pointwise
    rfl
  · have e := Host.reduce_andi_all _ _ _ _ _ hs h
    exact isReal_of_lt e
  · have e := Host.reduce_andi_all _ _ _ _ _ hc i
    exact isReal_of_lt e

end Cert.AttFinite

end
-- ==== Proof.AttRef.lean ====
/-
  Attention: the reference's two results, entry by entry, are the kernel's.

  Stage by stage: the angles (`angle_q`, `angle_k`), the rotated queries (`query_at`), all keys and values (`key_at`,
  `value_at`), the scores (`score_at`), their maximum with the sink (`peak_at`), the softmax's denominator (`denom_at`), the
  weighted sum (`attend_at`), the gate (`gate_at`).
-/
module

public import proofs.«01_k».proof.Proof.AttValue
public import proofs.«01_k».proof.Proof.Gen.ReferenceIdeal.Read

@[expose] public section

set_option maxRecDepth 16384

noncomputable section

open Idealize.ShloMosaic Idealize.ShloMosaic.TcCoe Idealize.SL.Sem

namespace Cert.KernelIdeal.RefValue

open Cert.ReferenceIdeal Cert.ReferenceIdeal.Read Cert.AttMath

variable (x0 : (⟨S256x4608, .f32⟩ : BufTy).Contents (Elt Ideal)) (x1 : (⟨S32, .f32⟩ : BufTy).Contents (Elt Ideal))
  (x2 x3 : (⟨S16x128x256, .f32⟩ : BufTy).Contents (Elt Ideal))

theorem angle_q (t : Fin 16) (i : Fin 32) : val_main_v20 (F := Ideal) (ix2 (n0 := 16) (n1 := 32) t i) = ang t i := by
  unfold val_main_v20 val_main_v19 val_main_v18 val_main_v17 val_main_v16 val_main_v15 val_main_v14 val_main_v13 val_main_v12 val_main_v11 val_main_v10 val_main_v9 val_main_v7 val_main_v6 val_main_v5 val_main_c val_main_cst val_main_cst_0 ang
  pointwise

theorem angle_k (t : Fin 16) (i : Fin 32) : val_main_v50 (F := Ideal) (ix2 (n0 := 16) (n1 := 32) t i) = ang t i := by
  unfold val_main_v50 val_main_v49 val_main_v48 val_main_v47 val_main_v46 val_main_v45 val_main_v44 val_main_v43 val_main_v42 val_main_v41 val_main_v40 val_main_v39 val_main_v7 val_main_v6 val_main_v5 val_main_c val_main_cst_1 val_main_cst_2 ang
  pointwise

/-- Equal coordinates, equal entries. -/
theorem main_congr {r r' : Fin 256} {n n' : Fin 4608} (hr : r.val = r'.val) (hn : n.val = n'.val) :
    x0 (ix2 (n0 := 256) (n1 := 4608) r n) = x0 (ix2 (n0 := 256) (n1 := 4608) r' n') := by
  rw [Fin.ext hr, Fin.ext hn]

theorem query_at (b t : Fin 16) (h : Fin 32) (d : Fin 64) : val_main_v37 (F := Ideal) x0 (ix4 (n0 := 16) (n1 := 16) (n2 := 32) (n3 := 64) b t h d)
    = rope (fun d => x0 (ix2 (n0 := 256) (n1 := 4608) ⟨16 * b.val + t.val, by omega⟩ ⟨64 * h.val + d.val, by omega⟩)) t d := by
  have hb := b.isLt; have ht := t.isLt; have hh := h.isLt; have hd := d.isLt
  unfold val_main_v37 val_main_v36 val_main_v35 val_main_v34 val_main_v33 val_main_v32 val_main_v31 val_main_v30 val_main_v29 val_main_v28 val_main_v27 val_main_v26 val_main_v25 val_main_v24 val_main_v23 val_main_v22 val_main_v21 val_main_v8 val_main_v1 val_main_v0
  have hA := angle_q
  generalize val_main_v20 (F := Ideal) = A at *
  pointwise
  unfold rope
  split_ifs with h1
  · exact congrArg₂ (· - ·)
      (congrArg₂ (· * ·) (main_congr x0 (by simp only; omega) (by simp only; omega)) (congrArg Ideal.cos (hA _ _)))
      (congrArg₂ (· * ·) (main_congr x0 (by simp only; omega) (by simp only; omega)) (congrArg Ideal.sin (hA _ _)))
  all_goals exact congrArg₂ (· + ·)
              (congrArg₂ (· * ·) (main_congr x0 (by simp only; omega) (by simp only; omega)) (congrArg Ideal.cos (hA _ _)))
              (congrArg₂ (· * ·) (main_congr x0 (by simp only; omega) (by simp only; omega)) (congrArg Ideal.sin (hA _ _)))

theorem newKey_at (b t : Fin 16) (j : Fin 4) (d : Fin 64) : val_main_v67 (F := Ideal) x0 (ix4 (n0 := 16) (n1 := 16) (n2 := 4) (n3 := 64) b t j d)
    = rope (fun d => x0 (ix2 (n0 := 256) (n1 := 4608) ⟨16 * b.val + t.val, by omega⟩ ⟨4096 + (64 * j.val + d.val), by omega⟩)) t d := by
  have hb := b.isLt; have ht := t.isLt; have hh := j.isLt; have hd := d.isLt
  unfold val_main_v67 val_main_v66 val_main_v65 val_main_v64 val_main_v63 val_main_v62 val_main_v61 val_main_v60 val_main_v59 val_main_v58 val_main_v57 val_main_v56 val_main_v55 val_main_v54 val_main_v53 val_main_v52 val_main_v51 val_main_v38 val_main_v3 val_main_v0
  have hA := angle_k
  generalize val_main_v50 (F := Ideal) = A at *
  pointwise
  unfold rope
  split_ifs with h1
  · exact congrArg₂ (· - ·)
      (congrArg₂ (· * ·) (main_congr x0 (by simp only; omega) (by simp only; omega)) (congrArg Ideal.cos (hA _ _)))
      (congrArg₂ (· * ·) (main_congr x0 (by simp only; omega) (by simp only; omega)) (congrArg Ideal.sin (hA _ _)))
  all_goals exact congrArg₂ (· + ·)
              (congrArg₂ (· * ·) (main_congr x0 (by simp only; omega) (by simp only; omega)) (congrArg Ideal.cos (hA _ _)))
              (congrArg₂ (· * ·) (main_congr x0 (by simp only; omega) (by simp only; omega)) (congrArg Ideal.sin (hA _ _)))

theorem key_at (b : Fin 16) (k : Fin 144) (j : Fin 4) (d : Fin 64) :
    val_main_v70 (F := Ideal) x0 x2 (ix4 (n0 := 16) (n1 := 144) (n2 := 4) (n3 := 64) b k j d) = keyAll x0 x2 b j k d := by
  have hb := b.isLt; have hk := k.isLt; have hh := j.isLt; have hd := d.isLt
  unfold val_main_v70 val_main_v69
  have hB := newKey_at x0
  generalize val_main_v67 (F := Ideal) x0 = B at *
  pointwise
  unfold keyAll
  split_ifs with h1
  · exact congrArg (fun u => x2 (ix3 (n0 := 16) (n1 := 128) (n2 := 256) b ⟨k.val, h1⟩ u)) (Fin.ext (by simp only; omega))
  all_goals exact hB _ _ _ _

theorem value_at (b : Fin 16) (k : Fin 144) (j : Fin 4) (d : Fin 64) :
    val_main_v72 (F := Ideal) x0 x3 (ix4 (n0 := 16) (n1 := 144) (n2 := 4) (n3 := 64) b k j d) = valAll x0 x3 b j k d := by
  have hb := b.isLt; have hk := k.isLt; have hh := j.isLt; have hd := d.isLt
  unfold val_main_v72 val_main_v71 val_main_v68 val_main_v4 val_main_v0
  pointwise
  unfold valAll
  split_ifs with h1
  · exact congrArg (fun u => x3 (ix3 (n0 := 16) (n1 := 128) (n2 := 256) b ⟨k.val, h1⟩ u)) (Fin.ext (by simp only; omega))
  all_goals exact main_congr x0 (by simp only; omega) (by simp only; omega)

/-- The rotated query of head `g` of group `j`. -/
def queryAll (b t : Fin 16) (j : Fin 4) (g : Fin 8) (d : Fin 64) : EReal :=
  rope (fun d => x0 (ix2 (n0 := 256) (n1 := 4608) ⟨16 * b.val + t.val, by omega⟩ ⟨64 * (8 * j.val + g.val) + d.val, by omega⟩)) t d

theorem product_at (b t : Fin 16) (j : Fin 4) (g : Fin 8) (k : Fin 144) :
    val_main_v74 (F := Ideal) x0 x2 (ix5 (n0 := 16) (n1 := 4) (n2 := 144) (n3 := 16) (n4 := 8) b j k t g)
      = ∑ d, queryAll x0 b t j g d * keyAll x0 x2 b j k d := by
  have hj := j.isLt; have hg := g.isLt
  rw [val_main_v74_apply]
  refine Finset.sum_congr rfl fun d _ => (mul_comm _ _).trans (congrArg₂ (· * ·) ?_ ?_)
  · rw [show ridx_main_v74 (ix5 (n0 := 16) (n1 := 4) (n2 := 144) (n3 := 16) (n4 := 8) b j k t g) d = ix5 (n0 := 16) (n1 := 16) (n2 := 4) (n3 := 8) (n4 := 64) b t j g d from
      funext fun a => by match a with | ⟨0, _⟩ => rfl | ⟨1, _⟩ => rfl | ⟨2, _⟩ => rfl | ⟨3, _⟩ => rfl | ⟨4, _⟩ => rfl]
    have hd := d.isLt
    unfold val_main_v73 queryAll
    have hQ := query_at x0
    generalize val_main_v37 (F := Ideal) x0 = Q at *
    pointwise
    refine (hQ _ _ _ _).trans (congrArg (fun f => rope f t d) (funext fun d => main_congr x0 ?_ ?_))
    · simp only
    · simp only; omega
  · rw [show lidx_main_v74 (ix5 (n0 := 16) (n1 := 4) (n2 := 144) (n3 := 16) (n4 := 8) b j k t g) d = ix4 (n0 := 16) (n1 := 144) (n2 := 4) (n3 := 64) b k j d from
      funext fun a => by match a with | ⟨0, _⟩ => rfl | ⟨1, _⟩ => rfl | ⟨2, _⟩ => rfl | ⟨3, _⟩ => rfl]
    exact key_at x0 x2 b k j d

/-- The scores of query `t`, head `g` of group `j`. -/
def scoreAll (b t : Fin 16) (j : Fin 4) (g : Fin 8) (k : Fin 144) : EReal := score eighth (queryAll x0 b t j g) (keyAll x0 x2 b j) k

theorem score_at (b t : Fin 16) (j : Fin 4) (g : Fin 8) (k : Fin 144) :
    val_main_v77 (F := Ideal) x0 x2 (ix5 (n0 := 16) (n1 := 4) (n2 := 8) (n3 := 16) (n4 := 144) b j g t k) = scoreAll x0 x2 b t j g k := by
  unfold val_main_v77 val_main_v76 val_main_cst_3 val_main_v75 scoreAll score
  have hP := product_at x0 x2
  generalize val_main_v74 (F := Ideal) x0 x2 = P at *
  pointwise
  exact congrArg₂ (· * ·) (hP b t j g k) eighth_bits

/-- The sink of head `g` of group `j`. -/
def sinkAll (j : Fin 4) (g : Fin 8) : EReal := x1 (ix1 (n0 := 32) ⟨8 * j.val + g.val, by omega⟩)

theorem sink_at (j : Fin 4) (g : Fin 8) (u v : Fin 1) : val_main_v79 (F := Ideal) x1 (ix4 (n0 := 4) (n1 := 8) (n2 := 1) (n3 := 1) j g u v) = sinkAll x1 j g := by
  have hj := j.isLt; have hg := g.isLt
  unfold val_main_v79 val_main_v78 sinkAll
  pointwise
  exact congrArg (fun u => x1 (ix1 (n0 := 32) u)) (Fin.ext (by simp only; omega))

theorem top_at (b t : Fin 16) (j : Fin 4) (g : Fin 8) :
    val_main_v80 (F := Ideal) x0 x2 (ix4 (n0 := 16) (n1 := 4) (n2 := 8) (n3 := 16) b j g t) = Finset.univ.fold max ⊥ (scoreAll x0 x2 b t j g) := by
  unfold val_main_v80 val_main_cst_4
  have hS := score_at x0 x2
  generalize val_main_v77 (F := Ideal) x0 x2 = S at *
  pointwise
  rw [bot_bits]
  exact congrArg (Finset.univ.fold max ⊥) (funext fun k => hS b t j g k)

theorem peak_at (b t : Fin 16) (j : Fin 4) (g : Fin 8) (u : Fin 1) :
    val_main_v84 (F := Ideal) x0 x1 x2 (ix5 (n0 := 16) (n1 := 4) (n2 := 8) (n3 := 16) (n4 := 1) b j g t u)
      = peak (scoreAll x0 x2 b t j g) (sinkAll x1 j g) := by
  unfold val_main_v84 val_main_v83 val_main_v82 val_main_v81 peak
  have h1 := top_at x0 x2
  have h2 := sink_at x1
  generalize val_main_v80 (F := Ideal) x0 x2 = T at *
  generalize val_main_v79 (F := Ideal) x1 = K at *
  pointwise
  exact congrArg₂ max (h1 b t j g) (h2 j g _ _)

theorem weight_at (b t : Fin 16) (j : Fin 4) (g : Fin 8) (k : Fin 144) :
    val_main_v87 (F := Ideal) x0 x1 x2 (ix5 (n0 := 16) (n1 := 4) (n2 := 8) (n3 := 16) (n4 := 144) b j g t k)
      = Ideal.exp (scoreAll x0 x2 b t j g k - peak (scoreAll x0 x2 b t j g) (sinkAll x1 j g)) := by
  unfold val_main_v87 val_main_v86 val_main_v85
  have h1 := score_at x0 x2
  have h2 := peak_at x0 x1 x2
  generalize val_main_v77 (F := Ideal) x0 x2 = S at *
  generalize val_main_v84 (F := Ideal) x0 x1 x2 = P at *
  pointwise
  exact congrArg Ideal.exp (congrArg₂ (· - ·) (h1 b t j g k) (h2 b t j g _))

theorem denom_at (b t : Fin 16) (j : Fin 4) (g : Fin 8) (u : Fin 1) :
    val_main_v94 (F := Ideal) x0 x1 x2 (ix5 (n0 := 16) (n1 := 4) (n2 := 8) (n3 := 16) (n4 := 1) b j g t u)
      = denom (scoreAll x0 x2 b t j g) (sinkAll x1 j g) := by
  unfold val_main_v94 val_main_v93 val_main_v92 val_main_v91 val_main_v90 val_main_v89 val_main_v88 val_main_cst_5 denom
  have h1 := weight_at x0 x1 x2
  have h2 := peak_at x0 x1 x2
  have h3 := sink_at x1
  generalize val_main_v87 (F := Ideal) x0 x1 x2 = W at *
  generalize val_main_v84 (F := Ideal) x0 x1 x2 = P at *
  generalize val_main_v79 (F := Ideal) x1 = K at *
  pointwise
  exact congrArg₂ (· + ·) (Finset.sum_congr rfl fun k _ => h1 b t j g k) (congrArg Ideal.exp (congrArg₂ (· - ·) (h3 j g _ _) (h2 b t j g _)))

theorem attend_at (b t : Fin 16) (j : Fin 4) (g : Fin 8) (d : Fin 64) :
    val_main_v97 (F := Ideal) x0 x1 x2 x3 (ix5 (n0 := 16) (n1 := 4) (n2 := 64) (n3 := 8) (n4 := 16) b j d g t)
      = attend (scoreAll x0 x2 b t j g) (sinkAll x1 j g) (fun k => valAll x0 x3 b j k d) := by
  rw [val_main_v97_apply]
  unfold attend
  refine Finset.sum_congr rfl fun k _ => (mul_comm _ _).trans (congrArg₂ (· * ·) ?_ ?_)
  · rw [show ridx_main_v97 (ix5 (n0 := 16) (n1 := 4) (n2 := 64) (n3 := 8) (n4 := 16) b j d g t) k = ix5 (n0 := 16) (n1 := 4) (n2 := 8) (n3 := 16) (n4 := 144) b j g t k from
      funext fun a => by match a with | ⟨0, _⟩ => rfl | ⟨1, _⟩ => rfl | ⟨2, _⟩ => rfl | ⟨3, _⟩ => rfl | ⟨4, _⟩ => rfl]
    unfold val_main_v96 val_main_v95
    have h1 := weight_at x0 x1 x2
    have h2 := denom_at x0 x1 x2
    generalize val_main_v87 (F := Ideal) x0 x1 x2 = W at *
    generalize val_main_v94 (F := Ideal) x0 x1 x2 = D at *
    pointwise
    exact congrArg₂ Ideal.div (h1 b t j g k) (h2 b t j g _)
  · rw [show lidx_main_v97 (ix5 (n0 := 16) (n1 := 4) (n2 := 64) (n3 := 8) (n4 := 16) b j d g t) k = ix4 (n0 := 16) (n1 := 144) (n2 := 4) (n3 := 64) b k j d from
      funext fun a => by match a with | ⟨0, _⟩ => rfl | ⟨1, _⟩ => rfl | ⟨2, _⟩ => rfl | ⟨3, _⟩ => rfl]
    exact value_at x0 x3 b k j d

theorem gate_at (b t : Fin 16) (n : Fin 2048) :
    val_main_v100 (F := Ideal) x0 (ix3 (n0 := 16) (n1 := 16) (n2 := 2048) b t n)
      = gate (x0 (ix2 (n0 := 256) (n1 := 4608) ⟨16 * b.val + t.val, by omega⟩ ⟨2048 + n.val, by omega⟩)) := by
  have hb := b.isLt; have ht := t.isLt; have hn := n.isLt
  unfold val_main_v100 val_main_call0_v5 val_main_call0_v4 val_main_call0_v3 val_main_call0_v2 val_main_call0_v1 val_main_call0_v0 val_main_call0_cst val_main_call0_cst_0 val_main_v2 val_main_v0 gate
  pointwise
  rw [zero_sub]
  exact congrArg (fun z : EReal => z * Ideal.div 1 (1 + Ideal.exp (-z))) (main_congr x0 (by simp only; omega) rfl)

theorem ref_heads : val_main_v103 (F := Ideal) x0 x1 x2 x3 = heads x0 x1 x2 x3 := by
  funext i
  obtain ⟨r, n, rfl⟩ : ∃ (r : Fin 256) (n : Fin 2048), i = ix2 r n := ⟨i 0, i 1, eq_ix2 (n0 := 256) (n1 := 2048) i⟩
  have hr := r.isLt; have hn := n.isLt
  unfold val_main_v103 val_main_v102 val_main_v101 val_main_v99 val_main_v98
  have h1 := attend_at x0 x1 x2 x3
  have h2 := gate_at x0
  generalize val_main_v97 (F := Ideal) x0 x1 x2 x3 = A at *
  generalize val_main_v100 (F := Ideal) x0 = G at *
  pointwise
  have e : 8 * (n.val / 512) + n.val / 64 % 8 = n.val / 64 := by omega
  have hq : queryAll x0 ⟨r.val / 16, by omega⟩ ⟨r.val % 16, by omega⟩ ⟨n.val / 512, by omega⟩ ⟨n.val / 64 % 8, by omega⟩
      = rope (fun d => x0 (ix2 (n0 := 256) (n1 := 4608) ⟨16 * (r.val / 16) + r.val % 16, by omega⟩ ⟨64 * (n.val / 64) + d.val, by omega⟩)) ⟨r.val % 16, by omega⟩ := by
    funext d
    exact congrArg (fun f => rope f _ d) (funext fun d => main_congr x0 rfl (by simp only; omega))
  have hs : scoreAll x0 x2 ⟨r.val / 16, by omega⟩ ⟨r.val % 16, by omega⟩ ⟨n.val / 512, by omega⟩ ⟨n.val / 64 % 8, by omega⟩
      = score eighth (rope (fun d => x0 (ix2 (n0 := 256) (n1 := 4608) ⟨16 * (r.val / 16) + r.val % 16, by omega⟩ ⟨64 * (n.val / 64) + d.val, by omega⟩)) ⟨r.val % 16, by omega⟩)
        (keyAll x0 x2 ⟨r.val / 16, by omega⟩ ⟨n.val / 512, by omega⟩) := by
    funext k
    unfold scoreAll
    rw [hq]
  have ha : sinkAll x1 ⟨n.val / 512, by omega⟩ ⟨n.val / 64 % 8, by omega⟩ = x1 (ix1 (n0 := 32) ⟨n.val / 64, by omega⟩) := by
    unfold sinkAll
    exact congrArg (fun u => x1 (ix1 (n0 := 32) u)) (Fin.ext (by simp only; omega))
  refine (congrArg₂ (· * ·) (h1 _ _ _ _ _) (h2 _ _ _)).trans ?_
  rw [hs, ha]
  rfl

theorem ref_newKeys : val_main_v105 (F := Ideal) x0 x2 = newKeys x0 x2 := by
  funext i
  obtain ⟨b, k, n, rfl⟩ : ∃ (b : Fin 16) (k : Fin 128) (n : Fin 256), i = ix3 b k n := ⟨i 0, i 1, i 2, eq_ix3 (n0 := 16) (n1 := 128) (n2 := 256) i⟩
  have hb := b.isLt; have hk := k.isLt; have hn := n.isLt
  unfold val_main_v105 val_main_v104
  have h := key_at x0 x2
  generalize val_main_v70 (F := Ideal) x0 x2 = K at *
  pointwise
  show _ = keyAll x0 x2 b ⟨n.val / 64, by omega⟩ ⟨k.val + 16, by omega⟩ ⟨n.val % 64, by omega⟩
  refine (h _ _ _ _).trans ?_
  simp only [Nat.add_comm 16 k.val]

/-- The reference's new value cache. -/
theorem ref_newValues : val_main_v107 (F := Ideal) x0 x3 = newValues x0 x3 := by
  funext i
  obtain ⟨b, k, n, rfl⟩ : ∃ (b : Fin 16) (k : Fin 128) (n : Fin 256), i = ix3 b k n := ⟨i 0, i 1, i 2, eq_ix3 (n0 := 16) (n1 := 128) (n2 := 256) i⟩
  have hb := b.isLt; have hk := k.isLt; have hn := n.isLt
  unfold val_main_v107 val_main_v106
  have h := value_at x0 x3
  generalize val_main_v72 (F := Ideal) x0 x3 = K at *
  pointwise
  show _ = valAll x0 x3 b ⟨n.val / 64, by omega⟩ ⟨k.val + 16, by omega⟩ ⟨n.val % 64, by omega⟩
  refine (h _ _ _ _).trans ?_
  simp only [Nat.add_comm 16 k.val]

end Cert.KernelIdeal.RefValue

end
-- ==== Proof.AttRun.lean ====
/-
  Attention: the kernel's run, read at the extended reals. The two arrays the kernel writes are `heads` and `newKeys`; the
  third result is the host's own: it sets the 16 new value rows of each sequence under the 128 cached ones and keeps
  the last 128, `newValues`.
-/
module

public import proofs.«01_k».proof.Proof.AttValue
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.RefValue

open Cert.KernelIdeal Cert.KernelIdeal.Gen Cert.AttMath

variable (m : (ℓ : Loc nD τ sig) → Buf (Elt Ideal) ℓ) (ρ : Dev nD → PrngReg)

/-- The host's new value rows: the value columns of the projected rows, by sequence. -/
def valueRows (x0 : Vec Ideal S256x4608 .f32) : (⟨S16x16x256, .f32⟩ : BufTy).Contents (Elt Ideal) :=
  extractStridedSlice S16x16x256 ![0, 0, 4352] (shapeCast S16x16x4608 x0 shapeCasts_S256x4608_S16x16x4608)
    slices_S16x16x4608_S16x16x256_0_0_4352

/-- The host's cache: the cached rows, then the new ones, and of those the last 128. -/
def cacheOf (x3 : Vec Ideal S16x128x256 .f32) (y : (⟨S16x16x256, .f32⟩ : BufTy).Contents (Elt Ideal)) :
    (⟨S16x128x256, .f32⟩ : BufTy).Contents (Elt Ideal) :=
  extractStridedSlice S16x128x256 ![0, 16, 0] (concatenate S16x144x256 1 [⟨S16x128x256, x3⟩, ⟨S16x16x256, y⟩]
    concatenates_S16x128x256_S16x16x256_S16x144x256_d1) slices_S16x144x256_S16x128x256_0_16_0

theorem tail_eq (x0 : Vec Ideal S256x4608 .f32) (x3 : Vec Ideal S16x128x256 .f32) : cacheOf x3 (valueRows x0) = newValues x0 x3 := by
  funext i
  obtain ⟨b, k, n, rfl⟩ : ∃ (b : Fin 16) (k : Fin 128) (n : Fin 256), i = ix3 b k n := ⟨i 0, i 1, i 2, eq_ix3 (n0 := 16) (n1 := 128) (n2 := 256) i⟩
  have hb := b.isLt; have hk := k.isLt; have hn := n.isLt
  unfold cacheOf valueRows
  show _ = valAll x0 x3 b ⟨n.val / 64, by omega⟩ ⟨k.val + 16, by omega⟩ ⟨n.val % 64, by omega⟩
  pointwise
  unfold valAll
  by_cases h : 16 + k.val < 128
  · rw [dif_pos h, dif_pos (show k.val + 16 < 128 by omega)]
    exact congrArg₂ (fun u v => x3 (ix3 (n0 := 16) (n1 := 128) (n2 := 256) b u v)) (Fin.ext (by simp only; omega)) (Fin.ext (by simp only; omega))
  · rw [dif_neg h, dif_neg (show ¬ k.val + 16 < 128 by omega)]
    exact congrArg₂ (fun u v => x0 (ix2 (n0 := 256) (n1 := 4608) u v)) (Fin.ext (by simp only; omega)) (Fin.ext (by simp only; omega))

/-- The new value rows when the kernel starts. -/
theorem entry_rows (c : Dev nD) : V0 m c (Proc.devRef .tc main_v27) = valueRows (m ((c : Thread nD τ).loc main_arg0)) := by
  refine (V_eq m c main_v27).trans ?_
  entry_read
  rfl

/-- The third result array after the run is the new value cache. -/
theorem final_tail (c : Dev nD) : Pipeline.afterTail₀ cfgs (dats m) 0 (V0 m) [hostOps1] c main_v30
    = newValues (m ((c : Thread nD τ).loc main_arg0)) (m ((c : Thread nD τ).loc main_arg3)) := by
  rw [← tail_eq, ← entry_rows m c]
  unfold Pipeline.afterTail₀
  simp only [List.flatten_cons, List.flatten_nil, List.append_nil]
  after_results
  have e : Pipeline.withArrays (cfgs 0).spec c (V0 m c) (fun w => (dats m 0 c).arrAt w (cfgs 0).N) (Proc.devRef .tc main_arg3)
      = m ((c : Thread nD τ).loc main_arg3) :=
    (Pipeline.withArrays_arr_shared spec0 c (V0 m c) (fun w => (dats m 0 c).arrAt w cfg0.N)
      ((dats m 0 c).arrAt_sharedIn sharedIn0 (V0 m c) (A_eq m c) _) 6).trans
      (((dats m 0 c).arrAt_in 6 rfl _).trans ((A_eq m c 6).trans (V_main_arg3 m c)))
  have e' : Pipeline.withArrays (cfgs 0).spec c (V0 m c) (fun w => (dats m 0 c).arrAt w (cfgs 0).N) (Proc.devRef .tc main_v27)
      = V0 m c (Proc.devRef .tc main_v27) :=
    Pipeline.withArrays_of_ne spec0 c (V0 m c) (fun w => (dats m 0 c).arrAt w cfg0.N) main_v27 (by decide)
  rw [e, e']
  rfl

/-- The run, read: the three result arrays, the arguments unchanged. -/
theorem run (hfin : ∀ c : Dev nD, Finite (m ((c : Thread nD τ).loc main_arg0)) (m ((c : Thread nD τ).loc main_arg1)) (m ((c : Thread nD τ).loc main_arg2))) :
    θ_run defs (onTc (τ := τ) (main (F := Ideal))) ⟨m, fun _ => 0, ρ⟩ fun r => ∀ c : Dev nD,
      r.2.mem ((c : Thread nD τ).loc main_v28_0) = heads (m ((c : Thread nD τ).loc main_arg0)) (m ((c : Thread nD τ).loc main_arg1)) (m ((c : Thread nD τ).loc main_arg2)) (m ((c : Thread nD τ).loc main_arg3))
      ∧ r.2.mem ((c : Thread nD τ).loc main_v28_1) = newKeys (m ((c : Thread nD τ).loc main_arg0)) (m ((c : Thread nD τ).loc main_arg2))
      ∧ r.2.mem ((c : Thread nD τ).loc main_v30) = newValues (m ((c : Thread nD τ).loc main_arg0)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 9).trans (final9 m c (hfin c)), ((h c).1 10).trans (final10 m c),
      ((h c).2 main_v30 (by decide)).trans (final_tail m c),
      ((h c).1 4).trans (((dats m 0 c).arrAt_in 4 rfl _).trans ((A_eq m c 4).trans (V_main_arg0 m c))),
      ((h c).1 0).trans (((dats m 0 c).arrAt_in 0 rfl _).trans ((A_eq m c 0).trans (V_main_arg1 m c))),
      ((h c).1 5).trans (((dats m 0 c).arrAt_in 5 rfl _).trans ((A_eq m c 5).trans (V_main_arg2 m c))),
      ((h c).1 6).trans (((dats m 0 c).arrAt_in 6 rfl _).trans ((A_eq m c 6).trans (V_main_arg3 m c)))⟩)
    (run_main m ρ)

end Cert.KernelIdeal.RefValue

end
-- ==== Proof.AttClaims.lean ====
/-
  The attention's claim under the precondition: the kernel's two results are the reference's.
-/
module

public import proofs.«01_k».proof.Proof.AttFrames
public import proofs.«01_k».proof.Proof.AttFinite
public import proofs.«01_k».proof.Proof.AttRef
public import proofs.«01_k».proof.Proof.AttRun

@[expose] public section

noncomputable section

open Idealize.ShloMosaic Idealize.SL.Sem

namespace Cert.AttClaims

/-- The frames hold without the precondition. -/
theorem frame_ideal_pre : Cert.quiescent_KernelIdeal_pre_finite_scores := fun m ρ _ => frame_ideal m ρ trivial
theorem frame_reference_pre : Cert.quiescent_ReferenceIdeal_pre_finite_scores := fun m ρ _ => frame_reference m ρ trivial

/-- Both runs end with the gated heads and the layer's next key and value caches. -/
theorem algebraic : Cert.algebraic_KernelIdeal_ReferenceIdeal_pre_finite_scores := by
  intro m ρ m' ρ' hpre hagree
  refine ⟨_, _, _, Cert.KernelIdeal.RefValue.run m ρ fun c => Cert.AttFinite.finite _ _ _ _ (hpre c), ?_⟩
  refine (θ_run Cert.ReferenceIdeal.defs _ _).mono (fun r h c => ⟨(h c).1.trans ?_, (h c).2.1.trans ?_, (h c).2.2.1.trans ?_, (h c).2.2.2⟩)
    (Cert.ReferenceIdeal.Value.run (F := Ideal) m' ρ')
  · obtain ⟨h0, h1, h2, h3⟩ := hagree c
    rw [Cert.ReferenceIdeal.Read.val_main_v103_eq, Cert.KernelIdeal.RefValue.ref_heads, h0, h1, h2, h3]
  · obtain ⟨h0, h1, h2, h3⟩ := hagree c
    rw [Cert.ReferenceIdeal.Read.val_main_v105_eq, Cert.KernelIdeal.RefValue.ref_newKeys, h0, h2]
  · obtain ⟨h0, h1, h2, h3⟩ := hagree c
    rw [Cert.ReferenceIdeal.Read.val_main_v107_eq, Cert.KernelIdeal.RefValue.ref_newValues, h0, h3]

end Cert.AttClaims

end
-- ==== Proof.InDnValue.lean ====
/-
  The in-projection of the DeltaNet half: what the kernel's result array ends holding at the extended reals, and that it is
  the reference's.

  Grid point `t` of the 16 × 8 grid reads rows `1024·(t/8) …` of the activations and rows `1024·(t%8) …` of layer 1's
  weights, and writes the product of the two blocks over block `(t/8, t%8)` of the result. Every block contracts all 4096
  columns at once, so element `(r, n)` of the result is one sum over the columns, the reference's own.
-/
module

public import proofs.«01_k».proof.Proof.Gen.InDnIdeal.Frame
public import proofs.«01_k».proof.Proof.Gen.RefInDnIdeal.Run
public import proofs.«01_k».proof.Proof.Gen.RefInDnIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InDnIdeal.RefValue

open Cert.InDnIdeal Cert.InDnIdeal.Gen

/-- The product of the activations `h` with layer 1's weights, transposed: one sum over the 4096 columns. -/
def prod (h : (⟨S16384x4096, .bf16⟩ : BufTy).Contents (Elt Ideal)) (w : (⟨S2x8192x4096, .bf16⟩ : BufTy).Contents (Elt Ideal)) :
    (⟨S16384x8192, .f32⟩ : BufTy).Contents (Elt Ideal) :=
  fun i => ∑ k : Fin 4096, h (ix2 (n0 := 16384) (n1 := 4096) (i 0) k) * w (ix3 (n0 := 2) (n1 := 8192) (n2 := 4096) 1 (i 1) k)

variable (m : (ℓ : Loc nD τ sig) → Buf (Elt Ideal) ℓ) (ρ : Dev nD → PrngReg)

/-- Where each window's block stands at point `t`. -/
theorem idx : ∀ t : Fin cfg0.N, (win0_0.index t 0 = t.val / 8 ∧ win0_0.index t 1 = 0)
    ∧ (win0_1.index t 0 = 1 ∧ win0_1.index t 1 = t.val % 8 ∧ win0_1.index t 2 = 0)
    ∧ (win0_2.index t 0 = t.val / 8 ∧ win0_2.index t 1 = t.val % 8) :=
  (by decide +kernel : ∀ t : Fin grid0.N, (win0_0.index t 0 = t.val / 8 ∧ win0_0.index t 1 = 0)
    ∧ (win0_1.index t 0 = 1 ∧ win0_1.index t 1 = t.val % 8 ∧ win0_1.index t 2 = 0)
    ∧ (win0_2.index t 0 = t.val / 8 ∧ win0_2.index t 1 = t.val % 8))

/-- The result array after the run is the product. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  have e := idx t
  unfold prod
  pointwise [k0_pay1]
  blk_point [iblk, V, e]

/-- The last three rows of each of the 4 sequences of 4096, at the first 6144 columns: what the convolution keeps. -/
def lastRows (p : (⟨S16384x8192, .f32⟩ : BufTy).Contents (Elt Ideal)) : (⟨S4x3x6144, .f32⟩ : BufTy).Contents (Elt Ideal) :=
  fun i => p (ix2 (n0 := 16384) (n1 := 8192) ⟨(i 0).val * 4096 + (4093 + (i 1).val), by
      have h0 : (i 0).val < 4 := (i 0).isLt
      have h1 : (i 1).val < 3 := (i 1).isLt
      omega⟩ ⟨(i 2).val, by
      have h2 : (i 2).val < 6144 := (i 2).isLt
      omega⟩)

/-- The host's reshape and slice of the result array are its last rows. -/
theorem tail_eq (p : (⟨S16384x8192, .f32⟩ : BufTy).Contents (Elt Ideal)) :
    extractStridedSlice S4x3x6144 ![0, 4093, 0] (shapeCast S4x4096x8192 p shapeCasts_S16384x8192_S4x4096x8192)
      slices_S4x4096x8192_S4x3x6144_0_4093_0 = lastRows p := by
  funext i
  unfold lastRows
  pointwise

/-- The second result array after the run is the product's last rows. -/
theorem final_tail (c : Dev nD) : Pipeline.afterTail₀ cfgs (dats m) 0 (V0 m) [hostOps1] c main_v2
    = lastRows (prod (m ((c : Thread nD τ).loc main_arg0)) (m ((c : Thread nD τ).loc main_arg1))) := by
  rw [← tail_eq, ← final m c]
  unfold Pipeline.afterTail₀
  simp only [List.flatten_cons, List.flatten_nil, List.append_nil]
  after_results
  have e : Pipeline.withArrays (cfgs 0).spec c (V0 m c) (fun w => (dats m 0 c).arrAt w (cfgs 0).N) (Proc.devRef .tc main_v0)
      = (dats m 0 c).arrAt 2 cfg0.N :=
    Pipeline.withArrays_arr spec0 launch0.win.arr_inj c (V0 m c) (fun w => (dats m 0 c).arrAt w cfg0.N) 2
  rw [e]
  rfl

/-- The run, read: the result arrays at the product and its last rows, the arguments unchanged. -/
theorem run : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_v2)
        = lastRows (prod (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final m c), ((h c).2 main_v2 (by decide)).trans (final_tail m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

/-- The reference's einsum over layer 1's weights is the product. -/
theorem ref_eq (h : (⟨S16384x4096, .bf16⟩ : BufTy).Contents (Elt Ideal)) (w : (⟨S2x8192x4096, .bf16⟩ : BufTy).Contents (Elt Ideal)) :
    Cert.RefInDnIdeal.Read.val_main_v2 (F := Ideal) h w = prod h w := by
  funext i
  rw [Cert.RefInDnIdeal.Read.val_main_v2_apply]
  unfold prod Cert.RefInDnIdeal.Read.val_main_v1 Cert.RefInDnIdeal.Read.val_main_v0
  pointwise
  refine Finset.sum_congr rfl fun k _ => congrArg₂ (· * ·) (congrArg h (funext fun a => ?_)) rfl
  match a with
  | ⟨0, _⟩ => rfl
  | ⟨1, _⟩ => rfl

/-- The reference's rows: its columns under three rows of zeros, and of those the last three, which are the columns'. -/
theorem ref_tail (h : (⟨S16384x4096, .bf16⟩ : BufTy).Contents (Elt Ideal)) (w : (⟨S2x8192x4096, .bf16⟩ : BufTy).Contents (Elt Ideal)) :
    Cert.RefInDnIdeal.Read.val_main_v7 (F := Ideal) h w = lastRows (prod h w) := by
  unfold Cert.RefInDnIdeal.Read.val_main_v7 Cert.RefInDnIdeal.Read.val_main_v6 Cert.RefInDnIdeal.Read.val_main_v4
    Cert.RefInDnIdeal.Read.val_main_v3
  rw [ref_eq]
  generalize prod h w = p
  funext i
  unfold lastRows
  have h1 : (i 1).val < 3 := (i 1).isLt
  pointwise
  rw [dif_neg (by omega)]
  exact congrArg p (funext fun a => match a with
    | ⟨0, _⟩ => Fin.ext (by show (i 0).val * 4096 + (4096 + (i 1).val - 3) = (i 0).val * 4096 + (4093 + (i 1).val); omega)
    | ⟨1, _⟩ => rfl)

end Cert.InDnIdeal.RefValue

end
-- ==== Proof.InDnClaims.lean ====
/-
  The in-projection's claims: the frames of its three programs, and the kernel's results equal to the reference's.
-/
module

public import proofs.«01_k».proof.Defs
public import proofs.«01_k».proof.Proof.Gen.InDn.Frame
public import proofs.«01_k».proof.Proof.InDnValue
public import Idealize.ShloMosaic.Lib.Quiescent

@[expose] public section

noncomputable section

open Idealize.ShloMosaic Idealize.SL.Sem

namespace Cert.InDnClaims

theorem frame_kernel : Cert.quiescent_InDn := fun m ρ _ => Cert.InDn.Gen.frame m ρ
theorem frame_ideal : Cert.quiescent_InDnIdeal := fun m ρ _ => Cert.InDnIdeal.Gen.frame m ρ

/-- The reference has no semaphore, and leaves its arguments as they were. -/
theorem frame_reference : Cert.quiescent_RefInDnIdeal := fun m ρ _ =>
  (θ_run Cert.RefInDnIdeal.defs _ _).mono (fun r h => ⟨fun c => (h c).2.2, sem_eq_zero_of_no_sems (by decide) r.2⟩)
    (Cert.RefInDnIdeal.Value.run (F := Ideal) m ρ)

/-- Both runs end with the product of the rows and the weights of layer 1, and with its last rows. -/
theorem algebraic : Cert.algebraic_InDnIdeal_RefInDnIdeal := by
  intro m ρ m' ρ' _ hagree
  refine ⟨_, _, Cert.InDnIdeal.RefValue.run m ρ, ?_⟩
  refine (θ_run Cert.RefInDnIdeal.defs _ _).mono (fun r h c => ⟨(h c).1.trans ?_, (h c).2.1.trans ?_, (h c).2.2⟩)
    (Cert.RefInDnIdeal.Value.run (F := Ideal) m' ρ')
  · rw [Cert.RefInDnIdeal.Read.val_main_v2_eq, Cert.InDnIdeal.RefValue.ref_eq, (hagree c).1, (hagree c).2]
  · rw [Cert.RefInDnIdeal.Read.val_main_v7_eq, Cert.InDnIdeal.RefValue.ref_tail, (hagree c).1, (hagree c).2]

end Cert.InDnClaims

end
-- ==== Proof.InAtIdealFrame.lean ====
/-
  The attention columns of the in-projection, idealized: its frame.

  The grid is 16 × 6, point `t` at row block `t/6` and column block `t%6`. The main product's window is stored and written
  back at every point. The narrow product's window belongs to the row block: the body stores it at column block 0, holds it
  over the other five points, and the last of them writes it back. So its buffer's contents at point `t` are stated as
  the product of the blocks the row block's first point read.
-/
module

public import proofs.«01_k».proof.Proof.Gen.InAtIdeal.Frame
public import proofs.«01_k».proof.Proof.Gen.InAtIdeal.Skeleton
public import Idealize.ShloMosaic.Lib.Pipeline.TableIdle
public import Idealize.ShloMosaic.Lib.Claim

@[expose] public section

set_option maxRecDepth 16384

noncomputable section

namespace Cert.InAtIdeal.Held

open Cert.InAtIdeal Cert.InAtIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body -/

/-- The whole of each block, as the body reads or stores it. -/
abbrev rowsRect : Rect S1024x4096 := Rect.unit (s := S1024x4096) ![0, 0] S1024x4096.size inb_S1024x4096_S1024x4096_0_0
abbrev wRect : Rect S1x768x4096 := Rect.unit (s := S1x768x4096) ![0, 0, 0] S1x768x4096.size inb_S1x768x4096_S1x768x4096_0_0_0
abbrev baRect : Rect S1x128x4096 := Rect.unit (s := S1x128x4096) ![0, 0, 0] S1x128x4096.size inb_S1x128x4096_S1x128x4096_0_0_0
abbrev mainRect : Rect S1024x768 := Rect.unit (s := S1024x768) ![0, 0] S1024x768.size inb_S1024x768_S1024x768_0_0
abbrev narrowRect : Rect S1024x128 := Rect.unit (s := S1024x128) ![0, 0] S1024x128.size inb_S1024x128_S1024x128_0_0

/-- What a point leaves in the main product's buffer, from its blocks of rows and weights. -/
def mainOut (x : Vec F S1024x4096 .bf16) (w : Vec F S1x768x4096 .bf16) : Vec F S1024x768 .f32 :=
  View.canon [⟨mainRect, k0_pay2 (View.ld x rowsRect) (View.ld w wRect)⟩]

/-- What a storing point leaves in the narrow product's buffer. -/
def narrowOut (x : Vec F S1024x4096 .bf16) (w : Vec F S1x128x4096 .bf16) : Vec F S1024x128 .f32 :=
  View.canon [⟨narrowRect, k0_pay1 (View.ld x rowsRect) (View.ld w baRect)⟩]

theorem main_cover (p : Vec F S1024x768 .f32) (y : S1024x768.Idx) :
    ∃ pc ∈ ([⟨mainRect, p⟩] : List (View.Piece (Elt F) S1024x768 .f32)), y ∈ pc.1.set :=
  View.cover_of_tiled [⟨mainRect, p⟩] S1024x768.size (by rfl) y

theorem narrow_cover (p : Vec F S1024x128 .f32) (y : S1024x128.Idx) :
    ∃ pc ∈ ([⟨narrowRect, p⟩] : List (View.Piece (Elt F) S1024x128 .f32)), y ∈ pc.1.set :=
  View.cover_of_tiled [⟨narrowRect, p⟩] S1024x128.size (by rfl) y

/-- The body stores the narrow product exactly at the points of column block 0. -/
theorem stores_iff : ∀ t : Fin cfg0.N, k0_cond1 (grid0.coords t) = 1#1 ↔ t.val % 6 = 0 :=
  (by decide +kernel : ∀ t : Fin grid0.N, k0_cond1 (grid0.coords t) = 1#1 ↔ t.val % 6 = 0)

set_option maxHeartbeats 1000000 in
/-- The body at a point that stores the narrow product: both outputs' buffers, at anything before, end at their products. -/
theorem body_stores (c : Dev nD) (E : Set ℕ) (i : grid0.Coords) (hi : k0_cond1 i = 1#1)
    (a2 : Memref sig .tc .vmem S1024x4096 .bf16) (h2 : a2.IsWhole) (a3 : Memref sig .tc .vmem S1x768x4096 .bf16) (h3 : a3.IsWhole)
    (a4 : Memref sig .tc .vmem S1x128x4096 .bf16) (h4 : a4.IsWhole) (a5 : Memref sig .tc .vmem S1024x768 .f32) (h5 : a5.IsWhole)
    (a6 : Memref sig .tc .vmem S1024x128 .f32) (h6 : a6.IsWhole)
    (x : Vec F S1024x4096 .bf16) (w : Vec F S1x768x4096 .bf16) (v : Vec F S1x128x4096 .bf16) (K : PUnit → sProp 𝕄) :
    iprop(owns (c : Thread nD τ) a2 fullShare x ∗ owns (c : Thread nD τ) a3 fullShare w ∗ owns (c : Thread nD τ) a4 fullShare v
        ∗ (∃ d, owns (c : Thread nD τ) a5 fullShare d) ∗ (∃ d, owns (c : Thread nD τ) a6 fullShare d)
        ∗ (iprop(owns (c : Thread nD τ) a2 fullShare x ∗ owns (c : Thread nD τ) a3 fullShare w ∗ owns (c : Thread nD τ) a4 fullShare v
            ∗ owns (c : Thread nD τ) a5 fullShare (mainOut x w) ∗ owns (c : Thread nD τ) a6 fullShare (narrowOut x v)) -∗ K ⟨⟩))
      ⊢ wp frame (wpE (defs₀ (F := F)) Variants.none c none) E (cc0_in_proj i a2 h2 a3 h3 a4 h4 a5 h5 a6 h6) K := by
  simp only [cc0_in_proj_eq_skeleton]; unfold cc0_in_proj_skel
  unfold owns
  iintro ⟨⟨%f2, %e2, H2⟩, ⟨%f3, %e3, H3⟩, ⟨%f4, %e4, H4⟩, ⟨%d5, %f5, -, H5⟩, ⟨%d6, %f6, -, H6⟩, Hk⟩
  subst e2 e3 e4
  sl_exec (disch := sl_exact hi)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (main_cover _)
  iexists _; isplitr
  swap; · iexact H6
  ipureintro
  exact View.read_writes_eq_canon _ _ _ (narrow_cover _)

set_option maxHeartbeats 1000000 in
/-- The body at a point that holds the narrow product: its buffer is not touched. -/
theorem body_holds (c : Dev nD) (E : Set ℕ) (i : grid0.Coords) (hi : ¬k0_cond1 i = 1#1)
    (a2 : Memref sig .tc .vmem S1024x4096 .bf16) (h2 : a2.IsWhole) (a3 : Memref sig .tc .vmem S1x768x4096 .bf16) (h3 : a3.IsWhole)
    (a4 : Memref sig .tc .vmem S1x128x4096 .bf16) (h4 : a4.IsWhole) (a5 : Memref sig .tc .vmem S1024x768 .f32) (h5 : a5.IsWhole)
    (a6 : Memref sig .tc .vmem S1024x128 .f32) (h6 : a6.IsWhole)
    (x : Vec F S1024x4096 .bf16) (w : Vec F S1x768x4096 .bf16) (K : PUnit → sProp 𝕄) :
    iprop(owns (c : Thread nD τ) a2 fullShare x ∗ owns (c : Thread nD τ) a3 fullShare w
        ∗ (∃ d, owns (c : Thread nD τ) a5 fullShare d)
        ∗ (iprop(owns (c : Thread nD τ) a2 fullShare x ∗ owns (c : Thread nD τ) a3 fullShare w
            ∗ owns (c : Thread nD τ) a5 fullShare (mainOut x w)) -∗ K ⟨⟩))
      ⊢ wp frame (wpE (defs₀ (F := F)) Variants.none c none) E (cc0_in_proj i a2 h2 a3 h3 a4 h4 a5 h5 a6 h6) K := by
  simp only [cc0_in_proj_eq_skeleton]; unfold cc0_in_proj_skel
  unfold owns
  iintro ⟨⟨%f2, %e2, H2⟩, ⟨%f3, %e3, H3⟩, ⟨%d5, %f5, -, H5⟩, Hk⟩
  subst e2 e3
  sl_exec (disch := sl_exact hi)
  sl_step
  iapply Hk
  isplitl [H2]
  · iexists f2; isplitr; · ipureintro; rfl
    iexact H2
  isplitl [H3]
  · iexists f3; isplitr; · ipureintro; rfl
    iexact H3
  iexists _; isplitr
  swap; · iexact H5
  ipureintro
  exact View.read_writes_eq_canon _ _ _ (main_cover _)

/-! ## The buffers point by point -/

/-- The first point of `t`'s row block. -/
def rowStart (t : Fin cfg0.N) : Fin cfg0.N := ⟨t.val - t.val % 6, Nat.lt_of_le_of_lt (Nat.sub_le _ _) t.isLt⟩

/-- The contents of each window's buffer after the body at point `t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => mainOut (iblk m c 0 t) (iblk m c 1 t)
    | ⟨4, _⟩ => narrowOut (iblk m c 0 (rowStart t)) (iblk m c 2 (rowStart t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = mainOut (iblk m c 0 t) (iblk m c 1 t) := by
  dsimp only [dats]
theorem after_4 (c : Dev nD) (t : Fin cfg0.N) :
    (dats m 0 c).after 4 t = narrowOut (iblk m c 0 (rowStart t)) (iblk m c 2 (rowStart t)) := by
  dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## Holding the narrow product -/

/-- The narrow window is idle exactly where the body does not store it. -/
theorem idle_iff : ∀ t : Fin cfg0.N, cfg0.idle 4 (grid0.coords t) = true ↔ t.val % 6 ≠ 0 :=
  (by decide +kernel : ∀ t : Fin grid0.N, idle0 4 (grid0.coords t) = true ↔ t.val % 6 ≠ 0)

/-- Whether the narrow buffer holds nothing of its row block yet: at the block's first point only. -/
theorem fresh_eq (t : Fin cfg0.N) : cfg0.fresh 4 t.val = decide (t.val % 6 = 0) := by
  refine Pipeline.Cfg.fresh_tab cfg0 4 (fun n => decide (n % 6 = 0)) rfl (fun t => ?_) t.val (Nat.le_of_lt t.isLt)
  have hf := flush0_4 t
  have hi := idle_iff t
  by_cases h5 : t.val % 6 = 5
  · rw [hf.mpr h5, Bool.true_or]
    exact decide_eq_true (by omega)
  · rw [Bool.eq_false_iff.mpr fun h => h5 (hf.mp h), Bool.false_or]
    by_cases h0 : t.val % 6 = 0
    · rw [show cfg0.idle 4 (cfg0.grid.coords t) = false from Bool.eq_false_iff.mpr fun h => hi.mp h h0, Bool.false_and]
      exact decide_eq_false (by omega)
    · rw [decide_eq_false h0, Bool.and_false]
      exact decide_eq_false (by omega)

/-- Two points of one row block share its first point. -/
theorem rowStart_pred (t : Fin cfg0.N) (h : t.val % 6 ≠ 0) :
    rowStart ⟨t.val - 1, Nat.lt_of_le_of_lt (Nat.sub_le _ _) t.isLt⟩ = rowStart t :=
  Fin.ext (by simp only [rowStart]; omega)

/-- At a holding point the body finds the row block's narrow product in the buffer. -/
theorem before_4 (c : Dev nD) (t : Fin cfg0.N) (h : t.val % 6 ≠ 0) (d) : (dats m 0 c).before 4 t d = (dats m 0 c).after 4 t := by
  rw [Dat.before_out_traj _ 4 rfl (fun _ _ => rfl) (fun t _ hi _ => ?_) t.val t rfl d, fresh_eq, decide_eq_false h,
    if_neg Bool.false_ne_true, after_4, after_4, rowStart_pred t h]
  rw [after_4, after_4, rowStart_pred t ((idle_iff t).mp hi)]

/-! ## The body obligation -/

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

/-- A window the body stores or reads at `t` is left at `after`. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from h]

/-- So is a window that is written back at `t`, stored there or not. -/
theorem leaves_flush (c : Dev nD) (w : Fin cfg0.W) (t : Fin cfg0.N) (h : (cfg0.win w).flush t = true) :
    (dats m 0 c).leavesExact w t = owns (c : Thread nD τ) ((cfg0.win w).stage (cfg0.slots t w)) fullShare ((dats m 0 c).after w t) := by
  unfold Dat.leavesExact; rw [h]; cases cfg0.idle w (cfg0.grid.coords t) <;> rfl

set_option maxHeartbeats 1600000 in
/-- The body at any point, by whether it stores the narrow product there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    leaves_live m c 0 t (live_0 t), leaves_live m c 1 t (live_1 t), leaves_live m c 2 t (live_2 t),
    leaves_live m c 3 t (live_3 t), after_0, after_1, after_2, after_3]
  by_cases h : t.val % 6 = 0
  · rw [leaves_live m c 4 t (Bool.eq_false_iff.mpr fun hi => (idle_iff t).mp hi h), after_4,
      show rowStart t = t from Fin.ext (by simp only [rowStart]; omega)]
    iintro ⟨HΦ, Ho, ⟨%d0, H0⟩, ⟨%d1, H1⟩, ⟨%d2, H2⟩, ⟨%d3, H3⟩, ⟨%d4, H4⟩⟩
    iapply (body_stores c Set.univ (grid0.coords t) ((stores_iff t).mpr h) _ _ _ _ _ _ _ _ _ _ (iblk m c 0 t) (iblk m c 1 t) (iblk m c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · have hb := before_4 m c t h
    by_cases h5 : t.val % 6 = 5
    · rw [leaves_flush m c 4 t ((flush0_4 t).mpr h5)]
      simp only [hb]
      iintro ⟨HΦ, Ho, ⟨%d0, H0⟩, ⟨%d1, H1⟩, ⟨%d2, H2⟩, ⟨%d3, H3⟩, ⟨%d4, H4⟩⟩
      iapply (body_holds c Set.univ (grid0.coords t) (fun hc => h ((stores_iff t).mp hc)) _ _ _ _ _ _ _ _ _ _ (iblk m c 0 t) (iblk m c 1 t) _)
      isplitl [H0]; · iexact H0
      isplitl [H1]; · iexact H1
      isplitl [H3]; · iexists _; iexact H3
      iintro ⟨H0, H1, H3⟩
      isplitl [HΦ]; · iexact HΦ
      isplitl [Ho]; · iexact Ho
      isplitl [H0]; · iexact H0
      isplitl [H1]; · iexact H1
      isplitl [H2]; · iexact H2
      isplitl [H3]; · iexact H3
      iexact H4
    · rw [Dat.leavesExact_idle (dats m 0 c) 4 t ((idle_iff t).mpr h) (Bool.eq_false_iff.mpr fun hf => h5 ((flush0_4 t).mp hf))]
      iintro ⟨HΦ, Ho, ⟨%d0, H0⟩, ⟨%d1, H1⟩, ⟨%d2, H2⟩, ⟨%d3, H3⟩, ⟨%d4, H4⟩⟩
      iapply (body_holds c Set.univ (grid0.coords t) (fun hc => h ((stores_iff t).mp hc)) _ _ _ _ _ _ _ _ _ _ (iblk m c 0 t) (iblk m c 1 t) _)
      isplitl [H0]; · iexact H0
      isplitl [H1]; · iexact H1
      isplitl [H3]; · iexists _; iexact H3
      iintro ⟨H0, H1, H3⟩
      isplitl [HΦ]; · iexact HΦ
      isplitl [Ho]; · iexact Ho
      isplitl [H0]; · iexact H0
      isplitl [H1]; · iexact H1
      isplitl [H2]; · iexact H2
      isplitl [H3]; · iexact H3
      iexists d4; iexact H4

/-- The body called at `t`'s slots is `bodyAt0 t`. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- Every run ends with the windows' arrays as the buffers' contents make them, the other buffers as the host's lines after
    the kernel leave them, and every semaphore at zero. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_arrays : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The frame: the arguments end as they were, every semaphore at zero. -/
theorem frame_held : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_arrays m ρ)) ((θ_run defs _ _).mono (fun _ h => h.2) (run_quiescent m ρ))

end Cert.InAtIdeal.Held

end
-- ==== Proof.InAtValue.lean ====
/-
  The attention columns of the in-projection: what the kernel's result arrays end holding at the extended reals, and
  that they are the reference's.

  Grid point `t` of the 16 × 6 grid reads rows `1024·(t/6) …` of the activations and rows `768·(t%6) …` of layer 1's weights,
  and writes their product over block `(t/6, t%6)` of the first result. The second result, the beta and decay columns, is
  the product with 128 more weight rows; its block of a row block is computed at the row block's first point and
  written back at its last. Every block contracts all 4096 columns at once. The third result is the last 128 rows of each
  sequence of the first, at the value columns.
-/
module

public import proofs.«01_k».proof.Proof.InAtIdealFrame
public import proofs.«01_k».proof.Proof.Gen.RefInAtIdeal.Run
public import proofs.«01_k».proof.Proof.Gen.RefInAtIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InAtIdeal.RefValue

open Cert.InAtIdeal Cert.InAtIdeal.Gen Cert.InAtIdeal.Held

/-- The product of the activations `h` with layer 1's attention weights, transposed. -/
def prod (h : (⟨S16384x4096, .bf16⟩ : BufTy).Contents (Elt Ideal)) (w : (⟨S2x4608x4096, .bf16⟩ : BufTy).Contents (Elt Ideal)) :
    (⟨S16384x4608, .f32⟩ : BufTy).Contents (Elt Ideal) :=
  fun i => ∑ k : Fin 4096, h (ix2 (n0 := 16384) (n1 := 4096) (i 0) k) * w (ix3 (n0 := 2) (n1 := 4608) (n2 := 4096) 1 (i 1) k)

/-- The product with layer 1's beta and decay weights, transposed. -/
def narrow (h : (⟨S16384x4096, .bf16⟩ : BufTy).Contents (Elt Ideal)) (w : (⟨S2x128x4096, .bf16⟩ : BufTy).Contents (Elt Ideal)) :
    (⟨S16384x128, .f32⟩ : BufTy).Contents (Elt Ideal) :=
  fun i => ∑ k : Fin 4096, h (ix2 (n0 := 16384) (n1 := 4096) (i 0) k) * w (ix3 (n0 := 2) (n1 := 128) (n2 := 4096) 1 (i 1) k)

variable (m : (ℓ : Loc nD τ sig) → Buf (Elt Ideal) ℓ) (ρ : Dev nD → PrngReg)

/-- Where each window's block stands at point `t`. -/
theorem idx : ∀ t : Fin cfg0.N, (win0_0.index t 0 = t.val / 6 ∧ win0_0.index t 1 = 0)
    ∧ (win0_1.index t 0 = 1 ∧ win0_1.index t 1 = t.val % 6 ∧ win0_1.index t 2 = 0)
    ∧ (win0_2.index t 0 = 1 ∧ win0_2.index t 1 = 0 ∧ win0_2.index t 2 = 0)
    ∧ (win0_3.index t 0 = t.val / 6 ∧ win0_3.index t 1 = t.val % 6)
    ∧ (win0_4.index t 0 = t.val / 6 ∧ win0_4.index t 1 = 0) :=
  (by decide +kernel : ∀ t : Fin grid0.N, (win0_0.index t 0 = t.val / 6 ∧ win0_0.index t 1 = 0)
    ∧ (win0_1.index t 0 = 1 ∧ win0_1.index t 1 = t.val % 6 ∧ win0_1.index t 2 = 0)
    ∧ (win0_2.index t 0 = 1 ∧ win0_2.index t 1 = 0 ∧ win0_2.index t 2 = 0)
    ∧ (win0_3.index t 0 = t.val / 6 ∧ win0_3.index t 1 = t.val % 6)
    ∧ (win0_4.index t 0 = t.val / 6 ∧ win0_4.index t 1 = 0))

/-- The first result after the run is the product. -/
theorem final_main (c : Dev nD) : (dats m 0 c).arrAt 3 cfg0.N
    = prod (m ((c : Thread nD τ).loc main_arg0)) (m ((c : Thread nD τ).loc main_arg1)) := by
  refine (dats m 0 c).arrAt_eq_of_covers 3 _ (by decide +kernel) fun t hf y => ?_
  blk_simp
  rw [after_3]
  unfold mainOut
  frame_out
  have e := idx t
  unfold prod
  pointwise [k0_pay2]
  blk_point [iblk, V, e]

/-- The second result after the run is the narrow product. -/
theorem final_narrow (c : Dev nD) : (dats m 0 c).arrAt 4 cfg0.N
    = narrow (m ((c : Thread nD τ).loc main_arg0)) (m ((c : Thread nD τ).loc main_arg2)) := by
  refine (dats m 0 c).arrAt_eq_of_covers 4 _ (by decide +kernel) fun t hf y => ?_
  blk_simp
  rw [after_4]
  unfold narrowOut
  frame_out
  have e := idx t
  have e' := idx (rowStart t)
  have hs : (rowStart t).val / 6 = t.val / 6 := by simp only [rowStart]; omega
  rw [hs] at e'
  unfold narrow
  pointwise [k0_pay1]
  blk_point [iblk, V, e, e']

/-- The last 128 rows of each of the 4 sequences of 4096, at the 256 value columns, by head: the layer's value cache. -/
def lastValues (p : (⟨S16384x4608, .f32⟩ : BufTy).Contents (Elt Ideal)) : (⟨S4x128x4x64, .f32⟩ : BufTy).Contents (Elt Ideal) :=
  fun i => p (ix2 (n0 := 16384) (n1 := 4608) ⟨(i 0).val * 4096 + (3968 + (i 1).val), by
      have h0 : (i 0).val < 4 := (i 0).isLt
      have h1 : (i 1).val < 128 := (i 1).isLt
      omega⟩ ⟨4352 + ((i 2).val * 64 + (i 3).val), by
      have h2 : (i 2).val < 4 := (i 2).isLt
      have h3 : (i 3).val < 64 := (i 3).isLt
      omega⟩)

/-- The host's reshapes and slices of the first result array are its last value rows. -/
theorem tail_eq (p : (⟨S16384x4608, .f32⟩ : BufTy).Contents (Elt Ideal)) :
    shapeCast S4x128x4x64 (extractStridedSlice S4x128x256 ![0, 3968, 0] (extractStridedSlice S4x4096x256 ![0, 0, 4352]
      (shapeCast S4x4096x4608 p shapeCasts_S16384x4608_S4x4096x4608) slices_S4x4096x4608_S4x4096x256_0_0_4352)
      slices_S4x4096x256_S4x128x256_0_3968_0) shapeCasts_S4x128x256_S4x128x4x64 = lastValues p := by
  funext i
  unfold lastValues
  pointwise

/-- The third result array after the run is the product's last value rows. -/
theorem final_tail (c : Dev nD) : Pipeline.afterTail₀ cfgs (dats m) 0 (V0 m) [hostOps1] c main_v4
    = lastValues (prod (m ((c : Thread nD τ).loc main_arg0)) (m ((c : Thread nD τ).loc main_arg1))) := by
  rw [← tail_eq, ← final_main m c]
  unfold Pipeline.afterTail₀
  simp only [List.flatten_cons, List.flatten_nil, List.append_nil]
  after_results
  have e : Pipeline.withArrays (cfgs 0).spec c (V0 m c) (fun w => (dats m 0 c).arrAt w (cfgs 0).N) (Proc.devRef .tc main_v0_0)
      = (dats m 0 c).arrAt 3 cfg0.N :=
    Pipeline.withArrays_arr spec0 launch0.win.arr_inj c (V0 m c) (fun w => (dats m 0 c).arrAt w cfg0.N) 3
  rw [e]
  rfl

/-- The run, read: the result arrays at the two products and the last value rows, the arguments unchanged. -/
theorem run : θ_run defs (onTc (τ := τ) (main (F := Ideal))) ⟨m, fun _ => 0, ρ⟩ fun r => ∀ c : Dev nD,
      r.2.mem ((c : Thread nD τ).loc main_v0_0) = prod (m ((c : Thread nD τ).loc main_arg0)) (m ((c : Thread nD τ).loc main_arg1))
      ∧ r.2.mem ((c : Thread nD τ).loc main_v0_1) = narrow (m ((c : Thread nD τ).loc main_arg0)) (m ((c : Thread nD τ).loc main_arg2))
      ∧ r.2.mem ((c : Thread nD τ).loc main_v4)
        = lastValues (prod (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 3).trans (final_main m c), ((h c).1 4).trans (final_narrow m c),
      ((h c).2 main_v4 (by decide)).trans (final_tail m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_arrays m ρ)

/-- The reference's einsum over layer 1's attention weights is the product. -/
theorem ref_main (h : (⟨S16384x4096, .bf16⟩ : BufTy).Contents (Elt Ideal)) (w : (⟨S2x4608x4096, .bf16⟩ : BufTy).Contents (Elt Ideal)) :
    Cert.RefInAtIdeal.Read.val_main_v2 (F := Ideal) h w = prod h w := by
  funext i
  rw [Cert.RefInAtIdeal.Read.val_main_v2_apply]
  unfold prod Cert.RefInAtIdeal.Read.val_main_v1 Cert.RefInAtIdeal.Read.val_main_v0
  pointwise
  refine Finset.sum_congr rfl fun k _ => congrArg₂ (· * ·) (congrArg h (funext fun a => ?_)) rfl
  match a with
  | ⟨0, _⟩ => rfl
  | ⟨1, _⟩ => rfl

/-- The reference's einsum over layer 1's beta and decay weights is the narrow product. -/
theorem ref_narrow (h : (⟨S16384x4096, .bf16⟩ : BufTy).Contents (Elt Ideal)) (w : (⟨S2x128x4096, .bf16⟩ : BufTy).Contents (Elt Ideal)) :
    Cert.RefInAtIdeal.Read.val_main_v5 (F := Ideal) h w = narrow h w := by
  funext i
  rw [Cert.RefInAtIdeal.Read.val_main_v5_apply]
  unfold narrow Cert.RefInAtIdeal.Read.val_main_v4 Cert.RefInAtIdeal.Read.val_main_v3
  pointwise
  refine Finset.sum_congr rfl fun k _ => congrArg₂ (· * ·) (congrArg h (funext fun a => ?_)) rfl
  match a with
  | ⟨0, _⟩ => rfl
  | ⟨1, _⟩ => rfl

/-- The reference's value rows: its value columns by sequence and head, and of those the last 128 rows. -/
theorem ref_tail (h : (⟨S16384x4096, .bf16⟩ : BufTy).Contents (Elt Ideal)) (w : (⟨S2x4608x4096, .bf16⟩ : BufTy).Contents (Elt Ideal)) :
    Cert.RefInAtIdeal.Read.val_main_v8 (F := Ideal) h w = lastValues (prod h w) := by
  unfold Cert.RefInAtIdeal.Read.val_main_v8 Cert.RefInAtIdeal.Read.val_main_v7 Cert.RefInAtIdeal.Read.val_main_v6
  rw [ref_main]
  generalize prod h w = p
  funext i
  unfold lastValues
  pointwise

end Cert.InAtIdeal.RefValue

end
-- ==== Proof.InAtClaims.lean ====
/-
  The claims of the in-projection's attention columns: the frames of its three programs, and the kernel's results equal to
  the reference's.
-/
module

public import proofs.«01_k».proof.Defs
public import proofs.«01_k».proof.Proof.InAtFrame
public import proofs.«01_k».proof.Proof.InAtValue
public import Idealize.ShloMosaic.Lib.Quiescent

@[expose] public section

noncomputable section

open Idealize.ShloMosaic Idealize.SL.Sem

namespace Cert.InAtClaims

theorem frame_kernel : Cert.quiescent_InAt := fun m ρ _ => Cert.InAt.Held.frame_held m ρ
theorem frame_ideal : Cert.quiescent_InAtIdeal := fun m ρ _ => Cert.InAtIdeal.Held.frame_held m ρ

/-- The reference has no semaphore, and leaves its arguments as they were. -/
theorem frame_reference : Cert.quiescent_RefInAtIdeal := fun m ρ _ =>
  (θ_run Cert.RefInAtIdeal.defs _ _).mono (fun r h => ⟨fun c => (h c).2.2.2, sem_eq_zero_of_no_sems (by decide) r.2⟩)
    (Cert.RefInAtIdeal.Value.run (F := Ideal) m ρ)

/-- Both runs end with the two products of the rows with layer 1's weights, and with the first one's
    last value rows. -/
theorem algebraic : Cert.algebraic_InAtIdeal_RefInAtIdeal := by
  intro m ρ m' ρ' _ hagree
  refine ⟨_, _, _, Cert.InAtIdeal.RefValue.run m ρ, ?_⟩
  refine (θ_run Cert.RefInAtIdeal.defs _ _).mono (fun r h c => ⟨(h c).1.trans ?_, (h c).2.1.trans ?_, (h c).2.2.1.trans ?_, (h c).2.2.2⟩)
    (Cert.RefInAtIdeal.Value.run (F := Ideal) m' ρ')
  · rw [Cert.RefInAtIdeal.Read.val_main_v2_eq, Cert.InAtIdeal.RefValue.ref_main, (hagree c).1, (hagree c).2.1]
  · rw [Cert.RefInAtIdeal.Read.val_main_v5_eq, Cert.InAtIdeal.RefValue.ref_narrow, (hagree c).1, (hagree c).2.2]
  · rw [Cert.RefInAtIdeal.Read.val_main_v8_eq, Cert.InAtIdeal.RefValue.ref_tail, (hagree c).1, (hagree c).2.1]

end Cert.InAtClaims

end
-- ==== Proof.OutValue.lean ====
/-
  The out-projection with its epilogue: what the kernel's result array ends holding at the extended reals, and that it is the
  reference's.

  Each block of 512 rows takes eight grid points. The first seven add 512 columns of the product each, the first four from the
  DeltaNet half and the rest from the attention half, into the output block itself (`outs_sum`). The eighth adds the last 512
  columns and then normalises, scales, gates and adds the residual in place, eight rows at a time, by a counted loop of eight
  trips (`loop_read`): a trip finishes 64 rows from the product it finds in them and touches no other row. So the block ends at
  the reference's value of its rows (`final`), the eight partial sums being one sum over the 4096 columns of the two halves
  side by side (`whole_eq`).
-/
module

public import proofs.«01_k».proof.Proof.Gen.OutIdeal.Value
public import proofs.«01_k».proof.Proof.Gen.RefOutIdeal.Run
public import proofs.«01_k».proof.Proof.Gen.RefOutIdeal.Read
public import Idealize.ShloMosaic.Lib.Pipeline.ValueKit
public import Idealize.ShloMosaic.Lib.Pointwise
public import Idealize.ShloMosaic.Lib.WritesUnit
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.OutIdeal.RefValue

open Cert.OutIdeal Cert.OutIdeal.Gen

variable (m : (ℓ : Loc nD τ sig) → Buf (Elt Ideal) ℓ) (ρ : Dev nD → PrngReg)

/-- One k-block's product at an element: 512 columns of `x` against 512 rows of `w`. -/
def part (x : Vec Ideal S512x512 .bf16) (w : Vec Ideal S1x512x4096 .bf16) (r : Fin 512) (n : Fin 4096) : EReal :=
  ∑ k : Fin 512, x (ix2 r k) * w (ix3 (n0 := 1) 0 k n)

theorem out_A (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S1x512x4096 .bf16) (harg4 : arg4.IsWhole) (arg5 : Memref sig .tc .vmem S512x4096 .f32) (harg5 : arg5.IsWhole) (arg6 : Memref sig .tc .vmem S1x3x8x4096 .f32) (harg6 : arg6.IsWhole) (arg7 : Memref sig .tc .vmem S8x4096 .f32) (harg7 : arg7.IsWhole) (arg8 : Memref sig .tc .vmem S512x4096 .f32) (harg8 : arg8.IsWhole) (hc0 : cond0_0 i) (hc1 : ¬cond0_1 i) (hc2 : ¬cond0_2 i) (hc3 : ¬cond0_3 i)
    (x0 : Vec Ideal S512x512 .bf16) (x1 : Vec Ideal S512x512 .bf16) (x2 : Vec Ideal S1x512x4096 .bf16) (x3 : Vec Ideal S512x4096 .f32) (x4 : Vec Ideal S1x3x8x4096 .f32) (x5 : Vec Ideal S8x4096 .f32) (y : S512x4096.Idx) :
    out0_A_6 c i arg2 harg2 arg3 harg3 arg4 harg4 arg5 harg5 arg6 harg6 arg7 harg7 arg8 harg8 hc0 hc1 hc2 hc3 x0 x1 x2 x3 x4 x5 y
      = part x0 x2 (y 0) (y 1) := by
  frame_out
  unfold part
  pointwise [k0_pay1]

theorem out_B (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S1x512x4096 .bf16) (harg4 : arg4.IsWhole) (arg5 : Memref sig .tc .vmem S512x4096 .f32) (harg5 : arg5.IsWhole) (arg6 : Memref sig .tc .vmem S1x3x8x4096 .f32) (harg6 : arg6.IsWhole) (arg7 : Memref sig .tc .vmem S8x4096 .f32) (harg7 : arg7.IsWhole) (arg8 : Memref sig .tc .vmem S512x4096 .f32) (harg8 : arg8.IsWhole) (hc0 : ¬cond0_0 i) (hc1 : cond0_1 i) (hc2 : ¬cond0_2 i) (hc3 : ¬cond0_3 i)
    (x0 : Vec Ideal S512x512 .bf16) (x1 : Vec Ideal S512x512 .bf16) (x2 : Vec Ideal S1x512x4096 .bf16) (x3 : Vec Ideal S512x4096 .f32) (x4 : Vec Ideal S1x3x8x4096 .f32) (x5 : Vec Ideal S8x4096 .f32) (xo6 : Vec Ideal S512x4096 .f32) (y : S512x4096.Idx) :
    out0_B_6 c i arg2 harg2 arg3 harg3 arg4 harg4 arg5 harg5 arg6 harg6 arg7 harg7 arg8 harg8 hc0 hc1 hc2 hc3 x0 x1 x2 x3 x4 x5 xo6 y
      = xo6 y + part x0 x2 (y 0) (y 1) := by
  frame_out
  unfold part
  pointwise [k0_pay2]

theorem out_C (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S1x512x4096 .bf16) (harg4 : arg4.IsWhole) (arg5 : Memref sig .tc .vmem S512x4096 .f32) (harg5 : arg5.IsWhole) (arg6 : Memref sig .tc .vmem S1x3x8x4096 .f32) (harg6 : arg6.IsWhole) (arg7 : Memref sig .tc .vmem S8x4096 .f32) (harg7 : arg7.IsWhole) (arg8 : Memref sig .tc .vmem S512x4096 .f32) (harg8 : arg8.IsWhole) (hc0 : ¬cond0_0 i) (hc1 : ¬cond0_1 i) (hc2 : cond0_2 i) (hc3 : ¬cond0_3 i)
    (x0 : Vec Ideal S512x512 .bf16) (x1 : Vec Ideal S512x512 .bf16) (x2 : Vec Ideal S1x512x4096 .bf16) (x3 : Vec Ideal S512x4096 .f32) (x4 : Vec Ideal S1x3x8x4096 .f32) (x5 : Vec Ideal S8x4096 .f32) (xo6 : Vec Ideal S512x4096 .f32) (y : S512x4096.Idx) :
    out0_C_6 c i arg2 harg2 arg3 harg3 arg4 harg4 arg5 harg5 arg6 harg6 arg7 harg7 arg8 harg8 hc0 hc1 hc2 hc3 x0 x1 x2 x3 x4 x5 xo6 y
      = xo6 y + part x1 x2 (y 0) (y 1) := by
  frame_out
  unfold part
  pointwise [k0_pay3]

/-! ## The epilogue: sixty-four chunks of eight rows -/

/-- What the epilogue makes of eight rows: `x + gate · (y · rsqrt(mean y² + ε) · g)`. -/
def epi (yv xv : Vec Ideal S8x4096 .f32) (mv : Vec Ideal S1x1x8x4096 .f32) (gv : Vec Ideal S8x4096 .f32) : Vec Ideal S8x4096 .f32 :=
  k0_pay22 (k0_pay4 yv) (k0_pay12 yv) xv mv gv

/-- The value at row `r`, column `n` from the finished product `y`. -/
def fin6 (Y X : Vec Ideal S512x4096 .f32) (M : Vec Ideal S1x3x8x4096 .f32) (Gm : Vec Ideal S8x4096 .f32) (r : Fin 512) (n : Fin 4096) : EReal :=
  X (ix2 r n) + M (ix4 (n0 := 1) (n1 := 3) (n2 := 8) 0 2 ⟨r.val % 8, Nat.mod_lt _ (by decide)⟩ n)
    * (Y (ix2 r n) * Ideal.rsqrt (Ideal.div (∑ k : Fin 4096, Y (ix2 r k) * Y (ix2 r k)) (Ideal.ofBits .f32 0x45800000#32) + Ideal.ofBits .f32 0x358637BD#32)
        * Gm (ix2 (n0 := 8) ⟨r.val % 8, Nat.mod_lt _ (by decide)⟩ n))

theorem epi_apply (yv xv : Vec Ideal S8x4096 .f32) (mv : Vec Ideal S1x1x8x4096 .f32) (gv : Vec Ideal S8x4096 .f32) (a : Fin 8) (n : Fin 4096) :
    epi yv xv mv gv (ix2 a n) = xv (ix2 a n) + mv (ix4 (n0 := 1) (n1 := 1) 0 0 a n)
      * (yv (ix2 a n) * Ideal.rsqrt (Ideal.div (∑ k : Fin 4096, yv (ix2 a k) * yv (ix2 a k)) (Ideal.ofBits .f32 0x45800000#32) + Ideal.ofBits .f32 0x358637BD#32)
        * gv (ix2 a n)) := by
  unfold epi
  pointwise [k0_pay22, k0_pay4, k0_pay12]

theorem off1_eq : ∀ k : Fin k0_t1_loop.trips, ∀ j : Fin 8, k0_off1 k (BitVec.ofNat 32 j.val) = ![64 * k.val + 8 * j.val, 0] := by
  decide +kernel

theorem off2_eq : ∀ k : Fin k0_t1_loop.trips, ∀ j : Fin 8, k0_off2 k (BitVec.ofNat 32 j.val) = ![0, 2, 0, 0] := by
  decide +kernel

/-- The chunk of trip `k`, chunk `j`, from the buffers as the trip finds them. -/
def chunk (i : grid0.Coords) (arg5 : Memref sig .tc .vmem S512x4096 .f32) (arg6 : Memref sig .tc .vmem S1x3x8x4096 .f32) (arg7 : Memref sig .tc .vmem S8x4096 .f32) (arg8 : Memref sig .tc .vmem S512x4096 .f32) (k0_h4 : k0_cond4 i = 1#1) (X5 : BufTy.Contents (Elt Ideal) arg5.view.ty) (X6 : BufTy.Contents (Elt Ideal) arg6.view.ty) (X7 : BufTy.Contents (Elt Ideal) arg7.view.ty) (k : Fin k0_t1_loop.trips) (f : BufTy.Contents (Elt Ideal) arg8.view.ty) (j : Fin 8) : Vec Ideal S8x4096 .f32 :=
  epi (View.readAt (Elt Ideal) arg8.view (Rect.unit (s := S512x4096) (k0_off1 k (BitVec.ofNat 32 j.val)) S8x4096.size (k0_off1_inb i k k0_h4 j)).toLoadRect f)
    (View.readAt (Elt Ideal) arg5.view (Rect.unit (s := S512x4096) (k0_off1 k (BitVec.ofNat 32 j.val)) S8x4096.size (k0_off1_inb i k k0_h4 j)).toLoadRect X5)
    (View.readAt (Elt Ideal) arg6.view (Rect.unit (s := S1x3x8x4096) (k0_off2 k (BitVec.ofNat 32 j.val)) S1x1x8x4096.size (k0_off2_inb i k k0_h4 j)).toLoadRect X6)
    (View.readAt (Elt Ideal) arg7.view (Rect.unit (s := S8x4096) ![0, 0] S8x4096.size inb_S8x4096_S8x4096_0_0).toLoadRect X7)

theorem chunk_apply (i : grid0.Coords) (arg5 : Memref sig .tc .vmem S512x4096 .f32) (arg6 : Memref sig .tc .vmem S1x3x8x4096 .f32) (arg7 : Memref sig .tc .vmem S8x4096 .f32) (arg8 : Memref sig .tc .vmem S512x4096 .f32) (k0_h4 : k0_cond4 i = 1#1) (X5 : BufTy.Contents (Elt Ideal) arg5.view.ty) (X6 : BufTy.Contents (Elt Ideal) arg6.view.ty) (X7 : BufTy.Contents (Elt Ideal) arg7.view.ty) (k : Fin k0_t1_loop.trips) (f : BufTy.Contents (Elt Ideal) arg8.view.ty) (j : Fin 8)
    (r : Fin 512) (n : Fin 4096) (a : Fin 8) (hr : r.val = 64 * k.val + 8 * j.val + a.val) :
    chunk i arg5 arg6 arg7 arg8 k0_h4 X5 X6 X7 k f j (ix2 a n)
      = fin6 (View.read (Elt Ideal) arg8.view f) (View.read (Elt Ideal) arg5.view X5) (View.read (Elt Ideal) arg6.view X6) (View.read (Elt Ideal) arg7.view X7) r n := by
  have h8 : r.val % 8 = a.val := by have := a.isLt; omega
  have hin : ∀ b, (![64 * k.val + 8 * j.val, 0] : Fin 2 → ℕ) b + S8x4096.size b ≤ S512x4096.size b := by
    rw [← off1_eq]; exact k0_off1_inb i k k0_h4 j
  have hin2 : ∀ b, (![0, 2, 0, 0] : Fin 4 → ℕ) b + S1x1x8x4096.size b ≤ S1x3x8x4096.size b := by
    rw [← off2_eq k j]; exact k0_off2_inb i k k0_h4 j
  have hw : ∀ (X : Vec Ideal S512x4096 .f32) (n : Fin 4096), VecWindow.window X ![64 * k.val + 8 * j.val, 0] S8x4096.size hin (ix2 (n0 := 8) (n1 := 4096) a n) = X (ix2 r n) := by
    intro X n
    refine congrArg X (funext fun b => Fin.ext ?_)
    match b with
    | ⟨0, _⟩ => show 64 * k.val + 8 * j.val + 1 * a.val = r.val; omega
    | ⟨1, _⟩ => show 0 + 1 * n.val = n.val; omega
  unfold chunk
  rw [epi_apply]
  rw [View.readAt_unit arg8.view f _ (off1_eq k j) hin, View.readAt_unit arg5.view X5 _ (off1_eq k j) hin,
    View.readAt_unit arg6.view X6 _ (off2_eq k j) hin2, View.readAt_full arg7.view]
  simp only [hw]
  unfold fin6
  have hf : (⟨r.val % 8, Nat.mod_lt _ (by decide)⟩ : Fin 8) = a := Fin.ext h8
  rw [hf]
  congr 2
  refine congrArg (View.read (Elt Ideal) arg6.view X6) (funext fun b => Fin.ext ?_)
  match b with
  | ⟨0, _⟩ => rfl
  | ⟨1, _⟩ => rfl
  | ⟨2, _⟩ => show 0 + 1 * a.val = a.val; omega
  | ⟨3, _⟩ => show 0 + 1 * n.val = n.val; omega

/-- The store of chunk `j` of trip `k`, by contents `f` of the output block. -/
def piece (i : grid0.Coords) (arg5 : Memref sig .tc .vmem S512x4096 .f32) (arg6 : Memref sig .tc .vmem S1x3x8x4096 .f32) (arg7 : Memref sig .tc .vmem S8x4096 .f32) (arg8 : Memref sig .tc .vmem S512x4096 .f32) (k0_h4 : k0_cond4 i = 1#1) (X5 : BufTy.Contents (Elt Ideal) arg5.view.ty) (X6 : BufTy.Contents (Elt Ideal) arg6.view.ty) (X7 : BufTy.Contents (Elt Ideal) arg7.view.ty) (k : Fin k0_t1_loop.trips) (f : BufTy.Contents (Elt Ideal) arg8.view.ty) (j : Fin 8) : View.Piece (Elt Ideal) S512x4096 .f32 :=
  ⟨Rect.unit (s := S512x4096) (k0_off1 k (BitVec.ofNat 32 j.val)) S8x4096.size (k0_off1_inb i k k0_h4 j), chunk i arg5 arg6 arg7 arg8 k0_h4 X5 X6 X7 k f j⟩

theorem trip_pieces (𝒱 : Variants) (c : Dev nD) (bd : Option 𝒱.V) (i : grid0.Coords) (arg2 : Memref sig .tc .vmem S512x512 .bf16) (harg2 : arg2.IsWhole) (arg3 : Memref sig .tc .vmem S512x512 .bf16) (harg3 : arg3.IsWhole) (arg4 : Memref sig .tc .vmem S1x512x4096 .bf16) (harg4 : arg4.IsWhole) (arg5 : Memref sig .tc .vmem S512x4096 .f32) (harg5 : arg5.IsWhole) (arg6 : Memref sig .tc .vmem S1x3x8x4096 .f32) (harg6 : arg6.IsWhole) (arg7 : Memref sig .tc .vmem S8x4096 .f32) (harg7 : arg7.IsWhole) (arg8 : Memref sig .tc .vmem S512x4096 .f32) (harg8 : arg8.IsWhole) (k0_h4 : k0_cond4 i = 1#1) (X5 : BufTy.Contents (Elt Ideal) arg5.view.ty) (X6 : BufTy.Contents (Elt Ideal) arg6.view.ty) (X7 : BufTy.Contents (Elt Ideal) arg7.view.ty) (k : Fin k0_t1_loop.trips) (f : BufTy.Contents (Elt Ideal) arg8.view.ty) :
    tripL_k0_t1 (F := Ideal) 𝒱 c bd i arg2 harg2 arg3 harg3 arg4 harg4 arg5 harg5 arg6 harg6 arg7 harg7 arg8 harg8 k0_h4 X5 X6 X7 k f
      = [piece i arg5 arg6 arg7 arg8 k0_h4 X5 X6 X7 k f 7, piece i arg5 arg6 arg7 arg8 k0_h4 X5 X6 X7 k f 6, piece i arg5 arg6 arg7 arg8 k0_h4 X5 X6 X7 k f 5, piece i arg5 arg6 arg7 arg8 k0_h4 X5 X6 X7 k f 4, piece i arg5 arg6 arg7 arg8 k0_h4 X5 X6 X7 k f 3, piece i arg5 arg6 arg7 arg8 k0_h4 X5 X6 X7 k f 2, piece i arg5 arg6 arg7 arg8 k0_h4 X5 X6 X7 k f 1, piece i arg5 arg6 arg7 arg8 k0_h4 X5 X6 X7 k f 0] := by
  unfold tripL_k0_t1 trip_k0_t1
  rfl

/-- Reading past one chunk's store: its eight rows hold the finished value, the others what was there. -/
theorem read_piece (i : grid0.Coords) (arg5 : Memref sig .tc .vmem S512x4096 .f32) (arg6 : Memref sig .tc .vmem S1x3x8x4096 .f32) (arg7 : Memref sig .tc .vmem S8x4096 .f32) (arg8 : Memref sig .tc .vmem S512x4096 .f32) (k0_h4 : k0_cond4 i = 1#1) (X5 : BufTy.Contents (Elt Ideal) arg5.view.ty) (X6 : BufTy.Contents (Elt Ideal) arg6.view.ty) (X7 : BufTy.Contents (Elt Ideal) arg7.view.ty) (k : Fin k0_t1_loop.trips) (f g : BufTy.Contents (Elt Ideal) arg8.view.ty) (j : Fin 8)
    (L : List (View.Piece (Elt Ideal) S512x4096 .f32)) (r : Fin 512) (n : Fin 4096) :
    View.read (Elt Ideal) arg8.view (arg8.view.writes (Elt Ideal) g (piece i arg5 arg6 arg7 arg8 k0_h4 X5 X6 X7 k f j :: L)) (ix2 r n)
      = if 64 * k.val + 8 * j.val ≤ r.val ∧ r.val < 64 * k.val + 8 * j.val + 8 then fin6 (View.read (Elt Ideal) arg8.view f) (View.read (Elt Ideal) arg5.view X5) (View.read (Elt Ideal) arg6.view X6) (View.read (Elt Ideal) arg7.view X7) r n
        else View.read (Elt Ideal) arg8.view (arg8.view.writes (Elt Ideal) g L) (ix2 r n) := by
  by_cases h : 64 * k.val + 8 * j.val ≤ r.val ∧ r.val < 64 * k.val + 8 * j.val + 8
  · rw [if_pos h, ← chunk_apply i arg5 arg6 arg7 arg8 k0_h4 X5 X6 X7 k f j r n ⟨r.val - (64 * k.val + 8 * j.val), by omega⟩ (by show r.val = _ + (r.val - _); omega)]
    exact View.read_writes_cons_rows_of_mem (o := 64 * k.val + 8 * j.val) arg8.view g _ _ L _ (ix2 _ n) (off1_eq k j)
      (by show r.val = _ + (r.val - _); omega) rfl
  · rw [if_neg h]
    exact View.read_writes_cons_rows_of_not_mem (o := 64 * k.val + 8 * j.val) (W := 8) arg8.view g _ _ L _ (off1_eq k j) rfl
      (by show r.val < _ ∨ _ ≤ r.val; omega)

/-- One trip finishes sixty-four rows and leaves the rest. -/
theorem trip_read (𝒱 : Variants) (c : Dev nD) (bd : Option 𝒱.V) (i : grid0.Coords) (arg2 : Memref sig .tc .vmem S512x512 .bf16) (harg2 : arg2.IsWhole) (arg3 : Memref sig .tc .vmem S512x512 .bf16) (harg3 : arg3.IsWhole) (arg4 : Memref sig .tc .vmem S1x512x4096 .bf16) (harg4 : arg4.IsWhole) (arg5 : Memref sig .tc .vmem S512x4096 .f32) (harg5 : arg5.IsWhole) (arg6 : Memref sig .tc .vmem S1x3x8x4096 .f32) (harg6 : arg6.IsWhole) (arg7 : Memref sig .tc .vmem S8x4096 .f32) (harg7 : arg7.IsWhole) (arg8 : Memref sig .tc .vmem S512x4096 .f32) (harg8 : arg8.IsWhole) (k0_h4 : k0_cond4 i = 1#1) (X5 : BufTy.Contents (Elt Ideal) arg5.view.ty) (X6 : BufTy.Contents (Elt Ideal) arg6.view.ty) (X7 : BufTy.Contents (Elt Ideal) arg7.view.ty) (k : Fin k0_t1_loop.trips) (f : BufTy.Contents (Elt Ideal) arg8.view.ty) (r : Fin 512) (n : Fin 4096) :
    View.read (Elt Ideal) arg8.view (arg8.view.writes (Elt Ideal) f (tripL_k0_t1 (F := Ideal) 𝒱 c bd i arg2 harg2 arg3 harg3 arg4 harg4 arg5 harg5 arg6 harg6 arg7 harg7 arg8 harg8 k0_h4 X5 X6 X7 k f)) (ix2 r n)
      = if 64 * k.val ≤ r.val ∧ r.val < 64 * (k.val + 1) then fin6 (View.read (Elt Ideal) arg8.view f) (View.read (Elt Ideal) arg5.view X5) (View.read (Elt Ideal) arg6.view X6) (View.read (Elt Ideal) arg7.view X7) r n
        else View.read (Elt Ideal) arg8.view f (ix2 r n) := by
  rw [trip_pieces]
  simp only [read_piece, View.writes_nil]
  show (if _ + 8 * 7 ≤ _ ∧ _ < _ + 8 * 7 + 8 then _ else if _ + 8 * 6 ≤ _ ∧ _ < _ + 8 * 6 + 8 then _ else
    if _ + 8 * 5 ≤ _ ∧ _ < _ + 8 * 5 + 8 then _ else if _ + 8 * 4 ≤ _ ∧ _ < _ + 8 * 4 + 8 then _ else
    if _ + 8 * 3 ≤ _ ∧ _ < _ + 8 * 3 + 8 then _ else if _ + 8 * 2 ≤ _ ∧ _ < _ + 8 * 2 + 8 then _ else
    if _ + 8 * 1 ≤ _ ∧ _ < _ + 8 * 1 + 8 then _ else if _ + 8 * 0 ≤ _ ∧ _ < _ + 8 * 0 + 8 then _ else _) = _
  split_ifs <;> first | rfl | (exfalso; omega)

theorem fin6_congr (Y Y' X : Vec Ideal S512x4096 .f32) (M : Vec Ideal S1x3x8x4096 .f32) (Gm : Vec Ideal S8x4096 .f32) (r : Fin 512)
    (h : ∀ n : Fin 4096, Y (ix2 r n) = Y' (ix2 r n)) (n : Fin 4096) : fin6 Y X M Gm r n = fin6 Y' X M Gm r n := by
  unfold fin6
  simp only [h]

/-- After `k` trips the first `64 k` rows are finished, from the product the loop found. -/
theorem loop_read (𝒱 : Variants) (c : Dev nD) (bd : Option 𝒱.V) (i : grid0.Coords) (arg2 : Memref sig .tc .vmem S512x512 .bf16) (harg2 : arg2.IsWhole) (arg3 : Memref sig .tc .vmem S512x512 .bf16) (harg3 : arg3.IsWhole) (arg4 : Memref sig .tc .vmem S1x512x4096 .bf16) (harg4 : arg4.IsWhole) (arg5 : Memref sig .tc .vmem S512x4096 .f32) (harg5 : arg5.IsWhole) (arg6 : Memref sig .tc .vmem S1x3x8x4096 .f32) (harg6 : arg6.IsWhole) (arg7 : Memref sig .tc .vmem S8x4096 .f32) (harg7 : arg7.IsWhole) (arg8 : Memref sig .tc .vmem S512x4096 .f32) (harg8 : arg8.IsWhole) (k0_h4 : k0_cond4 i = 1#1) (X5 : BufTy.Contents (Elt Ideal) arg5.view.ty) (X6 : BufTy.Contents (Elt Ideal) arg6.view.ty) (X7 : BufTy.Contents (Elt Ideal) arg7.view.ty) (G : BufTy.Contents (Elt Ideal) arg8.view.ty) (n : Fin 4096) : ∀ k : ℕ, k ≤ 8 → ∀ r : Fin 512,
    View.read (Elt Ideal) arg8.view (arg8.view.writes (Elt Ideal) G (pb_k0_t1 (F := Ideal) 𝒱 c bd i arg2 harg2 arg3 harg3 arg4 harg4 arg5 harg5 arg6 harg6 arg7 harg7 arg8 harg8 k0_h4 X5 X6 X7 G k)) (ix2 r n)
      = if r.val < 64 * k then fin6 (View.read (Elt Ideal) arg8.view G) (View.read (Elt Ideal) arg5.view X5) (View.read (Elt Ideal) arg6.view X6) (View.read (Elt Ideal) arg7.view X7) r n else View.read (Elt Ideal) arg8.view G (ix2 r n) := by
  intro k
  induction k generalizing n with
  | zero => intro _ r; rw [if_neg (by omega)]; rfl
  | succ k ih =>
    intro hk r
    have hkt : k < k0_t1_loop.trips := by have : k0_t1_loop.trips = 8 := by decide +kernel
                                          omega
    rw [pb_k0_t1_succ (F := Ideal) 𝒱 c bd i arg2 harg2 arg3 harg3 arg4 harg4 arg5 harg5 arg6 harg6 arg7 harg7 arg8 harg8 k0_h4 X5 X6 X7 G ⟨k, hkt⟩, View.writes_append, trip_read]
    by_cases h1 : 64 * k ≤ r.val ∧ r.val < 64 * (k + 1)
    · rw [if_pos h1, if_pos h1.2]
      refine fin6_congr _ _ _ _ _ r (fun n' => ?_) n
      rw [ih n' (by omega) r, if_neg (by omega)]
    · rw [if_neg h1, ih n (by omega) r]
      by_cases h2 : r.val < 64 * k
      · rw [if_pos h2, if_pos (by omega)]
      · rw [if_neg h2, if_neg (by omega)]

/-- The last step of a row block: the product's last part, then the epilogue over all of it. -/
theorem out_D (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S1x512x4096 .bf16) (harg4 : arg4.IsWhole) (arg5 : Memref sig .tc .vmem S512x4096 .f32) (harg5 : arg5.IsWhole) (arg6 : Memref sig .tc .vmem S1x3x8x4096 .f32) (harg6 : arg6.IsWhole) (arg7 : Memref sig .tc .vmem S8x4096 .f32) (harg7 : arg7.IsWhole) (arg8 : Memref sig .tc .vmem S512x4096 .f32) (harg8 : arg8.IsWhole) (hc0 : ¬cond0_0 i) (hc1 : ¬cond0_1 i) (hc2 : cond0_2 i) (hc3 : cond0_3 i)
    (x0 : Vec Ideal S512x512 .bf16) (x1 : Vec Ideal S512x512 .bf16) (x2 : Vec Ideal S1x512x4096 .bf16) (x3 : Vec Ideal S512x4096 .f32) (x4 : Vec Ideal S1x3x8x4096 .f32) (x5 : Vec Ideal S8x4096 .f32) (xo6 : Vec Ideal S512x4096 .f32) (r : Fin 512) (n : Fin 4096) :
    out0_D_6 c i arg2 harg2 arg3 harg3 arg4 harg4 arg5 harg5 arg6 harg6 arg7 harg7 arg8 harg8 hc0 hc1 hc2 hc3 x0 x1 x2 x3 x4 x5 xo6 (ix2 r n)
      = fin6 (fun y => xo6 y + part x1 x2 (y 0) (y 1)) x3 x4 x5 r n := by
  unfold out0_D_6 kernelRun0_D
  dsimp only
  have hcov : ∀ y : S512x4096.Idx, ∃ p ∈ kernelRun0_D.sl.H6_1 (F := Ideal) c arg3 harg3 arg4 harg4 arg8 harg8 x1 x2 xo6, y ∈ p.1.set := by
    sl_unfold_words
    intro y
    refine ⟨_, List.mem_singleton_self _, ?_⟩
    have e := Rect.emb_unit_full (s := S512x4096) inb_S512x4096_S512x4096_0_0 y
    exact e ▸
      (Rect.map_emb_univ (Rect.unit (s := S512x4096) ![0, 0] S512x4096.size inb_S512x4096_S512x4096_0_0) ▸ Finset.mem_map_of_mem _ (Finset.mem_univ y))
  have hG : ∀ y, View.read (Elt Ideal) arg8.view (arg8.view.writes (Elt Ideal) arg8.view.junk
      (kernelRun0_D.sl.H6_1 (F := Ideal) c arg3 harg3 arg4 harg4 arg8 harg8 x1 x2 xo6)) y = xo6 y + part x1 x2 (y 0) (y 1) := by
    intro y
    sl_unfold_words
    rw [View.read_writes_full, View.readAt_full, View.readAt_full, View.readAt_full, harg8.read_unread, harg3.read_unread, harg4.read_unread]
    unfold part
    pointwise [k0_pay3]
  rw [View.read_writes_apply_eq _ _ arg8.view arg8.view.junk _ _ (by obtain ⟨p, hp, hy⟩ := hcov (ix2 r n); exact ⟨p, List.mem_append_right _ hp, hy⟩)]
  rw [View.writes_append, show Scf.trips (0#32) (Scalar.addi 0#32 8#32) 1#32 = 8 by decide +kernel]
  rw [loop_read _ _ _ _ _ _ _ _ _ _ _ _ _ _ _ _ _ _ _ _ _ _ _ _ 8 le_rfl, if_pos (by have := r.isLt; omega)]
  rw [harg5.read_unread, harg6.read_unread, harg7.read_unread]
  exact fin6_congr _ _ _ _ _ r (fun n' => hG _) n

/-! ## The blocks at a grid point -/

/-- Where each window's block stands at point `t`. -/
theorem idx : ∀ t : Fin cfg0.N, (win0_0.index t 0 = t.val / 8 ∧ (t.val % 8 < 4 → win0_0.index t 1 = t.val % 8))
    ∧ (win0_1.index t 0 = t.val / 8 ∧ (4 ≤ t.val % 8 → win0_1.index t 1 = t.val % 8 - 4))
    ∧ (win0_2.index t 0 = 1 ∧ win0_2.index t 1 = t.val % 8 ∧ win0_2.index t 2 = 0)
    ∧ (win0_3.index t 0 = t.val / 8 ∧ win0_3.index t 1 = 0)
    ∧ (win0_4.index t 0 = t.val / 64 ∧ win0_4.index t 1 = 0 ∧ win0_4.index t 2 = 0 ∧ win0_4.index t 3 = 0)
    ∧ (win0_5.index t 0 = 0 ∧ win0_5.index t 1 = 0)
    ∧ (win0_6.index t 0 = t.val / 8 ∧ win0_6.index t 1 = 0) :=
  (by decide +kernel : ∀ t : Fin grid0.N, (win0_0.index t 0 = t.val / 8 ∧ (t.val % 8 < 4 → win0_0.index t 1 = t.val % 8))
    ∧ (win0_1.index t 0 = t.val / 8 ∧ (4 ≤ t.val % 8 → win0_1.index t 1 = t.val % 8 - 4))
    ∧ (win0_2.index t 0 = 1 ∧ win0_2.index t 1 = t.val % 8 ∧ win0_2.index t 2 = 0)
    ∧ (win0_3.index t 0 = t.val / 8 ∧ win0_3.index t 1 = 0)
    ∧ (win0_4.index t 0 = t.val / 64 ∧ win0_4.index t 1 = 0 ∧ win0_4.index t 2 = 0 ∧ win0_4.index t 3 = 0)
    ∧ (win0_5.index t 0 = 0 ∧ win0_5.index t 1 = 0)
    ∧ (win0_6.index t 0 = t.val / 8 ∧ win0_6.index t 1 = 0))

theorem point_lt (t : Fin cfg0.N) : t.val < 256 := lt_of_lt_of_eq t.isLt N_0

/-- The two halves of the layer side by side: column `k` of row `r`. -/
def cat (od oa : (⟨S16384x2048, .bf16⟩ : BufTy).Contents (Elt Ideal)) (r : Fin 16384) (k : Fin 4096) : EReal :=
  if h : k.val < 2048 then od (ix2 (n0 := 16384) (n1 := 2048) r ⟨k.val, h⟩) else oa (ix2 (n0 := 16384) (n1 := 2048) r ⟨k.val - 2048, by omega⟩)

/-- Block `s` of 512 columns of the product at row `r`, column `n`. -/
def bsum (od oa : (⟨S16384x2048, .bf16⟩ : BufTy).Contents (Elt Ideal)) (w : (⟨S2x4096x4096, .bf16⟩ : BufTy).Contents (Elt Ideal)) (r : Fin 16384) (n : Fin 4096) (s : ℕ) : EReal :=
  ∑ k : Fin 512, cat od oa r ⟨(512 * s + k.val) % 4096, Nat.mod_lt _ (by decide)⟩ * w (ix3 (n0 := 2) 1 ⟨(512 * s + k.val) % 4096, Nat.mod_lt _ (by decide)⟩ n)

theorem part_dn (c : Dev nD) (t : Fin cfg0.N) (h : t.val % 8 < 4) (r : Fin 512) (n : Fin 4096) (R : Fin 16384) (hR : R.val = 512 * (t.val / 8) + r.val) :
    part (iblk m c 0 t) (iblk m c 2 t) r n
      = bsum (m ((c : Thread nD τ).loc main_arg0)) (m ((c : Thread nD τ).loc main_arg1)) (m ((c : Thread nD τ).loc main_arg2)) R n (t.val % 8) := by
  have e := idx t
  have e1 := e.1.2 h
  unfold part bsum
  refine Finset.sum_congr rfl fun k _ => congrArg₂ (· * ·) ?_ ?_
  · unfold cat
    rw [dif_pos (by show (512 * (t.val % 8) + k.val) % 4096 < 2048; omega)]
    blk_point [iblk, V, e, e1]
  · blk_point [iblk, V, e, e1]

theorem part_at (c : Dev nD) (t : Fin cfg0.N) (h : 4 ≤ t.val % 8) (r : Fin 512) (n : Fin 4096) (R : Fin 16384) (hR : R.val = 512 * (t.val / 8) + r.val) :
    part (iblk m c 1 t) (iblk m c 2 t) r n
      = bsum (m ((c : Thread nD τ).loc main_arg0)) (m ((c : Thread nD τ).loc main_arg1)) (m ((c : Thread nD τ).loc main_arg2)) R n (t.val % 8) := by
  have e := idx t
  have e1 := e.2.1.2 h
  unfold part bsum
  refine Finset.sum_congr rfl fun k _ => congrArg₂ (· * ·) ?_ ?_
  · unfold cat
    rw [dif_neg (by show ¬(512 * (t.val % 8) + k.val) % 4096 < 2048; omega)]
    blk_point [iblk, V, e, e1]
  · blk_point [iblk, V, e, e1]

/-- Before the last step the output block holds the sum of the blocks so far. -/
theorem outs_sum (c : Dev nD) (r : Fin 512) (n : Fin 4096) : ∀ (t : ℕ) (ht : t < cfg0.N), t % 8 ≤ 6 → ∀ R : Fin 16384, R.val = 512 * (t / 8) + r.val →
    outsAt0 m c t ht (ix2 r n) = ∑ s ∈ Finset.range (t % 8 + 1),
      bsum (m ((c : Thread nD τ).loc main_arg0)) (m ((c : Thread nD τ).loc main_arg1)) (m ((c : Thread nD τ).loc main_arg2)) R n s := by
  intro t
  induction t using Nat.strong_induction_on with
  | _ t ih =>
    intro ht h6 R hR
    by_cases h0 : t % 8 = 0
    · rw [outsAt0_A m c ⟨t, ht⟩ h0 (by show ¬(1 ≤ t % 8 ∧ _); omega) (by show ¬4 ≤ t % 8; omega) (by show ¬t % 8 = 7; omega), out_A, h0, Finset.sum_range_one]
      have := part_dn m c ⟨t, ht⟩ (by show t % 8 < 4; omega) r n R hR
      rw [show t % 8 = 0 from h0] at this
      exact this
    · have hp : t - 1 < t := by omega
      have ih' := ih (t - 1) hp (lt_trans hp ht) (by omega) R (by omega)
      rw [show (t - 1) % 8 + 1 = t % 8 by omega] at ih'
      rw [Finset.sum_range_succ, ← ih']
      by_cases h4 : 4 ≤ t % 8
      · rw [outsAt0_C m c ⟨t, ht⟩ h0 (by show ¬(1 ≤ t % 8 ∧ t % 8 ≤ 3); omega) h4 (by show ¬t % 8 = 7; omega), out_C]
        exact congrArg₂ (· + ·) rfl (part_at m c ⟨t, ht⟩ h4 r n R hR)
      · rw [outsAt0_B m c ⟨t, ht⟩ h0 (by show (1 ≤ t % 8 ∧ t % 8 ≤ 3); omega) h4 (by show ¬t % 8 = 7; omega), out_B]
        exact congrArg₂ (· + ·) rfl (part_dn m c ⟨t, ht⟩ (by show t % 8 < 4; omega) r n R hR)

/-- The whole product at row `r`, column `n`. -/
def whole (od oa : (⟨S16384x2048, .bf16⟩ : BufTy).Contents (Elt Ideal)) (w : (⟨S2x4096x4096, .bf16⟩ : BufTy).Contents (Elt Ideal)) (r : Fin 16384) (n : Fin 4096) : EReal :=
  ∑ k : Fin 4096, cat od oa r k * w (ix3 (n0 := 2) 1 k n)

theorem whole_eq (od oa : (⟨S16384x2048, .bf16⟩ : BufTy).Contents (Elt Ideal)) (w : (⟨S2x4096x4096, .bf16⟩ : BufTy).Contents (Elt Ideal)) (r : Fin 16384) (n : Fin 4096) :
    ∑ s ∈ Finset.range 8, bsum od oa w r n s = whole od oa w r n := by
  rw [Finset.sum_range]
  unfold bsum whole
  have h := Fin.sum_univ_univ_mul_add 8 512 fun l => cat od oa r ⟨l % 4096, Nat.mod_lt _ (by decide)⟩ * w (ix3 (n0 := 2) 1 ⟨l % 4096, Nat.mod_lt _ (by decide)⟩ n)
  refine (Finset.sum_congr rfl fun s _ => Finset.sum_congr rfl fun k _ => ?_).trans (h.trans (Finset.sum_congr rfl fun l _ => ?_))
  · simp only [Nat.mul_comm 512]
  · simp only [Nat.mod_eq_of_lt (show l.val < 4096 from l.isLt)]

/-- The layer's last step: the normalised product, gated, over the residual stream. -/
def result (od oa : (⟨S16384x2048, .bf16⟩ : BufTy).Contents (Elt Ideal)) (w : (⟨S2x4096x4096, .bf16⟩ : BufTy).Contents (Elt Ideal))
    (x : (⟨S16384x4096, .f32⟩ : BufTy).Contents (Elt Ideal)) (md : (⟨S4x3x4096, .f32⟩ : BufTy).Contents (Elt Ideal)) (g : (⟨S4096, .f32⟩ : BufTy).Contents (Elt Ideal)) :
    (⟨S16384x4096, .f32⟩ : BufTy).Contents (Elt Ideal) :=
  fun i => x (ix2 (n0 := 16384) (n1 := 4096) (i 0) (i 1)) + md (ix3 (n0 := 4) (n1 := 3) (n2 := 4096) ⟨(i 0).val / 4096, Nat.div_lt_of_lt_mul (i 0).isLt⟩ 2 (i 1))
    * (whole od oa w (i 0) (i 1) * Ideal.rsqrt (Ideal.div (∑ k : Fin 4096, whole od oa w (i 0) k * whole od oa w (i 0) k) (Ideal.ofBits .f32 0x45800000#32) + Ideal.ofBits .f32 0x358637BD#32)
        * g (ix1 (n0 := 4096) (i 1)))

/-- The result array after the run. -/
theorem final (c : Dev nD) : (dats m 0 c).arrAt 6 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  have h7 : t.val % 8 = 7 := ((by decide +kernel : ∀ t : Fin grid0.N, (cfg0.win 6).flush t = true → t.val % 8 = 7) t hf)
  have e := idx t
  have htlt := point_lt t
  blk_simp
  rw [after0_6]
  obtain ⟨r, n, rfl⟩ : ∃ (r : Fin 512) (n : Fin 4096), y = ix2 r n := ⟨y 0, y 1, eq_ix2 (n0 := 512) (n1 := 4096) y⟩
  have hemb : (win0_6.blk t).view.emb (ix2 r n) = ix2 (n0 := 16384) (n1 := 4096) ⟨512 * (t.val / 8) + r.val, by omega⟩ n := by
    blk_ext [e]
  rw [hemb, outsAt0_D m c t (by omega) (by omega) (by omega) h7, out_D]
  have hY : ∀ n', outsAt0 m c (t.val - 1) (Nat.lt_of_le_of_lt (Nat.sub_le _ _) t.isLt) (ix2 r n') + part (iblk m c 1 t) (iblk m c 2 t) r n'
      = whole (m ((c : Thread nD τ).loc main_arg0)) (m ((c : Thread nD τ).loc main_arg1)) (m ((c : Thread nD τ).loc main_arg2)) ⟨512 * (t.val / 8) + r.val, by omega⟩ n' := by
    intro n'
    rw [outs_sum m c r n' (t.val - 1) _ (by omega) ⟨512 * (t.val / 8) + r.val, by omega⟩ (by show _ = _; simp only []; omega), part_at m c t (by omega) r n' ⟨512 * (t.val / 8) + r.val, by omega⟩ rfl,
      show (t.val - 1) % 8 + 1 = 7 by omega, h7, ← whole_eq, Finset.sum_range_succ _ 7]
  unfold fin6 result
  refine congrArg₂ (· + ·) ?_ (congrArg₂ (· * ·) ?_ (congrArg₂ (· * ·) (congrArg₂ (· * ·) (hY n) ?_) ?_))
  · blk_point [iblk, V, e]
  · blk_point [iblk, V, e]
  · exact congrArg Ideal.rsqrt (congrArg₂ (· + ·) (congrArg₂ Ideal.div (Finset.sum_congr rfl fun k _ => congrArg₂ (· * ·) (hY k) (hY k)) rfl) rfl)
  · blk_point [iblk, V, e]

/-- The run, read: the result array at the layer's last step, the arguments unchanged. -/
theorem run : θ_run defs (onTc (τ := τ) (main (F := Ideal))) ⟨m, fun _ => 0, ρ⟩ fun r => ∀ c : Dev nD,
      r.2.mem ((c : Thread nD τ).loc main_v4) = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

/-- The reference's layer step. -/
theorem ref_eq (od oa : (⟨S16384x2048, .bf16⟩ : BufTy).Contents (Elt Ideal)) (w : (⟨S2x4096x4096, .bf16⟩ : BufTy).Contents (Elt Ideal))
    (x : (⟨S16384x4096, .f32⟩ : BufTy).Contents (Elt Ideal)) (md : (⟨S4x3x4096, .f32⟩ : BufTy).Contents (Elt Ideal)) (g : (⟨S4096, .f32⟩ : BufTy).Contents (Elt Ideal)) :
    Cert.RefOutIdeal.Read.val_main_v25 (F := Ideal) od oa w x md g = result od oa w x md g := by
  funext i
  obtain ⟨r, n, rfl⟩ : ∃ (r : Fin 16384) (n : Fin 4096), i = ix2 r n := ⟨i 0, i 1, eq_ix2 (n0 := 16384) (n1 := 4096) i⟩
  have hw : ∀ n : Fin 4096, Cert.RefOutIdeal.Read.val_main_v3 (F := Ideal) od oa w (ix2 r n) = whole od oa w r n := by
    intro n
    rw [Cert.RefOutIdeal.Read.val_main_v3_apply]
    unfold whole
    refine Finset.sum_congr rfl fun k _ => congrArg₂ (· * ·) ?_ ?_
    · unfold cat Cert.RefOutIdeal.Read.val_main_v0
      pointwise
    · unfold Cert.RefOutIdeal.Read.val_main_v2 Cert.RefOutIdeal.Read.val_main_v1
      pointwise
  unfold Cert.RefOutIdeal.Read.val_main_v25 Cert.RefOutIdeal.Read.val_main_v24 Cert.RefOutIdeal.Read.val_main_v23 Cert.RefOutIdeal.Read.val_main_v22 Cert.RefOutIdeal.Read.val_main_v21 Cert.RefOutIdeal.Read.val_main_v20 Cert.RefOutIdeal.Read.val_main_v19 Cert.RefOutIdeal.Read.val_main_v18 Cert.RefOutIdeal.Read.val_main_v17 Cert.RefOutIdeal.Read.val_main_v16 Cert.RefOutIdeal.Read.val_main_v15 Cert.RefOutIdeal.Read.val_main_v14 Cert.RefOutIdeal.Read.val_main_v13 Cert.RefOutIdeal.Read.val_main_v12 Cert.RefOutIdeal.Read.val_main_v11 Cert.RefOutIdeal.Read.val_main_v10 Cert.RefOutIdeal.Read.val_main_v9 Cert.RefOutIdeal.Read.val_main_v8 Cert.RefOutIdeal.Read.val_main_v7 Cert.RefOutIdeal.Read.val_main_v6 Cert.RefOutIdeal.Read.val_main_v5 Cert.RefOutIdeal.Read.val_main_v4 Cert.RefOutIdeal.Read.val_main_cst Cert.RefOutIdeal.Read.val_main_cst_0 Cert.RefOutIdeal.Read.val_main_cst_1 result
  generalize Cert.RefOutIdeal.Read.val_main_v3 (F := Ideal) od oa w = Y at *
  pointwise
  simp only [hw]

end Cert.OutIdeal.RefValue

end
-- ==== Proof.OutClaims.lean ====
/-
  The out-projection's claims: the frames of its three programs, and the kernel's result equal to the reference's.
-/
module

public import proofs.«01_k».proof.Defs
public import proofs.«01_k».proof.Proof.Gen.Out.Frame
public import proofs.«01_k».proof.Proof.OutValue
public import Idealize.ShloMosaic.Lib.Quiescent

@[expose] public section

noncomputable section

open Idealize.ShloMosaic Idealize.SL.Sem

namespace Cert.OutClaims

theorem frame_kernel : Cert.quiescent_Out := fun m ρ _ => Cert.Out.Gen.frame m ρ
theorem frame_ideal : Cert.quiescent_OutIdeal := fun m ρ _ => Cert.OutIdeal.Gen.frame m ρ

/-- The reference has no semaphore, and leaves its arguments as they were. -/
theorem frame_reference : Cert.quiescent_RefOutIdeal := fun m ρ _ =>
  (θ_run Cert.RefOutIdeal.defs _ _).mono (fun r h => ⟨fun c => (h c).2, sem_eq_zero_of_no_sems (by decide) r.2⟩)
    (Cert.RefOutIdeal.Value.run (F := Ideal) m ρ)

/-- Both runs end with the layer's next residual stream. -/
theorem algebraic : Cert.algebraic_OutIdeal_RefOutIdeal := by
  intro m ρ m' ρ' _ hagree
  refine ⟨_, Cert.OutIdeal.RefValue.run m ρ, ?_⟩
  refine (θ_run Cert.RefOutIdeal.defs _ _).mono (fun r h c => ⟨(h c).1.trans ?_, (h c).2⟩)
    (Cert.RefOutIdeal.Value.run (F := Ideal) m' ρ')
  obtain ⟨h0, h1, h2, h3, h4, h5⟩ := hagree c
  rw [Cert.RefOutIdeal.Read.val_main_v25_eq, Cert.OutIdeal.RefValue.ref_eq, h0, h1, h2, h3, h4, h5]

end Cert.OutClaims

end
-- ==== Proof.InDnSValue.lean ====
/-
  The in-projection of the DeltaNet half for the sample's rows: what the kernel's result array ends holding at the extended
  reals, and that it is the reference's.

  The 256 rows are one block. Grid point `t` of 8 reads all of them and rows `1024·t …` of layer 1's weights, and writes the
  product over its 1024 columns of the result. Each sequence has 16 rows, and the last three are kept for the convolution.
-/
module

public import proofs.«01_k».proof.Proof.Gen.InDnSIdeal.Frame
public import proofs.«01_k».proof.Proof.Gen.RefInDnSIdeal.Run
public import proofs.«01_k».proof.Proof.Gen.RefInDnSIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InDnSIdeal.RefValue

open Cert.InDnSIdeal Cert.InDnSIdeal.Gen

/-- The product of the activations `h` with layer 1's weights, transposed: one sum over the 4096 columns. -/
def prod (h : (⟨S256x4096, .bf16⟩ : BufTy).Contents (Elt Ideal)) (w : (⟨S2x8192x4096, .bf16⟩ : BufTy).Contents (Elt Ideal)) :
    (⟨S256x8192, .f32⟩ : BufTy).Contents (Elt Ideal) :=
  fun i => ∑ k : Fin 4096, h (ix2 (n0 := 256) (n1 := 4096) (i 0) k) * w (ix3 (n0 := 2) (n1 := 8192) (n2 := 4096) 1 (i 1) k)

variable (m : (ℓ : Loc nD τ sig) → Buf (Elt Ideal) ℓ) (ρ : Dev nD → PrngReg)

/-- Where each window's block stands at point `t`. -/
theorem idx : ∀ t : Fin cfg0.N, (win0_0.index t 0 = t.val / 8 ∧ win0_0.index t 1 = 0)
    ∧ (win0_1.index t 0 = 1 ∧ win0_1.index t 1 = t.val % 8 ∧ win0_1.index t 2 = 0)
    ∧ (win0_2.index t 0 = t.val / 8 ∧ win0_2.index t 1 = t.val % 8) :=
  (by decide +kernel : ∀ t : Fin grid0.N, (win0_0.index t 0 = t.val / 8 ∧ win0_0.index t 1 = 0)
    ∧ (win0_1.index t 0 = 1 ∧ win0_1.index t 1 = t.val % 8 ∧ win0_1.index t 2 = 0)
    ∧ (win0_2.index t 0 = t.val / 8 ∧ win0_2.index t 1 = t.val % 8))

/-- The result array after the run is the product. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  have e := idx t
  unfold prod
  pointwise [k0_pay1]
  blk_point [iblk, V, e]

/-- The last three rows of each of the 4 sequences of 4096, at the first 6144 columns: what the convolution keeps. -/
def lastRows (p : (⟨S256x8192, .f32⟩ : BufTy).Contents (Elt Ideal)) : (⟨S16x3x6144, .f32⟩ : BufTy).Contents (Elt Ideal) :=
  fun i => p (ix2 (n0 := 256) (n1 := 8192) ⟨(i 0).val * 16 + (13 + (i 1).val), by
      have h0 : (i 0).val < 16 := (i 0).isLt
      have h1 : (i 1).val < 3 := (i 1).isLt
      omega⟩ ⟨(i 2).val, by
      have h2 : (i 2).val < 6144 := (i 2).isLt
      omega⟩)

/-- The host's reshape and slice of the result array are its last rows. -/
theorem tail_eq (p : (⟨S256x8192, .f32⟩ : BufTy).Contents (Elt Ideal)) :
    extractStridedSlice S16x3x6144 ![0, 13, 0] (shapeCast S16x16x8192 p shapeCasts_S256x8192_S16x16x8192)
      slices_S16x16x8192_S16x3x6144_0_13_0 = lastRows p := by
  funext i
  unfold lastRows
  pointwise

/-- The second result array after the run is the product's last rows. -/
theorem final_tail (c : Dev nD) : Pipeline.afterTail₀ cfgs (dats m) 0 (V0 m) [hostOps1] c main_v2
    = lastRows (prod (m ((c : Thread nD τ).loc main_arg0)) (m ((c : Thread nD τ).loc main_arg1))) := by
  rw [← tail_eq, ← final m c]
  unfold Pipeline.afterTail₀
  simp only [List.flatten_cons, List.flatten_nil, List.append_nil]
  after_results
  have e : Pipeline.withArrays (cfgs 0).spec c (V0 m c) (fun w => (dats m 0 c).arrAt w (cfgs 0).N) (Proc.devRef .tc main_v0)
      = (dats m 0 c).arrAt 2 cfg0.N :=
    Pipeline.withArrays_arr spec0 launch0.win.arr_inj c (V0 m c) (fun w => (dats m 0 c).arrAt w cfg0.N) 2
  rw [e]
  rfl

/-- The run, read: the result arrays at the product and its last rows, the arguments unchanged. -/
theorem run : θ_run defs (onTc (τ := τ) (main (F := Ideal))) ⟨m, fun _ => 0, ρ⟩ fun r => ∀ c : Dev nD,
      r.2.mem ((c : Thread nD τ).loc main_v0) = prod (m ((c : Thread nD τ).loc main_arg0)) (m ((c : Thread nD τ).loc main_arg1))
      ∧ r.2.mem ((c : Thread nD τ).loc main_v2)
        = lastRows (prod (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 2).trans (final m c), ((h c).2 main_v2 (by decide)).trans (final_tail m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

/-- The reference's einsum over layer 1's weights is the product. -/
theorem ref_eq (h : (⟨S256x4096, .bf16⟩ : BufTy).Contents (Elt Ideal)) (w : (⟨S2x8192x4096, .bf16⟩ : BufTy).Contents (Elt Ideal)) :
    Cert.RefInDnSIdeal.Read.val_main_v2 (F := Ideal) h w = prod h w := by
  funext i
  rw [Cert.RefInDnSIdeal.Read.val_main_v2_apply]
  unfold prod Cert.RefInDnSIdeal.Read.val_main_v1 Cert.RefInDnSIdeal.Read.val_main_v0
  pointwise
  refine Finset.sum_congr rfl fun k _ => congrArg₂ (· * ·) (congrArg h (funext fun a => ?_)) rfl
  match a with
  | ⟨0, _⟩ => rfl
  | ⟨1, _⟩ => rfl

/-- The reference's rows: its columns under the three rows kept before, and of those the last three, which are the columns'. -/
theorem ref_tail (h : (⟨S256x4096, .bf16⟩ : BufTy).Contents (Elt Ideal)) (w : (⟨S2x8192x4096, .bf16⟩ : BufTy).Contents (Elt Ideal))
    (b : (⟨S16x3x6144, .f32⟩ : BufTy).Contents (Elt Ideal)) : Cert.RefInDnSIdeal.Read.val_main_v6 (F := Ideal) h w b = lastRows (prod h w) := by
  unfold Cert.RefInDnSIdeal.Read.val_main_v6 Cert.RefInDnSIdeal.Read.val_main_v5 Cert.RefInDnSIdeal.Read.val_main_v4
    Cert.RefInDnSIdeal.Read.val_main_v3
  rw [ref_eq]
  generalize prod h w = p
  funext i
  unfold lastRows
  have h1 : (i 1).val < 3 := (i 1).isLt
  pointwise
  rw [dif_neg (by omega)]
  exact congrArg p (funext fun a => match a with
    | ⟨0, _⟩ => Fin.ext (by show (i 0).val * 16 + (16 + (i 1).val - 3) = (i 0).val * 16 + (13 + (i 1).val); omega)
    | ⟨1, _⟩ => rfl)

end Cert.InDnSIdeal.RefValue

end
-- ==== Proof.InDnSClaims.lean ====
/-
  The claims of the in-projection of the sample's rows: the frames of its three programs, and the kernel's results equal to the reference's.
-/
module

public import proofs.«01_k».proof.Defs
public import proofs.«01_k».proof.Proof.Gen.InDnS.Frame
public import proofs.«01_k».proof.Proof.InDnSValue
public import Idealize.ShloMosaic.Lib.Quiescent

@[expose] public section

noncomputable section

open Idealize.ShloMosaic Idealize.SL.Sem

namespace Cert.InDnSClaims

theorem frame_kernel : Cert.quiescent_InDnS := fun m ρ _ => Cert.InDnS.Gen.frame m ρ
theorem frame_ideal : Cert.quiescent_InDnSIdeal := fun m ρ _ => Cert.InDnSIdeal.Gen.frame m ρ

/-- The reference has no semaphore, and leaves its arguments as they were. -/
theorem frame_reference : Cert.quiescent_RefInDnSIdeal := fun m ρ _ =>
  (θ_run Cert.RefInDnSIdeal.defs _ _).mono (fun r h => ⟨fun c => (h c).2.2, sem_eq_zero_of_no_sems (by decide) r.2⟩)
    (Cert.RefInDnSIdeal.Value.run (F := Ideal) m ρ)

/-- Both runs end with the product of the rows and the weights of layer 1, and with its last rows. -/
theorem algebraic : Cert.algebraic_InDnSIdeal_RefInDnSIdeal := by
  intro m ρ m' ρ' _ hagree
  refine ⟨_, _, Cert.InDnSIdeal.RefValue.run m ρ, ?_⟩
  refine (θ_run Cert.RefInDnSIdeal.defs _ _).mono (fun r h c => ⟨(h c).1.trans ?_, (h c).2.1.trans ?_, (h c).2.2⟩)
    (Cert.RefInDnSIdeal.Value.run (F := Ideal) m' ρ')
  · rw [Cert.RefInDnSIdeal.Read.val_main_v2_eq, Cert.InDnSIdeal.RefValue.ref_eq, (hagree c).1, (hagree c).2.1]
  · rw [Cert.RefInDnSIdeal.Read.val_main_v6_eq, Cert.InDnSIdeal.RefValue.ref_tail, (hagree c).1, (hagree c).2.1]

end Cert.InDnSClaims

end
-- ==== Proof.OutSValue.lean ====
/-
  The out-projection with its epilogue for the sample's rows: what the kernel's result array ends holding at the extended
  reals, and that it is the reference's.

  The 256 rows are one block, and take eight grid points. The first seven add 512 columns of the product each, the first four
  from the DeltaNet half and the rest from the attention half, into the output block itself (`outs_sum`). The eighth adds the
  last 512 columns and then normalises, scales, gates and adds the residual in place, eight rows at a time, by a counted loop
  of four trips (`loop_read`): a trip finishes 64 rows from the product it finds in them and touches no other row. Eight rows
  lie in one sequence of sixteen, and the gate is read at that sequence's number.
-/
module

public import proofs.«01_k».proof.Proof.Gen.OutSIdeal.Value
public import proofs.«01_k».proof.Proof.Gen.RefOutSIdeal.Run
public import proofs.«01_k».proof.Proof.Gen.RefOutSIdeal.Read
public import Idealize.ShloMosaic.Lib.Pipeline.ValueKit
public import Idealize.ShloMosaic.Lib.Pointwise
public import Idealize.ShloMosaic.Lib.WritesUnit
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.OutSIdeal.RefValue

open Cert.OutSIdeal Cert.OutSIdeal.Gen

variable (m : (ℓ : Loc nD τ sig) → Buf (Elt Ideal) ℓ) (ρ : Dev nD → PrngReg)

/-- One k-block's product at an element: 512 columns of `x` against 512 rows of `w`. -/
def part (x : Vec Ideal S256x512 .bf16) (w : Vec Ideal S1x512x4096 .bf16) (r : Fin 256) (n : Fin 4096) : EReal :=
  ∑ k : Fin 512, x (ix2 r k) * w (ix3 (n0 := 1) 0 k n)

theorem out_A (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S1x512x4096 .bf16) (harg4 : arg4.IsWhole) (arg5 : Memref sig .tc .vmem S256x4096 .f32) (harg5 : arg5.IsWhole) (arg6 : Memref sig .tc .vmem S16x3x8x4096 .f32) (harg6 : arg6.IsWhole) (arg7 : Memref sig .tc .vmem S8x4096 .f32) (harg7 : arg7.IsWhole) (arg8 : Memref sig .tc .vmem S256x4096 .f32) (harg8 : arg8.IsWhole) (hc0 : cond0_0 i) (hc1 : ¬cond0_1 i) (hc2 : ¬cond0_2 i) (hc3 : ¬cond0_3 i)
    (x0 : Vec Ideal S256x512 .bf16) (x1 : Vec Ideal S256x512 .bf16) (x2 : Vec Ideal S1x512x4096 .bf16) (x3 : Vec Ideal S256x4096 .f32) (x4 : Vec Ideal S16x3x8x4096 .f32) (x5 : Vec Ideal S8x4096 .f32) (y : S256x4096.Idx) :
    out0_A_6 c i arg2 harg2 arg3 harg3 arg4 harg4 arg5 harg5 arg6 harg6 arg7 harg7 arg8 harg8 hc0 hc1 hc2 hc3 x0 x1 x2 x3 x4 x5 y
      = part x0 x2 (y 0) (y 1) := by
  frame_out
  unfold part
  pointwise [k0_pay1]

theorem out_B (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S1x512x4096 .bf16) (harg4 : arg4.IsWhole) (arg5 : Memref sig .tc .vmem S256x4096 .f32) (harg5 : arg5.IsWhole) (arg6 : Memref sig .tc .vmem S16x3x8x4096 .f32) (harg6 : arg6.IsWhole) (arg7 : Memref sig .tc .vmem S8x4096 .f32) (harg7 : arg7.IsWhole) (arg8 : Memref sig .tc .vmem S256x4096 .f32) (harg8 : arg8.IsWhole) (hc0 : ¬cond0_0 i) (hc1 : cond0_1 i) (hc2 : ¬cond0_2 i) (hc3 : ¬cond0_3 i)
    (x0 : Vec Ideal S256x512 .bf16) (x1 : Vec Ideal S256x512 .bf16) (x2 : Vec Ideal S1x512x4096 .bf16) (x3 : Vec Ideal S256x4096 .f32) (x4 : Vec Ideal S16x3x8x4096 .f32) (x5 : Vec Ideal S8x4096 .f32) (xo6 : Vec Ideal S256x4096 .f32) (y : S256x4096.Idx) :
    out0_B_6 c i arg2 harg2 arg3 harg3 arg4 harg4 arg5 harg5 arg6 harg6 arg7 harg7 arg8 harg8 hc0 hc1 hc2 hc3 x0 x1 x2 x3 x4 x5 xo6 y
      = xo6 y + part x0 x2 (y 0) (y 1) := by
  frame_out
  unfold part
  pointwise [k0_pay2]

theorem out_C (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S1x512x4096 .bf16) (harg4 : arg4.IsWhole) (arg5 : Memref sig .tc .vmem S256x4096 .f32) (harg5 : arg5.IsWhole) (arg6 : Memref sig .tc .vmem S16x3x8x4096 .f32) (harg6 : arg6.IsWhole) (arg7 : Memref sig .tc .vmem S8x4096 .f32) (harg7 : arg7.IsWhole) (arg8 : Memref sig .tc .vmem S256x4096 .f32) (harg8 : arg8.IsWhole) (hc0 : ¬cond0_0 i) (hc1 : ¬cond0_1 i) (hc2 : cond0_2 i) (hc3 : ¬cond0_3 i)
    (x0 : Vec Ideal S256x512 .bf16) (x1 : Vec Ideal S256x512 .bf16) (x2 : Vec Ideal S1x512x4096 .bf16) (x3 : Vec Ideal S256x4096 .f32) (x4 : Vec Ideal S16x3x8x4096 .f32) (x5 : Vec Ideal S8x4096 .f32) (xo6 : Vec Ideal S256x4096 .f32) (y : S256x4096.Idx) :
    out0_C_6 c i arg2 harg2 arg3 harg3 arg4 harg4 arg5 harg5 arg6 harg6 arg7 harg7 arg8 harg8 hc0 hc1 hc2 hc3 x0 x1 x2 x3 x4 x5 xo6 y
      = xo6 y + part x1 x2 (y 0) (y 1) := by
  frame_out
  unfold part
  pointwise [k0_pay3]

/-! ## The epilogue: thirty-two chunks of eight rows -/

/-- What the epilogue makes of eight rows: `x + gate · (y · rsqrt(mean y² + ε) · g)`. -/
def epi (yv xv : Vec Ideal S8x4096 .f32) (mv : Vec Ideal S1x1x8x4096 .f32) (gv : Vec Ideal S8x4096 .f32) : Vec Ideal S8x4096 .f32 :=
  k0_pay22 (k0_pay4 yv) (k0_pay12 yv) xv mv gv

/-- The value at row `r`, column `n` from the finished product `y`. -/
def fin6 (Y X : Vec Ideal S256x4096 .f32) (M : Vec Ideal S16x3x8x4096 .f32) (Gm : Vec Ideal S8x4096 .f32) (r : Fin 256) (n : Fin 4096) : EReal :=
  X (ix2 r n) + M (ix4 (n0 := 16) (n1 := 3) (n2 := 8) ⟨r.val / 16, Nat.div_lt_of_lt_mul r.isLt⟩ 2 ⟨r.val % 8, Nat.mod_lt _ (by decide)⟩ n)
    * (Y (ix2 r n) * Ideal.rsqrt (Ideal.div (∑ k : Fin 4096, Y (ix2 r k) * Y (ix2 r k)) (Ideal.ofBits .f32 0x45800000#32) + Ideal.ofBits .f32 0x358637BD#32)
        * Gm (ix2 (n0 := 8) ⟨r.val % 8, Nat.mod_lt _ (by decide)⟩ n))

theorem epi_apply (yv xv : Vec Ideal S8x4096 .f32) (mv : Vec Ideal S1x1x8x4096 .f32) (gv : Vec Ideal S8x4096 .f32) (a : Fin 8) (n : Fin 4096) :
    epi yv xv mv gv (ix2 a n) = xv (ix2 a n) + mv (ix4 (n0 := 1) (n1 := 1) 0 0 a n)
      * (yv (ix2 a n) * Ideal.rsqrt (Ideal.div (∑ k : Fin 4096, yv (ix2 a k) * yv (ix2 a k)) (Ideal.ofBits .f32 0x45800000#32) + Ideal.ofBits .f32 0x358637BD#32)
        * gv (ix2 a n)) := by
  unfold epi
  pointwise [k0_pay22, k0_pay4, k0_pay12]

theorem off1_eq : ∀ k : Fin k0_t1_loop.trips, ∀ j : Fin 8, k0_off1 k (BitVec.ofNat 32 j.val) = ![64 * k.val + 8 * j.val, 0] := by
  decide +kernel

theorem off2_eq : ∀ k : Fin k0_t1_loop.trips, ∀ j : Fin 8, k0_off2 k (BitVec.ofNat 32 j.val) = ![(8 * k.val + j.val) / 2, 2, 0, 0] := by
  decide +kernel

/-- The chunk of trip `k`, chunk `j`, from the buffers as the trip finds them. -/
def chunk (i : grid0.Coords) (arg5 : Memref sig .tc .vmem S256x4096 .f32) (arg6 : Memref sig .tc .vmem S16x3x8x4096 .f32) (arg7 : Memref sig .tc .vmem S8x4096 .f32) (arg8 : Memref sig .tc .vmem S256x4096 .f32) (k0_h4 : k0_cond4 i = 1#1) (X5 : BufTy.Contents (Elt Ideal) arg5.view.ty) (X6 : BufTy.Contents (Elt Ideal) arg6.view.ty) (X7 : BufTy.Contents (Elt Ideal) arg7.view.ty) (k : Fin k0_t1_loop.trips) (f : BufTy.Contents (Elt Ideal) arg8.view.ty) (j : Fin 8) : Vec Ideal S8x4096 .f32 :=
  epi (View.readAt (Elt Ideal) arg8.view (Rect.unit (s := S256x4096) (k0_off1 k (BitVec.ofNat 32 j.val)) S8x4096.size (k0_off1_inb i k k0_h4 j)).toLoadRect f)
    (View.readAt (Elt Ideal) arg5.view (Rect.unit (s := S256x4096) (k0_off1 k (BitVec.ofNat 32 j.val)) S8x4096.size (k0_off1_inb i k k0_h4 j)).toLoadRect X5)
    (View.readAt (Elt Ideal) arg6.view (Rect.unit (s := S16x3x8x4096) (k0_off2 k (BitVec.ofNat 32 j.val)) S1x1x8x4096.size (k0_off2_inb i k k0_h4 j)).toLoadRect X6)
    (View.readAt (Elt Ideal) arg7.view (Rect.unit (s := S8x4096) ![0, 0] S8x4096.size inb_S8x4096_S8x4096_0_0).toLoadRect X7)

theorem chunk_apply (i : grid0.Coords) (arg5 : Memref sig .tc .vmem S256x4096 .f32) (arg6 : Memref sig .tc .vmem S16x3x8x4096 .f32) (arg7 : Memref sig .tc .vmem S8x4096 .f32) (arg8 : Memref sig .tc .vmem S256x4096 .f32) (k0_h4 : k0_cond4 i = 1#1) (X5 : BufTy.Contents (Elt Ideal) arg5.view.ty) (X6 : BufTy.Contents (Elt Ideal) arg6.view.ty) (X7 : BufTy.Contents (Elt Ideal) arg7.view.ty) (k : Fin k0_t1_loop.trips) (f : BufTy.Contents (Elt Ideal) arg8.view.ty) (j : Fin 8)
    (r : Fin 256) (n : Fin 4096) (a : Fin 8) (hr : r.val = 64 * k.val + 8 * j.val + a.val) :
    chunk i arg5 arg6 arg7 arg8 k0_h4 X5 X6 X7 k f j (ix2 a n)
      = fin6 (View.read (Elt Ideal) arg8.view f) (View.read (Elt Ideal) arg5.view X5) (View.read (Elt Ideal) arg6.view X6) (View.read (Elt Ideal) arg7.view X7) r n := by
  have h8 : r.val % 8 = a.val := by have := a.isLt; omega
  have hin : ∀ b, (![64 * k.val + 8 * j.val, 0] : Fin 2 → ℕ) b + S8x4096.size b ≤ S256x4096.size b := by
    rw [← off1_eq]; exact k0_off1_inb i k k0_h4 j
  have hin2 : ∀ b, (![(8 * k.val + j.val) / 2, 2, 0, 0] : Fin 4 → ℕ) b + S1x1x8x4096.size b ≤ S16x3x8x4096.size b := by
    rw [← off2_eq k j]; exact k0_off2_inb i k k0_h4 j
  have hw : ∀ (X : Vec Ideal S256x4096 .f32) (n : Fin 4096), VecWindow.window X ![64 * k.val + 8 * j.val, 0] S8x4096.size hin (ix2 (n0 := 8) (n1 := 4096) a n) = X (ix2 r n) := by
    intro X n
    refine congrArg X (funext fun b => Fin.ext ?_)
    match b with
    | ⟨0, _⟩ => show 64 * k.val + 8 * j.val + 1 * a.val = r.val; omega
    | ⟨1, _⟩ => show 0 + 1 * n.val = n.val; omega
  unfold chunk
  rw [epi_apply]
  rw [View.readAt_unit arg8.view f _ (off1_eq k j) hin, View.readAt_unit arg5.view X5 _ (off1_eq k j) hin,
    View.readAt_unit arg6.view X6 _ (off2_eq k j) hin2, View.readAt_full arg7.view]
  simp only [hw]
  unfold fin6
  have hf : (⟨r.val % 8, Nat.mod_lt _ (by decide)⟩ : Fin 8) = a := Fin.ext h8
  rw [hf]
  congr 2
  refine congrArg (View.read (Elt Ideal) arg6.view X6) (funext fun b => Fin.ext ?_)
  match b with
  | ⟨0, _⟩ => show (8 * k.val + j.val) / 2 + 1 * 0 = r.val / 16; have := a.isLt; omega
  | ⟨1, _⟩ => rfl
  | ⟨2, _⟩ => show 0 + 1 * a.val = a.val; omega
  | ⟨3, _⟩ => show 0 + 1 * n.val = n.val; omega

/-- The store of chunk `j` of trip `k`, by contents `f` of the output block. -/
def piece (i : grid0.Coords) (arg5 : Memref sig .tc .vmem S256x4096 .f32) (arg6 : Memref sig .tc .vmem S16x3x8x4096 .f32) (arg7 : Memref sig .tc .vmem S8x4096 .f32) (arg8 : Memref sig .tc .vmem S256x4096 .f32) (k0_h4 : k0_cond4 i = 1#1) (X5 : BufTy.Contents (Elt Ideal) arg5.view.ty) (X6 : BufTy.Contents (Elt Ideal) arg6.view.ty) (X7 : BufTy.Contents (Elt Ideal) arg7.view.ty) (k : Fin k0_t1_loop.trips) (f : BufTy.Contents (Elt Ideal) arg8.view.ty) (j : Fin 8) : View.Piece (Elt Ideal) S256x4096 .f32 :=
  ⟨Rect.unit (s := S256x4096) (k0_off1 k (BitVec.ofNat 32 j.val)) S8x4096.size (k0_off1_inb i k k0_h4 j), chunk i arg5 arg6 arg7 arg8 k0_h4 X5 X6 X7 k f j⟩

theorem trip_pieces (𝒱 : Variants) (c : Dev nD) (bd : Option 𝒱.V) (i : grid0.Coords) (arg2 : Memref sig .tc .vmem S256x512 .bf16) (harg2 : arg2.IsWhole) (arg3 : Memref sig .tc .vmem S256x512 .bf16) (harg3 : arg3.IsWhole) (arg4 : Memref sig .tc .vmem S1x512x4096 .bf16) (harg4 : arg4.IsWhole) (arg5 : Memref sig .tc .vmem S256x4096 .f32) (harg5 : arg5.IsWhole) (arg6 : Memref sig .tc .vmem S16x3x8x4096 .f32) (harg6 : arg6.IsWhole) (arg7 : Memref sig .tc .vmem S8x4096 .f32) (harg7 : arg7.IsWhole) (arg8 : Memref sig .tc .vmem S256x4096 .f32) (harg8 : arg8.IsWhole) (k0_h4 : k0_cond4 i = 1#1) (X5 : BufTy.Contents (Elt Ideal) arg5.view.ty) (X6 : BufTy.Contents (Elt Ideal) arg6.view.ty) (X7 : BufTy.Contents (Elt Ideal) arg7.view.ty) (k : Fin k0_t1_loop.trips) (f : BufTy.Contents (Elt Ideal) arg8.view.ty) :
    tripL_k0_t1 (F := Ideal) 𝒱 c bd i arg2 harg2 arg3 harg3 arg4 harg4 arg5 harg5 arg6 harg6 arg7 harg7 arg8 harg8 k0_h4 X5 X6 X7 k f
      = [piece i arg5 arg6 arg7 arg8 k0_h4 X5 X6 X7 k f 7, piece i arg5 arg6 arg7 arg8 k0_h4 X5 X6 X7 k f 6, piece i arg5 arg6 arg7 arg8 k0_h4 X5 X6 X7 k f 5, piece i arg5 arg6 arg7 arg8 k0_h4 X5 X6 X7 k f 4, piece i arg5 arg6 arg7 arg8 k0_h4 X5 X6 X7 k f 3, piece i arg5 arg6 arg7 arg8 k0_h4 X5 X6 X7 k f 2, piece i arg5 arg6 arg7 arg8 k0_h4 X5 X6 X7 k f 1, piece i arg5 arg6 arg7 arg8 k0_h4 X5 X6 X7 k f 0] := by
  unfold tripL_k0_t1 trip_k0_t1
  rfl

/-- Reading past one chunk's store: its eight rows hold the finished value, the others what was there. -/
theorem read_piece (i : grid0.Coords) (arg5 : Memref sig .tc .vmem S256x4096 .f32) (arg6 : Memref sig .tc .vmem S16x3x8x4096 .f32) (arg7 : Memref sig .tc .vmem S8x4096 .f32) (arg8 : Memref sig .tc .vmem S256x4096 .f32) (k0_h4 : k0_cond4 i = 1#1) (X5 : BufTy.Contents (Elt Ideal) arg5.view.ty) (X6 : BufTy.Contents (Elt Ideal) arg6.view.ty) (X7 : BufTy.Contents (Elt Ideal) arg7.view.ty) (k : Fin k0_t1_loop.trips) (f g : BufTy.Contents (Elt Ideal) arg8.view.ty) (j : Fin 8)
    (L : List (View.Piece (Elt Ideal) S256x4096 .f32)) (r : Fin 256) (n : Fin 4096) :
    View.read (Elt Ideal) arg8.view (arg8.view.writes (Elt Ideal) g (piece i arg5 arg6 arg7 arg8 k0_h4 X5 X6 X7 k f j :: L)) (ix2 r n)
      = if 64 * k.val + 8 * j.val ≤ r.val ∧ r.val < 64 * k.val + 8 * j.val + 8 then fin6 (View.read (Elt Ideal) arg8.view f) (View.read (Elt Ideal) arg5.view X5) (View.read (Elt Ideal) arg6.view X6) (View.read (Elt Ideal) arg7.view X7) r n
        else View.read (Elt Ideal) arg8.view (arg8.view.writes (Elt Ideal) g L) (ix2 r n) := by
  by_cases h : 64 * k.val + 8 * j.val ≤ r.val ∧ r.val < 64 * k.val + 8 * j.val + 8
  · rw [if_pos h, ← chunk_apply i arg5 arg6 arg7 arg8 k0_h4 X5 X6 X7 k f j r n ⟨r.val - (64 * k.val + 8 * j.val), by omega⟩ (by show r.val = _ + (r.val - _); omega)]
    exact View.read_writes_cons_rows_of_mem (o := 64 * k.val + 8 * j.val) arg8.view g _ _ L _ (ix2 _ n) (off1_eq k j)
      (by show r.val = _ + (r.val - _); omega) rfl
  · rw [if_neg h]
    exact View.read_writes_cons_rows_of_not_mem (o := 64 * k.val + 8 * j.val) (W := 8) arg8.view g _ _ L _ (off1_eq k j) rfl
      (by show r.val < _ ∨ _ ≤ r.val; omega)

/-- One trip finishes sixty-four rows and leaves the rest. -/
theorem trip_read (𝒱 : Variants) (c : Dev nD) (bd : Option 𝒱.V) (i : grid0.Coords) (arg2 : Memref sig .tc .vmem S256x512 .bf16) (harg2 : arg2.IsWhole) (arg3 : Memref sig .tc .vmem S256x512 .bf16) (harg3 : arg3.IsWhole) (arg4 : Memref sig .tc .vmem S1x512x4096 .bf16) (harg4 : arg4.IsWhole) (arg5 : Memref sig .tc .vmem S256x4096 .f32) (harg5 : arg5.IsWhole) (arg6 : Memref sig .tc .vmem S16x3x8x4096 .f32) (harg6 : arg6.IsWhole) (arg7 : Memref sig .tc .vmem S8x4096 .f32) (harg7 : arg7.IsWhole) (arg8 : Memref sig .tc .vmem S256x4096 .f32) (harg8 : arg8.IsWhole) (k0_h4 : k0_cond4 i = 1#1) (X5 : BufTy.Contents (Elt Ideal) arg5.view.ty) (X6 : BufTy.Contents (Elt Ideal) arg6.view.ty) (X7 : BufTy.Contents (Elt Ideal) arg7.view.ty) (k : Fin k0_t1_loop.trips) (f : BufTy.Contents (Elt Ideal) arg8.view.ty) (r : Fin 256) (n : Fin 4096) :
    View.read (Elt Ideal) arg8.view (arg8.view.writes (Elt Ideal) f (tripL_k0_t1 (F := Ideal) 𝒱 c bd i arg2 harg2 arg3 harg3 arg4 harg4 arg5 harg5 arg6 harg6 arg7 harg7 arg8 harg8 k0_h4 X5 X6 X7 k f)) (ix2 r n)
      = if 64 * k.val ≤ r.val ∧ r.val < 64 * (k.val + 1) then fin6 (View.read (Elt Ideal) arg8.view f) (View.read (Elt Ideal) arg5.view X5) (View.read (Elt Ideal) arg6.view X6) (View.read (Elt Ideal) arg7.view X7) r n
        else View.read (Elt Ideal) arg8.view f (ix2 r n) := by
  rw [trip_pieces]
  simp only [read_piece, View.writes_nil]
  show (if _ + 8 * 7 ≤ _ ∧ _ < _ + 8 * 7 + 8 then _ else if _ + 8 * 6 ≤ _ ∧ _ < _ + 8 * 6 + 8 then _ else
    if _ + 8 * 5 ≤ _ ∧ _ < _ + 8 * 5 + 8 then _ else if _ + 8 * 4 ≤ _ ∧ _ < _ + 8 * 4 + 8 then _ else
    if _ + 8 * 3 ≤ _ ∧ _ < _ + 8 * 3 + 8 then _ else if _ + 8 * 2 ≤ _ ∧ _ < _ + 8 * 2 + 8 then _ else
    if _ + 8 * 1 ≤ _ ∧ _ < _ + 8 * 1 + 8 then _ else if _ + 8 * 0 ≤ _ ∧ _ < _ + 8 * 0 + 8 then _ else _) = _
  split_ifs <;> first | rfl | (exfalso; omega)

theorem fin6_congr (Y Y' X : Vec Ideal S256x4096 .f32) (M : Vec Ideal S16x3x8x4096 .f32) (Gm : Vec Ideal S8x4096 .f32) (r : Fin 256)
    (h : ∀ n : Fin 4096, Y (ix2 r n) = Y' (ix2 r n)) (n : Fin 4096) : fin6 Y X M Gm r n = fin6 Y' X M Gm r n := by
  unfold fin6
  simp only [h]

/-- After `k` trips the first `64 k` rows are finished, from the product the loop found. -/
theorem loop_read (𝒱 : Variants) (c : Dev nD) (bd : Option 𝒱.V) (i : grid0.Coords) (arg2 : Memref sig .tc .vmem S256x512 .bf16) (harg2 : arg2.IsWhole) (arg3 : Memref sig .tc .vmem S256x512 .bf16) (harg3 : arg3.IsWhole) (arg4 : Memref sig .tc .vmem S1x512x4096 .bf16) (harg4 : arg4.IsWhole) (arg5 : Memref sig .tc .vmem S256x4096 .f32) (harg5 : arg5.IsWhole) (arg6 : Memref sig .tc .vmem S16x3x8x4096 .f32) (harg6 : arg6.IsWhole) (arg7 : Memref sig .tc .vmem S8x4096 .f32) (harg7 : arg7.IsWhole) (arg8 : Memref sig .tc .vmem S256x4096 .f32) (harg8 : arg8.IsWhole) (k0_h4 : k0_cond4 i = 1#1) (X5 : BufTy.Contents (Elt Ideal) arg5.view.ty) (X6 : BufTy.Contents (Elt Ideal) arg6.view.ty) (X7 : BufTy.Contents (Elt Ideal) arg7.view.ty) (G : BufTy.Contents (Elt Ideal) arg8.view.ty) (n : Fin 4096) : ∀ k : ℕ, k ≤ 4 → ∀ r : Fin 256,
    View.read (Elt Ideal) arg8.view (arg8.view.writes (Elt Ideal) G (pb_k0_t1 (F := Ideal) 𝒱 c bd i arg2 harg2 arg3 harg3 arg4 harg4 arg5 harg5 arg6 harg6 arg7 harg7 arg8 harg8 k0_h4 X5 X6 X7 G k)) (ix2 r n)
      = if r.val < 64 * k then fin6 (View.read (Elt Ideal) arg8.view G) (View.read (Elt Ideal) arg5.view X5) (View.read (Elt Ideal) arg6.view X6) (View.read (Elt Ideal) arg7.view X7) r n else View.read (Elt Ideal) arg8.view G (ix2 r n) := by
  intro k
  induction k generalizing n with
  | zero => intro _ r; rw [if_neg (by omega)]; rfl
  | succ k ih =>
    intro hk r
    have hkt : k < k0_t1_loop.trips := by have : k0_t1_loop.trips = 4 := by decide +kernel
                                          omega
    rw [pb_k0_t1_succ (F := Ideal) 𝒱 c bd i arg2 harg2 arg3 harg3 arg4 harg4 arg5 harg5 arg6 harg6 arg7 harg7 arg8 harg8 k0_h4 X5 X6 X7 G ⟨k, hkt⟩, View.writes_append, trip_read]
    by_cases h1 : 64 * k ≤ r.val ∧ r.val < 64 * (k + 1)
    · rw [if_pos h1, if_pos h1.2]
      refine fin6_congr _ _ _ _ _ r (fun n' => ?_) n
      rw [ih n' (by omega) r, if_neg (by omega)]
    · rw [if_neg h1, ih n (by omega) r]
      by_cases h2 : r.val < 64 * k
      · rw [if_pos h2, if_pos (by omega)]
      · rw [if_neg h2, if_neg (by omega)]

/-- The last step of a row block: the product's last part, then the epilogue over all of it. -/
theorem out_D (c : Dev nD) (i : grid0.Coords) (arg2 : Memref sig .tc .vmem S256x512 .bf16) (harg2 : arg2.IsWhole) (arg3 : Memref sig .tc .vmem S256x512 .bf16) (harg3 : arg3.IsWhole) (arg4 : Memref sig .tc .vmem S1x512x4096 .bf16) (harg4 : arg4.IsWhole) (arg5 : Memref sig .tc .vmem S256x4096 .f32) (harg5 : arg5.IsWhole) (arg6 : Memref sig .tc .vmem S16x3x8x4096 .f32) (harg6 : arg6.IsWhole) (arg7 : Memref sig .tc .vmem S8x4096 .f32) (harg7 : arg7.IsWhole) (arg8 : Memref sig .tc .vmem S256x4096 .f32) (harg8 : arg8.IsWhole) (hc0 : ¬cond0_0 i) (hc1 : ¬cond0_1 i) (hc2 : cond0_2 i) (hc3 : cond0_3 i)
    (x0 : Vec Ideal S256x512 .bf16) (x1 : Vec Ideal S256x512 .bf16) (x2 : Vec Ideal S1x512x4096 .bf16) (x3 : Vec Ideal S256x4096 .f32) (x4 : Vec Ideal S16x3x8x4096 .f32) (x5 : Vec Ideal S8x4096 .f32) (xo6 : Vec Ideal S256x4096 .f32) (r : Fin 256) (n : Fin 4096) :
    out0_D_6 c i arg2 harg2 arg3 harg3 arg4 harg4 arg5 harg5 arg6 harg6 arg7 harg7 arg8 harg8 hc0 hc1 hc2 hc3 x0 x1 x2 x3 x4 x5 xo6 (ix2 r n)
      = fin6 (fun y => xo6 y + part x1 x2 (y 0) (y 1)) x3 x4 x5 r n := by
  unfold out0_D_6 kernelRun0_D
  dsimp only
  have hcov : ∀ y : S256x4096.Idx, ∃ p ∈ kernelRun0_D.sl.H6_1 (F := Ideal) c arg3 harg3 arg4 harg4 arg8 harg8 x1 x2 xo6, y ∈ p.1.set := by
    sl_unfold_words
    intro y
    refine ⟨_, List.mem_singleton_self _, ?_⟩
    have e := Rect.emb_unit_full (s := S256x4096) inb_S256x4096_S256x4096_0_0 y
    exact e ▸
      (Rect.map_emb_univ (Rect.unit (s := S256x4096) ![0, 0] S256x4096.size inb_S256x4096_S256x4096_0_0) ▸ Finset.mem_map_of_mem _ (Finset.mem_univ y))
  have hG : ∀ y, View.read (Elt Ideal) arg8.view (arg8.view.writes (Elt Ideal) arg8.view.junk
      (kernelRun0_D.sl.H6_1 (F := Ideal) c arg3 harg3 arg4 harg4 arg8 harg8 x1 x2 xo6)) y = xo6 y + part x1 x2 (y 0) (y 1) := by
    intro y
    sl_unfold_words
    rw [View.read_writes_full, View.readAt_full, View.readAt_full, View.readAt_full, harg8.read_unread, harg3.read_unread, harg4.read_unread]
    unfold part
    pointwise [k0_pay3]
  rw [View.read_writes_apply_eq _ _ arg8.view arg8.view.junk _ _ (by obtain ⟨p, hp, hy⟩ := hcov (ix2 r n); exact ⟨p, List.mem_append_right _ hp, hy⟩)]
  rw [View.writes_append, show Scf.trips (0#32) (Scalar.addi 0#32 4#32) 1#32 = 4 by decide +kernel]
  rw [loop_read _ _ _ _ _ _ _ _ _ _ _ _ _ _ _ _ _ _ _ _ _ _ _ _ 4 le_rfl, if_pos (by have := r.isLt; omega)]
  rw [harg5.read_unread, harg6.read_unread, harg7.read_unread]
  exact fin6_congr _ _ _ _ _ r (fun n' => hG _) n

/-! ## The blocks at a grid point -/

/-- Where each window's block stands at point `t`. -/
theorem idx : ∀ t : Fin cfg0.N, (win0_0.index t 0 = t.val / 8 ∧ (t.val % 8 < 4 → win0_0.index t 1 = t.val % 8))
    ∧ (win0_1.index t 0 = t.val / 8 ∧ (4 ≤ t.val % 8 → win0_1.index t 1 = t.val % 8 - 4))
    ∧ (win0_2.index t 0 = 1 ∧ win0_2.index t 1 = t.val % 8 ∧ win0_2.index t 2 = 0)
    ∧ (win0_3.index t 0 = t.val / 8 ∧ win0_3.index t 1 = 0)
    ∧ (win0_4.index t 0 = 0 ∧ win0_4.index t 1 = 0 ∧ win0_4.index t 2 = 0 ∧ win0_4.index t 3 = 0)
    ∧ (win0_5.index t 0 = 0 ∧ win0_5.index t 1 = 0)
    ∧ (win0_6.index t 0 = t.val / 8 ∧ win0_6.index t 1 = 0) :=
  (by decide +kernel : ∀ t : Fin grid0.N, (win0_0.index t 0 = t.val / 8 ∧ (t.val % 8 < 4 → win0_0.index t 1 = t.val % 8))
    ∧ (win0_1.index t 0 = t.val / 8 ∧ (4 ≤ t.val % 8 → win0_1.index t 1 = t.val % 8 - 4))
    ∧ (win0_2.index t 0 = 1 ∧ win0_2.index t 1 = t.val % 8 ∧ win0_2.index t 2 = 0)
    ∧ (win0_3.index t 0 = t.val / 8 ∧ win0_3.index t 1 = 0)
    ∧ (win0_4.index t 0 = 0 ∧ win0_4.index t 1 = 0 ∧ win0_4.index t 2 = 0 ∧ win0_4.index t 3 = 0)
    ∧ (win0_5.index t 0 = 0 ∧ win0_5.index t 1 = 0)
    ∧ (win0_6.index t 0 = t.val / 8 ∧ win0_6.index t 1 = 0))

theorem point_lt (t : Fin cfg0.N) : t.val < 8 := lt_of_lt_of_eq t.isLt N_0

/-- The two halves of the layer side by side: column `k` of row `r`. -/
def cat (od oa : (⟨S256x2048, .bf16⟩ : BufTy).Contents (Elt Ideal)) (r : Fin 256) (k : Fin 4096) : EReal :=
  if h : k.val < 2048 then od (ix2 (n0 := 256) (n1 := 2048) r ⟨k.val, h⟩) else oa (ix2 (n0 := 256) (n1 := 2048) r ⟨k.val - 2048, by omega⟩)

/-- Block `s` of 512 columns of the product at row `r`, column `n`. -/
def bsum (od oa : (⟨S256x2048, .bf16⟩ : BufTy).Contents (Elt Ideal)) (w : (⟨S2x4096x4096, .bf16⟩ : BufTy).Contents (Elt Ideal)) (r : Fin 256) (n : Fin 4096) (s : ℕ) : EReal :=
  ∑ k : Fin 512, cat od oa r ⟨(512 * s + k.val) % 4096, Nat.mod_lt _ (by decide)⟩ * w (ix3 (n0 := 2) 1 ⟨(512 * s + k.val) % 4096, Nat.mod_lt _ (by decide)⟩ n)

theorem part_dn (c : Dev nD) (t : Fin cfg0.N) (h : t.val % 8 < 4) (r : Fin 256) (n : Fin 4096) (R : Fin 256) (hR : R.val = 256 * (t.val / 8) + r.val) :
    part (iblk m c 0 t) (iblk m c 2 t) r n
      = bsum (m ((c : Thread nD τ).loc main_arg0)) (m ((c : Thread nD τ).loc main_arg1)) (m ((c : Thread nD τ).loc main_arg2)) R n (t.val % 8) := by
  have e := idx t
  have e1 := e.1.2 h
  unfold part bsum
  refine Finset.sum_congr rfl fun k _ => congrArg₂ (· * ·) ?_ ?_
  · unfold cat
    rw [dif_pos (by show (512 * (t.val % 8) + k.val) % 4096 < 2048; omega)]
    blk_point [iblk, V, e, e1]
  · blk_point [iblk, V, e, e1]

theorem part_at (c : Dev nD) (t : Fin cfg0.N) (h : 4 ≤ t.val % 8) (r : Fin 256) (n : Fin 4096) (R : Fin 256) (hR : R.val = 256 * (t.val / 8) + r.val) :
    part (iblk m c 1 t) (iblk m c 2 t) r n
      = bsum (m ((c : Thread nD τ).loc main_arg0)) (m ((c : Thread nD τ).loc main_arg1)) (m ((c : Thread nD τ).loc main_arg2)) R n (t.val % 8) := by
  have e := idx t
  have e1 := e.2.1.2 h
  unfold part bsum
  refine Finset.sum_congr rfl fun k _ => congrArg₂ (· * ·) ?_ ?_
  · unfold cat
    rw [dif_neg (by show ¬(512 * (t.val % 8) + k.val) % 4096 < 2048; omega)]
    blk_point [iblk, V, e, e1]
  · blk_point [iblk, V, e, e1]

/-- Before the last step the output block holds the sum of the blocks so far. -/
theorem outs_sum (c : Dev nD) (r : Fin 256) (n : Fin 4096) : ∀ (t : ℕ) (ht : t < cfg0.N), t % 8 ≤ 6 → ∀ R : Fin 256, R.val = 256 * (t / 8) + r.val →
    outsAt0 m c t ht (ix2 r n) = ∑ s ∈ Finset.range (t % 8 + 1),
      bsum (m ((c : Thread nD τ).loc main_arg0)) (m ((c : Thread nD τ).loc main_arg1)) (m ((c : Thread nD τ).loc main_arg2)) R n s := by
  intro t
  induction t using Nat.strong_induction_on with
  | _ t ih =>
    intro ht h6 R hR
    by_cases h0 : t % 8 = 0
    · rw [outsAt0_A m c ⟨t, ht⟩ h0 (by show ¬(1 ≤ t % 8 ∧ _); omega) (by have := point_lt ⟨t, ht⟩; show ¬4 ≤ t; simp only at this; omega) (by show ¬t % 8 = 7; omega), out_A, h0, Finset.sum_range_one]
      have := part_dn m c ⟨t, ht⟩ (by show t % 8 < 4; omega) r n R hR
      rw [show t % 8 = 0 from h0] at this
      exact this
    · have hp : t - 1 < t := by omega
      have ih' := ih (t - 1) hp (lt_trans hp ht) (by omega) R (by omega)
      rw [show (t - 1) % 8 + 1 = t % 8 by omega] at ih'
      rw [Finset.sum_range_succ, ← ih']
      by_cases h4 : 4 ≤ t % 8
      · rw [outsAt0_C m c ⟨t, ht⟩ h0 (by show ¬(1 ≤ t % 8 ∧ t % 8 ≤ 3); omega) (by show 4 ≤ t; omega) (by show ¬t % 8 = 7; omega), out_C]
        exact congrArg₂ (· + ·) rfl (part_at m c ⟨t, ht⟩ h4 r n R hR)
      · rw [outsAt0_B m c ⟨t, ht⟩ h0 (by show (1 ≤ t % 8 ∧ t % 8 ≤ 3); omega) (by have := point_lt ⟨t, ht⟩; show ¬4 ≤ t; simp only at this; omega) (by show ¬t % 8 = 7; omega), out_B]
        exact congrArg₂ (· + ·) rfl (part_dn m c ⟨t, ht⟩ (by show t % 8 < 4; omega) r n R hR)

/-- The whole product at row `r`, column `n`. -/
def whole (od oa : (⟨S256x2048, .bf16⟩ : BufTy).Contents (Elt Ideal)) (w : (⟨S2x4096x4096, .bf16⟩ : BufTy).Contents (Elt Ideal)) (r : Fin 256) (n : Fin 4096) : EReal :=
  ∑ k : Fin 4096, cat od oa r k * w (ix3 (n0 := 2) 1 k n)

theorem whole_eq (od oa : (⟨S256x2048, .bf16⟩ : BufTy).Contents (Elt Ideal)) (w : (⟨S2x4096x4096, .bf16⟩ : BufTy).Contents (Elt Ideal)) (r : Fin 256) (n : Fin 4096) :
    ∑ s ∈ Finset.range 8, bsum od oa w r n s = whole od oa w r n := by
  rw [Finset.sum_range]
  unfold bsum whole
  have h := Fin.sum_univ_univ_mul_add 8 512 fun l => cat od oa r ⟨l % 4096, Nat.mod_lt _ (by decide)⟩ * w (ix3 (n0 := 2) 1 ⟨l % 4096, Nat.mod_lt _ (by decide)⟩ n)
  refine (Finset.sum_congr rfl fun s _ => Finset.sum_congr rfl fun k _ => ?_).trans (h.trans (Finset.sum_congr rfl fun l _ => ?_))
  · simp only [Nat.mul_comm 512]
  · simp only [Nat.mod_eq_of_lt (show l.val < 4096 from l.isLt)]

/-- The layer's last step: the normalised product, gated, over the residual stream. -/
def result (od oa : (⟨S256x2048, .bf16⟩ : BufTy).Contents (Elt Ideal)) (w : (⟨S2x4096x4096, .bf16⟩ : BufTy).Contents (Elt Ideal))
    (x : (⟨S256x4096, .f32⟩ : BufTy).Contents (Elt Ideal)) (md : (⟨S16x3x4096, .f32⟩ : BufTy).Contents (Elt Ideal)) (g : (⟨S4096, .f32⟩ : BufTy).Contents (Elt Ideal)) :
    (⟨S256x4096, .f32⟩ : BufTy).Contents (Elt Ideal) :=
  fun i => x (ix2 (n0 := 256) (n1 := 4096) (i 0) (i 1)) + md (ix3 (n0 := 16) (n1 := 3) (n2 := 4096) ⟨(i 0).val / 16, Nat.div_lt_of_lt_mul (i 0).isLt⟩ 2 (i 1))
    * (whole od oa w (i 0) (i 1) * Ideal.rsqrt (Ideal.div (∑ k : Fin 4096, whole od oa w (i 0) k * whole od oa w (i 0) k) (Ideal.ofBits .f32 0x45800000#32) + Ideal.ofBits .f32 0x358637BD#32)
        * g (ix1 (n0 := 4096) (i 1)))

/-- The result array after the run. -/
theorem final (c : Dev nD) : (dats m 0 c).arrAt 6 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  have h7 : t.val % 8 = 7 := ((by decide +kernel : ∀ t : Fin grid0.N, (cfg0.win 6).flush t = true → t.val % 8 = 7) t hf)
  have e := idx t
  have htlt := point_lt t
  blk_simp
  rw [after0_6]
  obtain ⟨r, n, rfl⟩ : ∃ (r : Fin 256) (n : Fin 4096), y = ix2 r n := ⟨y 0, y 1, eq_ix2 (n0 := 256) (n1 := 4096) y⟩
  have hemb : (win0_6.blk t).view.emb (ix2 r n) = ix2 (n0 := 256) (n1 := 4096) ⟨256 * (t.val / 8) + r.val, by omega⟩ n := by
    blk_ext [e]
  rw [hemb, outsAt0_D m c t (by omega) (by omega) (by omega) h7, out_D]
  have hY : ∀ n', outsAt0 m c (t.val - 1) (Nat.lt_of_le_of_lt (Nat.sub_le _ _) t.isLt) (ix2 r n') + part (iblk m c 1 t) (iblk m c 2 t) r n'
      = whole (m ((c : Thread nD τ).loc main_arg0)) (m ((c : Thread nD τ).loc main_arg1)) (m ((c : Thread nD τ).loc main_arg2)) ⟨256 * (t.val / 8) + r.val, by omega⟩ n' := by
    intro n'
    rw [outs_sum m c r n' (t.val - 1) _ (by omega) ⟨256 * (t.val / 8) + r.val, by omega⟩ (by show _ = _; simp only []; omega), part_at m c t (by omega) r n' ⟨256 * (t.val / 8) + r.val, by omega⟩ rfl,
      show (t.val - 1) % 8 + 1 = 7 by omega, h7, ← whole_eq, Finset.sum_range_succ _ 7]
  unfold fin6 result
  refine congrArg₂ (· + ·) ?_ (congrArg₂ (· * ·) ?_ (congrArg₂ (· * ·) (congrArg₂ (· * ·) (hY n) ?_) ?_))
  · blk_point [iblk, V, e]
  · blk_point [iblk, V, e]
  · exact congrArg Ideal.rsqrt (congrArg₂ (· + ·) (congrArg₂ Ideal.div (Finset.sum_congr rfl fun k _ => congrArg₂ (· * ·) (hY k) (hY k)) rfl) rfl)
  · blk_point [iblk, V, e]

/-- The run, read: the result array at the layer's last step, the arguments unchanged. -/
theorem run : θ_run defs (onTc (τ := τ) (main (F := Ideal))) ⟨m, fun _ => 0, ρ⟩ fun r => ∀ c : Dev nD,
      r.2.mem ((c : Thread nD τ).loc main_v4) = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

/-- The reference's layer step. -/
theorem ref_eq (od oa : (⟨S256x2048, .bf16⟩ : BufTy).Contents (Elt Ideal)) (w : (⟨S2x4096x4096, .bf16⟩ : BufTy).Contents (Elt Ideal))
    (x : (⟨S256x4096, .f32⟩ : BufTy).Contents (Elt Ideal)) (md : (⟨S16x3x4096, .f32⟩ : BufTy).Contents (Elt Ideal)) (g : (⟨S4096, .f32⟩ : BufTy).Contents (Elt Ideal)) :
    Cert.RefOutSIdeal.Read.val_main_v25 (F := Ideal) od oa w x md g = result od oa w x md g := by
  funext i
  obtain ⟨r, n, rfl⟩ : ∃ (r : Fin 256) (n : Fin 4096), i = ix2 r n := ⟨i 0, i 1, eq_ix2 (n0 := 256) (n1 := 4096) i⟩
  have hw : ∀ n : Fin 4096, Cert.RefOutSIdeal.Read.val_main_v3 (F := Ideal) od oa w (ix2 r n) = whole od oa w r n := by
    intro n
    rw [Cert.RefOutSIdeal.Read.val_main_v3_apply]
    unfold whole
    refine Finset.sum_congr rfl fun k _ => congrArg₂ (· * ·) ?_ ?_
    · unfold cat Cert.RefOutSIdeal.Read.val_main_v0
      pointwise
    · unfold Cert.RefOutSIdeal.Read.val_main_v2 Cert.RefOutSIdeal.Read.val_main_v1
      pointwise
  unfold Cert.RefOutSIdeal.Read.val_main_v25 Cert.RefOutSIdeal.Read.val_main_v24 Cert.RefOutSIdeal.Read.val_main_v23 Cert.RefOutSIdeal.Read.val_main_v22 Cert.RefOutSIdeal.Read.val_main_v21 Cert.RefOutSIdeal.Read.val_main_v20 Cert.RefOutSIdeal.Read.val_main_v19 Cert.RefOutSIdeal.Read.val_main_v18 Cert.RefOutSIdeal.Read.val_main_v17 Cert.RefOutSIdeal.Read.val_main_v16 Cert.RefOutSIdeal.Read.val_main_v15 Cert.RefOutSIdeal.Read.val_main_v14 Cert.RefOutSIdeal.Read.val_main_v13 Cert.RefOutSIdeal.Read.val_main_v12 Cert.RefOutSIdeal.Read.val_main_v11 Cert.RefOutSIdeal.Read.val_main_v10 Cert.RefOutSIdeal.Read.val_main_v9 Cert.RefOutSIdeal.Read.val_main_v8 Cert.RefOutSIdeal.Read.val_main_v7 Cert.RefOutSIdeal.Read.val_main_v6 Cert.RefOutSIdeal.Read.val_main_v5 Cert.RefOutSIdeal.Read.val_main_v4 Cert.RefOutSIdeal.Read.val_main_cst Cert.RefOutSIdeal.Read.val_main_cst_0 Cert.RefOutSIdeal.Read.val_main_cst_1 result
  generalize Cert.RefOutSIdeal.Read.val_main_v3 (F := Ideal) od oa w = Y at *
  pointwise
  simp only [hw]

end Cert.OutSIdeal.RefValue

end
-- ==== Proof.OutSClaims.lean ====
/-
  The claims of the out-projection of the sample's rows: the frames of its three programs, and the kernel's result equal to the reference's.
-/
module

public import proofs.«01_k».proof.Defs
public import proofs.«01_k».proof.Proof.Gen.OutS.Frame
public import proofs.«01_k».proof.Proof.OutSValue
public import Idealize.ShloMosaic.Lib.Quiescent

@[expose] public section

noncomputable section

open Idealize.ShloMosaic Idealize.SL.Sem

namespace Cert.OutSClaims

theorem frame_kernel : Cert.quiescent_OutS := fun m ρ _ => Cert.OutS.Gen.frame m ρ
theorem frame_ideal : Cert.quiescent_OutSIdeal := fun m ρ _ => Cert.OutSIdeal.Gen.frame m ρ

/-- The reference has no semaphore, and leaves its arguments as they were. -/
theorem frame_reference : Cert.quiescent_RefOutSIdeal := fun m ρ _ =>
  (θ_run Cert.RefOutSIdeal.defs _ _).mono (fun r h => ⟨fun c => (h c).2, sem_eq_zero_of_no_sems (by decide) r.2⟩)
    (Cert.RefOutSIdeal.Value.run (F := Ideal) m ρ)

/-- Both runs end with the layer's next residual stream. -/
theorem algebraic : Cert.algebraic_OutSIdeal_RefOutSIdeal := by
  intro m ρ m' ρ' _ hagree
  refine ⟨_, Cert.OutSIdeal.RefValue.run m ρ, ?_⟩
  refine (θ_run Cert.RefOutSIdeal.defs _ _).mono (fun r h c => ⟨(h c).1.trans ?_, (h c).2⟩)
    (Cert.RefOutSIdeal.Value.run (F := Ideal) m' ρ')
  obtain ⟨h0, h1, h2, h3, h4, h5⟩ := hagree c
  rw [Cert.RefOutSIdeal.Read.val_main_v25_eq, Cert.OutSIdeal.RefValue.ref_eq, h0, h1, h2, h3, h4, h5]

end Cert.OutSClaims

end
-- ==== Proof.AdaValue.lean ====
/-
  The modulation: what the kernel's two result arrays end holding at the extended reals, and that they are the reference's.

  The host stacks the prompt's 4 conditioning vectors, the sample's 16 and twelve rows of zeros. Grid point `(l, j)` multiplies
  the gated stack with columns `512·j …` of layer `l`'s weights and adds the bias. The host then takes the first 4 rows and
  the next 16, each as three vectors of 4096.
-/
module

public import proofs.«01_k».proof.Proof.Gen.AdaIdeal.Frame
public import proofs.«01_k».proof.Proof.Gen.RefAdaIdeal.Run
public import proofs.«01_k».proof.Proof.Gen.RefAdaIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AdaIdeal.RefValue

open Cert.AdaIdeal Cert.AdaIdeal.Gen

/-- `x / (1 + exp (-x))`, as the kernel spells it. -/
def silu (x : EReal) : EReal :=
  x * Ideal.div (Ideal.ofBits .f32 0x3F800000#32) (Ideal.ofBits .f32 0x3F800000#32 + Ideal.exp (Ideal.ofBits .f32 0x00000000#32 - x))

/-- The stack of conditioning vectors: the prompt's, the sample's, and rows of zeros. -/
def stack (p : (⟨S4x4096, .f32⟩ : BufTy).Contents (Elt Ideal)) (s : (⟨S16x4096, .f32⟩ : BufTy).Contents (Elt Ideal)) :
    (⟨S32x4096, .f32⟩ : BufTy).Contents (Elt Ideal) :=
  fun i =>
    if h : (i 0).val < 4 then p (ix2 (n0 := 4) (n1 := 4096) ⟨(i 0).val, h⟩ (i 1))
    else if h' : (i 0).val < 20 then s (ix2 (n0 := 16) (n1 := 4096) ⟨(i 0).val - 4, by omega⟩ (i 1))
    else Ideal.ofBits .f32 0x00000000#32

/-- The gated product with each layer's weights, with its bias, for a stack of 32 conditioning vectors. -/
def prod (a : (⟨S32x4096, .f32⟩ : BufTy).Contents (Elt Ideal)) (w : (⟨S2x4096x12288, .f32⟩ : BufTy).Contents (Elt Ideal))
    (b : (⟨S2x12288, .f32⟩ : BufTy).Contents (Elt Ideal)) : (⟨S2x32x12288, .f32⟩ : BufTy).Contents (Elt Ideal) :=
  fun i => (∑ k : Fin 4096, silu (a (ix2 (n0 := 32) (n1 := 4096) (i 1) k)) * w (ix3 (n0 := 2) (n1 := 4096) (n2 := 12288) (i 0) k (i 2)))
    + b (ix2 (n0 := 2) (n1 := 12288) (i 0) (i 2))

variable (m : (ℓ : Loc nD τ sig) → Buf (Elt Ideal) ℓ) (ρ : Dev nD → PrngReg)

theorem V_eq (c : Dev nD) (b) : V (F := Ideal) m c b = StableHlo.after hostOps0 (fun b => m (c, b)) (Proc.devRef .tc b) := by
  unfold V V0
  rw [List.flatten_cons, List.flatten_nil, List.append_nil]

/-- Concatenating the prompt's vectors, the sample's and twelve rows of zeros gives the stack. -/
theorem stack_eq (p : (⟨S4x4096, .f32⟩ : BufTy).Contents (Elt Ideal)) (s : (⟨S16x4096, .f32⟩ : BufTy).Contents (Elt Ideal))
    (u0 : (⟨S4x4096, .f32⟩ : BufTy).Contents (Elt Ideal)) (u1 : (⟨S16x4096, .f32⟩ : BufTy).Contents (Elt Ideal))
    (u2 : (⟨S12x4096, .f32⟩ : BufTy).Contents (Elt Ideal)) (h0 : u0 = p) (h1 : u1 = s)
    (h2 : u2 = broadcastInDim S12x4096 ![] bcast_S_S12x4096 (constant (F := Ideal) S_ .f32 0x00000000#32)) :
    concatenate S32x4096 0 [⟨S4x4096, u0⟩, ⟨S16x4096, u1⟩, ⟨S12x4096, u2⟩] concatenates_S4x4096_S16x4096_S12x4096_S32x4096_d0
      = stack p s := by
  subst h0 h1 h2
  funext i
  obtain ⟨r, n, rfl⟩ : ∃ (r : Fin 32) (n : Fin 4096), i = ix2 r n := ⟨i 0, i 1, eq_ix2 (n0 := 32) (n1 := 4096) i⟩
  unfold stack
  pointwise
  have hr : (r.val - 4 < 16) = (r.val < 20) := by have := r.isLt; exact propext ⟨fun h => by omega, fun h => by omega⟩
  by_cases h4 : r.val < 4
  · rw [dif_pos h4, dif_pos h4]
  · rw [dif_neg h4, dif_neg h4]
    by_cases h20 : r.val < 20
    · rw [dif_pos (hr.mpr h20), dif_pos h20]
    · rw [dif_neg (fun h => h20 (hr.mp h)), dif_neg h20]

/-- The stack stands in the array of the first window. -/
theorem V_stack (c : Dev nD) : V (F := Ideal) m c main_v1 = stack (m ((c : Thread nD τ).loc main_arg0)) (m ((c : Thread nD τ).loc main_arg1)) := by
  rw [V_eq]
  after_results_simp
  refine stack_eq _ _ _ _ _ ?_ ?_ ?_
  · show (StableHlo.unary _ _ _ _ _).result ((StableHlo.nullary _ _ _).result _) (Proc.devRef .tc main_arg0) = _
    rw [StableHlo.unary_result_ne]; rotate_left; decide
    rw [StableHlo.nullary_result_ne]; rotate_left; decide
  · show (StableHlo.unary _ _ _ _ _).result ((StableHlo.nullary _ _ _).result _) (Proc.devRef .tc main_arg1) = _
    rw [StableHlo.unary_result_ne]; rotate_left; decide
    rw [StableHlo.nullary_result_ne]; rotate_left; decide
  · show (StableHlo.unary _ _ _ _ _).result ((StableHlo.nullary _ _ _).result _) (Proc.devRef .tc main_v0) = _
    rw [StableHlo.unary_result, StableHlo.nullary_result]

/-- The bias stands in the array of the third. -/
theorem V_bias (c : Dev nD) (l : Fin 2) (z : Fin 1) (n : Fin 12288) :
    V (F := Ideal) m c main_v2 (ix3 l z n) = m ((c : Thread nD τ).loc main_arg3) (ix2 l n) := by
  rw [V_eq]
  entry_read
  pointwise

/-- Where each window's block stands at point `t`. -/
theorem idx : ∀ t : Fin cfg0.N, (win0_0.index t 0 = 0 ∧ win0_0.index t 1 = 0)
    ∧ (win0_1.index t 0 = t.val / 24 ∧ win0_1.index t 1 = 0 ∧ win0_1.index t 2 = t.val % 24)
    ∧ (win0_2.index t 0 = t.val / 24 ∧ win0_2.index t 1 = 0 ∧ win0_2.index t 2 = t.val % 24)
    ∧ (win0_3.index t 0 = t.val / 24 ∧ win0_3.index t 1 = 0 ∧ win0_3.index t 2 = t.val % 24) :=
  (by decide +kernel : ∀ t : Fin grid0.N, (win0_0.index t 0 = 0 ∧ win0_0.index t 1 = 0)
    ∧ (win0_1.index t 0 = t.val / 24 ∧ win0_1.index t 1 = 0 ∧ win0_1.index t 2 = t.val % 24)
    ∧ (win0_2.index t 0 = t.val / 24 ∧ win0_2.index t 1 = 0 ∧ win0_2.index t 2 = t.val % 24)
    ∧ (win0_3.index t 0 = t.val / 24 ∧ win0_3.index t 1 = 0 ∧ win0_3.index t 2 = t.val % 24))

theorem point_lt (t : Fin cfg0.N) : t.val < 48 := lt_of_lt_of_eq t.isLt N_0

/-- The result array after the run is the product. -/
theorem final (c : Dev nD) : (dats m 0 c).arrAt 3 cfg0.N
    = prod (stack (m ((c : Thread nD τ).loc main_arg0)) (m ((c : Thread nD τ).loc main_arg1)))
        (m ((c : Thread nD τ).loc main_arg2)) (m ((c : Thread nD τ).loc main_arg3)) := by
  refine (dats m 0 c).arrAt_eq_of_covers 3 _ (by decide +kernel) fun t hf y => ?_
  have e := idx t
  have htlt := point_lt t
  blk_simp
  rw [after0_3]
  frame_out
  obtain ⟨z, r, n, rfl⟩ : ∃ (z : Fin 1) (r : Fin 32) (n : Fin 512), y = ix3 z r n := ⟨y 0, y 1, y 2, eq_ix3 (n0 := 1) (n1 := 32) (n2 := 512) y⟩
  have hemb : (win0_3.blk t).view.emb (ix3 z r n) = ix3 (n0 := 2) (n1 := 32) (n2 := 12288) ⟨t.val / 24, by omega⟩ r ⟨512 * (t.val % 24) + n.val, by omega⟩ := by
    blk_ext [e]
  rw [hemb]
  have hc : ∀ k : Fin 4096, iblk m c 0 t (ix2 (n0 := 32) (n1 := 4096) r k)
      = stack (m ((c : Thread nD τ).loc main_arg0)) (m ((c : Thread nD τ).loc main_arg1)) (ix2 (n0 := 32) (n1 := 4096) r k) := by
    intro k
    rw [← V_stack m c]
    blk_point [iblk, e]
  have hw : ∀ k : Fin 4096, iblk m c 1 t (ix3 (n0 := 1) (n1 := 4096) (n2 := 512) 0 k n)
      = m ((c : Thread nD τ).loc main_arg2) (ix3 (n0 := 2) (n1 := 4096) (n2 := 12288) ⟨t.val / 24, by omega⟩ k ⟨512 * (t.val % 24) + n.val, by omega⟩) := by
    intro k
    rw [← V_main_arg2 m c]
    blk_point [iblk, e]
  have hb : iblk m c 2 t (ix3 (n0 := 1) (n1 := 1) (n2 := 512) 0 0 n)
      = m ((c : Thread nD τ).loc main_arg3) (ix2 (n0 := 2) (n1 := 12288) ⟨t.val / 24, by omega⟩ ⟨512 * (t.val % 24) + n.val, by omega⟩) := by
    rw [← V_bias m c _ 0]
    blk_point [iblk, e]
  unfold prod silu
  pointwise [k0_pay1]
  simp only [hc, hw, hb]

/-- The prompt's modulation: the first 4 rows of the product, each as three vectors. -/
def modP (p : (⟨S2x32x12288, .f32⟩ : BufTy).Contents (Elt Ideal)) : (⟨S2x4x3x4096, .f32⟩ : BufTy).Contents (Elt Ideal) :=
  shapeCast S2x4x3x4096 (extractStridedSlice S2x4x12288 ![0, 0, 0] p slices_S2x32x12288_S2x4x12288_0_0_0) shapeCasts_S2x4x12288_S2x4x3x4096

/-- The sample's: the next 16. -/
def modS (p : (⟨S2x32x12288, .f32⟩ : BufTy).Contents (Elt Ideal)) : (⟨S2x16x3x4096, .f32⟩ : BufTy).Contents (Elt Ideal) :=
  shapeCast S2x16x3x4096 (extractStridedSlice S2x16x12288 ![0, 4, 0] p slices_S2x32x12288_S2x16x12288_0_4_0) shapeCasts_S2x16x12288_S2x16x3x4096

/-- The first result array after the run. -/
theorem final_P (c : Dev nD) : Pipeline.afterTail₀ cfgs (dats m) 0 (V0 m) [hostOps1] c main_v5
    = modP (prod (stack (m ((c : Thread nD τ).loc main_arg0)) (m ((c : Thread nD τ).loc main_arg1)))
        (m ((c : Thread nD τ).loc main_arg2)) (m ((c : Thread nD τ).loc main_arg3))) := by
  unfold modP
  rw [← final m c]
  unfold Pipeline.afterTail₀
  simp only [List.flatten_cons, List.flatten_nil, List.append_nil]
  after_results
  have e : Pipeline.withArrays (cfgs 0).spec c (V0 m c) (fun w => (dats m 0 c).arrAt w (cfgs 0).N) (Proc.devRef .tc main_v3)
      = (dats m 0 c).arrAt 3 cfg0.N :=
    Pipeline.withArrays_arr spec0 launch0.win.arr_inj c (V0 m c) (fun w => (dats m 0 c).arrAt w cfg0.N) 3
  rw [e]
  rfl

/-- The second. -/
theorem final_S (c : Dev nD) : Pipeline.afterTail₀ cfgs (dats m) 0 (V0 m) [hostOps1] c main_v7
    = modS (prod (stack (m ((c : Thread nD τ).loc main_arg0)) (m ((c : Thread nD τ).loc main_arg1)))
        (m ((c : Thread nD τ).loc main_arg2)) (m ((c : Thread nD τ).loc main_arg3))) := by
  unfold modS
  rw [← final m c]
  unfold Pipeline.afterTail₀
  simp only [List.flatten_cons, List.flatten_nil, List.append_nil]
  after_results
  have e : Pipeline.withArrays (cfgs 0).spec c (V0 m c) (fun w => (dats m 0 c).arrAt w (cfgs 0).N) (Proc.devRef .tc main_v3)
      = (dats m 0 c).arrAt 3 cfg0.N :=
    Pipeline.withArrays_arr spec0 launch0.win.arr_inj c (V0 m c) (fun w => (dats m 0 c).arrAt w cfg0.N) 3
  rw [e]
  rfl

/-- The run, read: the result arrays at the modulations, the arguments unchanged. -/
theorem run : θ_run defs (onTc (τ := τ) (main (F := Ideal))) ⟨m, fun _ => 0, ρ⟩ fun r => ∀ c : Dev nD,
      r.2.mem ((c : Thread nD τ).loc main_v5)
        = modP (prod (stack (m ((c : Thread nD τ).loc main_arg0)) (m ((c : Thread nD τ).loc main_arg1)))
            (m ((c : Thread nD τ).loc main_arg2)) (m ((c : Thread nD τ).loc main_arg3)))
      ∧ r.2.mem ((c : Thread nD τ).loc main_v7)
        = modS (prod (stack (m ((c : Thread nD τ).loc main_arg0)) (m ((c : Thread nD τ).loc main_arg1)))
            (m ((c : Thread nD τ).loc main_arg2)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).2 main_v5 (by decide)).trans (final_P m c), ((h c).2 main_v7 (by decide)).trans (final_S m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

/-- The reference's modulation of the prompt. -/
theorem ref_P (p : (⟨S4x4096, .f32⟩ : BufTy).Contents (Elt Ideal)) (s : (⟨S16x4096, .f32⟩ : BufTy).Contents (Elt Ideal))
    (w : (⟨S2x4096x12288, .f32⟩ : BufTy).Contents (Elt Ideal)) (b : (⟨S2x12288, .f32⟩ : BufTy).Contents (Elt Ideal)) :
    Cert.RefAdaIdeal.Read.val_main_v6 (F := Ideal) p w b = modP (prod (stack p s) w b) := by
  unfold Cert.RefAdaIdeal.Read.val_main_v6 modP
  refine congrArg (shapeCast S2x4x3x4096 · shapeCasts_S2x4x12288_S2x4x3x4096) (funext fun i => ?_)
  obtain ⟨l, r, c, rfl⟩ : ∃ (l : Fin 2) (r : Fin 4) (c : Fin 12288), i = ix3 l r c := ⟨i 0, i 1, i 2, eq_ix3 (n0 := 2) (n1 := 4) (n2 := 12288) i⟩
  have hd : Cert.RefAdaIdeal.Read.val_main_v2 (F := Ideal) p w (ix3 l r c) = ∑ k : Fin 4096, silu (p (ix2 r k)) * w (ix3 (n0 := 2) (n1 := 4096) (n2 := 12288) l k c) := by
    rw [Cert.RefAdaIdeal.Read.val_main_v2_apply, Cert.RefAdaIdeal.Read.val_main_v1_apply]
    refine Finset.sum_congr rfl fun k _ => ?_
    rw [mul_comm]
    refine congrArg₂ (· * ·) ?_ (congrArg w (funext fun a => match a with | ⟨0, _⟩ => rfl | ⟨1, _⟩ => rfl | ⟨2, _⟩ => rfl))
    unfold Cert.RefAdaIdeal.Read.val_main_v0 Cert.RefAdaIdeal.Read.val_main_call0_v5 Cert.RefAdaIdeal.Read.val_main_call0_v4 Cert.RefAdaIdeal.Read.val_main_call0_cst_0 Cert.RefAdaIdeal.Read.val_main_call0_v3 Cert.RefAdaIdeal.Read.val_main_call0_v2 Cert.RefAdaIdeal.Read.val_main_call0_cst Cert.RefAdaIdeal.Read.val_main_call0_v1 Cert.RefAdaIdeal.Read.val_main_call0_v0 silu
    pointwise
    have hi : Cert.RefAdaIdeal.Read.ridx_main_v1 (Cert.RefAdaIdeal.Read.idx_main_v2 (ix3 l r c)) k = ix2 r k :=
      funext fun a => match a with | ⟨0, _⟩ => rfl | ⟨1, _⟩ => rfl
    rw [hi, sub_eq_add_neg, zero_add]
  have hs : ∀ k : Fin 4096, stack p s (ix2 (n0 := 32) (n1 := 4096) ⟨r.val, by omega⟩ k) = p (ix2 r k) := by
    intro k
    unfold stack
    have hr := r.isLt
    rw [dif_pos (show (ix2 (n0 := 32) (n1 := 4096) ⟨r.val, by omega⟩ k 0).val < 4 from hr)]
    refine congrArg p (funext fun a => ?_)
    match a with
    | ⟨0, _⟩ => exact rfl
    | ⟨1, _⟩ => rfl
  unfold Cert.RefAdaIdeal.Read.val_main_v5
  show Cert.RefAdaIdeal.Read.val_main_v2 (F := Ideal) p w (ix3 l r c) + _ = _
  rw [hd]
  unfold Cert.RefAdaIdeal.Read.val_main_v4 Cert.RefAdaIdeal.Read.val_main_v3 prod
  pointwise
  simp only [hs]

/-- The reference's modulation of the sample. -/
theorem ref_S (p : (⟨S4x4096, .f32⟩ : BufTy).Contents (Elt Ideal)) (s : (⟨S16x4096, .f32⟩ : BufTy).Contents (Elt Ideal))
    (w : (⟨S2x4096x12288, .f32⟩ : BufTy).Contents (Elt Ideal)) (b : (⟨S2x12288, .f32⟩ : BufTy).Contents (Elt Ideal)) :
    Cert.RefAdaIdeal.Read.val_main_v13 (F := Ideal) s w b = modS (prod (stack p s) w b) := by
  unfold Cert.RefAdaIdeal.Read.val_main_v13 modS
  refine congrArg (shapeCast S2x16x3x4096 · shapeCasts_S2x16x12288_S2x16x3x4096) (funext fun i => ?_)
  obtain ⟨l, r, c, rfl⟩ : ∃ (l : Fin 2) (r : Fin 16) (c : Fin 12288), i = ix3 l r c := ⟨i 0, i 1, i 2, eq_ix3 (n0 := 2) (n1 := 16) (n2 := 12288) i⟩
  have hd : Cert.RefAdaIdeal.Read.val_main_v9 (F := Ideal) s w (ix3 l r c) = ∑ k : Fin 4096, silu (s (ix2 r k)) * w (ix3 (n0 := 2) (n1 := 4096) (n2 := 12288) l k c) := by
    rw [Cert.RefAdaIdeal.Read.val_main_v9_apply, Cert.RefAdaIdeal.Read.val_main_v8_apply]
    refine Finset.sum_congr rfl fun k _ => ?_
    rw [mul_comm]
    refine congrArg₂ (· * ·) ?_ (congrArg w (funext fun a => match a with | ⟨0, _⟩ => rfl | ⟨1, _⟩ => rfl | ⟨2, _⟩ => rfl))
    unfold Cert.RefAdaIdeal.Read.val_main_v7 Cert.RefAdaIdeal.Read.val_main_call1_v5 Cert.RefAdaIdeal.Read.val_main_call1_v4 Cert.RefAdaIdeal.Read.val_main_call1_cst_0 Cert.RefAdaIdeal.Read.val_main_call1_v3 Cert.RefAdaIdeal.Read.val_main_call1_v2 Cert.RefAdaIdeal.Read.val_main_call1_cst Cert.RefAdaIdeal.Read.val_main_call1_v1 Cert.RefAdaIdeal.Read.val_main_call1_v0 silu
    pointwise
    have hi : Cert.RefAdaIdeal.Read.ridx_main_v8 (Cert.RefAdaIdeal.Read.idx_main_v9 (ix3 l r c)) k = ix2 r k :=
      funext fun a => match a with | ⟨0, _⟩ => rfl | ⟨1, _⟩ => rfl
    rw [hi, sub_eq_add_neg, zero_add]
  have hs : ∀ k : Fin 4096, stack p s (ix2 (n0 := 32) (n1 := 4096) ⟨4 + r.val, by omega⟩ k) = s (ix2 r k) := by
    intro k
    unfold stack
    have hr := r.isLt
    rw [dif_neg (by show ¬ 4 + r.val < 4; omega), dif_pos (by show 4 + r.val < 20; omega)]
    refine congrArg s (funext fun a => ?_)
    match a with
    | ⟨0, _⟩ => exact Fin.ext (by show 4 + r.val - 4 = r.val; omega)
    | ⟨1, _⟩ => rfl
  unfold Cert.RefAdaIdeal.Read.val_main_v12
  show Cert.RefAdaIdeal.Read.val_main_v9 (F := Ideal) s w (ix3 l r c) + _ = _
  rw [hd]
  unfold Cert.RefAdaIdeal.Read.val_main_v11 Cert.RefAdaIdeal.Read.val_main_v10 prod
  pointwise
  simp only [hs]

end Cert.AdaIdeal.RefValue

end
-- ==== Proof.AdaClaims.lean ====
/-
  The claims of the modulation: the frames of its three programs, and the kernel's results equal to the reference's.
-/
module

public import proofs.«01_k».proof.Defs
public import proofs.«01_k».proof.Proof.Gen.Ada.Frame
public import proofs.«01_k».proof.Proof.AdaValue
public import Idealize.ShloMosaic.Lib.Quiescent

@[expose] public section

noncomputable section

open Idealize.ShloMosaic Idealize.SL.Sem

namespace Cert.AdaClaims

theorem frame_kernel : Cert.quiescent_Ada := fun m ρ _ => Cert.Ada.Gen.frame m ρ
theorem frame_ideal : Cert.quiescent_AdaIdeal := fun m ρ _ => Cert.AdaIdeal.Gen.frame m ρ

/-- The reference has no semaphore, and leaves its arguments as they were. -/
theorem frame_reference : Cert.quiescent_RefAdaIdeal := fun m ρ _ =>
  (θ_run Cert.RefAdaIdeal.defs _ _).mono (fun r h => ⟨fun c => (h c).2.2, sem_eq_zero_of_no_sems (by decide) r.2⟩)
    (Cert.RefAdaIdeal.Value.run (F := Ideal) m ρ)

/-- Both runs end with the prompt's modulation and with the sample's. -/
theorem algebraic : Cert.algebraic_AdaIdeal_RefAdaIdeal := by
  intro m ρ m' ρ' _ hagree
  refine ⟨_, _, Cert.AdaIdeal.RefValue.run m ρ, ?_⟩
  refine (θ_run Cert.RefAdaIdeal.defs _ _).mono (fun r h c => ⟨(h c).1.trans ?_, (h c).2.1.trans ?_, (h c).2.2⟩)
    (Cert.RefAdaIdeal.Value.run (F := Ideal) m' ρ')
  · obtain ⟨h0, h1, h2, h3⟩ := hagree c
    rw [Cert.RefAdaIdeal.Read.val_main_v6_eq,
      Cert.AdaIdeal.RefValue.ref_P _ (m ((c.tc : Thread Cert.AdaIdeal.nD Cert.AdaIdeal.τ).loc Cert.AdaIdeal.main_arg1)), h0, h2, h3]
  · obtain ⟨h0, h1, h2, h3⟩ := hagree c
    rw [Cert.RefAdaIdeal.Read.val_main_v13_eq,
      Cert.AdaIdeal.RefValue.ref_S (m ((c.tc : Thread Cert.AdaIdeal.nD Cert.AdaIdeal.τ).loc Cert.AdaIdeal.main_arg0)), h1, h2, h3]

end Cert.AdaClaims

end
-- ==== Proof.PreValue.lean ====
/-
  The normalisation before the first layer's in-projection: what the kernel's result array ends holding at the extended
  reals, and that it is the reference's.

  Each block of 512 rows is one grid point. The body goes over it eight rows at a time, by a counted loop of eight trips of
  eight chunks: a chunk reads its rows, divides each by its root mean square, scales and shifts, and stores them into the
  output block (`loop_read`).
-/
module

public import proofs.«01_k».proof.Proof.Gen.PreIdeal.Value
public import proofs.«01_k».proof.Proof.Gen.RefPreIdeal.Run
public import proofs.«01_k».proof.Proof.Gen.RefPreIdeal.Read
public import Idealize.ShloMosaic.Lib.Pipeline.ValueKit
public import Idealize.ShloMosaic.Lib.Pointwise
public import Idealize.ShloMosaic.Lib.WritesUnit
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.PreIdeal.RefValue

open Cert.PreIdeal Cert.PreIdeal.Gen

variable (m : (ℓ : Loc nD τ sig) → Buf (Elt Ideal) ℓ) (ρ : Dev nD → PrngReg)

/-- What the body makes of eight rows: `x · rsqrt(mean x² + ε) · g · (1 + scale) + shift`. -/
def epi (xv gv : Vec Ideal S8x4096 .f32) (sc sh : Vec Ideal S1x1x8x4096 .f32) : Vec Ideal S8x4096 .bf16 :=
  k0_pay11 xv (k0_pay1 xv) gv sc sh

/-- The value at row `r`, column `n` of a block. -/
def norm (X : Vec Ideal S512x4096 .f32) (M : Vec Ideal S1x3x8x4096 .f32) (Gm : Vec Ideal S8x4096 .f32) (r : Fin 512) (n : Fin 4096) : EReal :=
  X (ix2 r n) * Ideal.rsqrt (Ideal.div (∑ k : Fin 4096, X (ix2 r k) * X (ix2 r k)) (Ideal.ofBits .f32 0x45800000#32) + Ideal.ofBits .f32 0x358637BD#32)
      * Gm (ix2 (n0 := 8) ⟨r.val % 8, Nat.mod_lt _ (by decide)⟩ n)
      * (Ideal.ofBits .f32 0x3F800000#32 + M (ix4 (n0 := 1) (n1 := 3) (n2 := 8) 0 1 ⟨r.val % 8, Nat.mod_lt _ (by decide)⟩ n))
    + M (ix4 (n0 := 1) (n1 := 3) (n2 := 8) 0 0 ⟨r.val % 8, Nat.mod_lt _ (by decide)⟩ n)

theorem epi_apply (xv gv : Vec Ideal S8x4096 .f32) (sc sh : Vec Ideal S1x1x8x4096 .f32) (a : Fin 8) (n : Fin 4096) :
    epi xv gv sc sh (ix2 a n)
      = xv (ix2 a n) * Ideal.rsqrt (Ideal.div (∑ k : Fin 4096, xv (ix2 a k) * xv (ix2 a k)) (Ideal.ofBits .f32 0x45800000#32) + Ideal.ofBits .f32 0x358637BD#32)
          * gv (ix2 a n) * (Ideal.ofBits .f32 0x3F800000#32 + sc (ix4 (n0 := 1) (n1 := 1) 0 0 a n)) + sh (ix4 (n0 := 1) (n1 := 1) 0 0 a n) := by
  unfold epi
  pointwise [k0_pay11, k0_pay1]

theorem off1_eq : ∀ k : Fin k0_t1_loop.trips, ∀ j : Fin 8, k0_off1 k (BitVec.ofNat 32 j.val) = ![64 * k.val + 8 * j.val, 0] := by
  decide +kernel

theorem off2_eq : ∀ k : Fin k0_t1_loop.trips, ∀ j : Fin 8, k0_off2 k (BitVec.ofNat 32 j.val) = ![0, 1, 0, 0] := by
  decide +kernel

theorem off3_eq : ∀ k : Fin k0_t1_loop.trips, ∀ j : Fin 8, k0_off3 k (BitVec.ofNat 32 j.val) = ![0, 0, 0, 0] := by
  decide +kernel

/-- Chunk `j` of trip `k`, from the buffers the body reads. -/
def chunk (arg1 : Memref sig .tc .vmem S512x4096 .f32) (arg2 : Memref sig .tc .vmem S1x3x8x4096 .f32) (arg3 : Memref sig .tc .vmem S8x4096 .f32) (X1 : BufTy.Contents (Elt Ideal) arg1.view.ty) (X2 : BufTy.Contents (Elt Ideal) arg2.view.ty) (X3 : BufTy.Contents (Elt Ideal) arg3.view.ty) (k : Fin k0_t1_loop.trips) (j : Fin 8) : Vec Ideal S8x4096 .bf16 :=
  epi (View.readAt (Elt Ideal) arg1.view (Rect.unit (s := S512x4096) (k0_off1 k (BitVec.ofNat 32 j.val)) S8x4096.size (k0_off1_inb k j)).toLoadRect X1)
    (View.readAt (Elt Ideal) arg3.view (Rect.unit (s := S8x4096) ![0, 0] S8x4096.size inb_S8x4096_S8x4096_0_0).toLoadRect X3)
    (View.readAt (Elt Ideal) arg2.view (Rect.unit (s := S1x3x8x4096) (k0_off2 k (BitVec.ofNat 32 j.val)) S1x1x8x4096.size (k0_off2_inb k j)).toLoadRect X2)
    (View.readAt (Elt Ideal) arg2.view (Rect.unit (s := S1x3x8x4096) (k0_off3 k (BitVec.ofNat 32 j.val)) S1x1x8x4096.size (k0_off3_inb k j)).toLoadRect X2)

theorem chunk_apply (arg1 : Memref sig .tc .vmem S512x4096 .f32) (arg2 : Memref sig .tc .vmem S1x3x8x4096 .f32) (arg3 : Memref sig .tc .vmem S8x4096 .f32) (X1 : BufTy.Contents (Elt Ideal) arg1.view.ty) (X2 : BufTy.Contents (Elt Ideal) arg2.view.ty) (X3 : BufTy.Contents (Elt Ideal) arg3.view.ty) (k : Fin k0_t1_loop.trips) (j : Fin 8)
    (r : Fin 512) (n : Fin 4096) (a : Fin 8) (hr : r.val = 64 * k.val + 8 * j.val + a.val) :
    chunk arg1 arg2 arg3 X1 X2 X3 k j (ix2 a n) = norm (View.read (Elt Ideal) arg1.view X1) (View.read (Elt Ideal) arg2.view X2) (View.read (Elt Ideal) arg3.view X3) r n := by
  have h8 : r.val % 8 = a.val := by have := a.isLt; omega
  have hin : ∀ b, (![64 * k.val + 8 * j.val, 0] : Fin 2 → ℕ) b + S8x4096.size b ≤ S512x4096.size b := by
    rw [← off1_eq]; exact k0_off1_inb k j
  have hin2 : ∀ b, (![0, 1, 0, 0] : Fin 4 → ℕ) b + S1x1x8x4096.size b ≤ S1x3x8x4096.size b := by
    rw [← off2_eq k j]; exact k0_off2_inb k j
  have hin3 : ∀ b, (![0, 0, 0, 0] : Fin 4 → ℕ) b + S1x1x8x4096.size b ≤ S1x3x8x4096.size b := by
    rw [← off3_eq k j]; exact k0_off3_inb k j
  have hw : ∀ (X : Vec Ideal S512x4096 .f32) (n : Fin 4096), VecWindow.window X ![64 * k.val + 8 * j.val, 0] S8x4096.size hin (ix2 (n0 := 8) (n1 := 4096) a n) = X (ix2 r n) := by
    intro X n
    refine congrArg X (funext fun b => Fin.ext ?_)
    match b with
    | ⟨0, _⟩ => show 64 * k.val + 8 * j.val + 1 * a.val = r.val; omega
    | ⟨1, _⟩ => show 0 + 1 * n.val = n.val; omega
  have hf : (⟨r.val % 8, Nat.mod_lt _ (by decide)⟩ : Fin 8) = a := Fin.ext h8
  unfold chunk
  rw [epi_apply]
  rw [View.readAt_unit arg1.view X1 _ (off1_eq k j) hin, View.readAt_unit arg2.view X2 _ (off2_eq k j) hin2,
    View.readAt_unit arg2.view X2 _ (off3_eq k j) hin3, View.readAt_full arg3.view]
  simp only [hw]
  unfold norm
  rw [hf]
  refine congrArg₂ (· + ·) (congrArg₂ (· * ·) rfl (congrArg₂ (· + ·) rfl ?_)) ?_
  · refine congrArg (View.read (Elt Ideal) arg2.view X2) (funext fun b => Fin.ext ?_)
    match b with
    | ⟨0, _⟩ => rfl
    | ⟨1, _⟩ => rfl
    | ⟨2, _⟩ => show 0 + 1 * a.val = a.val; omega
    | ⟨3, _⟩ => show 0 + 1 * n.val = n.val; omega
  · refine congrArg (View.read (Elt Ideal) arg2.view X2) (funext fun b => Fin.ext ?_)
    match b with
    | ⟨0, _⟩ => rfl
    | ⟨1, _⟩ => rfl
    | ⟨2, _⟩ => show 0 + 1 * a.val = a.val; omega
    | ⟨3, _⟩ => show 0 + 1 * n.val = n.val; omega

/-- The store of chunk `j` of trip `k`. -/
def piece (arg1 : Memref sig .tc .vmem S512x4096 .f32) (arg2 : Memref sig .tc .vmem S1x3x8x4096 .f32) (arg3 : Memref sig .tc .vmem S8x4096 .f32) (X1 : BufTy.Contents (Elt Ideal) arg1.view.ty) (X2 : BufTy.Contents (Elt Ideal) arg2.view.ty) (X3 : BufTy.Contents (Elt Ideal) arg3.view.ty) (k : Fin k0_t1_loop.trips) (j : Fin 8) : View.Piece (Elt Ideal) S512x4096 .bf16 :=
  ⟨Rect.unit (s := S512x4096) (k0_off1 k (BitVec.ofNat 32 j.val)) S8x4096.size (k0_off1_inb k j), chunk arg1 arg2 arg3 X1 X2 X3 k j⟩

theorem trip_pieces (𝒱 : Variants) (c : Dev nD) (bd : Option 𝒱.V) (i : grid0.Coords) (arg1 : Memref sig .tc .vmem S512x4096 .f32) (harg1 : arg1.IsWhole) (arg2 : Memref sig .tc .vmem S1x3x8x4096 .f32) (harg2 : arg2.IsWhole) (arg3 : Memref sig .tc .vmem S8x4096 .f32) (harg3 : arg3.IsWhole) (arg4 : Memref sig .tc .vmem S512x4096 .bf16) (harg4 : arg4.IsWhole) (X1 : BufTy.Contents (Elt Ideal) arg1.view.ty) (X2 : BufTy.Contents (Elt Ideal) arg2.view.ty) (X3 : BufTy.Contents (Elt Ideal) arg3.view.ty) (k : Fin k0_t1_loop.trips) :
    tripL_k0_t1 (F := Ideal) 𝒱 c bd i arg1 harg1 arg2 harg2 arg3 harg3 arg4 harg4 X1 X2 X3 k
      = [piece arg1 arg2 arg3 X1 X2 X3 k 7, piece arg1 arg2 arg3 X1 X2 X3 k 6, piece arg1 arg2 arg3 X1 X2 X3 k 5, piece arg1 arg2 arg3 X1 X2 X3 k 4, piece arg1 arg2 arg3 X1 X2 X3 k 3, piece arg1 arg2 arg3 X1 X2 X3 k 2, piece arg1 arg2 arg3 X1 X2 X3 k 1, piece arg1 arg2 arg3 X1 X2 X3 k 0] := by
  unfold tripL_k0_t1 trip_k0_t1
  rfl

/-- Reading past one chunk's store: its eight rows hold the normalised value, the others what was there. -/
theorem read_piece (arg1 : Memref sig .tc .vmem S512x4096 .f32) (arg2 : Memref sig .tc .vmem S1x3x8x4096 .f32) (arg3 : Memref sig .tc .vmem S8x4096 .f32) (X1 : BufTy.Contents (Elt Ideal) arg1.view.ty) (X2 : BufTy.Contents (Elt Ideal) arg2.view.ty) (X3 : BufTy.Contents (Elt Ideal) arg3.view.ty) (W : View sig .tc .vmem S512x4096 .bf16) (k : Fin k0_t1_loop.trips) (g : BufTy.Contents (Elt Ideal) W.ty) (j : Fin 8)
    (L : List (View.Piece (Elt Ideal) S512x4096 .bf16)) (r : Fin 512) (n : Fin 4096) :
    View.read (Elt Ideal) W (W.writes (Elt Ideal) g (piece arg1 arg2 arg3 X1 X2 X3 k j :: L)) (ix2 r n)
      = if 64 * k.val + 8 * j.val ≤ r.val ∧ r.val < 64 * k.val + 8 * j.val + 8 then norm (View.read (Elt Ideal) arg1.view X1) (View.read (Elt Ideal) arg2.view X2) (View.read (Elt Ideal) arg3.view X3) r n
        else View.read (Elt Ideal) W (W.writes (Elt Ideal) g L) (ix2 r n) := by
  by_cases h : 64 * k.val + 8 * j.val ≤ r.val ∧ r.val < 64 * k.val + 8 * j.val + 8
  · rw [if_pos h, ← chunk_apply arg1 arg2 arg3 X1 X2 X3 k j r n ⟨r.val - (64 * k.val + 8 * j.val), by omega⟩ (by show r.val = _ + (r.val - _); omega)]
    exact View.read_writes_cons_rows_of_mem (o := 64 * k.val + 8 * j.val) W g _ _ L _ (ix2 _ n) (off1_eq k j)
      (by show r.val = _ + (r.val - _); omega) rfl
  · rw [if_neg h]
    exact View.read_writes_cons_rows_of_not_mem (o := 64 * k.val + 8 * j.val) (W := 8) W g _ _ L _ (off1_eq k j) rfl
      (by show r.val < _ ∨ _ ≤ r.val; omega)

/-- One trip writes sixty-four rows over what the list before it left. -/
theorem trip_read (𝒱 : Variants) (c : Dev nD) (bd : Option 𝒱.V) (i : grid0.Coords) (arg1 : Memref sig .tc .vmem S512x4096 .f32) (harg1 : arg1.IsWhole) (arg2 : Memref sig .tc .vmem S1x3x8x4096 .f32) (harg2 : arg2.IsWhole) (arg3 : Memref sig .tc .vmem S8x4096 .f32) (harg3 : arg3.IsWhole) (arg4 : Memref sig .tc .vmem S512x4096 .bf16) (harg4 : arg4.IsWhole) (X1 : BufTy.Contents (Elt Ideal) arg1.view.ty) (X2 : BufTy.Contents (Elt Ideal) arg2.view.ty) (X3 : BufTy.Contents (Elt Ideal) arg3.view.ty) (W : View sig .tc .vmem S512x4096 .bf16) (k : Fin k0_t1_loop.trips) (g : BufTy.Contents (Elt Ideal) W.ty) (r : Fin 512) (n : Fin 4096) :
    View.read (Elt Ideal) W (W.writes (Elt Ideal) g (tripL_k0_t1 (F := Ideal) 𝒱 c bd i arg1 harg1 arg2 harg2 arg3 harg3 arg4 harg4 X1 X2 X3 k)) (ix2 r n)
      = if 64 * k.val ≤ r.val ∧ r.val < 64 * (k.val + 1) then norm (View.read (Elt Ideal) arg1.view X1) (View.read (Elt Ideal) arg2.view X2) (View.read (Elt Ideal) arg3.view X3) r n
        else View.read (Elt Ideal) W g (ix2 r n) := by
  rw [trip_pieces]
  simp only [read_piece, View.writes_nil]
  show (if _ + 8 * 7 ≤ _ ∧ _ < _ + 8 * 7 + 8 then _ else if _ + 8 * 6 ≤ _ ∧ _ < _ + 8 * 6 + 8 then _ else
    if _ + 8 * 5 ≤ _ ∧ _ < _ + 8 * 5 + 8 then _ else if _ + 8 * 4 ≤ _ ∧ _ < _ + 8 * 4 + 8 then _ else
    if _ + 8 * 3 ≤ _ ∧ _ < _ + 8 * 3 + 8 then _ else if _ + 8 * 2 ≤ _ ∧ _ < _ + 8 * 2 + 8 then _ else
    if _ + 8 * 1 ≤ _ ∧ _ < _ + 8 * 1 + 8 then _ else if _ + 8 * 0 ≤ _ ∧ _ < _ + 8 * 0 + 8 then _ else _) = _
  split_ifs <;> first | rfl | (exfalso; omega)

/-- After `k` trips the first `64 k` rows are normalised. -/
theorem loop_read (𝒱 : Variants) (c : Dev nD) (bd : Option 𝒱.V) (i : grid0.Coords) (arg1 : Memref sig .tc .vmem S512x4096 .f32) (harg1 : arg1.IsWhole) (arg2 : Memref sig .tc .vmem S1x3x8x4096 .f32) (harg2 : arg2.IsWhole) (arg3 : Memref sig .tc .vmem S8x4096 .f32) (harg3 : arg3.IsWhole) (arg4 : Memref sig .tc .vmem S512x4096 .bf16) (harg4 : arg4.IsWhole) (X1 : BufTy.Contents (Elt Ideal) arg1.view.ty) (X2 : BufTy.Contents (Elt Ideal) arg2.view.ty) (X3 : BufTy.Contents (Elt Ideal) arg3.view.ty) (W : View sig .tc .vmem S512x4096 .bf16) (G : BufTy.Contents (Elt Ideal) W.ty) (n : Fin 4096) : ∀ k : ℕ, k ≤ 8 → ∀ r : Fin 512,
    View.read (Elt Ideal) W (W.writes (Elt Ideal) G (pb_k0_t1 (F := Ideal) 𝒱 c bd i arg1 harg1 arg2 harg2 arg3 harg3 arg4 harg4 X1 X2 X3 k)) (ix2 r n)
      = if r.val < 64 * k then norm (View.read (Elt Ideal) arg1.view X1) (View.read (Elt Ideal) arg2.view X2) (View.read (Elt Ideal) arg3.view X3) r n else View.read (Elt Ideal) W G (ix2 r n) := by
  intro k
  induction k with
  | zero => intro _ r; rw [if_neg (by omega)]; rfl
  | succ k ih =>
    intro hk r
    have hkt : k < k0_t1_loop.trips := by have : k0_t1_loop.trips = 8 := by decide +kernel
                                          omega
    rw [pb_k0_t1_succ (F := Ideal) 𝒱 c bd i arg1 harg1 arg2 harg2 arg3 harg3 arg4 harg4 X1 X2 X3 ⟨k, hkt⟩, View.writes_append, trip_read]
    by_cases h1 : 64 * k ≤ r.val ∧ r.val < 64 * (k + 1)
    · rw [if_pos h1, if_pos h1.2]
    · rw [if_neg h1, ih (by omega) r]
      by_cases h2 : r.val < 64 * k
      · rw [if_pos h2, if_pos (by omega)]
      · rw [if_neg h2, if_neg (by omega)]

/-- The body's output block, from its three input blocks. -/
theorem out_A (c : Dev nD) (i : grid0.Coords) (arg1 : Memref sig .tc .vmem S512x4096 .f32) (harg1 : arg1.IsWhole) (arg2 : Memref sig .tc .vmem S1x3x8x4096 .f32) (harg2 : arg2.IsWhole) (arg3 : Memref sig .tc .vmem S8x4096 .f32) (harg3 : arg3.IsWhole) (arg4 : Memref sig .tc .vmem S512x4096 .bf16) (harg4 : arg4.IsWhole)
    (x0 : Vec Ideal S512x4096 .f32) (x1 : Vec Ideal S1x3x8x4096 .f32) (x2 : Vec Ideal S8x4096 .f32) (r : Fin 512) (n : Fin 4096) :
    out0_A_3 c i arg1 harg1 arg2 harg2 arg3 harg3 arg4 harg4 x0 x1 x2 (ix2 r n) = norm x0 x1 x2 r n := by
  unfold out0_A_3 kernelRun0_A
  dsimp only
  rw [show Scf.trips (0#32) (Scalar.addi 0#32 8#32) 1#32 = 8 by decide +kernel]
  rw [loop_read _ _ _ _ _ _ _ _ _ _ _ _ _ _ _ _ _ _ 8 le_rfl, if_pos (by have := r.isLt; omega)]
  rw [harg1.read_unread, harg2.read_unread, harg3.read_unread]

/-! ## The blocks at a grid point -/

/-- Where each window's block stands at point `t`. -/
theorem idx : ∀ t : Fin cfg0.N, (win0_0.index t 0 = t.val ∧ win0_0.index t 1 = 0)
    ∧ (win0_1.index t 0 = t.val / 8 ∧ win0_1.index t 1 = 0 ∧ win0_1.index t 2 = 0 ∧ win0_1.index t 3 = 0)
    ∧ (win0_2.index t 0 = 0 ∧ win0_2.index t 1 = 0)
    ∧ (win0_3.index t 0 = t.val ∧ win0_3.index t 1 = 0) :=
  (by decide +kernel : ∀ t : Fin grid0.N, (win0_0.index t 0 = t.val ∧ win0_0.index t 1 = 0)
    ∧ (win0_1.index t 0 = t.val / 8 ∧ win0_1.index t 1 = 0 ∧ win0_1.index t 2 = 0 ∧ win0_1.index t 3 = 0)
    ∧ (win0_2.index t 0 = 0 ∧ win0_2.index t 1 = 0)
    ∧ (win0_3.index t 0 = t.val ∧ win0_3.index t 1 = 0))

theorem point_lt (t : Fin cfg0.N) : t.val < 32 := lt_of_lt_of_eq t.isLt N_0

/-- The normalised activations: each row over its root mean square, scaled and shifted by its sequence's modulation. -/
def result (x : (⟨S16384x4096, .f32⟩ : BufTy).Contents (Elt Ideal)) (md : (⟨S4x3x4096, .f32⟩ : BufTy).Contents (Elt Ideal)) (g : (⟨S4096, .f32⟩ : BufTy).Contents (Elt Ideal)) :
    (⟨S16384x4096, .bf16⟩ : BufTy).Contents (Elt Ideal) :=
  fun i => x (ix2 (n0 := 16384) (n1 := 4096) (i 0) (i 1))
        * Ideal.rsqrt (Ideal.div (∑ k : Fin 4096, x (ix2 (n0 := 16384) (n1 := 4096) (i 0) k) * x (ix2 (n0 := 16384) (n1 := 4096) (i 0) k)) (Ideal.ofBits .f32 0x45800000#32) + Ideal.ofBits .f32 0x358637BD#32)
        * g (ix1 (n0 := 4096) (i 1))
        * (Ideal.ofBits .f32 0x3F800000#32 + md (ix3 (n0 := 4) (n1 := 3) (n2 := 4096) ⟨(i 0).val / 4096, Nat.div_lt_of_lt_mul (i 0).isLt⟩ 1 (i 1)))
      + md (ix3 (n0 := 4) (n1 := 3) (n2 := 4096) ⟨(i 0).val / 4096, Nat.div_lt_of_lt_mul (i 0).isLt⟩ 0 (i 1))

/-- The result array after the run. -/
theorem final (c : Dev nD) : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t hf y => ?_
  have e := idx t
  have htlt := point_lt t
  blk_simp
  rw [after0_3]
  obtain ⟨r, n, rfl⟩ : ∃ (r : Fin 512) (n : Fin 4096), y = ix2 r n := ⟨y 0, y 1, eq_ix2 (n0 := 512) (n1 := 4096) y⟩
  have hemb : (win0_3.blk t).view.emb (ix2 r n) = ix2 (n0 := 16384) (n1 := 4096) ⟨512 * t.val + r.val, by omega⟩ n := by
    blk_ext [e]
  rw [hemb]
  unfold outsAt0
  rw [out_A]
  have hx : ∀ k : Fin 4096, iblk m c 0 t (ix2 (n0 := 512) (n1 := 4096) r k)
      = m ((c : Thread nD τ).loc main_arg0) (ix2 (n0 := 16384) (n1 := 4096) ⟨512 * t.val + r.val, by omega⟩ k) := by
    intro k
    blk_point [iblk, V, e]
  unfold norm result
  refine congrArg₂ (· + ·) (congrArg₂ (· * ·) (congrArg₂ (· * ·) (congrArg₂ (· * ·) (hx n) ?_) ?_) (congrArg₂ (· + ·) rfl ?_)) ?_
  · exact congrArg Ideal.rsqrt (congrArg₂ (· + ·) (congrArg₂ Ideal.div (Finset.sum_congr rfl fun k _ => congrArg₂ (· * ·) (hx k) (hx k)) rfl) rfl)
  · blk_point [iblk, V, e]
  · blk_point [iblk, V, e]
  · blk_point [iblk, V, e]

/-- The run, read: the result array at the normalised activations, the arguments unchanged. -/
theorem run : θ_run defs (onTc (τ := τ) (main (F := Ideal))) ⟨m, fun _ => 0, ρ⟩ fun r => ∀ c : Dev nD,
      r.2.mem ((c : Thread nD τ).loc main_v4) = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

/-- The reference's activations. -/
theorem ref_eq (x : (⟨S16384x4096, .f32⟩ : BufTy).Contents (Elt Ideal)) (md : (⟨S4x3x4096, .f32⟩ : BufTy).Contents (Elt Ideal)) (g : (⟨S4096, .f32⟩ : BufTy).Contents (Elt Ideal)) :
    Cert.RefPreIdeal.Read.val_main_v27 (F := Ideal) x md g = result x md g := by
  funext i
  obtain ⟨r, n, rfl⟩ : ∃ (r : Fin 16384) (n : Fin 4096), i = ix2 r n := ⟨i 0, i 1, eq_ix2 (n0 := 16384) (n1 := 4096) i⟩
  unfold Cert.RefPreIdeal.Read.val_main_v27 Cert.RefPreIdeal.Read.val_main_v26 Cert.RefPreIdeal.Read.val_main_v25 Cert.RefPreIdeal.Read.val_main_v24 Cert.RefPreIdeal.Read.val_main_v23 Cert.RefPreIdeal.Read.val_main_v22 Cert.RefPreIdeal.Read.val_main_v21 Cert.RefPreIdeal.Read.val_main_v20 Cert.RefPreIdeal.Read.val_main_v19 Cert.RefPreIdeal.Read.val_main_v18 Cert.RefPreIdeal.Read.val_main_v17 Cert.RefPreIdeal.Read.val_main_v16 Cert.RefPreIdeal.Read.val_main_v15 Cert.RefPreIdeal.Read.val_main_v14 Cert.RefPreIdeal.Read.val_main_v13 Cert.RefPreIdeal.Read.val_main_v12 Cert.RefPreIdeal.Read.val_main_v11 Cert.RefPreIdeal.Read.val_main_v10 Cert.RefPreIdeal.Read.val_main_v9 Cert.RefPreIdeal.Read.val_main_v8 Cert.RefPreIdeal.Read.val_main_v7 Cert.RefPreIdeal.Read.val_main_v6 Cert.RefPreIdeal.Read.val_main_v5 Cert.RefPreIdeal.Read.val_main_v4 Cert.RefPreIdeal.Read.val_main_v3 Cert.RefPreIdeal.Read.val_main_v2 Cert.RefPreIdeal.Read.val_main_v1 Cert.RefPreIdeal.Read.val_main_v0 Cert.RefPreIdeal.Read.val_main_cst Cert.RefPreIdeal.Read.val_main_cst_0 Cert.RefPreIdeal.Read.val_main_cst_1 Cert.RefPreIdeal.Read.val_main_cst_2 result
  pointwise

end Cert.PreIdeal.RefValue

end
-- ==== Proof.PreClaims.lean ====
/-
  The claims of the first normalisation: the frames of its three programs, and the kernel's result equal to the reference's.
-/
module

public import proofs.«01_k».proof.Defs
public import proofs.«01_k».proof.Proof.Gen.Pre.Frame
public import proofs.«01_k».proof.Proof.PreValue
public import Idealize.ShloMosaic.Lib.Quiescent

@[expose] public section

noncomputable section

open Idealize.ShloMosaic Idealize.SL.Sem

namespace Cert.PreClaims

theorem frame_kernel : Cert.quiescent_Pre := fun m ρ _ => Cert.Pre.Gen.frame m ρ
theorem frame_ideal : Cert.quiescent_PreIdeal := fun m ρ _ => Cert.PreIdeal.Gen.frame m ρ

/-- The reference has no semaphore, and leaves its arguments as they were. -/
theorem frame_reference : Cert.quiescent_RefPreIdeal := fun m ρ _ =>
  (θ_run Cert.RefPreIdeal.defs _ _).mono (fun r h => ⟨fun c => (h c).2, sem_eq_zero_of_no_sems (by decide) r.2⟩)
    (Cert.RefPreIdeal.Value.run (F := Ideal) m ρ)

/-- Both runs end with the normalised activations. -/
theorem algebraic : Cert.algebraic_PreIdeal_RefPreIdeal := by
  intro m ρ m' ρ' _ hagree
  refine ⟨_, Cert.PreIdeal.RefValue.run m ρ, ?_⟩
  refine (θ_run Cert.RefPreIdeal.defs _ _).mono (fun r h c => ⟨(h c).1.trans ?_, (h c).2⟩)
    (Cert.RefPreIdeal.Value.run (F := Ideal) m' ρ')
  obtain ⟨h0, h1, h2⟩ := hagree c
  rw [Cert.RefPreIdeal.Read.val_main_v27_eq, Cert.PreIdeal.RefValue.ref_eq, h0, h1, h2]

end Cert.PreClaims

end
-- ==== Proof.OutHIdealLoop.lean ====
/-
  The first layer's out-projection, idealized: what its epilogue's counted loop leaves.

  A trip takes sixty-four rows of the finished product, eight at a time: it normalises, scales, gates and adds the residual
  (`epiX`, written back where the product stood) and makes the next layer's normalised rows of that (`epiH`, stored in the
  other result's block). No trip touches another's rows, so after `k` trips the first `64 k` rows of both blocks are finished
  from the product the loop found, whatever the second block held before (`loop_x`, `loop_h`). Stated for any carrier of floats.
-/
module

public import proofs.«01_k».proof.Proof.Gen.OutHIdeal.Frame
public import proofs.«01_k».proof.Proof.Gen.OutHIdeal.Loops
public import Idealize.ShloMosaic.Lib.WritesUnit
public import Idealize.ShloMosaic.Lib.VecWindow
public import Idealize.ShloMosaic.Lib.Pointwise

@[expose] public section

set_option maxRecDepth 16384

noncomputable section

open Idealize.ShloMosaic Idealize.ShloMosaic.TcCoe Idealize.SL.Sem

namespace Cert.OutHIdeal.Loop

open Cert.OutHIdeal Cert.OutHIdeal.Gen

variable {F : FTy → Type} [FloatOps F]

/-! ## Eight rows -/

/-- The next residual stream's eight rows, from eight rows of the product. -/
def epiX (yv xv : Vec F S8x4096 .f32) (mv : Vec F S1x1x8x4096 .f32) (gv : Vec F S8x4096 .f32) : Vec F S8x4096 .f32 :=
  k0_pay23 (k0_pay5 yv) (k0_pay13 yv) xv mv gv

/-- The next layer's normalised rows, from eight rows of the residual stream. -/
def epiH (zv gv : Vec F S8x4096 .f32) (sc sh : Vec F S1x1x8x4096 .f32) : Vec F S8x4096 .bf16 :=
  k0_pay42 zv (k0_pay34 zv) gv sc sh

/-- Rows `8 q .. 8 q + 7` of a block. -/
def rowsAt (Y : Vec F S512x4096 .f32) (q : Fin 64) : Vec F S8x4096 .f32 :=
  fun i => Y (ix2 (n0 := 512) (n1 := 4096) ⟨8 * q.val + (i 0).val, by have := (i 0).isLt; have := q.isLt; change (i 0).val < 8 at *; omega⟩ (i 1))

/-- Layer `b` of a block of modulations. -/
def modAt (M : Vec F S1x3x8x4096 .f32) (b : Fin 3) : Vec F S1x1x8x4096 .f32 :=
  fun i => M (ix4 (n0 := 1) (n1 := 3) (n2 := 8) (n3 := 4096) 0 b (i 2) (i 3))

/-- The eight rows of the residual stream at rows `8 q ..`. -/
def rowX (Y X : Vec F S512x4096 .f32) (M : Vec F S1x3x8x4096 .f32) (Gm : Vec F S8x4096 .f32) (q : Fin 64) : Vec F S8x4096 .f32 :=
  epiX (rowsAt Y q) (rowsAt X q) (modAt M 2) Gm

def rowH (Y X : Vec F S512x4096 .f32) (M : Vec F S1x3x8x4096 .f32) (Gm : Vec F S8x4096 .f32) (Mn : Vec F S1x3x8x4096 .f32) (Gn : Vec F S8x4096 .f32) (q : Fin 64) : Vec F S8x4096 .bf16 :=
  epiH (rowX Y X M Gm q) Gn (modAt Mn 1) (modAt Mn 0)

/-- The chunk a row of the block lies in, and its place there. -/
def chunkOf (r : Fin 512) : Fin 64 := ⟨r.val / 8, by omega⟩
def placeOf (r : Fin 512) : Fin 8 := ⟨r.val % 8, Nat.mod_lt _ (by decide)⟩

/-- The finished residual stream of a block, from its product `Y`. -/
def finX (Y X : Vec F S512x4096 .f32) (M : Vec F S1x3x8x4096 .f32) (Gm : Vec F S8x4096 .f32) (r : Fin 512) (n : Fin 4096) : Elt F .f32 :=
  rowX Y X M Gm (chunkOf r) (ix2 (n0 := 8) (n1 := 4096) (placeOf r) n)

/-- The next layer's normalised rows of a block, from its product `Y`. -/
def finH (Y X : Vec F S512x4096 .f32) (M : Vec F S1x3x8x4096 .f32) (Gm : Vec F S8x4096 .f32) (Mn : Vec F S1x3x8x4096 .f32) (Gn : Vec F S8x4096 .f32) (r : Fin 512) (n : Fin 4096) : Elt F .bf16 :=
  rowH Y X M Gm Mn Gn (chunkOf r) (ix2 (n0 := 8) (n1 := 4096) (placeOf r) n)

/-! ## One chunk of a trip -/

theorem off1_eq : ∀ k : Fin k0_t1_loop.trips, ∀ j : Fin 8, k0_off1 k (BitVec.ofNat 32 j.val) = ![64 * k.val + 8 * j.val, 0] := by
  decide +kernel
theorem off2_eq : ∀ k : Fin k0_t1_loop.trips, ∀ j : Fin 8, k0_off2 k (BitVec.ofNat 32 j.val) = ![0, 2, 0, 0] := by
  decide +kernel
theorem off3_eq : ∀ k : Fin k0_t1_loop.trips, ∀ j : Fin 8, k0_off3 k (BitVec.ofNat 32 j.val) = ![0, 1, 0, 0] := by
  decide +kernel
theorem off4_eq : ∀ k : Fin k0_t1_loop.trips, ∀ j : Fin 8, k0_off4 k (BitVec.ofNat 32 j.val) = ![0, 0, 0, 0] := by
  decide +kernel
theorem trips_eq : k0_t1_loop.trips = 8 := by decide +kernel

/-- The chunk of the block that trip `k` takes at its place `j`. -/
def qOf (k : Fin k0_t1_loop.trips) (j : Fin 8) : Fin 64 := ⟨8 * k.val + j.val, by have := k.isLt; have := trips_eq; omega⟩

variable (i : grid0.Coords) (arg2 : Memref sig .tc .vmem S512x512 .bf16) (harg2 : arg2.IsWhole) (arg3 : Memref sig .tc .vmem S512x512 .bf16) (harg3 : arg3.IsWhole) (arg4 : Memref sig .tc .vmem S1x512x4096 .bf16) (harg4 : arg4.IsWhole) (arg5 : Memref sig .tc .vmem S512x4096 .f32) (harg5 : arg5.IsWhole) (arg6 : Memref sig .tc .vmem S1x3x8x4096 .f32) (harg6 : arg6.IsWhole) (arg7 : Memref sig .tc .vmem S8x4096 .f32) (harg7 : arg7.IsWhole) (arg8 : Memref sig .tc .vmem S1x3x8x4096 .f32) (harg8 : arg8.IsWhole) (arg9 : Memref sig .tc .vmem S8x4096 .f32) (harg9 : arg9.IsWhole) (arg10 : Memref sig .tc .vmem S512x4096 .f32) (harg10 : arg10.IsWhole) (arg11 : Memref sig .tc .vmem S512x4096 .bf16) (harg11 : arg11.IsWhole) (k0_h4 : k0_cond4 i = 1#1)
  (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty)

/-- The block's chunk as a load of it reads it. -/
theorem load_rows (v : Memref sig .tc .vmem S512x4096 .f32) (f : BufTy.Contents (Elt F) v.view.ty) (k : Fin k0_t1_loop.trips) (j : Fin 8) :
    View.readAt (Elt F) v.view (Rect.unit (s := S512x4096) (k0_off1 k (BitVec.ofNat 32 j.val)) S8x4096.size (k0_off1_inb i k k0_h4 j)).toLoadRect f
      = rowsAt (View.read (Elt F) v.view f) (qOf k j) := by
  have hin : ∀ b, (![64 * k.val + 8 * j.val, 0] : Fin 2 → ℕ) b + S8x4096.size b ≤ S512x4096.size b := by
    rw [← off1_eq]; exact k0_off1_inb i k k0_h4 j
  rw [View.readAt_unit v.view f _ (off1_eq k j) hin]
  funext y
  refine congrArg (View.read (Elt F) v.view f) (funext fun b => Fin.ext ?_)
  match b with
  | ⟨0, _⟩ => show 64 * k.val + 8 * j.val + 1 * (y 0).val = 8 * (8 * k.val + j.val) + (y 0).val; omega
  | ⟨1, _⟩ => show 0 + 1 * (y 1).val = (y 1).val; omega

theorem load_mod (v : Memref sig .tc .vmem S1x3x8x4096 .f32) (f : BufTy.Contents (Elt F) v.view.ty) (off : Fin 4 → ℕ) (b : Fin 3)
    (inb : ∀ a, off a + S1x1x8x4096.size a ≤ S1x3x8x4096.size a) (ho : off = ![0, b.val, 0, 0]) :
    View.readAt (Elt F) v.view (Rect.unit (s := S1x3x8x4096) off S1x1x8x4096.size inb).toLoadRect f = modAt (View.read (Elt F) v.view f) b := by
  subst ho
  rw [View.readAt_unit v.view f _ rfl inb]
  funext y
  refine congrArg (View.read (Elt F) v.view f) (funext fun a => Fin.ext ?_)
  have h0 : (y 0).val = 0 := Nat.lt_one_iff.mp (y 0).isLt
  have h1 : (y 1).val = 0 := Nat.lt_one_iff.mp (y 1).isLt
  match a with
  | ⟨0, _⟩ => show 0 + 1 * (y 0).val = 0; omega
  | ⟨1, _⟩ => show b.val + 1 * (y 1).val = b.val; omega
  | ⟨2, _⟩ => show 0 + 1 * (y 2).val = (y 2).val; omega
  | ⟨3, _⟩ => show 0 + 1 * (y 3).val = (y 3).val; omega

/-- What trip `k` makes of its chunk `j`, from the buffers as it finds them. -/
def chunkX (k : Fin k0_t1_loop.trips) (f : BufTy.Contents (Elt F) arg10.view.ty) (j : Fin 8) : Vec F S8x4096 .f32 :=
  epiX (View.readAt (Elt F) arg10.view (Rect.unit (s := S512x4096) (k0_off1 k (BitVec.ofNat 32 j.val)) S8x4096.size (k0_off1_inb i k k0_h4 j)).toLoadRect f)
    (View.readAt (Elt F) arg5.view (Rect.unit (s := S512x4096) (k0_off1 k (BitVec.ofNat 32 j.val)) S8x4096.size (k0_off1_inb i k k0_h4 j)).toLoadRect X5)
    (View.readAt (Elt F) arg6.view (Rect.unit (s := S1x3x8x4096) (k0_off2 k (BitVec.ofNat 32 j.val)) S1x1x8x4096.size (k0_off2_inb i k k0_h4 j)).toLoadRect X6)
    (View.readAt (Elt F) arg7.view (Rect.unit (s := S8x4096) ![0, 0] S8x4096.size inb_S8x4096_S8x4096_0_0).toLoadRect X7)

def chunkH (k : Fin k0_t1_loop.trips) (f : BufTy.Contents (Elt F) arg10.view.ty) (j : Fin 8) : Vec F S8x4096 .bf16 :=
  epiH (chunkX i arg5 arg6 arg7 arg10 k0_h4 X5 X6 X7 k f j)
    (View.readAt (Elt F) arg9.view (Rect.unit (s := S8x4096) ![0, 0] S8x4096.size inb_S8x4096_S8x4096_0_0).toLoadRect X9)
    (View.readAt (Elt F) arg8.view (Rect.unit (s := S1x3x8x4096) (k0_off3 k (BitVec.ofNat 32 j.val)) S1x1x8x4096.size (k0_off3_inb i k k0_h4 j)).toLoadRect X8)
    (View.readAt (Elt F) arg8.view (Rect.unit (s := S1x3x8x4096) (k0_off4 k (BitVec.ofNat 32 j.val)) S1x1x8x4096.size (k0_off4_inb i k k0_h4 j)).toLoadRect X8)

theorem chunkX_eq (k : Fin k0_t1_loop.trips) (f : BufTy.Contents (Elt F) arg10.view.ty) (j : Fin 8) :
    chunkX i arg5 arg6 arg7 arg10 k0_h4 X5 X6 X7 k f j
      = rowX (View.read (Elt F) arg10.view f) (View.read (Elt F) arg5.view X5) (View.read (Elt F) arg6.view X6) (View.read (Elt F) arg7.view X7) (qOf k j) := by
  unfold chunkX rowX
  rw [load_rows i k0_h4 arg10, load_rows i k0_h4 arg5, load_mod arg6 X6 _ 2 _ (off2_eq k j), View.readAt_full arg7.view]

theorem chunkH_eq (k : Fin k0_t1_loop.trips) (f : BufTy.Contents (Elt F) arg10.view.ty) (j : Fin 8) :
    chunkH i arg5 arg6 arg7 arg8 arg9 arg10 k0_h4 X5 X6 X7 X8 X9 k f j
      = rowH (View.read (Elt F) arg10.view f) (View.read (Elt F) arg5.view X5) (View.read (Elt F) arg6.view X6) (View.read (Elt F) arg7.view X7)
          (View.read (Elt F) arg8.view X8) (View.read (Elt F) arg9.view X9) (qOf k j) := by
  unfold chunkH rowH
  rw [chunkX_eq, load_mod arg8 X8 _ 1 _ (off3_eq k j), load_mod arg8 X8 _ 0 _ (off4_eq k j), View.readAt_full arg9.view]

def pieceX (k : Fin k0_t1_loop.trips) (f : BufTy.Contents (Elt F) arg10.view.ty) (j : Fin 8) : View.Piece (Elt F) S512x4096 .f32 :=
  ⟨Rect.unit (s := S512x4096) (k0_off1 k (BitVec.ofNat 32 j.val)) S8x4096.size (k0_off1_inb i k k0_h4 j), chunkX i arg5 arg6 arg7 arg10 k0_h4 X5 X6 X7 k f j⟩

def pieceH (k : Fin k0_t1_loop.trips) (f : BufTy.Contents (Elt F) arg10.view.ty) (j : Fin 8) : View.Piece (Elt F) S512x4096 .bf16 :=
  ⟨Rect.unit (s := S512x4096) (k0_off1 k (BitVec.ofNat 32 j.val)) S8x4096.size (k0_off1_inb i k k0_h4 j), chunkH i arg5 arg6 arg7 arg8 arg9 arg10 k0_h4 X5 X6 X7 X8 X9 k f j⟩

/-- A trip's stores: eight chunks of either result. -/
theorem trip_pieces (𝒱 : Variants) (c : Dev nD) (bd : Option 𝒱.V) (k : Fin k0_t1_loop.trips) (f : BufTy.Contents (Elt F) arg10.view.ty) (g : BufTy.Contents (Elt F) arg11.view.ty) :
    tripL_k0_t1 (F := F) 𝒱 c bd i arg2 harg2 arg3 harg3 arg4 harg4 arg5 harg5 arg6 harg6 arg7 harg7 arg8 harg8 arg9 harg9 arg10 harg10 arg11 harg11 k0_h4 X5 X6 X7 X8 X9 k f g
      = (([7, 6, 5, 4, 3, 2, 1, 0] : List (Fin 8)).map (pieceX i arg5 arg6 arg7 arg10 k0_h4 X5 X6 X7 k f),
         ([7, 6, 5, 4, 3, 2, 1, 0] : List (Fin 8)).map (pieceH i arg5 arg6 arg7 arg8 arg9 arg10 k0_h4 X5 X6 X7 X8 X9 k f)) := by
  unfold tripL_k0_t1 trip_k0_t1
  rfl

/-- Reading past one chunk's store: its eight rows hold the finished value, the others what was there. -/
theorem read_pieceX (k : Fin k0_t1_loop.trips) (f g : BufTy.Contents (Elt F) arg10.view.ty) (j : Fin 8) (L : List (View.Piece (Elt F) S512x4096 .f32)) (r : Fin 512) (n : Fin 4096) :
    View.read (Elt F) arg10.view (arg10.view.writes (Elt F) g (pieceX i arg5 arg6 arg7 arg10 k0_h4 X5 X6 X7 k f j :: L)) (ix2 r n)
      = if 64 * k.val + 8 * j.val ≤ r.val ∧ r.val < 64 * k.val + 8 * j.val + 8 then finX (View.read (Elt F) arg10.view f) (View.read (Elt F) arg5.view X5) (View.read (Elt F) arg6.view X6) (View.read (Elt F) arg7.view X7) r n
        else View.read (Elt F) arg10.view (arg10.view.writes (Elt F) g L) (ix2 r n) := by
  by_cases h : 64 * k.val + 8 * j.val ≤ r.val ∧ r.val < 64 * k.val + 8 * j.val + 8
  · rw [if_pos h]
    unfold finX
    rw [show chunkOf r = qOf k j from Fin.ext (by show r.val / 8 = 8 * k.val + j.val; omega), ← chunkX_eq i arg5 arg6 arg7 arg10 k0_h4]
    exact View.read_writes_cons_rows_of_mem (o := 64 * k.val + 8 * j.val) arg10.view g _ _ L _ (ix2 (placeOf r) n) (off1_eq k j)
      (by show r.val = _ + r.val % 8; omega) rfl
  · rw [if_neg h]
    exact View.read_writes_cons_rows_of_not_mem (o := 64 * k.val + 8 * j.val) (W := 8) arg10.view g _ _ L _ (off1_eq k j) rfl
      (by show r.val < _ ∨ _ ≤ r.val; omega)

theorem read_pieceH (k : Fin k0_t1_loop.trips) (f : BufTy.Contents (Elt F) arg10.view.ty) (g : BufTy.Contents (Elt F) arg11.view.ty) (j : Fin 8) (L : List (View.Piece (Elt F) S512x4096 .bf16)) (r : Fin 512) (n : Fin 4096) :
    View.read (Elt F) arg11.view (arg11.view.writes (Elt F) g (pieceH i arg5 arg6 arg7 arg8 arg9 arg10 k0_h4 X5 X6 X7 X8 X9 k f j :: L)) (ix2 r n)
      = if 64 * k.val + 8 * j.val ≤ r.val ∧ r.val < 64 * k.val + 8 * j.val + 8 then finH (View.read (Elt F) arg10.view f) (View.read (Elt F) arg5.view X5) (View.read (Elt F) arg6.view X6) (View.read (Elt F) arg7.view X7) (View.read (Elt F) arg8.view X8) (View.read (Elt F) arg9.view X9) r n
        else View.read (Elt F) arg11.view (arg11.view.writes (Elt F) g L) (ix2 r n) := by
  by_cases h : 64 * k.val + 8 * j.val ≤ r.val ∧ r.val < 64 * k.val + 8 * j.val + 8
  · rw [if_pos h]
    unfold finH
    rw [show chunkOf r = qOf k j from Fin.ext (by show r.val / 8 = 8 * k.val + j.val; omega), ← chunkH_eq i arg5 arg6 arg7 arg8 arg9 arg10 k0_h4]
    exact View.read_writes_cons_rows_of_mem (o := 64 * k.val + 8 * j.val) arg11.view g _ _ L _ (ix2 (placeOf r) n) (off1_eq k j)
      (by show r.val = _ + r.val % 8; omega) rfl
  · rw [if_neg h]
    exact View.read_writes_cons_rows_of_not_mem (o := 64 * k.val + 8 * j.val) (W := 8) arg11.view g _ _ L _ (off1_eq k j) rfl
      (by show r.val < _ ∨ _ ≤ r.val; omega)

/-! ## The trips -/

/-- One trip finishes sixty-four rows of the residual stream and leaves the rest. -/
theorem trip_x (k : Fin k0_t1_loop.trips) (f : BufTy.Contents (Elt F) arg10.view.ty) (r : Fin 512) (n : Fin 4096) :
    View.read (Elt F) arg10.view (arg10.view.writes (Elt F) f (([7, 6, 5, 4, 3, 2, 1, 0] : List (Fin 8)).map (pieceX i arg5 arg6 arg7 arg10 k0_h4 X5 X6 X7 k f))) (ix2 r n)
      = if 64 * k.val ≤ r.val ∧ r.val < 64 * (k.val + 1) then finX (View.read (Elt F) arg10.view f) (View.read (Elt F) arg5.view X5) (View.read (Elt F) arg6.view X6) (View.read (Elt F) arg7.view X7) r n
        else View.read (Elt F) arg10.view f (ix2 r n) := by
  simp only [List.map_cons, List.map_nil, read_pieceX, View.writes_nil]
  show (if _ + 8 * 7 ≤ _ ∧ _ < _ + 8 * 7 + 8 then _ else if _ + 8 * 6 ≤ _ ∧ _ < _ + 8 * 6 + 8 then _ else
    if _ + 8 * 5 ≤ _ ∧ _ < _ + 8 * 5 + 8 then _ else if _ + 8 * 4 ≤ _ ∧ _ < _ + 8 * 4 + 8 then _ else
    if _ + 8 * 3 ≤ _ ∧ _ < _ + 8 * 3 + 8 then _ else if _ + 8 * 2 ≤ _ ∧ _ < _ + 8 * 2 + 8 then _ else
    if _ + 8 * 1 ≤ _ ∧ _ < _ + 8 * 1 + 8 then _ else if _ + 8 * 0 ≤ _ ∧ _ < _ + 8 * 0 + 8 then _ else _) = _
  split_ifs <;> first | rfl | (exfalso; omega)

theorem trip_h (k : Fin k0_t1_loop.trips) (f : BufTy.Contents (Elt F) arg10.view.ty) (g : BufTy.Contents (Elt F) arg11.view.ty) (r : Fin 512) (n : Fin 4096) :
    View.read (Elt F) arg11.view (arg11.view.writes (Elt F) g (([7, 6, 5, 4, 3, 2, 1, 0] : List (Fin 8)).map (pieceH i arg5 arg6 arg7 arg8 arg9 arg10 k0_h4 X5 X6 X7 X8 X9 k f))) (ix2 r n)
      = if 64 * k.val ≤ r.val ∧ r.val < 64 * (k.val + 1) then finH (View.read (Elt F) arg10.view f) (View.read (Elt F) arg5.view X5) (View.read (Elt F) arg6.view X6) (View.read (Elt F) arg7.view X7) (View.read (Elt F) arg8.view X8) (View.read (Elt F) arg9.view X9) r n
        else View.read (Elt F) arg11.view g (ix2 r n) := by
  simp only [List.map_cons, List.map_nil, read_pieceH, View.writes_nil]
  show (if _ + 8 * 7 ≤ _ ∧ _ < _ + 8 * 7 + 8 then _ else if _ + 8 * 6 ≤ _ ∧ _ < _ + 8 * 6 + 8 then _ else
    if _ + 8 * 5 ≤ _ ∧ _ < _ + 8 * 5 + 8 then _ else if _ + 8 * 4 ≤ _ ∧ _ < _ + 8 * 4 + 8 then _ else
    if _ + 8 * 3 ≤ _ ∧ _ < _ + 8 * 3 + 8 then _ else if _ + 8 * 2 ≤ _ ∧ _ < _ + 8 * 2 + 8 then _ else
    if _ + 8 * 1 ≤ _ ∧ _ < _ + 8 * 1 + 8 then _ else if _ + 8 * 0 ≤ _ ∧ _ < _ + 8 * 0 + 8 then _ else _) = _
  split_ifs <;> first | rfl | (exfalso; omega)

/-- The finished rows of a chunk depend on the product's rows there only. -/
theorem rows_congr (Y Y' : Vec F S512x4096 .f32) (r : Fin 512)
    (h : ∀ (s : Fin 512) (n : Fin 4096), s.val / 8 = r.val / 8 → Y (ix2 s n) = Y' (ix2 s n)) : rowsAt Y (chunkOf r) = rowsAt Y' (chunkOf r) := by
  funext y
  refine h _ _ ?_
  have : (y 0).val < 8 := (y 0).isLt
  show (8 * (r.val / 8) + (y 0).val) / 8 = r.val / 8
  omega

/-- After `k` trips the first `64 k` rows of the residual stream are finished, from the product the loop found. -/
theorem loop_x (𝒱 : Variants) (c : Dev nD) (bd : Option 𝒱.V) (G : BufTy.Contents (Elt F) arg10.view.ty) (H : BufTy.Contents (Elt F) arg11.view.ty) : ∀ k : ℕ, k ≤ 8 → ∀ (r : Fin 512) (n : Fin 4096),
    View.read (Elt F) arg10.view (arg10.view.writes (Elt F) G (pb_k0_t1 (F := F) 𝒱 c bd i arg2 harg2 arg3 harg3 arg4 harg4 arg5 harg5 arg6 harg6 arg7 harg7 arg8 harg8 arg9 harg9 arg10 harg10 arg11 harg11 k0_h4 X5 X6 X7 X8 X9 G H k).1) (ix2 r n)
      = if r.val < 64 * k then finX (View.read (Elt F) arg10.view G) (View.read (Elt F) arg5.view X5) (View.read (Elt F) arg6.view X6) (View.read (Elt F) arg7.view X7) r n else View.read (Elt F) arg10.view G (ix2 r n) := by
  intro k
  induction k with
  | zero => intro _ r n; rw [if_neg (by omega)]; rfl
  | succ k ih =>
    intro hk r n
    have hkt : k < k0_t1_loop.trips := by have := trips_eq; omega
    rw [pb_k0_t1_succ (F := F) 𝒱 c bd i arg2 harg2 arg3 harg3 arg4 harg4 arg5 harg5 arg6 harg6 arg7 harg7 arg8 harg8 arg9 harg9 arg10 harg10 arg11 harg11 k0_h4 X5 X6 X7 X8 X9 G H ⟨k, hkt⟩, trip_pieces]
    dsimp only
    rw [View.writes_append, trip_x]
    by_cases h1 : 64 * k ≤ r.val ∧ r.val < 64 * (k + 1)
    · rw [if_pos h1, if_pos h1.2]
      unfold finX rowX
      rw [rows_congr _ (View.read (Elt F) arg10.view G) r fun s n' hs => ?_]
      rw [ih (by omega) s n', if_neg (by omega)]
    · rw [if_neg h1, ih (by omega) r n]
      by_cases h2 : r.val < 64 * k
      · rw [if_pos h2, if_pos (by omega)]
      · rw [if_neg h2, if_neg (by omega)]

/-- So are those of the next layer's normalised rows, whatever their block held. -/
theorem loop_h (𝒱 : Variants) (c : Dev nD) (bd : Option 𝒱.V) (G : BufTy.Contents (Elt F) arg10.view.ty) (H : BufTy.Contents (Elt F) arg11.view.ty) : ∀ k : ℕ, k ≤ 8 → ∀ (r : Fin 512) (n : Fin 4096),
    View.read (Elt F) arg11.view (arg11.view.writes (Elt F) H (pb_k0_t1 (F := F) 𝒱 c bd i arg2 harg2 arg3 harg3 arg4 harg4 arg5 harg5 arg6 harg6 arg7 harg7 arg8 harg8 arg9 harg9 arg10 harg10 arg11 harg11 k0_h4 X5 X6 X7 X8 X9 G H k).2) (ix2 r n)
      = if r.val < 64 * k then finH (View.read (Elt F) arg10.view G) (View.read (Elt F) arg5.view X5) (View.read (Elt F) arg6.view X6) (View.read (Elt F) arg7.view X7) (View.read (Elt F) arg8.view X8) (View.read (Elt F) arg9.view X9) r n else View.read (Elt F) arg11.view H (ix2 r n) := by
  intro k
  induction k with
  | zero => intro _ r n; rw [if_neg (by omega)]; rfl
  | succ k ih =>
    intro hk r n
    have hkt : k < k0_t1_loop.trips := by have := trips_eq; omega
    rw [pb_k0_t1_succ (F := F) 𝒱 c bd i arg2 harg2 arg3 harg3 arg4 harg4 arg5 harg5 arg6 harg6 arg7 harg7 arg8 harg8 arg9 harg9 arg10 harg10 arg11 harg11 k0_h4 X5 X6 X7 X8 X9 G H ⟨k, hkt⟩, trip_pieces]
    dsimp only
    rw [View.writes_append, trip_h]
    by_cases h1 : 64 * k ≤ r.val ∧ r.val < 64 * (k + 1)
    · rw [if_pos h1, if_pos h1.2]
      unfold finH rowH rowX
      rw [rows_congr _ (View.read (Elt F) arg10.view G) r fun s n' hs => ?_]
      rw [loop_x i arg2 harg2 arg3 harg3 arg4 harg4 arg5 harg5 arg6 harg6 arg7 harg7 arg8 harg8 arg9 harg9 arg10 harg10 arg11 harg11 k0_h4 X5 X6 X7 X8 X9 𝒱 c bd G H k (by omega) s n', if_neg (by omega)]
    · rw [if_neg h1, ih (by omega) r n]
      by_cases h2 : r.val < 64 * k
      · rw [if_pos h2, if_pos (by omega)]
      · rw [if_neg h2, if_neg (by omega)]

end Cert.OutHIdeal.Loop

end
-- ==== Proof.OutHIdealFrame.lean ====
/-
  The first layer's out-projection, idealized: its frame.

  Each block of 512 rows takes eight grid points. The product accumulates in the residual stream's block (`acc`); the eighth
  point finishes both blocks by the epilogue's loop. The normalised rows' block is touched at that point alone and written
  back there, so it may hold anything before.
-/
module

public import proofs.«01_k».proof.Proof.OutHIdealLoop
public import proofs.«01_k».proof.Proof.Gen.OutHIdeal.Skeleton
public import Idealize.ShloMosaic.Lib.Pipeline.TableIdle
public import Idealize.ShloMosaic.Lib.Claim

@[expose] public section

set_option maxRecDepth 16384

noncomputable section

namespace Cert.OutHIdeal.Held

open Cert.OutHIdeal Cert.OutHIdeal.Gen Cert.OutHIdeal.Loop
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body -/

/-- The finished blocks, from the product `Y`. -/
def blockX (Y X : Vec F S512x4096 .f32) (M : Vec F S1x3x8x4096 .f32) (G : Vec F S8x4096 .f32) : Vec F S512x4096 .f32 :=
  fun y => finX Y X M G (y 0) (y 1)
def blockH (Y X : Vec F S512x4096 .f32) (M : Vec F S1x3x8x4096 .f32) (G : Vec F S8x4096 .f32) (Mn : Vec F S1x3x8x4096 .f32) (Gn : Vec F S8x4096 .f32) : Vec F S512x4096 .bf16 :=
  fun y => finH Y X M G Mn Gn (y 0) (y 1)

set_option maxHeartbeats 4000000 in
/-- The first point of a row block stores the product's first part. -/
theorem body_first (c : Dev nD) (E : Set ℕ) (i : grid0.Coords) (c1 : k0_cond1 i = 1#1) (c2 : ¬k0_cond2 i = 1#1) (c3 : ¬k0_cond3 i = 1#1) (c4 : ¬k0_cond4 i = 1#1)
    (a2 : Memref sig .tc .vmem S512x512 .bf16) (h2 : a2.IsWhole)
    (a3 : Memref sig .tc .vmem S512x512 .bf16) (h3 : a3.IsWhole)
    (a4 : Memref sig .tc .vmem S1x512x4096 .bf16) (h4 : a4.IsWhole)
    (a5 : Memref sig .tc .vmem S512x4096 .f32) (h5 : a5.IsWhole)
    (a6 : Memref sig .tc .vmem S1x3x8x4096 .f32) (h6 : a6.IsWhole)
    (a7 : Memref sig .tc .vmem S8x4096 .f32) (h7 : a7.IsWhole)
    (a8 : Memref sig .tc .vmem S1x3x8x4096 .f32) (h8 : a8.IsWhole)
    (a9 : Memref sig .tc .vmem S8x4096 .f32) (h9 : a9.IsWhole)
    (a10 : Memref sig .tc .vmem S512x4096 .f32) (h10 : a10.IsWhole)
    (a11 : Memref sig .tc .vmem S512x4096 .bf16) (h11 : a11.IsWhole)
    (xd : Vec F S512x512 .bf16) (w : Vec F S1x512x4096 .bf16) (K : PUnit → sProp 𝕄) :
    iprop(owns (c : Thread nD τ) a2 fullShare xd ∗ owns (c : Thread nD τ) a4 fullShare w ∗ (∃ d, owns (c : Thread nD τ) a10 fullShare d)
        ∗ (iprop(owns (c : Thread nD τ) a2 fullShare xd ∗ owns (c : Thread nD τ) a4 fullShare w ∗ owns (c : Thread nD τ) a10 fullShare (k0_pay1 xd w)) -∗ K ⟨⟩))
      ⊢ wp frame (wpE (defs₀ (F := F)) Variants.none c none) E (cc0_out_proj i a2 h2 a3 h3 a4 h4 a5 h5 a6 h6 a7 h7 a8 h8 a9 h9 a10 h10 a11 h11) K := by
  simp only [cc0_out_proj_eq_skeleton]; unfold cc0_out_proj_skel
  unfold owns
  iintro ⟨⟨%f2, %e2, H2⟩, ⟨%f4, %e4, H4⟩, ⟨%d10, %f10, -, H10⟩, Hk⟩
  subst e2 e4
  sl_exec (disch := first | sl_exact c1 | sl_exact c2 | sl_exact c3 | sl_exact c4)
  sl_step
  iapply Hk
  isplitl [H2]
  · iexists f2; isplitr; · ipureintro; rfl
    iexact H2
  isplitl [H4]
  · iexists f4; isplitr; · ipureintro; rfl
    iexact H4
  iexists _; isplitr
  swap; · iexact H10
  ipureintro
  rw [View.read_writes_full, View.readAt_full, View.readAt_full]

set_option maxHeartbeats 4000000 in
/-- A point that adds a part of the DeltaNet half. -/
theorem body_dn (c : Dev nD) (E : Set ℕ) (i : grid0.Coords) (c1 : ¬k0_cond1 i = 1#1) (c2 : k0_cond2 i = 1#1) (c3 : ¬k0_cond3 i = 1#1) (c4 : ¬k0_cond4 i = 1#1)
    (a2 : Memref sig .tc .vmem S512x512 .bf16) (h2 : a2.IsWhole)
    (a3 : Memref sig .tc .vmem S512x512 .bf16) (h3 : a3.IsWhole)
    (a4 : Memref sig .tc .vmem S1x512x4096 .bf16) (h4 : a4.IsWhole)
    (a5 : Memref sig .tc .vmem S512x4096 .f32) (h5 : a5.IsWhole)
    (a6 : Memref sig .tc .vmem S1x3x8x4096 .f32) (h6 : a6.IsWhole)
    (a7 : Memref sig .tc .vmem S8x4096 .f32) (h7 : a7.IsWhole)
    (a8 : Memref sig .tc .vmem S1x3x8x4096 .f32) (h8 : a8.IsWhole)
    (a9 : Memref sig .tc .vmem S8x4096 .f32) (h9 : a9.IsWhole)
    (a10 : Memref sig .tc .vmem S512x4096 .f32) (h10 : a10.IsWhole)
    (a11 : Memref sig .tc .vmem S512x4096 .bf16) (h11 : a11.IsWhole)
    (xd : Vec F S512x512 .bf16) (w : Vec F S1x512x4096 .bf16) (y : Vec F S512x4096 .f32) (K : PUnit → sProp 𝕄) :
    iprop(owns (c : Thread nD τ) a2 fullShare xd ∗ owns (c : Thread nD τ) a4 fullShare w ∗ owns (c : Thread nD τ) a10 fullShare y
        ∗ (iprop(owns (c : Thread nD τ) a2 fullShare xd ∗ owns (c : Thread nD τ) a4 fullShare w ∗ owns (c : Thread nD τ) a10 fullShare (k0_pay2 y xd w)) -∗ K ⟨⟩))
      ⊢ wp frame (wpE (defs₀ (F := F)) Variants.none c none) E (cc0_out_proj i a2 h2 a3 h3 a4 h4 a5 h5 a6 h6 a7 h7 a8 h8 a9 h9 a10 h10 a11 h11) K := by
  simp only [cc0_out_proj_eq_skeleton]; unfold cc0_out_proj_skel
  unfold owns
  iintro ⟨⟨%f2, %e2, H2⟩, ⟨%f4, %e4, H4⟩, ⟨%f10, %e10, H10⟩, Hk⟩
  subst e2 e4 e10
  sl_exec (disch := first | sl_exact c1 | sl_exact c2 | sl_exact c3 | sl_exact c4)
  sl_step
  iapply Hk
  isplitl [H2]
  · iexists f2; isplitr; · ipureintro; rfl
    iexact H2
  isplitl [H4]
  · iexists f4; isplitr; · ipureintro; rfl
    iexact H4
  iexists _; isplitr
  swap; · iexact H10
  ipureintro
  rw [View.read_writes_full, View.readAt_full, View.readAt_full, View.readAt_full]

set_option maxHeartbeats 4000000 in
/-- A point that adds a part of the attention half. -/
theorem body_at (c : Dev nD) (E : Set ℕ) (i : grid0.Coords) (c1 : ¬k0_cond1 i = 1#1) (c2 : ¬k0_cond2 i = 1#1) (c3 : k0_cond3 i = 1#1) (c4 : ¬k0_cond4 i = 1#1)
    (a2 : Memref sig .tc .vmem S512x512 .bf16) (h2 : a2.IsWhole)
    (a3 : Memref sig .tc .vmem S512x512 .bf16) (h3 : a3.IsWhole)
    (a4 : Memref sig .tc .vmem S1x512x4096 .bf16) (h4 : a4.IsWhole)
    (a5 : Memref sig .tc .vmem S512x4096 .f32) (h5 : a5.IsWhole)
    (a6 : Memref sig .tc .vmem S1x3x8x4096 .f32) (h6 : a6.IsWhole)
    (a7 : Memref sig .tc .vmem S8x4096 .f32) (h7 : a7.IsWhole)
    (a8 : Memref sig .tc .vmem S1x3x8x4096 .f32) (h8 : a8.IsWhole)
    (a9 : Memref sig .tc .vmem S8x4096 .f32) (h9 : a9.IsWhole)
    (a10 : Memref sig .tc .vmem S512x4096 .f32) (h10 : a10.IsWhole)
    (a11 : Memref sig .tc .vmem S512x4096 .bf16) (h11 : a11.IsWhole)
    (xa : Vec F S512x512 .bf16) (w : Vec F S1x512x4096 .bf16) (y : Vec F S512x4096 .f32) (K : PUnit → sProp 𝕄) :
    iprop(owns (c : Thread nD τ) a3 fullShare xa ∗ owns (c : Thread nD τ) a4 fullShare w ∗ owns (c : Thread nD τ) a10 fullShare y
        ∗ (iprop(owns (c : Thread nD τ) a3 fullShare xa ∗ owns (c : Thread nD τ) a4 fullShare w ∗ owns (c : Thread nD τ) a10 fullShare (k0_pay3 y xa w)) -∗ K ⟨⟩))
      ⊢ wp frame (wpE (defs₀ (F := F)) Variants.none c none) E (cc0_out_proj i a2 h2 a3 h3 a4 h4 a5 h5 a6 h6 a7 h7 a8 h8 a9 h9 a10 h10 a11 h11) K := by
  simp only [cc0_out_proj_eq_skeleton]; unfold cc0_out_proj_skel
  unfold owns
  iintro ⟨⟨%f3, %e3, H3⟩, ⟨%f4, %e4, H4⟩, ⟨%f10, %e10, H10⟩, Hk⟩
  subst e3 e4 e10
  sl_exec (disch := first | sl_exact c1 | sl_exact c2 | sl_exact c3 | sl_exact c4)
  sl_step
  iapply Hk
  isplitl [H3]
  · iexists f3; isplitr; · ipureintro; rfl
    iexact H3
  isplitl [H4]
  · iexists f4; isplitr; · ipureintro; rfl
    iexact H4
  iexists _; isplitr
  swap; · iexact H10
  ipureintro
  rw [View.read_writes_full, View.readAt_full, View.readAt_full, View.readAt_full]

set_option maxHeartbeats 4000000 in
/-- The last point of a row block adds the last part and finishes both results. -/
theorem body_last (c : Dev nD) (E : Set ℕ) (i : grid0.Coords) (c1 : ¬k0_cond1 i = 1#1) (c2 : ¬k0_cond2 i = 1#1) (c3 : k0_cond3 i = 1#1) (c4 : k0_cond4 i = 1#1)
    (a2 : Memref sig .tc .vmem S512x512 .bf16) (h2 : a2.IsWhole)
    (a3 : Memref sig .tc .vmem S512x512 .bf16) (h3 : a3.IsWhole)
    (a4 : Memref sig .tc .vmem S1x512x4096 .bf16) (h4 : a4.IsWhole)
    (a5 : Memref sig .tc .vmem S512x4096 .f32) (h5 : a5.IsWhole)
    (a6 : Memref sig .tc .vmem S1x3x8x4096 .f32) (h6 : a6.IsWhole)
    (a7 : Memref sig .tc .vmem S8x4096 .f32) (h7 : a7.IsWhole)
    (a8 : Memref sig .tc .vmem S1x3x8x4096 .f32) (h8 : a8.IsWhole)
    (a9 : Memref sig .tc .vmem S8x4096 .f32) (h9 : a9.IsWhole)
    (a10 : Memref sig .tc .vmem S512x4096 .f32) (h10 : a10.IsWhole)
    (a11 : Memref sig .tc .vmem S512x4096 .bf16) (h11 : a11.IsWhole)
    (xa : Vec F S512x512 .bf16) (w : Vec F S1x512x4096 .bf16) (x : Vec F S512x4096 .f32) (md : Vec F S1x3x8x4096 .f32) (g : Vec F S8x4096 .f32) (mn : Vec F S1x3x8x4096 .f32) (gn : Vec F S8x4096 .f32) (y : Vec F S512x4096 .f32) (K : PUnit → sProp 𝕄) :
    iprop(owns (c : Thread nD τ) a3 fullShare xa ∗ owns (c : Thread nD τ) a4 fullShare w ∗ owns (c : Thread nD τ) a5 fullShare x ∗ owns (c : Thread nD τ) a6 fullShare md ∗ owns (c : Thread nD τ) a7 fullShare g ∗ owns (c : Thread nD τ) a8 fullShare mn ∗ owns (c : Thread nD τ) a9 fullShare gn ∗ owns (c : Thread nD τ) a10 fullShare y ∗ (∃ d, owns (c : Thread nD τ) a11 fullShare d)
        ∗ (iprop(owns (c : Thread nD τ) a3 fullShare xa ∗ owns (c : Thread nD τ) a4 fullShare w ∗ owns (c : Thread nD τ) a5 fullShare x ∗ owns (c : Thread nD τ) a6 fullShare md ∗ owns (c : Thread nD τ) a7 fullShare g ∗ owns (c : Thread nD τ) a8 fullShare mn ∗ owns (c : Thread nD τ) a9 fullShare gn ∗ owns (c : Thread nD τ) a10 fullShare (blockX (k0_pay3 y xa w) x md g) ∗ owns (c : Thread nD τ) a11 fullShare (blockH (k0_pay3 y xa w) x md g mn gn)) -∗ K ⟨⟩))
      ⊢ wp frame (wpE (defs₀ (F := F)) Variants.none c none) E (cc0_out_proj i a2 h2 a3 h3 a4 h4 a5 h5 a6 h6 a7 h7 a8 h8 a9 h9 a10 h10 a11 h11) K := by
  simp only [cc0_out_proj_eq_skeleton]; unfold cc0_out_proj_skel
  unfold owns
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%d11, %f11, -, H11⟩, Hk⟩
  subst e3 e4 e5 e6 e7 e8 e9 e10
  sl_exec (disch := first | sl_exact c1 | sl_exact c2 | sl_exact c3 | sl_exact c4)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  have hY : View.read (Elt F) a10.view (a10.view.writes (Elt F) a10.view.junk (body_last.sl.H10_1 c a3 a4 a10 f3 f4 f10)) = k0_pay3 (View.read (Elt F) a10.view f10) (View.read (Elt F) a3.view f3) (View.read (Elt F) a4.view f4) := by
    sl_unfold_words
    rw [View.read_writes_full, View.readAt_full, View.readAt_full, View.readAt_full]
  have htr : Scf.trips k0_t1_loop.lb k0_t1_loop.ub k0_t1_loop.st = 8 := trips_eq
  isplitl [H10]
  · iexists _; isplitr
    swap; · iexact H10
    ipureintro
    funext z
    obtain ⟨r, n, rfl⟩ : ∃ (r : Fin 512) (n : Fin 4096), z = ix2 r n := ⟨z 0, z 1, eq_ix2 (n0 := 512) (n1 := 4096) z⟩
    rw [View.writes_append, htr, loop_x i a2 h2 a3 h3 a4 h4 a5 h5 a6 h6 a7 h7 a8 h8 a9 h9 a10 h10 a11 h11 c4 f5 f6 f7 f8 f9 _ c _ _ _ 8 le_rfl, if_pos (by have := r.isLt; omega), hY]
    rfl
  iexists _; isplitr
  swap; · iexact H11
  ipureintro
  funext z
  obtain ⟨r, n, rfl⟩ : ∃ (r : Fin 512) (n : Fin 4096), z = ix2 r n := ⟨z 0, z 1, eq_ix2 (n0 := 512) (n1 := 4096) z⟩
  rw [htr, loop_h i a2 h2 a3 h3 a4 h4 a5 h5 a6 h6 a7 h7 a8 h8 a9 h9 a10 h10 a11 h11 c4 f5 f6 f7 f8 f9 _ c _ _ _ 8 le_rfl, if_pos (by have := r.isLt; omega), hY]
  rfl

/-! ## The buffers point by point -/

/-- The product as the points up to `n` of its row block have it. -/
def acc (c : Dev nD) : (n : ℕ) → n < cfg0.N → Vec F S512x4096 .f32
  | 0, hn => k0_pay1 (iblk m c 0 ⟨0, hn⟩) (iblk m c 2 ⟨0, hn⟩)
  | n + 1, hn =>
    if (n + 1) % 8 = 0 then k0_pay1 (iblk m c 0 ⟨n + 1, hn⟩) (iblk m c 2 ⟨n + 1, hn⟩)
    else if (n + 1) % 8 ≤ 3 then k0_pay2 (acc c n (Nat.lt_of_succ_lt hn)) (iblk m c 0 ⟨n + 1, hn⟩) (iblk m c 2 ⟨n + 1, hn⟩)
    else k0_pay3 (acc c n (Nat.lt_of_succ_lt hn)) (iblk m c 1 ⟨n + 1, hn⟩) (iblk m c 2 ⟨n + 1, hn⟩)

theorem acc_first (c : Dev nD) (t : Fin cfg0.N) (h : t.val % 8 = 0) : acc m c t.val t.isLt = k0_pay1 (iblk m c 0 t) (iblk m c 2 t) := by
  obtain ⟨n, hn⟩ := t
  cases n with
  | zero => rfl
  | succ n => exact if_pos h

theorem acc_dn (c : Dev nD) (t : Fin cfg0.N) (h : ¬t.val % 8 = 0) (h3 : t.val % 8 ≤ 3) :
    acc m c t.val t.isLt = k0_pay2 (acc m c (t.val - 1) (Nat.lt_of_le_of_lt (Nat.sub_le _ _) t.isLt)) (iblk m c 0 t) (iblk m c 2 t) := by
  obtain ⟨n, hn⟩ := t
  cases n with
  | zero => exact absurd (Nat.zero_mod _) h
  | succ n => exact (if_neg h).trans (if_pos h3)

theorem acc_at (c : Dev nD) (t : Fin cfg0.N) (h : ¬t.val % 8 = 0) (h3 : ¬t.val % 8 ≤ 3) :
    acc m c t.val t.isLt = k0_pay3 (acc m c (t.val - 1) (Nat.lt_of_le_of_lt (Nat.sub_le _ _) t.isLt)) (iblk m c 1 t) (iblk m c 2 t) := by
  obtain ⟨n, hn⟩ := t
  cases n with
  | zero => exact absurd (Nat.zero_mod _) h
  | succ n => exact (if_neg h).trans (if_neg h3)

/-- The contents of each window's buffer after the body at point `t`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => if t.val % 8 = 7 then blockX (acc m c t.val t.isLt) (iblk m c 3 t) (iblk m c 4 t) (iblk m c 5 t) else acc m c t.val t.isLt
    | ⟨9, _⟩ => blockH (acc m c t.val t.isLt) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t
    = if t.val % 8 = 7 then blockX (acc m c t.val t.isLt) (iblk m c 3 t) (iblk m c 4 t) (iblk m c 5 t) else acc m c t.val t.isLt := by dsimp only [dats]
theorem after_9 (c : Dev nD) (t : Fin cfg0.N) : (dats m 0 c).after 9 t
    = blockH (acc m c t.val t.isLt) (iblk m c 3 t) (iblk m c 4 t) (iblk m c 5 t) (iblk m c 6 t) (iblk m c 7 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-! ## The conditions and the two results' buffers -/

theorem hc1 : ∀ t : Fin cfg0.N, k0_cond1 (grid0.coords t) = 1#1 ↔ t.val % 8 = 0 :=
  (by decide +kernel : ∀ t : Fin grid0.N, k0_cond1 (grid0.coords t) = 1#1 ↔ t.val % 8 = 0)
theorem hc2 : ∀ t : Fin cfg0.N, k0_cond2 (grid0.coords t) = 1#1 ↔ (1 ≤ t.val % 8 ∧ t.val % 8 ≤ 3) :=
  (by decide +kernel : ∀ t : Fin grid0.N, k0_cond2 (grid0.coords t) = 1#1 ↔ (1 ≤ t.val % 8 ∧ t.val % 8 ≤ 3))
theorem hc3 : ∀ t : Fin cfg0.N, k0_cond3 (grid0.coords t) = 1#1 ↔ 4 ≤ t.val % 8 :=
  (by decide +kernel : ∀ t : Fin grid0.N, k0_cond3 (grid0.coords t) = 1#1 ↔ 4 ≤ t.val % 8)
theorem hc4 : ∀ t : Fin cfg0.N, k0_cond4 (grid0.coords t) = 1#1 ↔ t.val % 8 = 7 :=
  (by decide +kernel : ∀ t : Fin grid0.N, k0_cond4 (grid0.coords t) = 1#1 ↔ t.val % 8 = 7)

/-- The residual stream's block is stored at every point. -/
theorem live_8 : ∀ t : Fin cfg0.N, cfg0.idle 8 (grid0.coords t) = false :=
  (by decide +kernel : ∀ t : Fin grid0.N, idle0 8 (grid0.coords t) = false)
/-- The normalised rows' block is idle but at the last point of a row block. -/
theorem idle_9 : ∀ t : Fin cfg0.N, cfg0.idle 9 (grid0.coords t) = true ↔ t.val % 8 ≠ 7 :=
  (by decide +kernel : ∀ t : Fin grid0.N, idle0 9 (grid0.coords t) = true ↔ t.val % 8 ≠ 7)

/-- Whether the residual stream's buffer holds nothing of its row block yet: at the block's first point only. -/
theorem fresh_eq (t : Fin cfg0.N) : cfg0.fresh 8 t.val = decide (t.val % 8 = 0) := by
  refine Pipeline.Cfg.fresh_tab cfg0 8 (fun n => decide (n % 8 = 0)) rfl (fun t => ?_) t.val (Nat.le_of_lt t.isLt)
  have hf := flush0_8 t
  by_cases h7 : t.val % 8 = 7
  · rw [hf.mpr h7, Bool.true_or]
    exact decide_eq_true (by omega)
  · rw [Bool.eq_false_iff.mpr fun h => h7 (hf.mp h), Bool.false_or, show cfg0.idle 8 (cfg0.grid.coords t) = false from live_8 t, Bool.false_and]
    exact decide_eq_false (by omega)

/-- Past a row block's first point the body finds the product so far. -/
theorem before_8 (c : Dev nD) (t : Fin cfg0.N) (h : ¬t.val % 8 = 0) (d) :
    (dats m 0 c).before 8 t d = acc m c (t.val - 1) (Nat.lt_of_le_of_lt (Nat.sub_le _ _) t.isLt) := by
  rw [Dat.before_out_traj _ 8 rfl (fun _ _ => rfl) (fun t _ hi _ => ?_) t.val t rfl d, fresh_eq, decide_eq_false h,
    if_neg Bool.false_ne_true, after_8, if_neg (by show ¬(t.val - 1) % 8 = 7; omega)]
  exact absurd ((live_8 t).symm.trans hi) Bool.false_ne_true

/-! ## The body obligation -/

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl
theorem live_7 : ∀ t : Fin cfg0.N, cfg0.idle 7 (grid0.coords t) = false := fun _ => rfl

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t)

/-- A window the body stores or reads at `t` is left at `after`. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from h]

set_option maxHeartbeats 4000000 in
/-- The body at any point, by its place in its row block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    leaves_live m c 0 t (live_0 t), leaves_live m c 1 t (live_1 t), leaves_live m c 2 t (live_2 t), leaves_live m c 3 t (live_3 t), leaves_live m c 4 t (live_4 t), leaves_live m c 5 t (live_5 t), leaves_live m c 6 t (live_6 t), leaves_live m c 7 t (live_7 t), leaves_live m c 8 t (live_8 t),
    after_0, after_1, after_2, after_3, after_4, after_5, after_6, after_7, after_8]
  by_cases h7 : t.val % 8 = 7
  · rw [leaves_live m c 9 t (Bool.eq_false_iff.mpr fun hi => (idle_9 t).mp hi h7), after_9, if_pos h7,
      acc_at m c t (by omega) (by omega)]
    simp only [before_8 m c t (by omega)]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_last c Set.univ (grid0.coords t) (fun h => by have := (hc1 t).mp h; omega) (fun h => by have := (hc2 t).mp h; omega) ((hc3 t).mpr (by omega)) ((hc4 t).mpr (by omega)) _ _ _ _ _ _ _ _ _ _ _ _ _ _ _ _ _ _ _ _ _ _ _ _ _ _ _ _ _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iintro ⟨H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  rw [Dat.leavesExact_idle (dats m 0 c) 9 t ((idle_9 t).mpr h7) (Bool.eq_false_iff.mpr fun hf => h7 ((flush0_9 t).mp hf)), if_neg h7]
  by_cases h0 : t.val % 8 = 0
  · rw [acc_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_first c Set.univ (grid0.coords t) ((hc1 t).mpr (by omega)) (fun h => by have := (hc2 t).mp h; omega) (fun h => by have := (hc3 t).mp h; omega) (fun h => by have := (hc4 t).mp h; omega) _ _ _ _ _ _ _ _ _ _ _ _ _ _ _ _ _ _ _ _ _ _ _)
    isplitl [H0]; · iexact H0
    isplitl [H2]; · iexact H2
    isplitl [H8]; · iexists _; iexact H8
    iintro ⟨H0, H2, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists d9; iexact H9
  simp only [before_8 m c t h0]
  by_cases h3 : t.val % 8 ≤ 3
  · rw [acc_dn m c t h0 h3]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_dn c Set.univ (grid0.coords t) (fun h => by have := (hc1 t).mp h; omega) ((hc2 t).mpr (by omega)) (fun h => by have := (hc3 t).mp h; omega) (fun h => by have := (hc4 t).mp h; omega) _ _ _ _ _ _ _ _ _ _ _ _ _ _ _ _ _ _ _ _ _ _ _ _)
    isplitl [H0]; · iexact H0
    isplitl [H2]; · iexact H2
    isplitl [H8]; · iexact H8
    iintro ⟨H0, H2, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists d9; iexact H9
  · rw [acc_at m c t h0 h3]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_at c Set.univ (grid0.coords t) (fun h => by have := (hc1 t).mp h; omega) (fun h => by have := (hc2 t).mp h; omega) ((hc3 t).mpr (by omega)) (fun h => by have := (hc4 t).mp h; omega) _ _ _ _ _ _ _ _ _ _ _ _ _ _ _ _ _ _ _ _ _ _ _ _)
    isplitl [H1]; · iexact H1
    isplitl [H2]; · iexact H2
    isplitl [H8]; · iexact H8
    iintro ⟨H1, H2, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists d9; iexact H9

/-- The body called at `t`'s slots is `bodyAt0 t`. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every run ends with the windows' arrays as the buffers' contents make them, and every semaphore at zero. -/
theorem run_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_arrays : θ_run defs (onTc (τ := τ) (main (F := F))) (s₀ m ρ) (Pipeline.FramePost cfgs (dats m) 0 (V m)) :=
  (θ_run defs _ _).mono (fun _ h => h.1) (run_quiescent m ρ)

/-- The arguments end as they were. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_arrays m ρ)

/-- The frame: the arguments end as they were, every semaphore at zero. -/
theorem frame_held : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (args_kept m ρ) ((θ_run defs _ _).mono (fun _ h => h.2) (run_quiescent m ρ))

end Cert.OutHIdeal.Held

end
-- ==== Proof.OutHValue.lean ====
/-
  The first layer's out-projection with the next layer's normalisation: what the kernel's two result arrays end holding at
  the extended reals, and that they are the reference's.

  The eight points of a row block add up the product of the two halves side by side with the weights (`acc_sum`,
  `whole_eq`); the last one's loop makes the layer's next residual stream of it (`result`) and the normalised rows of that
  (`normed`).
-/
module

public import proofs.«01_k».proof.Proof.OutHIdealFrame
public import proofs.«01_k».proof.Proof.Gen.RefOutHIdeal.Run
public import proofs.«01_k».proof.Proof.Gen.RefOutHIdeal.Read
public import Idealize.ShloMosaic.Lib.Pipeline.ValueKit
public import Idealize.ShloMosaic.Lib.Pointwise
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.OutHIdeal.RefValue

open Cert.OutHIdeal Cert.OutHIdeal.Gen Cert.OutHIdeal.Loop Cert.OutHIdeal.Held

variable (m : (ℓ : Loc nD τ sig) → Buf (Elt Ideal) ℓ) (ρ : Dev nD → PrngReg)

/-- One k-block's product at an element: 512 columns of `x` against 512 rows of `w`. -/
def part (x : Vec Ideal S512x512 .bf16) (w : Vec Ideal S1x512x4096 .bf16) (r : Fin 512) (n : Fin 4096) : EReal :=
  ∑ k : Fin 512, x (ix2 r k) * w (ix3 (n0 := 1) 0 k n)

theorem first_apply (x : Vec Ideal S512x512 .bf16) (w : Vec Ideal S1x512x4096 .bf16) (r : Fin 512) (n : Fin 4096) :
    k0_pay1 x w (ix2 r n) = part x w r n := by
  unfold part
  pointwise [k0_pay1]

theorem dn_apply (y : Vec Ideal S512x4096 .f32) (x : Vec Ideal S512x512 .bf16) (w : Vec Ideal S1x512x4096 .bf16) (r : Fin 512) (n : Fin 4096) :
    k0_pay2 y x w (ix2 r n) = y (ix2 r n) + part x w r n := by
  unfold part
  pointwise [k0_pay2]

theorem at_apply (y : Vec Ideal S512x4096 .f32) (x : Vec Ideal S512x512 .bf16) (w : Vec Ideal S1x512x4096 .bf16) (r : Fin 512) (n : Fin 4096) :
    k0_pay3 y x w (ix2 r n) = y (ix2 r n) + part x w r n := by
  unfold part
  pointwise [k0_pay3]

/-! ## The epilogue's rows -/

theorem epiX_apply (yv xv : Vec Ideal S8x4096 .f32) (mv : Vec Ideal S1x1x8x4096 .f32) (gv : Vec Ideal S8x4096 .f32) (a : Fin 8) (n : Fin 4096) :
    epiX yv xv mv gv (ix2 a n) = xv (ix2 a n) + mv (ix4 (n0 := 1) (n1 := 1) 0 0 a n)
      * (yv (ix2 a n) * Ideal.rsqrt (Ideal.div (∑ k : Fin 4096, yv (ix2 a k) * yv (ix2 a k)) (Ideal.ofBits .f32 0x45800000#32) + Ideal.ofBits .f32 0x358637BD#32)
        * gv (ix2 a n)) := by
  unfold epiX
  pointwise [k0_pay23, k0_pay5, k0_pay13]

theorem epiH_apply (xv gv : Vec Ideal S8x4096 .f32) (sc sh : Vec Ideal S1x1x8x4096 .f32) (a : Fin 8) (n : Fin 4096) :
    epiH xv gv sc sh (ix2 a n)
      = xv (ix2 a n) * Ideal.rsqrt (Ideal.div (∑ k : Fin 4096, xv (ix2 a k) * xv (ix2 a k)) (Ideal.ofBits .f32 0x45800000#32) + Ideal.ofBits .f32 0x358637BD#32)
          * gv (ix2 a n) * (Ideal.ofBits .f32 0x3F800000#32 + sc (ix4 (n0 := 1) (n1 := 1) 0 0 a n)) + sh (ix4 (n0 := 1) (n1 := 1) 0 0 a n) := by
  unfold epiH
  pointwise [k0_pay42, k0_pay34]

theorem rows_apply (Y : Vec Ideal S512x4096 .f32) (r : Fin 512) (n : Fin 4096) : rowsAt Y (chunkOf r) (ix2 (n0 := 8) (n1 := 4096) (placeOf r) n) = Y (ix2 r n) := by
  refine congrArg Y (funext fun b => Fin.ext ?_)
  match b with
  | ⟨0, _⟩ => show 8 * (r.val / 8) + r.val % 8 = r.val; omega
  | ⟨1, _⟩ => rfl

/-- The finished residual stream at row `r`, column `n`. -/
theorem finX_apply (Y X : Vec Ideal S512x4096 .f32) (M : Vec Ideal S1x3x8x4096 .f32) (Gm : Vec Ideal S8x4096 .f32) (r : Fin 512) (n : Fin 4096) :
    finX Y X M Gm r n = X (ix2 r n) + M (ix4 (n0 := 1) (n1 := 3) (n2 := 8) 0 2 (placeOf r) n)
      * (Y (ix2 r n) * Ideal.rsqrt (Ideal.div (∑ k : Fin 4096, Y (ix2 r k) * Y (ix2 r k)) (Ideal.ofBits .f32 0x45800000#32) + Ideal.ofBits .f32 0x358637BD#32)
        * Gm (ix2 (n0 := 8) (placeOf r) n)) := by
  unfold finX rowX
  rw [epiX_apply]
  simp only [rows_apply]
  rfl

/-- The normalised rows at row `r`, column `n`, from the finished residual stream. -/
theorem finH_apply (Y X : Vec Ideal S512x4096 .f32) (M : Vec Ideal S1x3x8x4096 .f32) (Gm : Vec Ideal S8x4096 .f32) (Mn : Vec Ideal S1x3x8x4096 .f32) (Gn : Vec Ideal S8x4096 .f32) (r : Fin 512) (n : Fin 4096) :
    finH Y X M Gm Mn Gn r n = finX Y X M Gm r n
        * Ideal.rsqrt (Ideal.div (∑ k : Fin 4096, finX Y X M Gm r k * finX Y X M Gm r k) (Ideal.ofBits .f32 0x45800000#32) + Ideal.ofBits .f32 0x358637BD#32)
        * Gn (ix2 (n0 := 8) (placeOf r) n) * (Ideal.ofBits .f32 0x3F800000#32 + Mn (ix4 (n0 := 1) (n1 := 3) (n2 := 8) 0 1 (placeOf r) n))
      + Mn (ix4 (n0 := 1) (n1 := 3) (n2 := 8) 0 0 (placeOf r) n) := by
  unfold finH rowH
  rw [epiH_apply]
  rfl

/-! ## The blocks at a grid point -/

/-- Where each window's block stands at point `t`. -/
theorem idx : ∀ t : Fin cfg0.N, (win0_0.index t 0 = t.val / 8 ∧ (t.val % 8 < 4 → win0_0.index t 1 = t.val % 8))
    ∧ (win0_1.index t 0 = t.val / 8 ∧ (4 ≤ t.val % 8 → win0_1.index t 1 = t.val % 8 - 4))
    ∧ (win0_2.index t 0 = 0 ∧ win0_2.index t 1 = t.val % 8 ∧ win0_2.index t 2 = 0)
    ∧ (win0_3.index t 0 = t.val / 8 ∧ win0_3.index t 1 = 0)
    ∧ (win0_4.index t 0 = t.val / 64 ∧ win0_4.index t 1 = 0 ∧ win0_4.index t 2 = 0 ∧ win0_4.index t 3 = 0)
    ∧ (win0_5.index t 0 = 0 ∧ win0_5.index t 1 = 0)
    ∧ (win0_6.index t 0 = t.val / 64 ∧ win0_6.index t 1 = 0 ∧ win0_6.index t 2 = 0 ∧ win0_6.index t 3 = 0)
    ∧ (win0_7.index t 0 = 0 ∧ win0_7.index t 1 = 0)
    ∧ (win0_8.index t 0 = t.val / 8 ∧ win0_8.index t 1 = 0)
    ∧ (win0_9.index t 0 = t.val / 8 ∧ win0_9.index t 1 = 0) :=
  (by decide +kernel : ∀ t : Fin grid0.N, (win0_0.index t 0 = t.val / 8 ∧ (t.val % 8 < 4 → win0_0.index t 1 = t.val % 8))
    ∧ (win0_1.index t 0 = t.val / 8 ∧ (4 ≤ t.val % 8 → win0_1.index t 1 = t.val % 8 - 4))
    ∧ (win0_2.index t 0 = 0 ∧ win0_2.index t 1 = t.val % 8 ∧ win0_2.index t 2 = 0)
    ∧ (win0_3.index t 0 = t.val / 8 ∧ win0_3.index t 1 = 0)
    ∧ (win0_4.index t 0 = t.val / 64 ∧ win0_4.index t 1 = 0 ∧ win0_4.index t 2 = 0 ∧ win0_4.index t 3 = 0)
    ∧ (win0_5.index t 0 = 0 ∧ win0_5.index t 1 = 0)
    ∧ (win0_6.index t 0 = t.val / 64 ∧ win0_6.index t 1 = 0 ∧ win0_6.index t 2 = 0 ∧ win0_6.index t 3 = 0)
    ∧ (win0_7.index t 0 = 0 ∧ win0_7.index t 1 = 0)
    ∧ (win0_8.index t 0 = t.val / 8 ∧ win0_8.index t 1 = 0)
    ∧ (win0_9.index t 0 = t.val / 8 ∧ win0_9.index t 1 = 0))

theorem point_lt (t : Fin cfg0.N) : t.val < 256 := lt_of_lt_of_eq t.isLt N_0

/-- The two halves of the layer side by side: column `k` of row `r`. -/
def cat (od oa : (⟨S16384x2048, .bf16⟩ : BufTy).Contents (Elt Ideal)) (r : Fin 16384) (k : Fin 4096) : EReal :=
  if h : k.val < 2048 then od (ix2 (n0 := 16384) (n1 := 2048) r ⟨k.val, h⟩) else oa (ix2 (n0 := 16384) (n1 := 2048) r ⟨k.val - 2048, by omega⟩)

/-- Block `s` of 512 columns of the product at row `r`, column `n`. -/
def bsum (od oa : (⟨S16384x2048, .bf16⟩ : BufTy).Contents (Elt Ideal)) (w : (⟨S2x4096x4096, .bf16⟩ : BufTy).Contents (Elt Ideal)) (r : Fin 16384) (n : Fin 4096) (s : ℕ) : EReal :=
  ∑ k : Fin 512, cat od oa r ⟨(512 * s + k.val) % 4096, Nat.mod_lt _ (by decide)⟩ * w (ix3 (n0 := 2) 0 ⟨(512 * s + k.val) % 4096, Nat.mod_lt _ (by decide)⟩ n)

theorem part_dn (c : Dev nD) (t : Fin cfg0.N) (h : t.val % 8 < 4) (r : Fin 512) (n : Fin 4096) (R : Fin 16384) (hR : R.val = 512 * (t.val / 8) + r.val) :
    part (iblk m c 0 t) (iblk m c 2 t) r n
      = bsum (m ((c : Thread nD τ).loc main_arg0)) (m ((c : Thread nD τ).loc main_arg1)) (m ((c : Thread nD τ).loc main_arg2)) R n (t.val % 8) := by
  have e := idx t
  have e1 := e.1.2 h
  unfold part bsum
  refine Finset.sum_congr rfl fun k _ => congrArg₂ (· * ·) ?_ ?_
  · unfold cat
    rw [dif_pos (by show (512 * (t.val % 8) + k.val) % 4096 < 2048; omega)]
    blk_point [iblk, V, e, e1]
  · blk_point [iblk, V, e, e1]

theorem part_at (c : Dev nD) (t : Fin cfg0.N) (h : 4 ≤ t.val % 8) (r : Fin 512) (n : Fin 4096) (R : Fin 16384) (hR : R.val = 512 * (t.val / 8) + r.val) :
    part (iblk m c 1 t) (iblk m c 2 t) r n
      = bsum (m ((c : Thread nD τ).loc main_arg0)) (m ((c : Thread nD τ).loc main_arg1)) (m ((c : Thread nD τ).loc main_arg2)) R n (t.val % 8) := by
  have e := idx t
  have e1 := e.2.1.2 h
  unfold part bsum
  refine Finset.sum_congr rfl fun k _ => congrArg₂ (· * ·) ?_ ?_
  · unfold cat
    rw [dif_neg (by show ¬(512 * (t.val % 8) + k.val) % 4096 < 2048; omega)]
    blk_point [iblk, V, e, e1]
  · blk_point [iblk, V, e, e1]

/-- Before the last step the product is the sum of the blocks so far. -/
theorem acc_sum (c : Dev nD) (r : Fin 512) (n : Fin 4096) : ∀ (t : ℕ) (ht : t < cfg0.N), ∀ R : Fin 16384, R.val = 512 * (t / 8) + r.val →
    acc m c t ht (ix2 r n) = ∑ s ∈ Finset.range (t % 8 + 1), bsum (m ((c : Thread nD τ).loc main_arg0)) (m ((c : Thread nD τ).loc main_arg1)) (m ((c : Thread nD τ).loc main_arg2)) R n s := by
  intro t
  induction t using Nat.strong_induction_on with
  | _ t ih =>
    intro ht R hR
    by_cases h0 : t % 8 = 0
    · rw [acc_first m c ⟨t, ht⟩ h0, first_apply, h0, Finset.sum_range_one]
      have := part_dn m c ⟨t, ht⟩ (by show t % 8 < 4; omega) r n R hR
      rw [show t % 8 = 0 from h0] at this
      exact this
    · have hp : t - 1 < t := by omega
      have ih' := ih (t - 1) hp (lt_trans hp ht) R (by omega)
      rw [show (t - 1) % 8 + 1 = t % 8 by omega] at ih'
      rw [Finset.sum_range_succ, ← ih']
      by_cases h4 : t % 8 ≤ 3
      · rw [acc_dn m c ⟨t, ht⟩ h0 h4, dn_apply]
        exact congrArg₂ (· + ·) rfl (part_dn m c ⟨t, ht⟩ (by show t % 8 < 4; omega) r n R hR)
      · rw [acc_at m c ⟨t, ht⟩ h0 h4, at_apply]
        exact congrArg₂ (· + ·) rfl (part_at m c ⟨t, ht⟩ (by show 4 ≤ t % 8; omega) r n R hR)

/-- The whole product at row `r`, column `n`. -/
def whole (od oa : (⟨S16384x2048, .bf16⟩ : BufTy).Contents (Elt Ideal)) (w : (⟨S2x4096x4096, .bf16⟩ : BufTy).Contents (Elt Ideal)) (r : Fin 16384) (n : Fin 4096) : EReal :=
  ∑ k : Fin 4096, cat od oa r k * w (ix3 (n0 := 2) 0 k n)

theorem whole_eq (od oa : (⟨S16384x2048, .bf16⟩ : BufTy).Contents (Elt Ideal)) (w : (⟨S2x4096x4096, .bf16⟩ : BufTy).Contents (Elt Ideal)) (r : Fin 16384) (n : Fin 4096) :
    ∑ s ∈ Finset.range 8, bsum od oa w r n s = whole od oa w r n := by
  rw [Finset.sum_range]
  unfold bsum whole
  have h := Fin.sum_univ_univ_mul_add 8 512 fun l => cat od oa r ⟨l % 4096, Nat.mod_lt _ (by decide)⟩ * w (ix3 (n0 := 2) 0 ⟨l % 4096, Nat.mod_lt _ (by decide)⟩ n)
  refine (Finset.sum_congr rfl fun s _ => Finset.sum_congr rfl fun k _ => ?_).trans (h.trans (Finset.sum_congr rfl fun l _ => ?_))
  · simp only [Nat.mul_comm 512]
  · simp only [Nat.mod_eq_of_lt (show l.val < 4096 from l.isLt)]

/-- At the last point of a row block the product is whole. -/
theorem acc_whole (c : Dev nD) (t : Fin cfg0.N) (h7 : t.val % 8 = 7) (r : Fin 512) (n : Fin 4096) (R : Fin 16384) (hR : R.val = 512 * (t.val / 8) + r.val) :
    acc m c t.val t.isLt (ix2 r n) = whole (m ((c : Thread nD τ).loc main_arg0)) (m ((c : Thread nD τ).loc main_arg1)) (m ((c : Thread nD τ).loc main_arg2)) R n := by
  rw [acc_sum m c r n t.val t.isLt R hR, h7, ← whole_eq]

/-- The layer's last step: the normalised product, gated, over the residual stream. -/
def result (od oa : (⟨S16384x2048, .bf16⟩ : BufTy).Contents (Elt Ideal)) (w : (⟨S2x4096x4096, .bf16⟩ : BufTy).Contents (Elt Ideal))
    (x : (⟨S16384x4096, .f32⟩ : BufTy).Contents (Elt Ideal)) (md : (⟨S4x3x4096, .f32⟩ : BufTy).Contents (Elt Ideal)) (g : (⟨S4096, .f32⟩ : BufTy).Contents (Elt Ideal)) :
    (⟨S16384x4096, .f32⟩ : BufTy).Contents (Elt Ideal) :=
  fun i => x (ix2 (n0 := 16384) (n1 := 4096) (i 0) (i 1)) + md (ix3 (n0 := 4) (n1 := 3) (n2 := 4096) ⟨(i 0).val / 4096, Nat.div_lt_of_lt_mul (i 0).isLt⟩ 2 (i 1))
    * (whole od oa w (i 0) (i 1) * Ideal.rsqrt (Ideal.div (∑ k : Fin 4096, whole od oa w (i 0) k * whole od oa w (i 0) k) (Ideal.ofBits .f32 0x45800000#32) + Ideal.ofBits .f32 0x358637BD#32)
        * g (ix1 (n0 := 4096) (i 1)))

/-- The next layer's input: the residual stream normalised, scaled and shifted. -/
def normed (od oa : (⟨S16384x2048, .bf16⟩ : BufTy).Contents (Elt Ideal)) (w : (⟨S2x4096x4096, .bf16⟩ : BufTy).Contents (Elt Ideal)) (x : (⟨S16384x4096, .f32⟩ : BufTy).Contents (Elt Ideal)) (md : (⟨S4x3x4096, .f32⟩ : BufTy).Contents (Elt Ideal)) (g : (⟨S4096, .f32⟩ : BufTy).Contents (Elt Ideal)) (mn : (⟨S4x3x4096, .f32⟩ : BufTy).Contents (Elt Ideal)) (gn : (⟨S4096, .f32⟩ : BufTy).Contents (Elt Ideal)) :
    (⟨S16384x4096, .bf16⟩ : BufTy).Contents (Elt Ideal) :=
  fun i => result od oa w x md g (ix2 (n0 := 16384) (n1 := 4096) (i 0) (i 1))
      * Ideal.rsqrt (Ideal.div (∑ k : Fin 4096, result od oa w x md g (ix2 (n0 := 16384) (n1 := 4096) (i 0) k) * result od oa w x md g (ix2 (n0 := 16384) (n1 := 4096) (i 0) k)) (Ideal.ofBits .f32 0x45800000#32) + Ideal.ofBits .f32 0x358637BD#32)
      * gn (ix1 (n0 := 4096) (i 1)) * (Ideal.ofBits .f32 0x3F800000#32 + mn (ix3 (n0 := 4) (n1 := 3) (n2 := 4096) ⟨(i 0).val / 4096, Nat.div_lt_of_lt_mul (i 0).isLt⟩ 1 (i 1)))
    + mn (ix3 (n0 := 4) (n1 := 3) (n2 := 4096) ⟨(i 0).val / 4096, Nat.div_lt_of_lt_mul (i 0).isLt⟩ 0 (i 1))

/-- The finished residual stream of a block is the layer's last step at its rows. -/
theorem block_x (c : Dev nD) (t : Fin cfg0.N) (h7 : t.val % 8 = 7) (r : Fin 512) (n : Fin 4096) (R : Fin 16384) (hR : R.val = 512 * (t.val / 8) + r.val) :
    finX (acc m c t.val t.isLt) (iblk m c 3 t) (iblk m c 4 t) (iblk m c 5 t) r n = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (n0 := 16384) (n1 := 4096) R n) := by
  have e := idx t
  have htlt := point_lt t
  have hY : ∀ n', acc m c t.val t.isLt (ix2 r n') = whole (m ((c : Thread nD τ).loc main_arg0)) (m ((c : Thread nD τ).loc main_arg1)) (m ((c : Thread nD τ).loc main_arg2)) R n' := fun n' => acc_whole m c t h7 r n' R hR
  rw [finX_apply]
  unfold result placeOf
  refine congrArg₂ (· + ·) ?_ (congrArg₂ (· * ·) ?_ (congrArg₂ (· * ·) (congrArg₂ (· * ·) (hY n) ?_) ?_))
  · blk_point [iblk, V, e]
  · blk_point [iblk, V, e]
  · exact congrArg Ideal.rsqrt (congrArg₂ (· + ·) (congrArg₂ Ideal.div (Finset.sum_congr rfl fun k _ => congrArg₂ (· * ·) (hY k) (hY k)) rfl) rfl)
  · blk_point [iblk, V, e]

/-- The residual stream's array after the run. -/
theorem final_x (c : Dev nD) : (dats m 0 c).arrAt 8 cfg0.N = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  have h7 : t.val % 8 = 7 := (flush0_8 t).mp hf
  have e := idx t
  have htlt := point_lt t
  blk_simp
  rw [after_8, if_pos h7]
  obtain ⟨r, n, rfl⟩ : ∃ (r : Fin 512) (n : Fin 4096), y = ix2 r n := ⟨y 0, y 1, eq_ix2 (n0 := 512) (n1 := 4096) y⟩
  have hemb : (win0_8.blk t).view.emb (ix2 r n) = ix2 (n0 := 16384) (n1 := 4096) ⟨512 * (t.val / 8) + r.val, by omega⟩ n := by
    blk_ext [e]
  rw [hemb]
  exact block_x m c t h7 r n _ rfl

/-- The normalised rows' array after the run. -/
theorem final_h (c : Dev nD) : (dats m 0 c).arrAt 9 cfg0.N = normed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t hf y => ?_
  have h7 : t.val % 8 = 7 := (flush0_9 t).mp hf
  have e := idx t
  have htlt := point_lt t
  blk_simp
  rw [after_9]
  obtain ⟨r, n, rfl⟩ : ∃ (r : Fin 512) (n : Fin 4096), y = ix2 r n := ⟨y 0, y 1, eq_ix2 (n0 := 512) (n1 := 4096) y⟩
  have hemb : (win0_9.blk t).view.emb (ix2 r n) = ix2 (n0 := 16384) (n1 := 4096) ⟨512 * (t.val / 8) + r.val, by omega⟩ n := by
    blk_ext [e]
  rw [hemb]
  have hX : ∀ n', finX (acc m c t.val t.isLt) (iblk m c 3 t) (iblk m c 4 t) (iblk m c 5 t) r n'
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 (n0 := 16384) (n1 := 4096) ⟨512 * (t.val / 8) + r.val, by omega⟩ n') := fun n' => block_x m c t h7 r n' _ rfl
  refine (finH_apply _ _ _ _ _ _ r n).trans ?_
  simp only [hX]
  unfold normed placeOf
  refine congrArg₂ (· + ·) (congrArg₂ (· * ·) (congrArg₂ (· * ·) rfl ?_) (congrArg₂ (· + ·) rfl ?_)) ?_
  · blk_point [iblk, V, e]
  · blk_point [iblk, V, e]
  · blk_point [iblk, V, e]

/-- The run, read: the two result arrays, the arguments unchanged. -/
theorem run : θ_run defs (onTc (τ := τ) (main (F := Ideal))) ⟨m, fun _ => 0, ρ⟩ fun r => ∀ c : Dev nD,
      r.2.mem ((c : Thread nD τ).loc main_v8_0) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v8_1) = normed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨((h.1 c).1 8).trans (final_x m c), ((h.1 c).1 9).trans (final_h m c), h.2 c⟩)
    (θ_run_and (run_arrays m ρ) (args_kept m ρ))

/-! ## The reference -/

/-- The reference's residual stream, by prompt. -/
theorem ref_stream (od oa : (⟨S16384x2048, .bf16⟩ : BufTy).Contents (Elt Ideal)) (w : (⟨S2x4096x4096, .bf16⟩ : BufTy).Contents (Elt Ideal)) (x : (⟨S16384x4096, .f32⟩ : BufTy).Contents (Elt Ideal)) (md : (⟨S4x3x4096, .f32⟩ : BufTy).Contents (Elt Ideal)) (g : (⟨S4096, .f32⟩ : BufTy).Contents (Elt Ideal)) (b : Fin 4) (q n : Fin 4096) :
    Cert.RefOutHIdeal.Read.val_main_v24 (F := Ideal) od oa w x md g (ix3 (n0 := 4) (n1 := 4096) (n2 := 4096) b q n)
      = result od oa w x md g (ix2 (n0 := 16384) (n1 := 4096) ⟨4096 * b.val + q.val, by omega⟩ n) := by
  have hw : ∀ (r : Fin 16384) (n : Fin 4096), Cert.RefOutHIdeal.Read.val_main_v3 (F := Ideal) od oa w (ix2 r n) = whole od oa w r n := by
    intro r n
    rw [Cert.RefOutHIdeal.Read.val_main_v3_apply]
    unfold whole
    refine Finset.sum_congr rfl fun k _ => congrArg₂ (· * ·) ?_ ?_
    · unfold cat Cert.RefOutHIdeal.Read.val_main_v0
      pointwise
    · unfold Cert.RefOutHIdeal.Read.val_main_v2 Cert.RefOutHIdeal.Read.val_main_v1
      pointwise
  unfold Cert.RefOutHIdeal.Read.val_main_v24 Cert.RefOutHIdeal.Read.val_main_v23 Cert.RefOutHIdeal.Read.val_main_v22 Cert.RefOutHIdeal.Read.val_main_v21 Cert.RefOutHIdeal.Read.val_main_v20 Cert.RefOutHIdeal.Read.val_main_v19 Cert.RefOutHIdeal.Read.val_main_v18 Cert.RefOutHIdeal.Read.val_main_v17 Cert.RefOutHIdeal.Read.val_main_v16 Cert.RefOutHIdeal.Read.val_main_v15 Cert.RefOutHIdeal.Read.val_main_v14 Cert.RefOutHIdeal.Read.val_main_v13 Cert.RefOutHIdeal.Read.val_main_v12 Cert.RefOutHIdeal.Read.val_main_v11 Cert.RefOutHIdeal.Read.val_main_v10 Cert.RefOutHIdeal.Read.val_main_v9 Cert.RefOutHIdeal.Read.val_main_v8 Cert.RefOutHIdeal.Read.val_main_v7 Cert.RefOutHIdeal.Read.val_main_v6 Cert.RefOutHIdeal.Read.val_main_v5 Cert.RefOutHIdeal.Read.val_main_v4 Cert.RefOutHIdeal.Read.val_main_cst Cert.RefOutHIdeal.Read.val_main_cst_0 Cert.RefOutHIdeal.Read.val_main_cst_1 result
  generalize Cert.RefOutHIdeal.Read.val_main_v3 (F := Ideal) od oa w = Y at *
  pointwise
  have hr : (⟨b.val * 4096 + q.val, by omega⟩ : Fin 16384) = ⟨4096 * b.val + q.val, by omega⟩ := Fin.ext (by show b.val * 4096 + q.val = 4096 * b.val + q.val; omega)
  have hb : (⟨(4096 * b.val + q.val) / 4096, by omega⟩ : Fin 4) = b := Fin.ext (by show (4096 * b.val + q.val) / 4096 = b.val; omega)
  simp only [hw, hr, hb]

/-- The reference's first result. -/
theorem ref_x (od oa : (⟨S16384x2048, .bf16⟩ : BufTy).Contents (Elt Ideal)) (w : (⟨S2x4096x4096, .bf16⟩ : BufTy).Contents (Elt Ideal)) (x : (⟨S16384x4096, .f32⟩ : BufTy).Contents (Elt Ideal)) (md : (⟨S4x3x4096, .f32⟩ : BufTy).Contents (Elt Ideal)) (g : (⟨S4096, .f32⟩ : BufTy).Contents (Elt Ideal)) : Cert.RefOutHIdeal.Read.val_main_v50 (F := Ideal) od oa w x md g = result od oa w x md g := by
  funext i
  obtain ⟨r, n, rfl⟩ : ∃ (r : Fin 16384) (n : Fin 4096), i = ix2 r n := ⟨i 0, i 1, eq_ix2 (n0 := 16384) (n1 := 4096) i⟩
  have hs := ref_stream od oa w x md g
  unfold Cert.RefOutHIdeal.Read.val_main_v50
  generalize Cert.RefOutHIdeal.Read.val_main_v24 (F := Ideal) od oa w x md g = Z at *
  pointwise
  rw [hs]
  exact congrArg (fun r' => result od oa w x md g (ix2 (n0 := 16384) (n1 := 4096) r' n)) (Fin.ext (Nat.div_add_mod r.val 4096))

/-- The reference's second result. -/
theorem ref_h (od oa : (⟨S16384x2048, .bf16⟩ : BufTy).Contents (Elt Ideal)) (w : (⟨S2x4096x4096, .bf16⟩ : BufTy).Contents (Elt Ideal)) (x : (⟨S16384x4096, .f32⟩ : BufTy).Contents (Elt Ideal)) (md : (⟨S4x3x4096, .f32⟩ : BufTy).Contents (Elt Ideal)) (g : (⟨S4096, .f32⟩ : BufTy).Contents (Elt Ideal)) (mn : (⟨S4x3x4096, .f32⟩ : BufTy).Contents (Elt Ideal)) (gn : (⟨S4096, .f32⟩ : BufTy).Contents (Elt Ideal)) : Cert.RefOutHIdeal.Read.val_main_v52 (F := Ideal) od oa w x md g mn gn = normed od oa w x md g mn gn := by
  funext i
  obtain ⟨r, n, rfl⟩ : ∃ (r : Fin 16384) (n : Fin 4096), i = ix2 r n := ⟨i 0, i 1, eq_ix2 (n0 := 16384) (n1 := 4096) i⟩
  have hs := ref_stream od oa w x md g
  unfold Cert.RefOutHIdeal.Read.val_main_v52 Cert.RefOutHIdeal.Read.val_main_v51 Cert.RefOutHIdeal.Read.val_main_v49 Cert.RefOutHIdeal.Read.val_main_v48 Cert.RefOutHIdeal.Read.val_main_v47 Cert.RefOutHIdeal.Read.val_main_v46 Cert.RefOutHIdeal.Read.val_main_v45 Cert.RefOutHIdeal.Read.val_main_v44 Cert.RefOutHIdeal.Read.val_main_v43 Cert.RefOutHIdeal.Read.val_main_v42 Cert.RefOutHIdeal.Read.val_main_v41 Cert.RefOutHIdeal.Read.val_main_v40 Cert.RefOutHIdeal.Read.val_main_v39 Cert.RefOutHIdeal.Read.val_main_v38 Cert.RefOutHIdeal.Read.val_main_v37 Cert.RefOutHIdeal.Read.val_main_v36 Cert.RefOutHIdeal.Read.val_main_v35 Cert.RefOutHIdeal.Read.val_main_v34 Cert.RefOutHIdeal.Read.val_main_v33 Cert.RefOutHIdeal.Read.val_main_v32 Cert.RefOutHIdeal.Read.val_main_v31 Cert.RefOutHIdeal.Read.val_main_v30 Cert.RefOutHIdeal.Read.val_main_v29 Cert.RefOutHIdeal.Read.val_main_v28 Cert.RefOutHIdeal.Read.val_main_v27 Cert.RefOutHIdeal.Read.val_main_v26 Cert.RefOutHIdeal.Read.val_main_v25 Cert.RefOutHIdeal.Read.val_main_cst_2 Cert.RefOutHIdeal.Read.val_main_cst_3 Cert.RefOutHIdeal.Read.val_main_cst_4 Cert.RefOutHIdeal.Read.val_main_cst_5 normed
  generalize Cert.RefOutHIdeal.Read.val_main_v24 (F := Ideal) od oa w x md g = Z at *
  pointwise
  have hz : ∀ k : Fin 4096, Z (ix3 (n0 := 4) (n1 := 4096) (n2 := 4096) ⟨r.val / 4096, by omega⟩ ⟨r.val % 4096, by omega⟩ k)
      = result od oa w x md g (ix2 (n0 := 16384) (n1 := 4096) r k) := fun k => (hs _ _ k).trans
    (congrArg (fun r' => result od oa w x md g (ix2 (n0 := 16384) (n1 := 4096) r' k)) (Fin.ext (Nat.div_add_mod r.val 4096)))
  simp only [hz]

end Cert.OutHIdeal.RefValue

end
-- ==== Proof.OutHClaims.lean ====
/-
  The claims of the first layer's out-projection: the frames of its three programs, and the kernel's two results equal to
  the reference's.
-/
module

public import proofs.«01_k».proof.Defs
public import proofs.«01_k».proof.Proof.OutHFrame
public import proofs.«01_k».proof.Proof.OutHValue
public import Idealize.ShloMosaic.Lib.Quiescent

@[expose] public section

noncomputable section

open Idealize.ShloMosaic Idealize.SL.Sem

namespace Cert.OutHClaims

theorem frame_kernel : Cert.quiescent_OutH := fun m ρ _ => Cert.OutH.Held.frame_held m ρ
theorem frame_ideal : Cert.quiescent_OutHIdeal := fun m ρ _ => Cert.OutHIdeal.Held.frame_held m ρ

/-- The reference has no semaphore, and leaves its arguments as they were. -/
theorem frame_reference : Cert.quiescent_RefOutHIdeal := fun m ρ _ =>
  (θ_run Cert.RefOutHIdeal.defs _ _).mono (fun r h => ⟨fun c => (h c).2.2, sem_eq_zero_of_no_sems (by decide) r.2⟩)
    (Cert.RefOutHIdeal.Value.run (F := Ideal) m ρ)

/-- Both runs end with the layer's residual stream, and with its rows normalised for the next layer. -/
theorem algebraic : Cert.algebraic_OutHIdeal_RefOutHIdeal := by
  intro m ρ m' ρ' _ hagree
  refine ⟨_, _, Cert.OutHIdeal.RefValue.run m ρ, ?_⟩
  refine (θ_run Cert.RefOutHIdeal.defs _ _).mono (fun r h c => ⟨(h c).1.trans ?_, (h c).2.1.trans ?_, (h c).2.2⟩)
    (Cert.RefOutHIdeal.Value.run (F := Ideal) m' ρ')
  · rw [Cert.RefOutHIdeal.Read.val_main_v50_eq, Cert.OutHIdeal.RefValue.ref_x, (hagree c).1, (hagree c).2.1, (hagree c).2.2.1, (hagree c).2.2.2.1,
      (hagree c).2.2.2.2.1, (hagree c).2.2.2.2.2.1]
  · rw [Cert.RefOutHIdeal.Read.val_main_v52_eq, Cert.OutHIdeal.RefValue.ref_h, (hagree c).1, (hagree c).2.1, (hagree c).2.2.1, (hagree c).2.2.2.1,
      (hagree c).2.2.2.2.1, (hagree c).2.2.2.2.2.1, (hagree c).2.2.2.2.2.2.1, (hagree c).2.2.2.2.2.2.2]

end Cert.OutHClaims

end
-- ==== Proof.WDnTable.lean ====
/-
  The weights' cast, the DeltaNet columns: the table of block starts is a constant, and its blocks lie inside the weights.
-/
module

public import proofs.«01_k».proof.Proof.Gen.WDn.Frame
public import proofs.«01_k».proof.Proof.Gen.WDnIdeal.Frame
public import Idealize.ShloMosaic.Lib.Pipeline.ValueKit

@[expose] public section

set_option maxRecDepth 16384

noncomputable section

open Idealize.ShloMosaic Idealize.ShloMosaic.TcCoe Idealize.SL.Sem

namespace Cert.WDn.Held

open Cert.WDn Cert.WDn.Gen

set_option backward.proofsInPublic true in
/-- The table's words: the rows at which the blocks start. -/
def words : pre0.Contents (Elt Bits) := fun | ⟨0, _⟩ => fun x => lit0 (S32.rowMajor x) | ⟨_ + 1, h⟩ => absurd h (by simp)

variable (m : (ℓ : Loc nD τ sig) → Buf (Elt Bits) ℓ)

/-- The region finds those words in the table: a constant of the host's. -/
theorem tbl_eq : tbl m = words := by
  funext j
  match j with
  | ⟨0, _⟩ =>
    show StableHlo.after hostOps0 (fun b => m (0, b)) (Proc.devRef .tc main_c) = _
    after_results
    rfl

/-- So every block of the input lies inside it, and starts at a multiple of 16. -/
theorem ok : Ok m := by
  unfold Ok
  rw [tbl_eq]
  decide +kernel

end Cert.WDn.Held

namespace Cert.WDnIdeal.Held

open Cert.WDnIdeal Cert.WDnIdeal.Gen

set_option backward.proofsInPublic true in
/-- The table's words at the extended reals: the rows at which the blocks start. -/
def words : pre0.Contents (Elt Ideal) := fun | ⟨0, _⟩ => fun x => lit0 (S32.rowMajor x) | ⟨_ + 1, h⟩ => absurd h (by simp)

variable (m : (ℓ : Loc nD τ sig) → Buf (Elt Ideal) ℓ)

/-- The region finds those words in the table: a constant of the host's. -/
theorem tbl_eq : tbl m = words := by
  funext j
  match j with
  | ⟨0, _⟩ =>
    show StableHlo.after hostOps0 (fun b => m (0, b)) (Proc.devRef .tc main_c) = _
    after_results
    rfl

/-- So every block of the input lies inside it, and starts at a multiple of 16. -/
theorem ok : Ok m := by
  unfold Ok
  rw [tbl_eq]
  decide +kernel

end Cert.WDnIdeal.Held

end
-- ==== Proof.WDnValue.lean ====
/-
  The weights' cast, the DeltaNet columns: what the result array ends holding at the extended reals, where a cast is the identity,
  and that it is the reference's.
-/
module

public import proofs.«01_k».proof.Proof.WDnTable
public import proofs.«01_k».proof.Proof.Gen.WDnIdeal.Skeleton
public import proofs.«01_k».proof.Proof.Gen.RefWDnIdeal.Run
public import proofs.«01_k».proof.Proof.Gen.RefWDnIdeal.Read
public import Idealize.ShloMosaic.Lib.Pipeline.ValueKit
public import Idealize.ShloMosaic.Lib.Pointwise
public import Idealize.ShloMosaic.Lib.VecWindow

@[expose] public section

set_option maxRecDepth 16384

noncomputable section

open Idealize.ShloMosaic Idealize.ShloMosaic.TcCoe Idealize.SL.Sem

namespace Cert.WDnIdeal.RefValue

open Cert.WDnIdeal Cert.WDnIdeal.Gen Cert.WDnIdeal.Held

/-- Result row `r` is the input's column `r`. -/
def source (r : Fin 8192) : Fin 12832 := ⟨r.val, by omega⟩

/-- The result: the input's columns as rows. -/
def rowsOf (x : (⟨S2x4096x12832, .f32⟩ : BufTy).Contents (Elt Ideal)) : (⟨S2x8192x4096, .bf16⟩ : BufTy).Contents (Elt Ideal) :=
  fun i => x (ix3 (n0 := 2) (n1 := 4096) (n2 := 12832) (i 0) (i 2) (source (i 1)))

variable (m : (ℓ : Loc nD τ sig) → Buf (Elt Ideal) ℓ) (ρ : Dev nD → PrngReg)

/-- Where the two windows' blocks stand at point `t`: the input's at a row, the result's at a block. -/
theorem idx : ∀ t : Fin grid0.N, cc0_transform_0 k0_off1_inb numel1_S1 words (grid0.coords t) = ![t.val / 32, 256 * (t.val % 32), 0]
    ∧ cc0_transform_1 (grid0.coords t) = ![t.val / 32, t.val % 32, 0] := by decide +kernel

/-- The result array is 2 by 32 by 1 blocks. -/
theorem n0 : ((cfgM m (ok m)).win 1).nblk (0 : Fin 3) = 2 := by show (2 + 1 - 1) / 1 = 2; omega
theorem n1 : ((cfgM m (ok m)).win 1).nblk (1 : Fin 3) = 32 := by show (8192 + 256 - 1) / 256 = 32; omega
theorem n2 : ((cfgM m (ok m)).win 1).nblk (2 : Fin 3) = 1 := by show (4096 + 4096 - 1) / 4096 = 1; omega

/-- An index of the input's block, in the array: the row the table gives, and on. -/
theorem emb_in (t : Fin (cfgM m (ok m)).N) (y : (((cfgM m (ok m)).win 0).xblock ((cfgM m (ok m)).grid.coords t)).Idx) (a : Fin 3) :
    ((((cfgM m (ok m)).win 0).blk t).view.emb y a).val
      = cc0_transform_0 k0_off1_inb numel1_S1 words (grid0.coords t) a + (y a).val := by
  rw [← tbl_eq m]
  show cc0_transform_0 k0_off1_inb numel1_S1 (tbl m) (grid0.coords t) a + 1 * (y a).val = _
  omega

/-- An index of the result's block, in the array. -/
theorem emb_out (t : Fin (cfgM m (ok m)).N) (y : (((cfgM m (ok m)).win 1).xblock ((cfgM m (ok m)).grid.coords t)).Idx) (a : Fin 3) :
    ((((cfgM m (ok m)).win 1).blk t).view.emb y a).val
      = cc0_transform_1 (grid0.coords t) a * (![1, 256, 4096] : Fin 3 → ℕ) a + (y a).val := by
  show cc0_transform_1 (grid0.coords t) a * (![1, 256, 4096] : Fin 3 → ℕ) a + 1 * (y a).val = _
  omega

/-- The result's blocks cover its array. -/
theorem covers : ((cfgM m (ok m)).win 1).Covers := by
  refine ⟨fun a => ?_, fun β => ?_⟩
  · match a with
    | ⟨0, _⟩ => exact (by decide : 0 < 1)
    | ⟨1, _⟩ => exact (by decide : 0 < 256)
    | ⟨2, _⟩ => exact (by decide : 0 < 4096)
  · have h0 : (β (0 : Fin 3)).val < 2 := (β (0 : Fin 3)).isLt.trans_eq (n0 m)
    have h1 : (β (1 : Fin 3)).val < 32 := (β (1 : Fin 3)).isLt.trans_eq (n1 m)
    have h2 : (β (2 : Fin 3)).val < 1 := (β (2 : Fin 3)).isLt.trans_eq (n2 m)
    have ht : 32 * (β (0 : Fin 3)).val + (β (1 : Fin 3)).val < grid0.N := by rw [N_0]; omega
    refine ⟨⟨32 * (β (0 : Fin 3)).val + (β (1 : Fin 3)).val, ht⟩, flush0_1 _ _, fun a => ⟨?_, .inl ?_⟩⟩
    · refine (congrFun (idx ⟨32 * (β (0 : Fin 3)).val + (β (1 : Fin 3)).val, ht⟩).2 a).trans ?_
      match a with
      | ⟨0, _⟩ => show (32 * (β (0 : Fin 3)).val + (β (1 : Fin 3)).val) / 32 = (β (0 : Fin 3)).val; omega
      | ⟨1, _⟩ => show (32 * (β (0 : Fin 3)).val + (β (1 : Fin 3)).val) % 32 = (β (1 : Fin 3)).val; omega
      | ⟨2, _⟩ => show 0 = (β (2 : Fin 3)).val; omega
    · rfl

/-- The host hands the kernel the input transposed. -/
theorem entry_eq (c : Dev nD) : V m c main_v0 = transpose S2x12832x4096 [0, 2, 1] (m ((c : Thread nD τ).loc main_arg0)) transposes_S2x4096x12832_S2x12832x4096_0_2_1 := by
  show StableHlo.after hostOps0 (fun b => m (c, b)) (Proc.devRef .tc main_v0) = _
  after_results

/-- The transposed input at an index. -/
theorem at_col (x : (⟨S2x4096x12832, .f32⟩ : BufTy).Contents (Elt Ideal)) (j : S2x12832x4096.Idx) (i : S2x4096x12832.Idx) (h0 : (i 0).val = (j 0).val)
    (h1 : (i 1).val = (j 2).val) (h2 : (i 2).val = (j 1).val) :
    transpose S2x12832x4096 [0, 2, 1] x transposes_S2x4096x12832_S2x12832x4096_0_2_1 j = x i :=
  transpose_apply [0, 2, 1] x _ j i fun b => match b with
    | ⟨0, _⟩ => h0
    | ⟨1, _⟩ => h2
    | ⟨2, _⟩ => h1

/-- The result array after the run. -/
theorem final (c : Dev nD) : (dats m (ok m) 0 c).arrAt 1 (cfgM m (ok m)).N = rowsOf (m ((c : Thread nD τ).loc main_arg0)) := by
  refine (dats m (ok m) 0 c).arrAt_eq_of_covers 1 _ (covers m) fun t hf y => ?_
  have e := idx t
  rw [after0_1]
  unfold outsAt0
  blk_simp
  frame_out
  unfold rowsOf
  pointwise [k0_pay1]
  have i0 := emb_in m t y 0
  have i1 := emb_in m t y 1
  have i2 := emb_in m t y 2
  rw [e.1] at i0 i1 i2
  have o0 := emb_out m t y 0
  have o1 := emb_out m t y 1
  have o2 := emb_out m t y 2
  rw [e.2] at o0 o1 o2
  refine (congrFun (Memref.IsWhole.read_unread _ _) y).trans ?_
  refine (congrFun (entry_eq m c) ((((cfgM m (ok m)).win 0).blk t).view.emb y)).trans ?_
  refine at_col _ _ _ (o0.trans ?_) (o2.trans ?_) ?_
  · exact (Nat.add_right_cancel_iff.2 (Nat.mul_one _)).trans i0.symm
  · exact (Nat.add_right_cancel_iff.2 (Nat.zero_mul _)).trans i2.symm
  · refine Eq.trans ?_ i1.symm
    refine o1.trans ?_
    show t.val % 32 * 256 + _ = 256 * (t.val % 32) + _
    omega

/-- The run, read: the result array at the columns, the argument unchanged. -/
theorem run : θ_run defs (onTc (τ := τ) (main (F := Ideal))) ⟨m, fun _ => 0, ρ⟩ fun r => ∀ c : Dev nD,
      r.2.mem ((c : Thread nD τ).loc main_v1) = rowsOf (m ((c : Thread nD τ).loc main_arg0))
      ∧ r.2.mem ((c : Thread nD τ).loc main_arg0) = m ((c : Thread nD τ).loc main_arg0) :=
  (θ_run defs _ _).mono (fun _ h c => ⟨((h.1 c).1 1).trans (final m c), h.2 c⟩)
    (θ_run_and (run_main m ρ (ok m)) (unchanged m ρ (ok m)))

/-- The reference's split, joined and transposed columns are those rows. -/
theorem ref_eq (x : (⟨S2x4096x12832, .f32⟩ : BufTy).Contents (Elt Ideal)) : Cert.RefWDnIdeal.Read.val_main_v10 (F := Ideal) x = rowsOf x := by
  funext i
  unfold rowsOf
  rw [Cert.RefWDnIdeal.Read.val_main_v10_apply, Cert.RefWDnIdeal.Read.val_main_v9_apply]
  unfold Cert.RefWDnIdeal.Read.val_main_v8
  have h1 : (i 1).val < 8192 := (i 1).isLt
  pointwise [Cert.RefWDnIdeal.Read.val_main_v0, Cert.RefWDnIdeal.Read.val_main_v1]
  have key : ∀ a b : Fin 12832, a.val = b.val → x (ix3 (n0 := 2) (n1 := 4096) (n2 := 12832) (i 0) (i 2) a)
      = x (ix3 (n0 := 2) (n1 := 4096) (n2 := 12832) (i 0) (i 2) b) :=
    fun a b h => congrArg (fun r => x (ix3 (n0 := 2) (n1 := 4096) (n2 := 12832) (i 0) (i 2) r)) (Fin.ext h)
  split_ifs <;> exact key _ _ (by dsimp only [source]; try omega)

end Cert.WDnIdeal.RefValue

end
-- ==== Proof.WDnClaims.lean ====
/-
  The claims of the weights' cast, the DeltaNet columns: the frames of its three programs, and the kernel's result equal to the
  reference's.
-/
module

public import proofs.«01_k».proof.Defs
public import proofs.«01_k».proof.Proof.WDnTable
public import proofs.«01_k».proof.Proof.WDnValue
public import Idealize.ShloMosaic.Lib.Quiescent

@[expose] public section

noncomputable section

open Idealize.ShloMosaic Idealize.SL.Sem

namespace Cert.WDnClaims

theorem frame_kernel : Cert.quiescent_WDn := fun m ρ _ => Cert.WDn.Gen.frame m ρ (Cert.WDn.Held.ok m)
theorem frame_ideal : Cert.quiescent_WDnIdeal := fun m ρ _ => Cert.WDnIdeal.Gen.frame m ρ (Cert.WDnIdeal.Held.ok m)

/-- The reference has no semaphore, and leaves its argument as it was. -/
theorem frame_reference : Cert.quiescent_RefWDnIdeal := fun m ρ _ =>
  (θ_run Cert.RefWDnIdeal.defs _ _).mono (fun r h => ⟨fun c => (h c).2, sem_eq_zero_of_no_sems (by decide) r.2⟩)
    (Cert.RefWDnIdeal.Value.run (F := Ideal) m ρ)

/-- Both runs end with the DeltaNet columns of the weights, as rows. -/
theorem algebraic : Cert.algebraic_WDnIdeal_RefWDnIdeal := by
  intro m ρ m' ρ' _ hagree
  refine ⟨_, Cert.WDnIdeal.RefValue.run m ρ, ?_⟩
  refine (θ_run Cert.RefWDnIdeal.defs _ _).mono (fun r h c => ⟨(h c).1.trans ?_, (h c).2⟩)
    (Cert.RefWDnIdeal.Value.run (F := Ideal) m' ρ')
  rw [Cert.RefWDnIdeal.Read.val_main_v10_eq, Cert.WDnIdeal.RefValue.ref_eq, hagree c]

end Cert.WDnClaims

end
-- ==== Proof.WAtTable.lean ====
/-
  The weights' cast, the attention columns: the table of block starts is a constant, and its blocks lie inside the weights.
-/
module

public import proofs.«01_k».proof.Proof.Gen.WAt.Frame
public import proofs.«01_k».proof.Proof.Gen.WAtIdeal.Frame
public import Idealize.ShloMosaic.Lib.Pipeline.ValueKit

@[expose] public section

set_option maxRecDepth 16384

noncomputable section

open Idealize.ShloMosaic Idealize.ShloMosaic.TcCoe Idealize.SL.Sem

namespace Cert.WAt.Held

open Cert.WAt Cert.WAt.Gen

set_option backward.proofsInPublic true in
/-- The table's words: the rows at which the blocks start. -/
def words : pre0.Contents (Elt Bits) := fun | ⟨0, _⟩ => fun x => lit0 (S18.rowMajor x) | ⟨_ + 1, h⟩ => absurd h (by simp)

variable (m : (ℓ : Loc nD τ sig) → Buf (Elt Bits) ℓ)

/-- The region finds those words in the table: a constant of the host's. -/
theorem tbl_eq : tbl m = words := by
  funext j
  match j with
  | ⟨0, _⟩ =>
    show StableHlo.after hostOps0 (fun b => m (0, b)) (Proc.devRef .tc main_c) = _
    after_results
    rfl

/-- So every block of the input lies inside it, and starts at a multiple of 16. -/
theorem ok : Ok m := by
  unfold Ok
  rw [tbl_eq]
  decide +kernel

end Cert.WAt.Held

namespace Cert.WAtIdeal.Held

open Cert.WAtIdeal Cert.WAtIdeal.Gen

set_option backward.proofsInPublic true in
/-- The table's words at the extended reals: the rows at which the blocks start. -/
def words : pre0.Contents (Elt Ideal) := fun | ⟨0, _⟩ => fun x => lit0 (S18.rowMajor x) | ⟨_ + 1, h⟩ => absurd h (by simp)

variable (m : (ℓ : Loc nD τ sig) → Buf (Elt Ideal) ℓ)

/-- The region finds those words in the table: a constant of the host's. -/
theorem tbl_eq : tbl m = words := by
  funext j
  match j with
  | ⟨0, _⟩ =>
    show StableHlo.after hostOps0 (fun b => m (0, b)) (Proc.devRef .tc main_c) = _
    after_results
    rfl

/-- So every block of the input lies inside it, and starts at a multiple of 16. -/
theorem ok : Ok m := by
  unfold Ok
  rw [tbl_eq]
  decide +kernel

end Cert.WAtIdeal.Held

end
-- ==== Proof.WAtValue.lean ====
/-
  The weights' cast, the attention columns: what the result array ends holding at the extended reals, where a cast is the identity,
  and that it is the reference's.
-/
module

public import proofs.«01_k».proof.Proof.WAtTable
public import proofs.«01_k».proof.Proof.Gen.WAtIdeal.Skeleton
public import proofs.«01_k».proof.Proof.Gen.RefWAtIdeal.Run
public import proofs.«01_k».proof.Proof.Gen.RefWAtIdeal.Read
public import Idealize.ShloMosaic.Lib.Pipeline.ValueKit
public import Idealize.ShloMosaic.Lib.Pointwise
public import Idealize.ShloMosaic.Lib.VecWindow

@[expose] public section

set_option maxRecDepth 16384

noncomputable section

open Idealize.ShloMosaic Idealize.ShloMosaic.TcCoe Idealize.SL.Sem

namespace Cert.WAtIdeal.RefValue

open Cert.WAtIdeal Cert.WAtIdeal.Gen Cert.WAtIdeal.Held

/-- Result row `r`'s column of the input: the queries, then the gates, then the keys and values. -/
def source (r : Fin 4608) : Fin 12832 := ⟨if r.val < 2048 then 8224 + r.val else if r.val < 4096 then 8736 + r.val else 6176 + r.val, by split <;> [skip; split] <;> omega⟩

/-- The result: the input's columns as rows. -/
def rowsOf (x : (⟨S2x4096x12832, .f32⟩ : BufTy).Contents (Elt Ideal)) : (⟨S2x4608x4096, .bf16⟩ : BufTy).Contents (Elt Ideal) :=
  fun i => x (ix3 (n0 := 2) (n1 := 4096) (n2 := 12832) (i 0) (i 2) (source (i 1)))

variable (m : (ℓ : Loc nD τ sig) → Buf (Elt Ideal) ℓ) (ρ : Dev nD → PrngReg)

/-- Where the two windows' blocks stand at point `t`: the input's at a row, the result's at a block. -/
theorem idx : ∀ t : Fin grid0.N, cc0_transform_0 k0_off1_inb numel1_S1 words (grid0.coords t) = ![t.val / 18, (if t.val % 18 < 8 then 8224 + 256 * (t.val % 18) else if t.val % 18 < 16 then 8736 + 256 * (t.val % 18) else 6176 + 256 * (t.val % 18)), 0]
    ∧ cc0_transform_1 (grid0.coords t) = ![t.val / 18, t.val % 18, 0] := by decide +kernel

/-- The result array is 2 by 18 by 1 blocks. -/
theorem n0 : ((cfgM m (ok m)).win 1).nblk (0 : Fin 3) = 2 := by show (2 + 1 - 1) / 1 = 2; omega
theorem n1 : ((cfgM m (ok m)).win 1).nblk (1 : Fin 3) = 18 := by show (4608 + 256 - 1) / 256 = 18; omega
theorem n2 : ((cfgM m (ok m)).win 1).nblk (2 : Fin 3) = 1 := by show (4096 + 4096 - 1) / 4096 = 1; omega

/-- An index of the input's block, in the array: the row the table gives, and on. -/
theorem emb_in (t : Fin (cfgM m (ok m)).N) (y : (((cfgM m (ok m)).win 0).xblock ((cfgM m (ok m)).grid.coords t)).Idx) (a : Fin 3) :
    ((((cfgM m (ok m)).win 0).blk t).view.emb y a).val
      = cc0_transform_0 k0_off1_inb numel1_S1 words (grid0.coords t) a + (y a).val := by
  rw [← tbl_eq m]
  show cc0_transform_0 k0_off1_inb numel1_S1 (tbl m) (grid0.coords t) a + 1 * (y a).val = _
  omega

/-- An index of the result's block, in the array. -/
theorem emb_out (t : Fin (cfgM m (ok m)).N) (y : (((cfgM m (ok m)).win 1).xblock ((cfgM m (ok m)).grid.coords t)).Idx) (a : Fin 3) :
    ((((cfgM m (ok m)).win 1).blk t).view.emb y a).val
      = cc0_transform_1 (grid0.coords t) a * (![1, 256, 4096] : Fin 3 → ℕ) a + (y a).val := by
  show cc0_transform_1 (grid0.coords t) a * (![1, 256, 4096] : Fin 3 → ℕ) a + 1 * (y a).val = _
  omega

/-- The result's blocks cover its array. -/
theorem covers : ((cfgM m (ok m)).win 1).Covers := by
  refine ⟨fun a => ?_, fun β => ?_⟩
  · match a with
    | ⟨0, _⟩ => exact (by decide : 0 < 1)
    | ⟨1, _⟩ => exact (by decide : 0 < 256)
    | ⟨2, _⟩ => exact (by decide : 0 < 4096)
  · have h0 : (β (0 : Fin 3)).val < 2 := (β (0 : Fin 3)).isLt.trans_eq (n0 m)
    have h1 : (β (1 : Fin 3)).val < 18 := (β (1 : Fin 3)).isLt.trans_eq (n1 m)
    have h2 : (β (2 : Fin 3)).val < 1 := (β (2 : Fin 3)).isLt.trans_eq (n2 m)
    have ht : 18 * (β (0 : Fin 3)).val + (β (1 : Fin 3)).val < grid0.N := by rw [N_0]; omega
    refine ⟨⟨18 * (β (0 : Fin 3)).val + (β (1 : Fin 3)).val, ht⟩, flush0_1 _ _, fun a => ⟨?_, .inl ?_⟩⟩
    · refine (congrFun (idx ⟨18 * (β (0 : Fin 3)).val + (β (1 : Fin 3)).val, ht⟩).2 a).trans ?_
      match a with
      | ⟨0, _⟩ => show (18 * (β (0 : Fin 3)).val + (β (1 : Fin 3)).val) / 18 = (β (0 : Fin 3)).val; omega
      | ⟨1, _⟩ => show (18 * (β (0 : Fin 3)).val + (β (1 : Fin 3)).val) % 18 = (β (1 : Fin 3)).val; omega
      | ⟨2, _⟩ => show 0 = (β (2 : Fin 3)).val; omega
    · rfl

/-- The host hands the kernel the input transposed. -/
theorem entry_eq (c : Dev nD) : V m c main_v0 = transpose S2x12832x4096 [0, 2, 1] (m ((c : Thread nD τ).loc main_arg0)) transposes_S2x4096x12832_S2x12832x4096_0_2_1 := by
  show StableHlo.after hostOps0 (fun b => m (c, b)) (Proc.devRef .tc main_v0) = _
  after_results

/-- The transposed input at an index. -/
theorem at_col (x : (⟨S2x4096x12832, .f32⟩ : BufTy).Contents (Elt Ideal)) (j : S2x12832x4096.Idx) (i : S2x4096x12832.Idx) (h0 : (i 0).val = (j 0).val)
    (h1 : (i 1).val = (j 2).val) (h2 : (i 2).val = (j 1).val) :
    transpose S2x12832x4096 [0, 2, 1] x transposes_S2x4096x12832_S2x12832x4096_0_2_1 j = x i :=
  transpose_apply [0, 2, 1] x _ j i fun b => match b with
    | ⟨0, _⟩ => h0
    | ⟨1, _⟩ => h2
    | ⟨2, _⟩ => h1

/-- The column of row `k` of block `q`. -/
theorem source_at (r : Fin 4608) (q k : ℕ) (hr : r.val = q * 256 + k) (hk : k < 256) :
    (source r).val = (if q < 8 then 8224 + 256 * q else if q < 16 then 8736 + 256 * q else 6176 + 256 * q) + k := by
  dsimp only [source]
  split_ifs <;> omega

/-- The result array after the run. -/
theorem final (c : Dev nD) : (dats m (ok m) 0 c).arrAt 1 (cfgM m (ok m)).N = rowsOf (m ((c : Thread nD τ).loc main_arg0)) := by
  refine (dats m (ok m) 0 c).arrAt_eq_of_covers 1 _ (covers m) fun t hf y => ?_
  have e := idx t
  rw [after0_1]
  unfold outsAt0
  blk_simp
  frame_out
  unfold rowsOf
  pointwise [k0_pay1]
  have i0 := emb_in m t y 0
  have i1 := emb_in m t y 1
  have i2 := emb_in m t y 2
  rw [e.1] at i0 i1 i2
  have o0 := emb_out m t y 0
  have o1 := emb_out m t y 1
  have o2 := emb_out m t y 2
  rw [e.2] at o0 o1 o2
  refine (congrFun (Memref.IsWhole.read_unread _ _) y).trans ?_
  refine (congrFun (entry_eq m c) ((((cfgM m (ok m)).win 0).blk t).view.emb y)).trans ?_
  refine at_col _ _ _ (o0.trans ?_) (o2.trans ?_) ?_
  · exact (Nat.add_right_cancel_iff.2 (Nat.mul_one _)).trans i0.symm
  · exact (Nat.add_right_cancel_iff.2 (Nat.zero_mul _)).trans i2.symm
  · refine Eq.trans ?_ i1.symm
    exact source_at _ (t.val % 18) (y (1 : Fin 3)).val o1 (y (1 : Fin 3)).isLt

/-- The run, read: the result array at the columns, the argument unchanged. -/
theorem run : θ_run defs (onTc (τ := τ) (main (F := Ideal))) ⟨m, fun _ => 0, ρ⟩ fun r => ∀ c : Dev nD,
      r.2.mem ((c : Thread nD τ).loc main_v1) = rowsOf (m ((c : Thread nD τ).loc main_arg0))
      ∧ r.2.mem ((c : Thread nD τ).loc main_arg0) = m ((c : Thread nD τ).loc main_arg0) :=
  (θ_run defs _ _).mono (fun _ h c => ⟨((h.1 c).1 1).trans (final m c), h.2 c⟩)
    (θ_run_and (run_main m ρ (ok m)) (unchanged m ρ (ok m)))

/-- The reference's split, joined and transposed columns are those rows. -/
theorem ref_eq (x : (⟨S2x4096x12832, .f32⟩ : BufTy).Contents (Elt Ideal)) : Cert.RefWAtIdeal.Read.val_main_v10 (F := Ideal) x = rowsOf x := by
  funext i
  unfold rowsOf
  rw [Cert.RefWAtIdeal.Read.val_main_v10_apply, Cert.RefWAtIdeal.Read.val_main_v9_apply]
  unfold Cert.RefWAtIdeal.Read.val_main_v8
  have h1 : (i 1).val < 4608 := (i 1).isLt
  pointwise [Cert.RefWAtIdeal.Read.val_main_v4, Cert.RefWAtIdeal.Read.val_main_v7, Cert.RefWAtIdeal.Read.val_main_v5, Cert.RefWAtIdeal.Read.val_main_v6]
  have key : ∀ a b : Fin 12832, a.val = b.val → x (ix3 (n0 := 2) (n1 := 4096) (n2 := 12832) (i 0) (i 2) a)
      = x (ix3 (n0 := 2) (n1 := 4096) (n2 := 12832) (i 0) (i 2) b) :=
    fun a b h => congrArg (fun r => x (ix3 (n0 := 2) (n1 := 4096) (n2 := 12832) (i 0) (i 2) r)) (Fin.ext h)
  split_ifs <;> exact key _ _ (by dsimp only [source]; split_ifs <;> omega)

end Cert.WAtIdeal.RefValue

end
-- ==== Proof.WAtClaims.lean ====
/-
  The claims of the weights' cast, the attention columns: the frames of its three programs, and the kernel's result equal to the
  reference's.
-/
module

public import proofs.«01_k».proof.Defs
public import proofs.«01_k».proof.Proof.WAtTable
public import proofs.«01_k».proof.Proof.WAtValue
public import Idealize.ShloMosaic.Lib.Quiescent

@[expose] public section

noncomputable section

open Idealize.ShloMosaic Idealize.SL.Sem

namespace Cert.WAtClaims

theorem frame_kernel : Cert.quiescent_WAt := fun m ρ _ => Cert.WAt.Gen.frame m ρ (Cert.WAt.Held.ok m)
theorem frame_ideal : Cert.quiescent_WAtIdeal := fun m ρ _ => Cert.WAtIdeal.Gen.frame m ρ (Cert.WAtIdeal.Held.ok m)

/-- The reference has no semaphore, and leaves its argument as it was. -/
theorem frame_reference : Cert.quiescent_RefWAtIdeal := fun m ρ _ =>
  (θ_run Cert.RefWAtIdeal.defs _ _).mono (fun r h => ⟨fun c => (h c).2, sem_eq_zero_of_no_sems (by decide) r.2⟩)
    (Cert.RefWAtIdeal.Value.run (F := Ideal) m ρ)

/-- Both runs end with the attention columns of the weights, as rows. -/
theorem algebraic : Cert.algebraic_WAtIdeal_RefWAtIdeal := by
  intro m ρ m' ρ' _ hagree
  refine ⟨_, Cert.WAtIdeal.RefValue.run m ρ, ?_⟩
  refine (θ_run Cert.RefWAtIdeal.defs _ _).mono (fun r h c => ⟨(h c).1.trans ?_, (h c).2⟩)
    (Cert.RefWAtIdeal.Value.run (F := Ideal) m' ρ')
  rw [Cert.RefWAtIdeal.Read.val_main_v10_eq, Cert.WAtIdeal.RefValue.ref_eq, hagree c]

end Cert.WAtClaims

end
-- ==== Proof.WBaTable.lean ====
/-
  The weights' cast, the beta and decay columns: the table of block starts is a constant, and its blocks lie inside the weights.
-/
module

public import proofs.«01_k».proof.Proof.Gen.WBa.Frame
public import proofs.«01_k».proof.Proof.Gen.WBaIdeal.Frame
public import Idealize.ShloMosaic.Lib.Pipeline.ValueKit

@[expose] public section

set_option maxRecDepth 16384

noncomputable section

open Idealize.ShloMosaic Idealize.ShloMosaic.TcCoe Idealize.SL.Sem

namespace Cert.WBa.Held

open Cert.WBa Cert.WBa.Gen

set_option backward.proofsInPublic true in
/-- The table's words: the rows at which the blocks start. -/
def words : pre0.Contents (Elt Bits) := fun | ⟨0, _⟩ => fun x => 8192#32 | ⟨_ + 1, h⟩ => absurd h (by simp)

variable (m : (ℓ : Loc nD τ sig) → Buf (Elt Bits) ℓ)

/-- The region finds those words in the table: a constant of the host's. -/
theorem tbl_eq : tbl m = words := by
  funext j
  match j with
  | ⟨0, _⟩ =>
    show StableHlo.after hostOps0 (fun b => m (0, b)) (Proc.devRef .tc main_c) = _
    after_results
    rfl

/-- So every block of the input lies inside it, and starts at a multiple of 16. -/
theorem ok : Ok m := by
  unfold Ok
  rw [tbl_eq]
  decide +kernel

end Cert.WBa.Held

namespace Cert.WBaIdeal.Held

open Cert.WBaIdeal Cert.WBaIdeal.Gen

set_option backward.proofsInPublic true in
/-- The table's words at the extended reals: the rows at which the blocks start. -/
def words : pre0.Contents (Elt Ideal) := fun | ⟨0, _⟩ => fun x => 8192#32 | ⟨_ + 1, h⟩ => absurd h (by simp)

variable (m : (ℓ : Loc nD τ sig) → Buf (Elt Ideal) ℓ)

/-- The region finds those words in the table: a constant of the host's. -/
theorem tbl_eq : tbl m = words := by
  funext j
  match j with
  | ⟨0, _⟩ =>
    show StableHlo.after hostOps0 (fun b => m (0, b)) (Proc.devRef .tc main_c) = _
    after_results
    rfl

/-- So every block of the input lies inside it, and starts at a multiple of 16. -/
theorem ok : Ok m := by
  unfold Ok
  rw [tbl_eq]
  decide +kernel

end Cert.WBaIdeal.Held

end
-- ==== Proof.WBaValue.lean ====
/-
  The weights' cast, the beta and decay columns: what the result array ends holding at the extended reals, where a cast is the identity,
  and that it is the reference's.
-/
module

public import proofs.«01_k».proof.Proof.WBaTable
public import proofs.«01_k».proof.Proof.Gen.WBaIdeal.Skeleton
public import proofs.«01_k».proof.Proof.Gen.RefWBaIdeal.Run
public import proofs.«01_k».proof.Proof.Gen.RefWBaIdeal.Read
public import Idealize.ShloMosaic.Lib.Pipeline.ValueKit
public import Idealize.ShloMosaic.Lib.Pointwise
public import Idealize.ShloMosaic.Lib.VecWindow

@[expose] public section

set_option maxRecDepth 16384

noncomputable section

open Idealize.ShloMosaic Idealize.ShloMosaic.TcCoe Idealize.SL.Sem

namespace Cert.WBaIdeal.RefValue

open Cert.WBaIdeal Cert.WBaIdeal.Gen Cert.WBaIdeal.Held

/-- Result row `r`'s column of the input, for the 32 rows that have one. -/
def source (r : Fin 128) : Fin 12832 := ⟨8192 + r.val, by omega⟩

/-- The result: the input's columns as rows. -/
def rowsOf (x : (⟨S2x4096x12832, .f32⟩ : BufTy).Contents (Elt Ideal)) : (⟨S2x128x4096, .bf16⟩ : BufTy).Contents (Elt Ideal) :=
  fun i => if (i 1).val < 32 then x (ix3 (n0 := 2) (n1 := 4096) (n2 := 12832) (i 0) (i 2) (source (i 1))) else 0

variable (m : (ℓ : Loc nD τ sig) → Buf (Elt Ideal) ℓ) (ρ : Dev nD → PrngReg)

/-- Where the two windows' blocks stand at point `t`: the input's at a row, the result's at a block. -/
theorem idx : ∀ t : Fin grid0.N, cc0_transform_0 k0_off1_inb numel1_S1 words (grid0.coords t) = ![t.val / 1, 8192, 0]
    ∧ cc0_transform_1 (grid0.coords t) = ![t.val / 1, t.val % 1, 0] := by decide +kernel

/-- The result array is 2 by 1 by 1 blocks. -/
theorem n0 : ((cfgM m (ok m)).win 1).nblk (0 : Fin 3) = 2 := by show (2 + 1 - 1) / 1 = 2; omega
theorem n1 : ((cfgM m (ok m)).win 1).nblk (1 : Fin 3) = 1 := by show (128 + 128 - 1) / 128 = 1; omega
theorem n2 : ((cfgM m (ok m)).win 1).nblk (2 : Fin 3) = 1 := by show (4096 + 4096 - 1) / 4096 = 1; omega

/-- An index of the input's block, in the array: the row the table gives, and on. -/
theorem emb_in (t : Fin (cfgM m (ok m)).N) (y : (((cfgM m (ok m)).win 0).xblock ((cfgM m (ok m)).grid.coords t)).Idx) (a : Fin 3) :
    ((((cfgM m (ok m)).win 0).blk t).view.emb y a).val
      = cc0_transform_0 k0_off1_inb numel1_S1 words (grid0.coords t) a + (y a).val := by
  rw [← tbl_eq m]
  show cc0_transform_0 k0_off1_inb numel1_S1 (tbl m) (grid0.coords t) a + 1 * (y a).val = _
  omega

/-- An index of the result's block, in the array. -/
theorem emb_out (t : Fin (cfgM m (ok m)).N) (y : (((cfgM m (ok m)).win 1).xblock ((cfgM m (ok m)).grid.coords t)).Idx) (a : Fin 3) :
    ((((cfgM m (ok m)).win 1).blk t).view.emb y a).val
      = cc0_transform_1 (grid0.coords t) a * (![1, 128, 4096] : Fin 3 → ℕ) a + (y a).val := by
  show cc0_transform_1 (grid0.coords t) a * (![1, 128, 4096] : Fin 3 → ℕ) a + 1 * (y a).val = _
  omega

/-- The result's blocks cover its array. -/
theorem covers : ((cfgM m (ok m)).win 1).Covers := by
  refine ⟨fun a => ?_, fun β => ?_⟩
  · match a with
    | ⟨0, _⟩ => exact (by decide : 0 < 1)
    | ⟨1, _⟩ => exact (by decide : 0 < 128)
    | ⟨2, _⟩ => exact (by decide : 0 < 4096)
  · have h0 : (β (0 : Fin 3)).val < 2 := (β (0 : Fin 3)).isLt.trans_eq (n0 m)
    have h1 : (β (1 : Fin 3)).val < 1 := (β (1 : Fin 3)).isLt.trans_eq (n1 m)
    have h2 : (β (2 : Fin 3)).val < 1 := (β (2 : Fin 3)).isLt.trans_eq (n2 m)
    have ht : 1 * (β (0 : Fin 3)).val + (β (1 : Fin 3)).val < grid0.N := by rw [N_0]; omega
    refine ⟨⟨1 * (β (0 : Fin 3)).val + (β (1 : Fin 3)).val, ht⟩, flush0_1 _ _, fun a => ⟨?_, .inl ?_⟩⟩
    · refine (congrFun (idx ⟨1 * (β (0 : Fin 3)).val + (β (1 : Fin 3)).val, ht⟩).2 a).trans ?_
      match a with
      | ⟨0, _⟩ => show (1 * (β (0 : Fin 3)).val + (β (1 : Fin 3)).val) / 1 = (β (0 : Fin 3)).val; omega
      | ⟨1, _⟩ => show (1 * (β (0 : Fin 3)).val + (β (1 : Fin 3)).val) % 1 = (β (1 : Fin 3)).val; omega
      | ⟨2, _⟩ => show 0 = (β (2 : Fin 3)).val; omega
    · rfl

/-- The host hands the kernel the input transposed. -/
theorem entry_eq (c : Dev nD) : V m c main_v0 = transpose S2x12832x4096 [0, 2, 1] (m ((c : Thread nD τ).loc main_arg0)) transposes_S2x4096x12832_S2x12832x4096_0_2_1 := by
  show StableHlo.after hostOps0 (fun b => m (c, b)) (Proc.devRef .tc main_v0) = _
  after_results

/-- The transposed input at an index. -/
theorem at_col (x : (⟨S2x4096x12832, .f32⟩ : BufTy).Contents (Elt Ideal)) (j : S2x12832x4096.Idx) (i : S2x4096x12832.Idx) (h0 : (i 0).val = (j 0).val)
    (h1 : (i 1).val = (j 2).val) (h2 : (i 2).val = (j 1).val) :
    transpose S2x12832x4096 [0, 2, 1] x transposes_S2x4096x12832_S2x12832x4096_0_2_1 j = x i :=
  transpose_apply [0, 2, 1] x _ j i fun b => match b with
    | ⟨0, _⟩ => h0
    | ⟨1, _⟩ => h2
    | ⟨2, _⟩ => h1

/-- The kernel's mask at row `k`. -/
theorem lt32 : ∀ k : Fin 128, IntOp.cmpi .slt (BitVec.ofNat 32 k.val) 32#32 = if k.val < 32 then 1#1 else 0#1 := by decide +kernel

/-- The result array after the run. -/
theorem final (c : Dev nD) : (dats m (ok m) 0 c).arrAt 1 (cfgM m (ok m)).N = rowsOf (m ((c : Thread nD τ).loc main_arg0)) := by
  refine (dats m (ok m) 0 c).arrAt_eq_of_covers 1 _ (covers m) fun t hf y => ?_
  have e := idx t
  rw [after0_1]
  unfold outsAt0
  blk_simp
  frame_out
  unfold rowsOf
  pointwise [k0_pay1]
  have i0 := emb_in m t y 0
  have i1 := emb_in m t y 1
  have i2 := emb_in m t y 2
  rw [e.1] at i0 i1 i2
  have o0 := emb_out m t y 0
  have o1 := emb_out m t y 1
  have o2 := emb_out m t y 2
  rw [e.2] at o0 o1 o2
  have o1' := o1.trans (Nat.add_right_cancel_iff.2 (show t.val % 1 * 128 = 0 by omega))
  rw [Nat.zero_add] at o1'
  refine (congrArg (Scalar.select · _ _) (lt32 (y (1 : Fin 3)))).trans ?_
  by_cases hy : (y (1 : Fin 3)).val < 32
  swap
  · refine (congrArg (Scalar.select · _ _) (if_neg hy)).trans (Eq.trans ?_ (if_neg fun h => hy (o1'.symm.trans_lt h)).symm)
    rfl
  refine (congrArg (Scalar.select · _ _) (if_pos hy)).trans (Eq.trans ?_ (if_pos (o1'.trans_lt hy)).symm)
  refine (if_pos rfl).trans ?_
  refine (congrFun (Memref.IsWhole.read_unread _ _) y).trans ?_
  refine (congrFun (entry_eq m c) ((((cfgM m (ok m)).win 0).blk t).view.emb y)).trans ?_
  refine at_col _ _ _ (o0.trans ?_) (o2.trans ?_) ?_
  · exact (Nat.add_right_cancel_iff.2 (Nat.mul_one _)).trans i0.symm
  · exact (Nat.add_right_cancel_iff.2 (Nat.zero_mul _)).trans i2.symm
  · refine Eq.trans ?_ i1.symm
    exact congrArg (8192 + ·) o1'

/-- The run, read: the result array at the columns, the argument unchanged. -/
theorem run : θ_run defs (onTc (τ := τ) (main (F := Ideal))) ⟨m, fun _ => 0, ρ⟩ fun r => ∀ c : Dev nD,
      r.2.mem ((c : Thread nD τ).loc main_v1) = rowsOf (m ((c : Thread nD τ).loc main_arg0))
      ∧ r.2.mem ((c : Thread nD τ).loc main_arg0) = m ((c : Thread nD τ).loc main_arg0) :=
  (θ_run defs _ _).mono (fun _ h c => ⟨((h.1 c).1 1).trans (final m c), h.2 c⟩)
    (θ_run_and (run_main m ρ (ok m)) (unchanged m ρ (ok m)))

/-- The reference's split, joined and transposed columns are those rows. -/
theorem ref_eq (x : (⟨S2x4096x12832, .f32⟩ : BufTy).Contents (Elt Ideal)) : Cert.RefWBaIdeal.Read.val_main_v11 (F := Ideal) x = rowsOf x := by
  funext i
  unfold rowsOf
  rw [Cert.RefWBaIdeal.Read.val_main_v11_apply, Cert.RefWBaIdeal.Read.val_main_v10_apply]
  unfold Cert.RefWBaIdeal.Read.val_main_v9
  have h1 : (i 1).val < 128 := (i 1).isLt
  pointwise [Cert.RefWBaIdeal.Read.val_main_v2, Cert.RefWBaIdeal.Read.val_main_v3, Cert.RefWBaIdeal.Read.val_main_v8, Cert.RefWBaIdeal.Read.val_main_cst]
  have key : ∀ a b : Fin 12832, a.val = b.val → x (ix3 (n0 := 2) (n1 := 4096) (n2 := 12832) (i 0) (i 2) a)
      = x (ix3 (n0 := 2) (n1 := 4096) (n2 := 12832) (i 0) (i 2) b) :=
    fun a b h => congrArg (fun r => x (ix3 (n0 := 2) (n1 := 4096) (n2 := 12832) (i 0) (i 2) r)) (Fin.ext h)
  by_cases h : (i 1).val < 32
  · refine Eq.trans ?_ (if_pos h).symm
    split
    · exact key _ _ (by dsimp only [source])
    · rw [dif_pos (by omega)]
      exact key _ _ (by dsimp only [source]; omega)
  · refine Eq.trans ?_ (if_neg h).symm
    rw [dif_neg (by omega), dif_neg (by omega)]

end Cert.WBaIdeal.RefValue

end
-- ==== Proof.WBaClaims.lean ====
/-
  The claims of the weights' cast, the beta and decay columns: the frames of its three programs, and the kernel's result equal to the
  reference's.
-/
module

public import proofs.«01_k».proof.Defs
public import proofs.«01_k».proof.Proof.WBaTable
public import proofs.«01_k».proof.Proof.WBaValue
public import Idealize.ShloMosaic.Lib.Quiescent

@[expose] public section

noncomputable section

open Idealize.ShloMosaic Idealize.SL.Sem

namespace Cert.WBaClaims

theorem frame_kernel : Cert.quiescent_WBa := fun m ρ _ => Cert.WBa.Gen.frame m ρ (Cert.WBa.Held.ok m)
theorem frame_ideal : Cert.quiescent_WBaIdeal := fun m ρ _ => Cert.WBaIdeal.Gen.frame m ρ (Cert.WBaIdeal.Held.ok m)

/-- The reference has no semaphore, and leaves its argument as it was. -/
theorem frame_reference : Cert.quiescent_RefWBaIdeal := fun m ρ _ =>
  (θ_run Cert.RefWBaIdeal.defs _ _).mono (fun r h => ⟨fun c => (h c).2, sem_eq_zero_of_no_sems (by decide) r.2⟩)
    (Cert.RefWBaIdeal.Value.run (F := Ideal) m ρ)

/-- Both runs end with the beta and decay columns of the weights, as rows. -/
theorem algebraic : Cert.algebraic_WBaIdeal_RefWBaIdeal := by
  intro m ρ m' ρ' _ hagree
  refine ⟨_, Cert.WBaIdeal.RefValue.run m ρ, ?_⟩
  refine (θ_run Cert.RefWBaIdeal.defs _ _).mono (fun r h c => ⟨(h c).1.trans ?_, (h c).2⟩)
    (Cert.RefWBaIdeal.Value.run (F := Ideal) m' ρ')
  rw [Cert.RefWBaIdeal.Read.val_main_v11_eq, Cert.WBaIdeal.RefValue.ref_eq, hagree c]

end Cert.WBaClaims

end
-- ==== Proof.lean ====
/-
  The certificate: every claim of `Cert.Claim`, from the modules that prove them.
-/
module

public import proofs.«01_k».proof.Defs
public import proofs.«01_k».proof.Proof.AttClaims
public import proofs.«01_k».proof.Proof.InDnClaims
public import proofs.«01_k».proof.Proof.InAtClaims
public import proofs.«01_k».proof.Proof.OutClaims
public import proofs.«01_k».proof.Proof.InDnSClaims
public import proofs.«01_k».proof.Proof.OutSClaims
public import proofs.«01_k».proof.Proof.AdaClaims
public import proofs.«01_k».proof.Proof.PreClaims
public import proofs.«01_k».proof.Proof.OutHClaims
public import proofs.«01_k».proof.Proof.WDnClaims
public import proofs.«01_k».proof.Proof.WAtClaims
public import proofs.«01_k».proof.Proof.WBaClaims

@[expose] public section

noncomputable section

namespace Cert.Proof

theorem claim : Cert.Claim :=
  ⟨Cert.Kernel.Gen.facts, Cert.KernelIdeal.Gen.facts, Cert.ReferenceIdeal.Gen.facts,
    Cert.InDn.Gen.facts, Cert.InDnIdeal.Gen.facts, Cert.RefInDnIdeal.Gen.facts,
    Cert.InAt.Gen.facts, Cert.InAtIdeal.Gen.facts, Cert.RefInAtIdeal.Gen.facts,
    Cert.Out.Gen.facts, Cert.OutIdeal.Gen.facts, Cert.RefOutIdeal.Gen.facts,
    Cert.InDnS.Gen.facts, Cert.InDnSIdeal.Gen.facts, Cert.RefInDnSIdeal.Gen.facts,
    Cert.OutS.Gen.facts, Cert.OutSIdeal.Gen.facts, Cert.RefOutSIdeal.Gen.facts,
    Cert.Ada.Gen.facts, Cert.AdaIdeal.Gen.facts, Cert.RefAdaIdeal.Gen.facts,
    Cert.Pre.Gen.facts, Cert.PreIdeal.Gen.facts, Cert.RefPreIdeal.Gen.facts,
    Cert.OutH.Gen.facts, Cert.OutHIdeal.Gen.facts, Cert.RefOutHIdeal.Gen.facts,
    Cert.WDn.Gen.facts, Cert.WDnIdeal.Gen.facts, Cert.RefWDnIdeal.Gen.facts,
    Cert.WAt.Gen.facts, Cert.WAtIdeal.Gen.facts, Cert.RefWAtIdeal.Gen.facts,
    Cert.WBa.Gen.facts, Cert.WBaIdeal.Gen.facts, Cert.RefWBaIdeal.Gen.facts,
    Cert.AttFinite.facts,
    Cert.AttClaims.frame_kernel, Cert.AttClaims.frame_ideal, Cert.AttClaims.frame_ideal_pre,
    Cert.AttClaims.frame_reference, Cert.AttClaims.frame_reference_pre,
    Cert.InDnClaims.frame_kernel, Cert.InDnClaims.frame_ideal, Cert.InDnClaims.frame_reference,
    Cert.InAtClaims.frame_kernel, Cert.InAtClaims.frame_ideal, Cert.InAtClaims.frame_reference,
    Cert.OutClaims.frame_kernel, Cert.OutClaims.frame_ideal, Cert.OutClaims.frame_reference,
    Cert.InDnSClaims.frame_kernel, Cert.InDnSClaims.frame_ideal, Cert.InDnSClaims.frame_reference,
    Cert.OutSClaims.frame_kernel, Cert.OutSClaims.frame_ideal, Cert.OutSClaims.frame_reference,
    Cert.AdaClaims.frame_kernel, Cert.AdaClaims.frame_ideal, Cert.AdaClaims.frame_reference,
    Cert.PreClaims.frame_kernel, Cert.PreClaims.frame_ideal, Cert.PreClaims.frame_reference,
    Cert.OutHClaims.frame_kernel, Cert.OutHClaims.frame_ideal, Cert.OutHClaims.frame_reference,
    Cert.WDnClaims.frame_kernel, Cert.WDnClaims.frame_ideal, Cert.WDnClaims.frame_reference,
    Cert.WAtClaims.frame_kernel, Cert.WAtClaims.frame_ideal, Cert.WAtClaims.frame_reference,
    Cert.WBaClaims.frame_kernel, Cert.WBaClaims.frame_ideal, Cert.WBaClaims.frame_reference,
    trivial, Cert.AttClaims.algebraic, trivial, Cert.InDnClaims.algebraic,
    trivial, Cert.InAtClaims.algebraic, trivial, Cert.OutClaims.algebraic,
    trivial, Cert.InDnSClaims.algebraic, trivial, Cert.OutSClaims.algebraic,
    trivial, Cert.AdaClaims.algebraic, trivial, Cert.PreClaims.algebraic,
    trivial, Cert.OutHClaims.algebraic,
    trivial, Cert.WDnClaims.algebraic, trivial, Cert.WAtClaims.algebraic, trivial, Cert.WBaClaims.algebraic⟩

end Cert.Proof

end
